-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_KernelZ (m : (ℓ : Loc Cert.KernelZ.nD Cert.KernelZ.τ Cert.KernelZ.sig) → Buf (Elt Bits) ℓ) : Prop :=
  True

def Pre_KernelZIdeal (m : (ℓ : Loc Cert.KernelZIdeal.nD Cert.KernelZIdeal.τ Cert.KernelZIdeal.sig) → Buf (Elt Ideal) ℓ) : Prop :=
  True

def Pre_ReferenceZIdeal (m : (ℓ : Loc Cert.ReferenceZIdeal.nD Cert.ReferenceZIdeal.τ Cert.ReferenceZIdeal.sig) → Buf (Elt Ideal) ℓ) : Prop :=
  True

def Pre_KernelDh (m : (ℓ : Loc Cert.KernelDh.nD Cert.KernelDh.τ Cert.KernelDh.sig) → Buf (Elt Bits) ℓ) : Prop :=
  True

def Pre_KernelDhIdeal (m : (ℓ : Loc Cert.KernelDhIdeal.nD Cert.KernelDhIdeal.τ Cert.KernelDhIdeal.sig) → Buf (Elt Ideal) ℓ) : Prop :=
  True

def Pre_ReferenceDhIdeal (m : (ℓ : Loc Cert.ReferenceDhIdeal.nD Cert.ReferenceDhIdeal.τ Cert.ReferenceDhIdeal.sig) → Buf (Elt Ideal) ℓ) : Prop :=
  True

def Pre_KernelDwz (m : (ℓ : Loc Cert.KernelDwz.nD Cert.KernelDwz.τ Cert.KernelDwz.sig) → Buf (Elt Bits) ℓ) : Prop :=
  True

def Pre_KernelDwzIdeal (m : (ℓ : Loc Cert.KernelDwzIdeal.nD Cert.KernelDwzIdeal.τ Cert.KernelDwzIdeal.sig) → Buf (Elt Ideal) ℓ) : Prop :=
  True

def Pre_ReferenceDwzIdeal (m : (ℓ : Loc Cert.ReferenceDwzIdeal.nD Cert.ReferenceDwzIdeal.τ Cert.ReferenceDwzIdeal.sig) → Buf (Elt Ideal) ℓ) : Prop :=
  True

def Pre_KernelDwg (m : (ℓ : Loc Cert.KernelDwg.nD Cert.KernelDwg.τ Cert.KernelDwg.sig) → Buf (Elt Bits) ℓ) : Prop :=
  True

def Pre_KernelDwgIdeal (m : (ℓ : Loc Cert.KernelDwgIdeal.nD Cert.KernelDwgIdeal.τ Cert.KernelDwgIdeal.sig) → Buf (Elt Ideal) ℓ) : Prop :=
  True

def Pre_ReferenceDwgIdeal (m : (ℓ : Loc Cert.ReferenceDwgIdeal.nD Cert.ReferenceDwgIdeal.τ Cert.ReferenceDwgIdeal.sig) → Buf (Elt Ideal) ℓ) : Prop :=
  True

def Pre_KernelDwp (m : (ℓ : Loc Cert.KernelDwp.nD Cert.KernelDwp.τ Cert.KernelDwp.sig) → Buf (Elt Bits) ℓ) : Prop :=
  True

def Pre_KernelDwpIdeal (m : (ℓ : Loc Cert.KernelDwpIdeal.nD Cert.KernelDwpIdeal.τ Cert.KernelDwpIdeal.sig) → Buf (Elt Ideal) ℓ) : Prop :=
  True

def Pre_ReferenceDwpIdeal (m : (ℓ : Loc Cert.ReferenceDwpIdeal.nD Cert.ReferenceDwpIdeal.τ Cert.ReferenceDwpIdeal.sig) → Buf (Elt Ideal) ℓ) : Prop :=
  True

def Pre_KernelDwo (m : (ℓ : Loc Cert.KernelDwo.nD Cert.KernelDwo.τ Cert.KernelDwo.sig) → Buf (Elt Bits) ℓ) : Prop :=
  True

def Pre_KernelDwoIdeal (m : (ℓ : Loc Cert.KernelDwoIdeal.nD Cert.KernelDwoIdeal.τ Cert.KernelDwoIdeal.sig) → Buf (Elt Ideal) ℓ) : Prop :=
  True

def Pre_ReferenceDwoIdeal (m : (ℓ : Loc Cert.ReferenceDwoIdeal.nD Cert.ReferenceDwoIdeal.τ Cert.ReferenceDwoIdeal.sig) → Buf (Elt Ideal) ℓ) : Prop :=
  True

def Pre_KernelDwup0 (m : (ℓ : Loc Cert.KernelDwup0.nD Cert.KernelDwup0.τ Cert.KernelDwup0.sig) → Buf (Elt Bits) ℓ) : Prop :=
  True

def Pre_KernelDwup0Ideal (m : (ℓ : Loc Cert.KernelDwup0Ideal.nD Cert.KernelDwup0Ideal.τ Cert.KernelDwup0Ideal.sig) → Buf (Elt Ideal) ℓ) : Prop :=
  True

def Pre_ReferenceDwup0Ideal (m : (ℓ : Loc Cert.ReferenceDwup0Ideal.nD Cert.ReferenceDwup0Ideal.τ Cert.ReferenceDwup0Ideal.sig) → Buf (Elt Ideal) ℓ) : Prop :=
  True

def Pre_KernelDwup1 (m : (ℓ : Loc Cert.KernelDwup1.nD Cert.KernelDwup1.τ Cert.KernelDwup1.sig) → Buf (Elt Bits) ℓ) : Prop :=
  True

def Pre_KernelDwup1Ideal (m : (ℓ : Loc Cert.KernelDwup1Ideal.nD Cert.KernelDwup1Ideal.τ Cert.KernelDwup1Ideal.sig) → Buf (Elt Ideal) ℓ) : Prop :=
  True

def Pre_ReferenceDwup1Ideal (m : (ℓ : Loc Cert.ReferenceDwup1Ideal.nD Cert.ReferenceDwup1Ideal.τ Cert.ReferenceDwup1Ideal.sig) → Buf (Elt Ideal) ℓ) : Prop :=
  True

def Pre_KernelDwup2 (m : (ℓ : Loc Cert.KernelDwup2.nD Cert.KernelDwup2.τ Cert.KernelDwup2.sig) → Buf (Elt Bits) ℓ) : Prop :=
  True

def Pre_KernelDwup2Ideal (m : (ℓ : Loc Cert.KernelDwup2Ideal.nD Cert.KernelDwup2Ideal.τ Cert.KernelDwup2Ideal.sig) → Buf (Elt Ideal) ℓ) : Prop :=
  True

def Pre_ReferenceDwup2Ideal (m : (ℓ : Loc Cert.ReferenceDwup2Ideal.nD Cert.ReferenceDwup2Ideal.τ Cert.ReferenceDwup2Ideal.sig) → Buf (Elt Ideal) ℓ) : Prop :=
  True

def Pre_KernelDwup3 (m : (ℓ : Loc Cert.KernelDwup3.nD Cert.KernelDwup3.τ Cert.KernelDwup3.sig) → Buf (Elt Bits) ℓ) : Prop :=
  True

def Pre_KernelDwup3Ideal (m : (ℓ : Loc Cert.KernelDwup3Ideal.nD Cert.KernelDwup3Ideal.τ Cert.KernelDwup3Ideal.sig) → Buf (Elt Ideal) ℓ) : Prop :=
  True

def Pre_ReferenceDwup3Ideal (m : (ℓ : Loc Cert.ReferenceDwup3Ideal.nD Cert.ReferenceDwup3Ideal.τ Cert.ReferenceDwup3Ideal.sig) → Buf (Elt Ideal) ℓ) : Prop :=
  True

def Pre_KernelMerge (m : (ℓ : Loc Cert.KernelMerge.nD Cert.KernelMerge.τ Cert.KernelMerge.sig) → Buf (Elt Bits) ℓ) : Prop :=
  True

def Pre_KernelMergeIdeal (m : (ℓ : Loc Cert.KernelMergeIdeal.nD Cert.KernelMergeIdeal.τ Cert.KernelMergeIdeal.sig) → Buf (Elt Ideal) ℓ) : Prop :=
  True

def Pre_ReferenceMergeIdeal (m : (ℓ : Loc Cert.ReferenceMergeIdeal.nD Cert.ReferenceMergeIdeal.τ Cert.ReferenceMergeIdeal.sig) → Buf (Elt Ideal) ℓ) : Prop :=
  True

def Pre_KernelDmerge (m : (ℓ : Loc Cert.KernelDmerge.nD Cert.KernelDmerge.τ Cert.KernelDmerge.sig) → Buf (Elt Bits) ℓ) : Prop :=
  True

def Pre_KernelDmergeIdeal (m : (ℓ : Loc Cert.KernelDmergeIdeal.nD Cert.KernelDmergeIdeal.τ Cert.KernelDmergeIdeal.sig) → Buf (Elt Ideal) ℓ) : Prop :=
  True

def Pre_ReferenceDmergeIdeal (m : (ℓ : Loc Cert.ReferenceDmergeIdeal.nD Cert.ReferenceDmergeIdeal.τ Cert.ReferenceDmergeIdeal.sig) → Buf (Elt Ideal) ℓ) : Prop :=
  True

def Pre_KernelPle (m : (ℓ : Loc Cert.KernelPle.nD Cert.KernelPle.τ Cert.KernelPle.sig) → Buf (Elt Bits) ℓ) : Prop :=
  True

def Pre_KernelPleIdeal (m : (ℓ : Loc Cert.KernelPleIdeal.nD Cert.KernelPleIdeal.τ Cert.KernelPleIdeal.sig) → Buf (Elt Ideal) ℓ) : Prop :=
  True

def Pre_ReferencePleIdeal (m : (ℓ : Loc Cert.ReferencePleIdeal.nD Cert.ReferencePleIdeal.τ Cert.ReferencePleIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_KernelZ [hKernelZ : Cert.KernelZ.Facts] : Prop :=
  ∀ (m : (ℓ : Loc Cert.KernelZ.nD Cert.KernelZ.τ Cert.KernelZ.sig) → Buf (Elt Bits) ℓ) (g : Dev Cert.KernelZ.nD → PrngReg), Pre_KernelZ m →
    θ_run (Cert.KernelZ.defs (F := Bits)) (onTc (τ := Cert.KernelZ.τ) (Cert.KernelZ.main (F := Bits))) ⟨m, fun _ => 0, g⟩ (fun r => (∀ c : Dev Cert.KernelZ.nD,
      r.2.mem ((c.tc : Thread Cert.KernelZ.nD Cert.KernelZ.τ).loc Cert.KernelZ.main_arg0) = m ((c.tc : Thread Cert.KernelZ.nD Cert.KernelZ.τ).loc Cert.KernelZ.main_arg0)
      ∧ r.2.mem ((c.tc : Thread Cert.KernelZ.nD Cert.KernelZ.τ).loc Cert.KernelZ.main_arg1) = m ((c.tc : Thread Cert.KernelZ.nD Cert.KernelZ.τ).loc Cert.KernelZ.main_arg1))
      ∧ r.2.sem = fun _ => 0)

def quiescent_KernelZIdeal [hKernelZIdeal : Cert.KernelZIdeal.Facts] : Prop :=
  ∀ (m : (ℓ : Loc Cert.KernelZIdeal.nD Cert.KernelZIdeal.τ Cert.KernelZIdeal.sig) → Buf (Elt Ideal) ℓ) (g : Dev Cert.KernelZIdeal.nD → PrngReg), Pre_KernelZIdeal m →
    θ_run (Cert.KernelZIdeal.defs (F := Ideal)) (onTc (τ := Cert.KernelZIdeal.τ) (Cert.KernelZIdeal.main (F := Ideal))) ⟨m, fun _ => 0, g⟩ (fun r => (∀ c : Dev Cert.KernelZIdeal.nD,
      r.2.mem ((c.tc : Thread Cert.KernelZIdeal.nD Cert.KernelZIdeal.τ).loc Cert.KernelZIdeal.main_arg0) = m ((c.tc : Thread Cert.KernelZIdeal.nD Cert.KernelZIdeal.τ).loc Cert.KernelZIdeal.main_arg0)
      ∧ r.2.mem ((c.tc : Thread Cert.KernelZIdeal.nD Cert.KernelZIdeal.τ).loc Cert.KernelZIdeal.main_arg1) = m ((c.tc : Thread Cert.KernelZIdeal.nD Cert.KernelZIdeal.τ).loc Cert.KernelZIdeal.main_arg1))
      ∧ r.2.sem = fun _ => 0)

def quiescent_ReferenceZIdeal [hReferenceZIdeal : Cert.ReferenceZIdeal.Facts] : Prop :=
  ∀ (m : (ℓ : Loc Cert.ReferenceZIdeal.nD Cert.ReferenceZIdeal.τ Cert.ReferenceZIdeal.sig) → Buf (Elt Ideal) ℓ) (g : Dev Cert.ReferenceZIdeal.nD → PrngReg), Pre_ReferenceZIdeal m →
    θ_run (Cert.ReferenceZIdeal.defs (F := Ideal)) (onTc (τ := Cert.ReferenceZIdeal.τ) (Cert.ReferenceZIdeal.main (F := Ideal))) ⟨m, fun _ => 0, g⟩ (fun r => (∀ c : Dev Cert.ReferenceZIdeal.nD,
      r.2.mem ((c.tc : Thread Cert.ReferenceZIdeal.nD Cert.ReferenceZIdeal.τ).loc Cert.ReferenceZIdeal.main_arg0) = m ((c.tc : Thread Cert.ReferenceZIdeal.nD Cert.ReferenceZIdeal.τ).loc Cert.ReferenceZIdeal.main_arg0)
      ∧ r.2.mem ((c.tc : Thread Cert.ReferenceZIdeal.nD Cert.ReferenceZIdeal.τ).loc Cert.ReferenceZIdeal.main_arg1) = m ((c.tc : Thread Cert.ReferenceZIdeal.nD Cert.ReferenceZIdeal.τ).loc Cert.ReferenceZIdeal.main_arg1))
      ∧ r.2.sem = fun _ => 0)

def quiescent_KernelDh [hKernelDh : Cert.KernelDh.Facts] : Prop :=
  ∀ (m : (ℓ : Loc Cert.KernelDh.nD Cert.KernelDh.τ Cert.KernelDh.sig) → Buf (Elt Bits) ℓ) (g : Dev Cert.KernelDh.nD → PrngReg), Pre_KernelDh m →
    θ_run (Cert.KernelDh.defs (F := Bits)) (onTc (τ := Cert.KernelDh.τ) (Cert.KernelDh.main (F := Bits))) ⟨m, fun _ => 0, g⟩ (fun r => (∀ c : Dev Cert.KernelDh.nD,
      r.2.mem ((c.tc : Thread Cert.KernelDh.nD Cert.KernelDh.τ).loc Cert.KernelDh.main_arg0) = m ((c.tc : Thread Cert.KernelDh.nD Cert.KernelDh.τ).loc Cert.KernelDh.main_arg0)
      ∧ r.2.mem ((c.tc : Thread Cert.KernelDh.nD Cert.KernelDh.τ).loc Cert.KernelDh.main_arg1) = m ((c.tc : Thread Cert.KernelDh.nD Cert.KernelDh.τ).loc Cert.KernelDh.main_arg1))
      ∧ r.2.sem = fun _ => 0)

def quiescent_KernelDhIdeal [hKernelDhIdeal : Cert.KernelDhIdeal.Facts] : Prop :=
  ∀ (m : (ℓ : Loc Cert.KernelDhIdeal.nD Cert.KernelDhIdeal.τ Cert.KernelDhIdeal.sig) → Buf (Elt Ideal) ℓ) (g : Dev Cert.KernelDhIdeal.nD → PrngReg), Pre_KernelDhIdeal m →
    θ_run (Cert.KernelDhIdeal.defs (F := Ideal)) (onTc (τ := Cert.KernelDhIdeal.τ) (Cert.KernelDhIdeal.main (F := Ideal))) ⟨m, fun _ => 0, g⟩ (fun r => (∀ c : Dev Cert.KernelDhIdeal.nD,
      r.2.mem ((c.tc : Thread Cert.KernelDhIdeal.nD Cert.KernelDhIdeal.τ).loc Cert.KernelDhIdeal.main_arg0) = m ((c.tc : Thread Cert.KernelDhIdeal.nD Cert.KernelDhIdeal.τ).loc Cert.KernelDhIdeal.main_arg0)
      ∧ r.2.mem ((c.tc : Thread Cert.KernelDhIdeal.nD Cert.KernelDhIdeal.τ).loc Cert.KernelDhIdeal.main_arg1) = m ((c.tc : Thread Cert.KernelDhIdeal.nD Cert.KernelDhIdeal.τ).loc Cert.KernelDhIdeal.main_arg1))
      ∧ r.2.sem = fun _ => 0)

def quiescent_ReferenceDhIdeal [hReferenceDhIdeal : Cert.ReferenceDhIdeal.Facts] : Prop :=
  ∀ (m : (ℓ : Loc Cert.ReferenceDhIdeal.nD Cert.ReferenceDhIdeal.τ Cert.ReferenceDhIdeal.sig) → Buf (Elt Ideal) ℓ) (g : Dev Cert.ReferenceDhIdeal.nD → PrngReg), Pre_ReferenceDhIdeal m →
    θ_run (Cert.ReferenceDhIdeal.defs (F := Ideal)) (onTc (τ := Cert.ReferenceDhIdeal.τ) (Cert.ReferenceDhIdeal.main (F := Ideal))) ⟨m, fun _ => 0, g⟩ (fun r => (∀ c : Dev Cert.ReferenceDhIdeal.nD,
      r.2.mem ((c.tc : Thread Cert.ReferenceDhIdeal.nD Cert.ReferenceDhIdeal.τ).loc Cert.ReferenceDhIdeal.main_arg0) = m ((c.tc : Thread Cert.ReferenceDhIdeal.nD Cert.ReferenceDhIdeal.τ).loc Cert.ReferenceDhIdeal.main_arg0)
      ∧ r.2.mem ((c.tc : Thread Cert.ReferenceDhIdeal.nD Cert.ReferenceDhIdeal.τ).loc Cert.ReferenceDhIdeal.main_arg1) = m ((c.tc : Thread Cert.ReferenceDhIdeal.nD Cert.ReferenceDhIdeal.τ).loc Cert.ReferenceDhIdeal.main_arg1))
      ∧ r.2.sem = fun _ => 0)

def quiescent_KernelDwz [hKernelDwz : Cert.KernelDwz.Facts] : Prop :=
  ∀ (m : (ℓ : Loc Cert.KernelDwz.nD Cert.KernelDwz.τ Cert.KernelDwz.sig) → Buf (Elt Bits) ℓ) (g : Dev Cert.KernelDwz.nD → PrngReg), Pre_KernelDwz m →
    θ_run (Cert.KernelDwz.defs (F := Bits)) (onTc (τ := Cert.KernelDwz.τ) (Cert.KernelDwz.main (F := Bits))) ⟨m, fun _ => 0, g⟩ (fun r => (∀ c : Dev Cert.KernelDwz.nD,
      r.2.mem ((c.tc : Thread Cert.KernelDwz.nD Cert.KernelDwz.τ).loc Cert.KernelDwz.main_arg0) = m ((c.tc : Thread Cert.KernelDwz.nD Cert.KernelDwz.τ).loc Cert.KernelDwz.main_arg0)
      ∧ r.2.mem ((c.tc : Thread Cert.KernelDwz.nD Cert.KernelDwz.τ).loc Cert.KernelDwz.main_arg1) = m ((c.tc : Thread Cert.KernelDwz.nD Cert.KernelDwz.τ).loc Cert.KernelDwz.main_arg1))
      ∧ r.2.sem = fun _ => 0)

def quiescent_KernelDwzIdeal [hKernelDwzIdeal : Cert.KernelDwzIdeal.Facts] : Prop :=
  ∀ (m : (ℓ : Loc Cert.KernelDwzIdeal.nD Cert.KernelDwzIdeal.τ Cert.KernelDwzIdeal.sig) → Buf (Elt Ideal) ℓ) (g : Dev Cert.KernelDwzIdeal.nD → PrngReg), Pre_KernelDwzIdeal m →
    θ_run (Cert.KernelDwzIdeal.defs (F := Ideal)) (onTc (τ := Cert.KernelDwzIdeal.τ) (Cert.KernelDwzIdeal.main (F := Ideal))) ⟨m, fun _ => 0, g⟩ (fun r => (∀ c : Dev Cert.KernelDwzIdeal.nD,
      r.2.mem ((c.tc : Thread Cert.KernelDwzIdeal.nD Cert.KernelDwzIdeal.τ).loc Cert.KernelDwzIdeal.main_arg0) = m ((c.tc : Thread Cert.KernelDwzIdeal.nD Cert.KernelDwzIdeal.τ).loc Cert.KernelDwzIdeal.main_arg0)
      ∧ r.2.mem ((c.tc : Thread Cert.KernelDwzIdeal.nD Cert.KernelDwzIdeal.τ).loc Cert.KernelDwzIdeal.main_arg1) = m ((c.tc : Thread Cert.KernelDwzIdeal.nD Cert.KernelDwzIdeal.τ).loc Cert.KernelDwzIdeal.main_arg1))
      ∧ r.2.sem = fun _ => 0)

def quiescent_ReferenceDwzIdeal [hReferenceDwzIdeal : Cert.ReferenceDwzIdeal.Facts] : Prop :=
  ∀ (m : (ℓ : Loc Cert.ReferenceDwzIdeal.nD Cert.ReferenceDwzIdeal.τ Cert.ReferenceDwzIdeal.sig) → Buf (Elt Ideal) ℓ) (g : Dev Cert.ReferenceDwzIdeal.nD → PrngReg), Pre_ReferenceDwzIdeal m →
    θ_run (Cert.ReferenceDwzIdeal.defs (F := Ideal)) (onTc (τ := Cert.ReferenceDwzIdeal.τ) (Cert.ReferenceDwzIdeal.main (F := Ideal))) ⟨m, fun _ => 0, g⟩ (fun r => (∀ c : Dev Cert.ReferenceDwzIdeal.nD,
      r.2.mem ((c.tc : Thread Cert.ReferenceDwzIdeal.nD Cert.ReferenceDwzIdeal.τ).loc Cert.ReferenceDwzIdeal.main_arg0) = m ((c.tc : Thread Cert.ReferenceDwzIdeal.nD Cert.ReferenceDwzIdeal.τ).loc Cert.ReferenceDwzIdeal.main_arg0)
      ∧ r.2.mem ((c.tc : Thread Cert.ReferenceDwzIdeal.nD Cert.ReferenceDwzIdeal.τ).loc Cert.ReferenceDwzIdeal.main_arg1) = m ((c.tc : Thread Cert.ReferenceDwzIdeal.nD Cert.ReferenceDwzIdeal.τ).loc Cert.ReferenceDwzIdeal.main_arg1))
      ∧ r.2.sem = fun _ => 0)

def quiescent_KernelDwg [hKernelDwg : Cert.KernelDwg.Facts] : Prop :=
  ∀ (m : (ℓ : Loc Cert.KernelDwg.nD Cert.KernelDwg.τ Cert.KernelDwg.sig) → Buf (Elt Bits) ℓ) (g : Dev Cert.KernelDwg.nD → PrngReg), Pre_KernelDwg m →
    θ_run (Cert.KernelDwg.defs (F := Bits)) (onTc (τ := Cert.KernelDwg.τ) (Cert.KernelDwg.main (F := Bits))) ⟨m, fun _ => 0, g⟩ (fun r => (∀ c : Dev Cert.KernelDwg.nD,
      r.2.mem ((c.tc : Thread Cert.KernelDwg.nD Cert.KernelDwg.τ).loc Cert.KernelDwg.main_arg0) = m ((c.tc : Thread Cert.KernelDwg.nD Cert.KernelDwg.τ).loc Cert.KernelDwg.main_arg0)
      ∧ r.2.mem ((c.tc : Thread Cert.KernelDwg.nD Cert.KernelDwg.τ).loc Cert.KernelDwg.main_arg1) = m ((c.tc : Thread Cert.KernelDwg.nD Cert.KernelDwg.τ).loc Cert.KernelDwg.main_arg1))
      ∧ r.2.sem = fun _ => 0)

def quiescent_KernelDwgIdeal [hKernelDwgIdeal : Cert.KernelDwgIdeal.Facts] : Prop :=
  ∀ (m : (ℓ : Loc Cert.KernelDwgIdeal.nD Cert.KernelDwgIdeal.τ Cert.KernelDwgIdeal.sig) → Buf (Elt Ideal) ℓ) (g : Dev Cert.KernelDwgIdeal.nD → PrngReg), Pre_KernelDwgIdeal m →
    θ_run (Cert.KernelDwgIdeal.defs (F := Ideal)) (onTc (τ := Cert.KernelDwgIdeal.τ) (Cert.KernelDwgIdeal.main (F := Ideal))) ⟨m, fun _ => 0, g⟩ (fun r => (∀ c : Dev Cert.KernelDwgIdeal.nD,
      r.2.mem ((c.tc : Thread Cert.KernelDwgIdeal.nD Cert.KernelDwgIdeal.τ).loc Cert.KernelDwgIdeal.main_arg0) = m ((c.tc : Thread Cert.KernelDwgIdeal.nD Cert.KernelDwgIdeal.τ).loc Cert.KernelDwgIdeal.main_arg0)
      ∧ r.2.mem ((c.tc : Thread Cert.KernelDwgIdeal.nD Cert.KernelDwgIdeal.τ).loc Cert.KernelDwgIdeal.main_arg1) = m ((c.tc : Thread Cert.KernelDwgIdeal.nD Cert.KernelDwgIdeal.τ).loc Cert.KernelDwgIdeal.main_arg1))
      ∧ r.2.sem = fun _ => 0)

def quiescent_ReferenceDwgIdeal [hReferenceDwgIdeal : Cert.ReferenceDwgIdeal.Facts] : Prop :=
  ∀ (m : (ℓ : Loc Cert.ReferenceDwgIdeal.nD Cert.ReferenceDwgIdeal.τ Cert.ReferenceDwgIdeal.sig) → Buf (Elt Ideal) ℓ) (g : Dev Cert.ReferenceDwgIdeal.nD → PrngReg), Pre_ReferenceDwgIdeal m →
    θ_run (Cert.ReferenceDwgIdeal.defs (F := Ideal)) (onTc (τ := Cert.ReferenceDwgIdeal.τ) (Cert.ReferenceDwgIdeal.main (F := Ideal))) ⟨m, fun _ => 0, g⟩ (fun r => (∀ c : Dev Cert.ReferenceDwgIdeal.nD,
      r.2.mem ((c.tc : Thread Cert.ReferenceDwgIdeal.nD Cert.ReferenceDwgIdeal.τ).loc Cert.ReferenceDwgIdeal.main_arg0) = m ((c.tc : Thread Cert.ReferenceDwgIdeal.nD Cert.ReferenceDwgIdeal.τ).loc Cert.ReferenceDwgIdeal.main_arg0)
      ∧ r.2.mem ((c.tc : Thread Cert.ReferenceDwgIdeal.nD Cert.ReferenceDwgIdeal.τ).loc Cert.ReferenceDwgIdeal.main_arg1) = m ((c.tc : Thread Cert.ReferenceDwgIdeal.nD Cert.ReferenceDwgIdeal.τ).loc Cert.ReferenceDwgIdeal.main_arg1))
      ∧ r.2.sem = fun _ => 0)

def quiescent_KernelDwp [hKernelDwp : Cert.KernelDwp.Facts] : Prop :=
  ∀ (m : (ℓ : Loc Cert.KernelDwp.nD Cert.KernelDwp.τ Cert.KernelDwp.sig) → Buf (Elt Bits) ℓ) (g : Dev Cert.KernelDwp.nD → PrngReg), Pre_KernelDwp m →
    θ_run (Cert.KernelDwp.defs (F := Bits)) (onTc (τ := Cert.KernelDwp.τ) (Cert.KernelDwp.main (F := Bits))) ⟨m, fun _ => 0, g⟩ (fun r => (∀ c : Dev Cert.KernelDwp.nD,
      r.2.mem ((c.tc : Thread Cert.KernelDwp.nD Cert.KernelDwp.τ).loc Cert.KernelDwp.main_arg0) = m ((c.tc : Thread Cert.KernelDwp.nD Cert.KernelDwp.τ).loc Cert.KernelDwp.main_arg0)
      ∧ r.2.mem ((c.tc : Thread Cert.KernelDwp.nD Cert.KernelDwp.τ).loc Cert.KernelDwp.main_arg1) = m ((c.tc : Thread Cert.KernelDwp.nD Cert.KernelDwp.τ).loc Cert.KernelDwp.main_arg1))
      ∧ r.2.sem = fun _ => 0)

def quiescent_KernelDwpIdeal [hKernelDwpIdeal : Cert.KernelDwpIdeal.Facts] : Prop :=
  ∀ (m : (ℓ : Loc Cert.KernelDwpIdeal.nD Cert.KernelDwpIdeal.τ Cert.KernelDwpIdeal.sig) → Buf (Elt Ideal) ℓ) (g : Dev Cert.KernelDwpIdeal.nD → PrngReg), Pre_KernelDwpIdeal m →
    θ_run (Cert.KernelDwpIdeal.defs (F := Ideal)) (onTc (τ := Cert.KernelDwpIdeal.τ) (Cert.KernelDwpIdeal.main (F := Ideal))) ⟨m, fun _ => 0, g⟩ (fun r => (∀ c : Dev Cert.KernelDwpIdeal.nD,
      r.2.mem ((c.tc : Thread Cert.KernelDwpIdeal.nD Cert.KernelDwpIdeal.τ).loc Cert.KernelDwpIdeal.main_arg0) = m ((c.tc : Thread Cert.KernelDwpIdeal.nD Cert.KernelDwpIdeal.τ).loc Cert.KernelDwpIdeal.main_arg0)
      ∧ r.2.mem ((c.tc : Thread Cert.KernelDwpIdeal.nD Cert.KernelDwpIdeal.τ).loc Cert.KernelDwpIdeal.main_arg1) = m ((c.tc : Thread Cert.KernelDwpIdeal.nD Cert.KernelDwpIdeal.τ).loc Cert.KernelDwpIdeal.main_arg1))
      ∧ r.2.sem = fun _ => 0)

def quiescent_ReferenceDwpIdeal [hReferenceDwpIdeal : Cert.ReferenceDwpIdeal.Facts] : Prop :=
  ∀ (m : (ℓ : Loc Cert.ReferenceDwpIdeal.nD Cert.ReferenceDwpIdeal.τ Cert.ReferenceDwpIdeal.sig) → Buf (Elt Ideal) ℓ) (g : Dev Cert.ReferenceDwpIdeal.nD → PrngReg), Pre_ReferenceDwpIdeal m →
    θ_run (Cert.ReferenceDwpIdeal.defs (F := Ideal)) (onTc (τ := Cert.ReferenceDwpIdeal.τ) (Cert.ReferenceDwpIdeal.main (F := Ideal))) ⟨m, fun _ => 0, g⟩ (fun r => (∀ c : Dev Cert.ReferenceDwpIdeal.nD,
      r.2.mem ((c.tc : Thread Cert.ReferenceDwpIdeal.nD Cert.ReferenceDwpIdeal.τ).loc Cert.ReferenceDwpIdeal.main_arg0) = m ((c.tc : Thread Cert.ReferenceDwpIdeal.nD Cert.ReferenceDwpIdeal.τ).loc Cert.ReferenceDwpIdeal.main_arg0)
      ∧ r.2.mem ((c.tc : Thread Cert.ReferenceDwpIdeal.nD Cert.ReferenceDwpIdeal.τ).loc Cert.ReferenceDwpIdeal.main_arg1) = m ((c.tc : Thread Cert.ReferenceDwpIdeal.nD Cert.ReferenceDwpIdeal.τ).loc Cert.ReferenceDwpIdeal.main_arg1))
      ∧ r.2.sem = fun _ => 0)

def quiescent_KernelDwo [hKernelDwo : Cert.KernelDwo.Facts] : Prop :=
  ∀ (m : (ℓ : Loc Cert.KernelDwo.nD Cert.KernelDwo.τ Cert.KernelDwo.sig) → Buf (Elt Bits) ℓ) (g : Dev Cert.KernelDwo.nD → PrngReg), Pre_KernelDwo m →
    θ_run (Cert.KernelDwo.defs (F := Bits)) (onTc (τ := Cert.KernelDwo.τ) (Cert.KernelDwo.main (F := Bits))) ⟨m, fun _ => 0, g⟩ (fun r => (∀ c : Dev Cert.KernelDwo.nD,
      r.2.mem ((c.tc : Thread Cert.KernelDwo.nD Cert.KernelDwo.τ).loc Cert.KernelDwo.main_arg0) = m ((c.tc : Thread Cert.KernelDwo.nD Cert.KernelDwo.τ).loc Cert.KernelDwo.main_arg0)
      ∧ r.2.mem ((c.tc : Thread Cert.KernelDwo.nD Cert.KernelDwo.τ).loc Cert.KernelDwo.main_arg1) = m ((c.tc : Thread Cert.KernelDwo.nD Cert.KernelDwo.τ).loc Cert.KernelDwo.main_arg1))
      ∧ r.2.sem = fun _ => 0)

def quiescent_KernelDwoIdeal [hKernelDwoIdeal : Cert.KernelDwoIdeal.Facts] : Prop :=
  ∀ (m : (ℓ : Loc Cert.KernelDwoIdeal.nD Cert.KernelDwoIdeal.τ Cert.KernelDwoIdeal.sig) → Buf (Elt Ideal) ℓ) (g : Dev Cert.KernelDwoIdeal.nD → PrngReg), Pre_KernelDwoIdeal m →
    θ_run (Cert.KernelDwoIdeal.defs (F := Ideal)) (onTc (τ := Cert.KernelDwoIdeal.τ) (Cert.KernelDwoIdeal.main (F := Ideal))) ⟨m, fun _ => 0, g⟩ (fun r => (∀ c : Dev Cert.KernelDwoIdeal.nD,
      r.2.mem ((c.tc : Thread Cert.KernelDwoIdeal.nD Cert.KernelDwoIdeal.τ).loc Cert.KernelDwoIdeal.main_arg0) = m ((c.tc : Thread Cert.KernelDwoIdeal.nD Cert.KernelDwoIdeal.τ).loc Cert.KernelDwoIdeal.main_arg0)
      ∧ r.2.mem ((c.tc : Thread Cert.KernelDwoIdeal.nD Cert.KernelDwoIdeal.τ).loc Cert.KernelDwoIdeal.main_arg1) = m ((c.tc : Thread Cert.KernelDwoIdeal.nD Cert.KernelDwoIdeal.τ).loc Cert.KernelDwoIdeal.main_arg1))
      ∧ r.2.sem = fun _ => 0)

def quiescent_ReferenceDwoIdeal [hReferenceDwoIdeal : Cert.ReferenceDwoIdeal.Facts] : Prop :=
  ∀ (m : (ℓ : Loc Cert.ReferenceDwoIdeal.nD Cert.ReferenceDwoIdeal.τ Cert.ReferenceDwoIdeal.sig) → Buf (Elt Ideal) ℓ) (g : Dev Cert.ReferenceDwoIdeal.nD → PrngReg), Pre_ReferenceDwoIdeal m →
    θ_run (Cert.ReferenceDwoIdeal.defs (F := Ideal)) (onTc (τ := Cert.ReferenceDwoIdeal.τ) (Cert.ReferenceDwoIdeal.main (F := Ideal))) ⟨m, fun _ => 0, g⟩ (fun r => (∀ c : Dev Cert.ReferenceDwoIdeal.nD,
      r.2.mem ((c.tc : Thread Cert.ReferenceDwoIdeal.nD Cert.ReferenceDwoIdeal.τ).loc Cert.ReferenceDwoIdeal.main_arg0) = m ((c.tc : Thread Cert.ReferenceDwoIdeal.nD Cert.ReferenceDwoIdeal.τ).loc Cert.ReferenceDwoIdeal.main_arg0)
      ∧ r.2.mem ((c.tc : Thread Cert.ReferenceDwoIdeal.nD Cert.ReferenceDwoIdeal.τ).loc Cert.ReferenceDwoIdeal.main_arg1) = m ((c.tc : Thread Cert.ReferenceDwoIdeal.nD Cert.ReferenceDwoIdeal.τ).loc Cert.ReferenceDwoIdeal.main_arg1))
      ∧ r.2.sem = fun _ => 0)

def quiescent_KernelDwup0 [hKernelDwup0 : Cert.KernelDwup0.Facts] : Prop :=
  ∀ (m : (ℓ : Loc Cert.KernelDwup0.nD Cert.KernelDwup0.τ Cert.KernelDwup0.sig) → Buf (Elt Bits) ℓ) (g : Dev Cert.KernelDwup0.nD → PrngReg), Pre_KernelDwup0 m →
    θ_run (Cert.KernelDwup0.defs (F := Bits)) (onTc (τ := Cert.KernelDwup0.τ) (Cert.KernelDwup0.main (F := Bits))) ⟨m, fun _ => 0, g⟩ (fun r => (∀ c : Dev Cert.KernelDwup0.nD,
      r.2.mem ((c.tc : Thread Cert.KernelDwup0.nD Cert.KernelDwup0.τ).loc Cert.KernelDwup0.main_arg0) = m ((c.tc : Thread Cert.KernelDwup0.nD Cert.KernelDwup0.τ).loc Cert.KernelDwup0.main_arg0)
      ∧ r.2.mem ((c.tc : Thread Cert.KernelDwup0.nD Cert.KernelDwup0.τ).loc Cert.KernelDwup0.main_arg1) = m ((c.tc : Thread Cert.KernelDwup0.nD Cert.KernelDwup0.τ).loc Cert.KernelDwup0.main_arg1))
      ∧ r.2.sem = fun _ => 0)

def quiescent_KernelDwup0Ideal [hKernelDwup0Ideal : Cert.KernelDwup0Ideal.Facts] : Prop :=
  ∀ (m : (ℓ : Loc Cert.KernelDwup0Ideal.nD Cert.KernelDwup0Ideal.τ Cert.KernelDwup0Ideal.sig) → Buf (Elt Ideal) ℓ) (g : Dev Cert.KernelDwup0Ideal.nD → PrngReg), Pre_KernelDwup0Ideal m →
    θ_run (Cert.KernelDwup0Ideal.defs (F := Ideal)) (onTc (τ := Cert.KernelDwup0Ideal.τ) (Cert.KernelDwup0Ideal.main (F := Ideal))) ⟨m, fun _ => 0, g⟩ (fun r => (∀ c : Dev Cert.KernelDwup0Ideal.nD,
      r.2.mem ((c.tc : Thread Cert.KernelDwup0Ideal.nD Cert.KernelDwup0Ideal.τ).loc Cert.KernelDwup0Ideal.main_arg0) = m ((c.tc : Thread Cert.KernelDwup0Ideal.nD Cert.KernelDwup0Ideal.τ).loc Cert.KernelDwup0Ideal.main_arg0)
      ∧ r.2.mem ((c.tc : Thread Cert.KernelDwup0Ideal.nD Cert.KernelDwup0Ideal.τ).loc Cert.KernelDwup0Ideal.main_arg1) = m ((c.tc : Thread Cert.KernelDwup0Ideal.nD Cert.KernelDwup0Ideal.τ).loc Cert.KernelDwup0Ideal.main_arg1))
      ∧ r.2.sem = fun _ => 0)

def quiescent_ReferenceDwup0Ideal [hReferenceDwup0Ideal : Cert.ReferenceDwup0Ideal.Facts] : Prop :=
  ∀ (m : (ℓ : Loc Cert.ReferenceDwup0Ideal.nD Cert.ReferenceDwup0Ideal.τ Cert.ReferenceDwup0Ideal.sig) → Buf (Elt Ideal) ℓ) (g : Dev Cert.ReferenceDwup0Ideal.nD → PrngReg), Pre_ReferenceDwup0Ideal m →
    θ_run (Cert.ReferenceDwup0Ideal.defs (F := Ideal)) (onTc (τ := Cert.ReferenceDwup0Ideal.τ) (Cert.ReferenceDwup0Ideal.main (F := Ideal))) ⟨m, fun _ => 0, g⟩ (fun r => (∀ c : Dev Cert.ReferenceDwup0Ideal.nD,
      r.2.mem ((c.tc : Thread Cert.ReferenceDwup0Ideal.nD Cert.ReferenceDwup0Ideal.τ).loc Cert.ReferenceDwup0Ideal.main_arg0) = m ((c.tc : Thread Cert.ReferenceDwup0Ideal.nD Cert.ReferenceDwup0Ideal.τ).loc Cert.ReferenceDwup0Ideal.main_arg0)
      ∧ r.2.mem ((c.tc : Thread Cert.ReferenceDwup0Ideal.nD Cert.ReferenceDwup0Ideal.τ).loc Cert.ReferenceDwup0Ideal.main_arg1) = m ((c.tc : Thread Cert.ReferenceDwup0Ideal.nD Cert.ReferenceDwup0Ideal.τ).loc Cert.ReferenceDwup0Ideal.main_arg1))
      ∧ r.2.sem = fun _ => 0)

def quiescent_KernelDwup1 [hKernelDwup1 : Cert.KernelDwup1.Facts] : Prop :=
  ∀ (m : (ℓ : Loc Cert.KernelDwup1.nD Cert.KernelDwup1.τ Cert.KernelDwup1.sig) → Buf (Elt Bits) ℓ) (g : Dev Cert.KernelDwup1.nD → PrngReg), Pre_KernelDwup1 m →
    θ_run (Cert.KernelDwup1.defs (F := Bits)) (onTc (τ := Cert.KernelDwup1.τ) (Cert.KernelDwup1.main (F := Bits))) ⟨m, fun _ => 0, g⟩ (fun r => (∀ c : Dev Cert.KernelDwup1.nD,
      r.2.mem ((c.tc : Thread Cert.KernelDwup1.nD Cert.KernelDwup1.τ).loc Cert.KernelDwup1.main_arg0) = m ((c.tc : Thread Cert.KernelDwup1.nD Cert.KernelDwup1.τ).loc Cert.KernelDwup1.main_arg0)
      ∧ r.2.mem ((c.tc : Thread Cert.KernelDwup1.nD Cert.KernelDwup1.τ).loc Cert.KernelDwup1.main_arg1) = m ((c.tc : Thread Cert.KernelDwup1.nD Cert.KernelDwup1.τ).loc Cert.KernelDwup1.main_arg1))
      ∧ r.2.sem = fun _ => 0)

def quiescent_KernelDwup1Ideal [hKernelDwup1Ideal : Cert.KernelDwup1Ideal.Facts] : Prop :=
  ∀ (m : (ℓ : Loc Cert.KernelDwup1Ideal.nD Cert.KernelDwup1Ideal.τ Cert.KernelDwup1Ideal.sig) → Buf (Elt Ideal) ℓ) (g : Dev Cert.KernelDwup1Ideal.nD → PrngReg), Pre_KernelDwup1Ideal m →
    θ_run (Cert.KernelDwup1Ideal.defs (F := Ideal)) (onTc (τ := Cert.KernelDwup1Ideal.τ) (Cert.KernelDwup1Ideal.main (F := Ideal))) ⟨m, fun _ => 0, g⟩ (fun r => (∀ c : Dev Cert.KernelDwup1Ideal.nD,
      r.2.mem ((c.tc : Thread Cert.KernelDwup1Ideal.nD Cert.KernelDwup1Ideal.τ).loc Cert.KernelDwup1Ideal.main_arg0) = m ((c.tc : Thread Cert.KernelDwup1Ideal.nD Cert.KernelDwup1Ideal.τ).loc Cert.KernelDwup1Ideal.main_arg0)
      ∧ r.2.mem ((c.tc : Thread Cert.KernelDwup1Ideal.nD Cert.KernelDwup1Ideal.τ).loc Cert.KernelDwup1Ideal.main_arg1) = m ((c.tc : Thread Cert.KernelDwup1Ideal.nD Cert.KernelDwup1Ideal.τ).loc Cert.KernelDwup1Ideal.main_arg1))
      ∧ r.2.sem = fun _ => 0)

def quiescent_ReferenceDwup1Ideal [hReferenceDwup1Ideal : Cert.ReferenceDwup1Ideal.Facts] : Prop :=
  ∀ (m : (ℓ : Loc Cert.ReferenceDwup1Ideal.nD Cert.ReferenceDwup1Ideal.τ Cert.ReferenceDwup1Ideal.sig) → Buf (Elt Ideal) ℓ) (g : Dev Cert.ReferenceDwup1Ideal.nD → PrngReg), Pre_ReferenceDwup1Ideal m →
    θ_run (Cert.ReferenceDwup1Ideal.defs (F := Ideal)) (onTc (τ := Cert.ReferenceDwup1Ideal.τ) (Cert.ReferenceDwup1Ideal.main (F := Ideal))) ⟨m, fun _ => 0, g⟩ (fun r => (∀ c : Dev Cert.ReferenceDwup1Ideal.nD,
      r.2.mem ((c.tc : Thread Cert.ReferenceDwup1Ideal.nD Cert.ReferenceDwup1Ideal.τ).loc Cert.ReferenceDwup1Ideal.main_arg0) = m ((c.tc : Thread Cert.ReferenceDwup1Ideal.nD Cert.ReferenceDwup1Ideal.τ).loc Cert.ReferenceDwup1Ideal.main_arg0)
      ∧ r.2.mem ((c.tc : Thread Cert.ReferenceDwup1Ideal.nD Cert.ReferenceDwup1Ideal.τ).loc Cert.ReferenceDwup1Ideal.main_arg1) = m ((c.tc : Thread Cert.ReferenceDwup1Ideal.nD Cert.ReferenceDwup1Ideal.τ).loc Cert.ReferenceDwup1Ideal.main_arg1))
      ∧ r.2.sem = fun _ => 0)

def quiescent_KernelDwup2 [hKernelDwup2 : Cert.KernelDwup2.Facts] : Prop :=
  ∀ (m : (ℓ : Loc Cert.KernelDwup2.nD Cert.KernelDwup2.τ Cert.KernelDwup2.sig) → Buf (Elt Bits) ℓ) (g : Dev Cert.KernelDwup2.nD → PrngReg), Pre_KernelDwup2 m →
    θ_run (Cert.KernelDwup2.defs (F := Bits)) (onTc (τ := Cert.KernelDwup2.τ) (Cert.KernelDwup2.main (F := Bits))) ⟨m, fun _ => 0, g⟩ (fun r => (∀ c : Dev Cert.KernelDwup2.nD,
      r.2.mem ((c.tc : Thread Cert.KernelDwup2.nD Cert.KernelDwup2.τ).loc Cert.KernelDwup2.main_arg0) = m ((c.tc : Thread Cert.KernelDwup2.nD Cert.KernelDwup2.τ).loc Cert.KernelDwup2.main_arg0)
      ∧ r.2.mem ((c.tc : Thread Cert.KernelDwup2.nD Cert.KernelDwup2.τ).loc Cert.KernelDwup2.main_arg1) = m ((c.tc : Thread Cert.KernelDwup2.nD Cert.KernelDwup2.τ).loc Cert.KernelDwup2.main_arg1))
      ∧ r.2.sem = fun _ => 0)

def quiescent_KernelDwup2Ideal [hKernelDwup2Ideal : Cert.KernelDwup2Ideal.Facts] : Prop :=
  ∀ (m : (ℓ : Loc Cert.KernelDwup2Ideal.nD Cert.KernelDwup2Ideal.τ Cert.KernelDwup2Ideal.sig) → Buf (Elt Ideal) ℓ) (g : Dev Cert.KernelDwup2Ideal.nD → PrngReg), Pre_KernelDwup2Ideal m →
    θ_run (Cert.KernelDwup2Ideal.defs (F := Ideal)) (onTc (τ := Cert.KernelDwup2Ideal.τ) (Cert.KernelDwup2Ideal.main (F := Ideal))) ⟨m, fun _ => 0, g⟩ (fun r => (∀ c : Dev Cert.KernelDwup2Ideal.nD,
      r.2.mem ((c.tc : Thread Cert.KernelDwup2Ideal.nD Cert.KernelDwup2Ideal.τ).loc Cert.KernelDwup2Ideal.main_arg0) = m ((c.tc : Thread Cert.KernelDwup2Ideal.nD Cert.KernelDwup2Ideal.τ).loc Cert.KernelDwup2Ideal.main_arg0)
      ∧ r.2.mem ((c.tc : Thread Cert.KernelDwup2Ideal.nD Cert.KernelDwup2Ideal.τ).loc Cert.KernelDwup2Ideal.main_arg1) = m ((c.tc : Thread Cert.KernelDwup2Ideal.nD Cert.KernelDwup2Ideal.τ).loc Cert.KernelDwup2Ideal.main_arg1))
      ∧ r.2.sem = fun _ => 0)

def quiescent_ReferenceDwup2Ideal [hReferenceDwup2Ideal : Cert.ReferenceDwup2Ideal.Facts] : Prop :=
  ∀ (m : (ℓ : Loc Cert.ReferenceDwup2Ideal.nD Cert.ReferenceDwup2Ideal.τ Cert.ReferenceDwup2Ideal.sig) → Buf (Elt Ideal) ℓ) (g : Dev Cert.ReferenceDwup2Ideal.nD → PrngReg), Pre_ReferenceDwup2Ideal m →
    θ_run (Cert.ReferenceDwup2Ideal.defs (F := Ideal)) (onTc (τ := Cert.ReferenceDwup2Ideal.τ) (Cert.ReferenceDwup2Ideal.main (F := Ideal))) ⟨m, fun _ => 0, g⟩ (fun r => (∀ c : Dev Cert.ReferenceDwup2Ideal.nD,
      r.2.mem ((c.tc : Thread Cert.ReferenceDwup2Ideal.nD Cert.ReferenceDwup2Ideal.τ).loc Cert.ReferenceDwup2Ideal.main_arg0) = m ((c.tc : Thread Cert.ReferenceDwup2Ideal.nD Cert.ReferenceDwup2Ideal.τ).loc Cert.ReferenceDwup2Ideal.main_arg0)
      ∧ r.2.mem ((c.tc : Thread Cert.ReferenceDwup2Ideal.nD Cert.ReferenceDwup2Ideal.τ).loc Cert.ReferenceDwup2Ideal.main_arg1) = m ((c.tc : Thread Cert.ReferenceDwup2Ideal.nD Cert.ReferenceDwup2Ideal.τ).loc Cert.ReferenceDwup2Ideal.main_arg1))
      ∧ r.2.sem = fun _ => 0)

def quiescent_KernelDwup3 [hKernelDwup3 : Cert.KernelDwup3.Facts] : Prop :=
  ∀ (m : (ℓ : Loc Cert.KernelDwup3.nD Cert.KernelDwup3.τ Cert.KernelDwup3.sig) → Buf (Elt Bits) ℓ) (g : Dev Cert.KernelDwup3.nD → PrngReg), Pre_KernelDwup3 m →
    θ_run (Cert.KernelDwup3.defs (F := Bits)) (onTc (τ := Cert.KernelDwup3.τ) (Cert.KernelDwup3.main (F := Bits))) ⟨m, fun _ => 0, g⟩ (fun r => (∀ c : Dev Cert.KernelDwup3.nD,
      r.2.mem ((c.tc : Thread Cert.KernelDwup3.nD Cert.KernelDwup3.τ).loc Cert.KernelDwup3.main_arg0) = m ((c.tc : Thread Cert.KernelDwup3.nD Cert.KernelDwup3.τ).loc Cert.KernelDwup3.main_arg0)
      ∧ r.2.mem ((c.tc : Thread Cert.KernelDwup3.nD Cert.KernelDwup3.τ).loc Cert.KernelDwup3.main_arg1) = m ((c.tc : Thread Cert.KernelDwup3.nD Cert.KernelDwup3.τ).loc Cert.KernelDwup3.main_arg1))
      ∧ r.2.sem = fun _ => 0)

def quiescent_KernelDwup3Ideal [hKernelDwup3Ideal : Cert.KernelDwup3Ideal.Facts] : Prop :=
  ∀ (m : (ℓ : Loc Cert.KernelDwup3Ideal.nD Cert.KernelDwup3Ideal.τ Cert.KernelDwup3Ideal.sig) → Buf (Elt Ideal) ℓ) (g : Dev Cert.KernelDwup3Ideal.nD → PrngReg), Pre_KernelDwup3Ideal m →
    θ_run (Cert.KernelDwup3Ideal.defs (F := Ideal)) (onTc (τ := Cert.KernelDwup3Ideal.τ) (Cert.KernelDwup3Ideal.main (F := Ideal))) ⟨m, fun _ => 0, g⟩ (fun r => (∀ c : Dev Cert.KernelDwup3Ideal.nD,
      r.2.mem ((c.tc : Thread Cert.KernelDwup3Ideal.nD Cert.KernelDwup3Ideal.τ).loc Cert.KernelDwup3Ideal.main_arg0) = m ((c.tc : Thread Cert.KernelDwup3Ideal.nD Cert.KernelDwup3Ideal.τ).loc Cert.KernelDwup3Ideal.main_arg0)
      ∧ r.2.mem ((c.tc : Thread Cert.KernelDwup3Ideal.nD Cert.KernelDwup3Ideal.τ).loc Cert.KernelDwup3Ideal.main_arg1) = m ((c.tc : Thread Cert.KernelDwup3Ideal.nD Cert.KernelDwup3Ideal.τ).loc Cert.KernelDwup3Ideal.main_arg1))
      ∧ r.2.sem = fun _ => 0)

def quiescent_ReferenceDwup3Ideal [hReferenceDwup3Ideal : Cert.ReferenceDwup3Ideal.Facts] : Prop :=
  ∀ (m : (ℓ : Loc Cert.ReferenceDwup3Ideal.nD Cert.ReferenceDwup3Ideal.τ Cert.ReferenceDwup3Ideal.sig) → Buf (Elt Ideal) ℓ) (g : Dev Cert.ReferenceDwup3Ideal.nD → PrngReg), Pre_ReferenceDwup3Ideal m →
    θ_run (Cert.ReferenceDwup3Ideal.defs (F := Ideal)) (onTc (τ := Cert.ReferenceDwup3Ideal.τ) (Cert.ReferenceDwup3Ideal.main (F := Ideal))) ⟨m, fun _ => 0, g⟩ (fun r => (∀ c : Dev Cert.ReferenceDwup3Ideal.nD,
      r.2.mem ((c.tc : Thread Cert.ReferenceDwup3Ideal.nD Cert.ReferenceDwup3Ideal.τ).loc Cert.ReferenceDwup3Ideal.main_arg0) = m ((c.tc : Thread Cert.ReferenceDwup3Ideal.nD Cert.ReferenceDwup3Ideal.τ).loc Cert.ReferenceDwup3Ideal.main_arg0)
      ∧ r.2.mem ((c.tc : Thread Cert.ReferenceDwup3Ideal.nD Cert.ReferenceDwup3Ideal.τ).loc Cert.ReferenceDwup3Ideal.main_arg1) = m ((c.tc : Thread Cert.ReferenceDwup3Ideal.nD Cert.ReferenceDwup3Ideal.τ).loc Cert.ReferenceDwup3Ideal.main_arg1))
      ∧ r.2.sem = fun _ => 0)

def quiescent_KernelMerge [hKernelMerge : Cert.KernelMerge.Facts] : Prop :=
  ∀ (m : (ℓ : Loc Cert.KernelMerge.nD Cert.KernelMerge.τ Cert.KernelMerge.sig) → Buf (Elt Bits) ℓ) (g : Dev Cert.KernelMerge.nD → PrngReg), Pre_KernelMerge m →
    θ_run (Cert.KernelMerge.defs (F := Bits)) (onTc (τ := Cert.KernelMerge.τ) (Cert.KernelMerge.main (F := Bits))) ⟨m, fun _ => 0, g⟩ (fun r => (∀ c : Dev Cert.KernelMerge.nD,
      r.2.mem ((c.tc : Thread Cert.KernelMerge.nD Cert.KernelMerge.τ).loc Cert.KernelMerge.main_arg0) = m ((c.tc : Thread Cert.KernelMerge.nD Cert.KernelMerge.τ).loc Cert.KernelMerge.main_arg0)
      ∧ r.2.mem ((c.tc : Thread Cert.KernelMerge.nD Cert.KernelMerge.τ).loc Cert.KernelMerge.main_arg1) = m ((c.tc : Thread Cert.KernelMerge.nD Cert.KernelMerge.τ).loc Cert.KernelMerge.main_arg1)
      ∧ r.2.mem ((c.tc : Thread Cert.KernelMerge.nD Cert.KernelMerge.τ).loc Cert.KernelMerge.main_arg2) = m ((c.tc : Thread Cert.KernelMerge.nD Cert.KernelMerge.τ).loc Cert.KernelMerge.main_arg2)
      ∧ r.2.mem ((c.tc : Thread Cert.KernelMerge.nD Cert.KernelMerge.τ).loc Cert.KernelMerge.main_arg3) = m ((c.tc : Thread Cert.KernelMerge.nD Cert.KernelMerge.τ).loc Cert.KernelMerge.main_arg3)
      ∧ r.2.mem ((c.tc : Thread Cert.KernelMerge.nD Cert.KernelMerge.τ).loc Cert.KernelMerge.main_arg4) = m ((c.tc : Thread Cert.KernelMerge.nD Cert.KernelMerge.τ).loc Cert.KernelMerge.main_arg4)
      ∧ r.2.mem ((c.tc : Thread Cert.KernelMerge.nD Cert.KernelMerge.τ).loc Cert.KernelMerge.main_arg5) = m ((c.tc : Thread Cert.KernelMerge.nD Cert.KernelMerge.τ).loc Cert.KernelMerge.main_arg5)
      ∧ r.2.mem ((c.tc : Thread Cert.KernelMerge.nD Cert.KernelMerge.τ).loc Cert.KernelMerge.main_arg6) = m ((c.tc : Thread Cert.KernelMerge.nD Cert.KernelMerge.τ).loc Cert.KernelMerge.main_arg6)
      ∧ r.2.mem ((c.tc : Thread Cert.KernelMerge.nD Cert.KernelMerge.τ).loc Cert.KernelMerge.main_arg7) = m ((c.tc : Thread Cert.KernelMerge.nD Cert.KernelMerge.τ).loc Cert.KernelMerge.main_arg7)
      ∧ r.2.mem ((c.tc : Thread Cert.KernelMerge.nD Cert.KernelMerge.τ).loc Cert.KernelMerge.main_arg8) = m ((c.tc : Thread Cert.KernelMerge.nD Cert.KernelMerge.τ).loc Cert.KernelMerge.main_arg8))
      ∧ r.2.sem = fun _ => 0)

def quiescent_KernelMergeIdeal [hKernelMergeIdeal : Cert.KernelMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg), Pre_KernelMergeIdeal m →
    θ_run (Cert.KernelMergeIdeal.defs (F := Ideal)) (onTc (τ := Cert.KernelMergeIdeal.τ) (Cert.KernelMergeIdeal.main (F := Ideal))) ⟨m, fun _ => 0, g⟩ (fun r => (∀ c : Dev Cert.KernelMergeIdeal.nD,
      r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
      ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
      ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
      ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
      ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
      ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
      ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6)
      ∧ r.2.mem ((c.tc : Thread Cert.KernelMergeIdeal.nD Cert.KernelMergeIdeal.τ).loc Cert.KernelMergeIdeal.main_arg7) = m ((c.tc : Thread Cert.KernelMergeIdeal.nD Cert.KernelMergeIdeal.τ).loc Cert.KernelMergeIdeal.main_arg7)
      ∧ r.2.mem ((c.tc : Thread Cert.KernelMergeIdeal.nD Cert.KernelMergeIdeal.τ).loc Cert.KernelMergeIdeal.main_arg8) = m ((c.tc : Thread Cert.KernelMergeIdeal.nD Cert.KernelMergeIdeal.τ).loc Cert.KernelMergeIdeal.main_arg8))
      ∧ r.2.sem = fun _ => 0)

def quiescent_ReferenceMergeIdeal [hReferenceMergeIdeal : Cert.ReferenceMergeIdeal.Facts] : Prop :=
  ∀ (m : (ℓ : Loc Cert.ReferenceMergeIdeal.nD Cert.ReferenceMergeIdeal.τ Cert.ReferenceMergeIdeal.sig) → Buf (Elt Ideal) ℓ) (g : Dev Cert.ReferenceMergeIdeal.nD → PrngReg), Pre_ReferenceMergeIdeal m →
    θ_run (Cert.ReferenceMergeIdeal.defs (F := Ideal)) (onTc (τ := Cert.ReferenceMergeIdeal.τ) (Cert.ReferenceMergeIdeal.main (F := Ideal))) ⟨m, fun _ => 0, g⟩ (fun r => (∀ c : Dev Cert.ReferenceMergeIdeal.nD,
      r.2.mem ((c.tc : Thread Cert.ReferenceMergeIdeal.nD Cert.ReferenceMergeIdeal.τ).loc Cert.ReferenceMergeIdeal.main_arg0) = m ((c.tc : Thread Cert.ReferenceMergeIdeal.nD Cert.ReferenceMergeIdeal.τ).loc Cert.ReferenceMergeIdeal.main_arg0)
      ∧ r.2.mem ((c.tc : Thread Cert.ReferenceMergeIdeal.nD Cert.ReferenceMergeIdeal.τ).loc Cert.ReferenceMergeIdeal.main_arg1) = m ((c.tc : Thread Cert.ReferenceMergeIdeal.nD Cert.ReferenceMergeIdeal.τ).loc Cert.ReferenceMergeIdeal.main_arg1)
      ∧ r.2.mem ((c.tc : Thread Cert.ReferenceMergeIdeal.nD Cert.ReferenceMergeIdeal.τ).loc Cert.ReferenceMergeIdeal.main_arg2) = m ((c.tc : Thread Cert.ReferenceMergeIdeal.nD Cert.ReferenceMergeIdeal.τ).loc Cert.ReferenceMergeIdeal.main_arg2)
      ∧ r.2.mem ((c.tc : Thread Cert.ReferenceMergeIdeal.nD Cert.ReferenceMergeIdeal.τ).loc Cert.ReferenceMergeIdeal.main_arg3) = m ((c.tc : Thread Cert.ReferenceMergeIdeal.nD Cert.ReferenceMergeIdeal.τ).loc Cert.ReferenceMergeIdeal.main_arg3)
      ∧ r.2.mem ((c.tc : Thread Cert.ReferenceMergeIdeal.nD Cert.ReferenceMergeIdeal.τ).loc Cert.ReferenceMergeIdeal.main_arg4) = m ((c.tc : Thread Cert.ReferenceMergeIdeal.nD Cert.ReferenceMergeIdeal.τ).loc Cert.ReferenceMergeIdeal.main_arg4)
      ∧ r.2.mem ((c.tc : Thread Cert.ReferenceMergeIdeal.nD Cert.ReferenceMergeIdeal.τ).loc Cert.ReferenceMergeIdeal.main_arg5) = m ((c.tc : Thread Cert.ReferenceMergeIdeal.nD Cert.ReferenceMergeIdeal.τ).loc Cert.ReferenceMergeIdeal.main_arg5)
      ∧ r.2.mem ((c.tc : Thread Cert.ReferenceMergeIdeal.nD Cert.ReferenceMergeIdeal.τ).loc Cert.ReferenceMergeIdeal.main_arg6) = m ((c.tc : Thread Cert.ReferenceMergeIdeal.nD Cert.ReferenceMergeIdeal.τ).loc Cert.ReferenceMergeIdeal.main_arg6)
      ∧ r.2.mem ((c.tc : Thread Cert.ReferenceMergeIdeal.nD Cert.ReferenceMergeIdeal.τ).loc Cert.ReferenceMergeIdeal.main_arg7) = m ((c.tc : Thread Cert.ReferenceMergeIdeal.nD Cert.ReferenceMergeIdeal.τ).loc Cert.ReferenceMergeIdeal.main_arg7)
      ∧ r.2.mem ((c.tc : Thread Cert.ReferenceMergeIdeal.nD Cert.ReferenceMergeIdeal.τ).loc Cert.ReferenceMergeIdeal.main_arg8) = m ((c.tc : Thread Cert.ReferenceMergeIdeal.nD Cert.ReferenceMergeIdeal.τ).loc Cert.ReferenceMergeIdeal.main_arg8))
      ∧ r.2.sem = fun _ => 0)

def quiescent_KernelDmerge [hKernelDmerge : Cert.KernelDmerge.Facts] : Prop :=
  ∀ (m : (ℓ : Loc Cert.KernelDmerge.nD Cert.KernelDmerge.τ Cert.KernelDmerge.sig) → Buf (Elt Bits) ℓ) (g : Dev Cert.KernelDmerge.nD → PrngReg), Pre_KernelDmerge m →
    θ_run (Cert.KernelDmerge.defs (F := Bits)) (onTc (τ := Cert.KernelDmerge.τ) (Cert.KernelDmerge.main (F := Bits))) ⟨m, fun _ => 0, g⟩ (fun r => (∀ c : Dev Cert.KernelDmerge.nD,
      r.2.mem ((c.tc : Thread Cert.KernelDmerge.nD Cert.KernelDmerge.τ).loc Cert.KernelDmerge.main_arg0) = m ((c.tc : Thread Cert.KernelDmerge.nD Cert.KernelDmerge.τ).loc Cert.KernelDmerge.main_arg0)
      ∧ r.2.mem ((c.tc : Thread Cert.KernelDmerge.nD Cert.KernelDmerge.τ).loc Cert.KernelDmerge.main_arg1) = m ((c.tc : Thread Cert.KernelDmerge.nD Cert.KernelDmerge.τ).loc Cert.KernelDmerge.main_arg1)
      ∧ r.2.mem ((c.tc : Thread Cert.KernelDmerge.nD Cert.KernelDmerge.τ).loc Cert.KernelDmerge.main_arg2) = m ((c.tc : Thread Cert.KernelDmerge.nD Cert.KernelDmerge.τ).loc Cert.KernelDmerge.main_arg2)
      ∧ r.2.mem ((c.tc : Thread Cert.KernelDmerge.nD Cert.KernelDmerge.τ).loc Cert.KernelDmerge.main_arg3) = m ((c.tc : Thread Cert.KernelDmerge.nD Cert.KernelDmerge.τ).loc Cert.KernelDmerge.main_arg3)
      ∧ r.2.mem ((c.tc : Thread Cert.KernelDmerge.nD Cert.KernelDmerge.τ).loc Cert.KernelDmerge.main_arg4) = m ((c.tc : Thread Cert.KernelDmerge.nD Cert.KernelDmerge.τ).loc Cert.KernelDmerge.main_arg4)
      ∧ r.2.mem ((c.tc : Thread Cert.KernelDmerge.nD Cert.KernelDmerge.τ).loc Cert.KernelDmerge.main_arg5) = m ((c.tc : Thread Cert.KernelDmerge.nD Cert.KernelDmerge.τ).loc Cert.KernelDmerge.main_arg5)
      ∧ r.2.mem ((c.tc : Thread Cert.KernelDmerge.nD Cert.KernelDmerge.τ).loc Cert.KernelDmerge.main_arg6) = m ((c.tc : Thread Cert.KernelDmerge.nD Cert.KernelDmerge.τ).loc Cert.KernelDmerge.main_arg6)
      ∧ r.2.mem ((c.tc : Thread Cert.KernelDmerge.nD Cert.KernelDmerge.τ).loc Cert.KernelDmerge.main_arg7) = m ((c.tc : Thread Cert.KernelDmerge.nD Cert.KernelDmerge.τ).loc Cert.KernelDmerge.main_arg7)
      ∧ r.2.mem ((c.tc : Thread Cert.KernelDmerge.nD Cert.KernelDmerge.τ).loc Cert.KernelDmerge.main_arg8) = m ((c.tc : Thread Cert.KernelDmerge.nD Cert.KernelDmerge.τ).loc Cert.KernelDmerge.main_arg8))
      ∧ r.2.sem = fun _ => 0)

def quiescent_KernelDmergeIdeal [hKernelDmergeIdeal : Cert.KernelDmergeIdeal.Facts] : Prop :=
  ∀ (m : (ℓ : Loc Cert.KernelDmergeIdeal.nD Cert.KernelDmergeIdeal.τ Cert.KernelDmergeIdeal.sig) → Buf (Elt Ideal) ℓ) (g : Dev Cert.KernelDmergeIdeal.nD → PrngReg), Pre_KernelDmergeIdeal m →
    θ_run (Cert.KernelDmergeIdeal.defs (F := Ideal)) (onTc (τ := Cert.KernelDmergeIdeal.τ) (Cert.KernelDmergeIdeal.main (F := Ideal))) ⟨m, fun _ => 0, g⟩ (fun r => (∀ c : Dev Cert.KernelDmergeIdeal.nD,
      r.2.mem ((c.tc : Thread Cert.KernelDmergeIdeal.nD Cert.KernelDmergeIdeal.τ).loc Cert.KernelDmergeIdeal.main_arg0) = m ((c.tc : Thread Cert.KernelDmergeIdeal.nD Cert.KernelDmergeIdeal.τ).loc Cert.KernelDmergeIdeal.main_arg0)
      ∧ r.2.mem ((c.tc : Thread Cert.KernelDmergeIdeal.nD Cert.KernelDmergeIdeal.τ).loc Cert.KernelDmergeIdeal.main_arg1) = m ((c.tc : Thread Cert.KernelDmergeIdeal.nD Cert.KernelDmergeIdeal.τ).loc Cert.KernelDmergeIdeal.main_arg1)
      ∧ r.2.mem ((c.tc : Thread Cert.KernelDmergeIdeal.nD Cert.KernelDmergeIdeal.τ).loc Cert.KernelDmergeIdeal.main_arg2) = m ((c.tc : Thread Cert.KernelDmergeIdeal.nD Cert.KernelDmergeIdeal.τ).loc Cert.KernelDmergeIdeal.main_arg2)
      ∧ r.2.mem ((c.tc : Thread Cert.KernelDmergeIdeal.nD Cert.KernelDmergeIdeal.τ).loc Cert.KernelDmergeIdeal.main_arg3) = m ((c.tc : Thread Cert.KernelDmergeIdeal.nD Cert.KernelDmergeIdeal.τ).loc Cert.KernelDmergeIdeal.main_arg3)
      ∧ r.2.mem ((c.tc : Thread Cert.KernelDmergeIdeal.nD Cert.KernelDmergeIdeal.τ).loc Cert.KernelDmergeIdeal.main_arg4) = m ((c.tc : Thread Cert.KernelDmergeIdeal.nD Cert.KernelDmergeIdeal.τ).loc Cert.KernelDmergeIdeal.main_arg4)
      ∧ r.2.mem ((c.tc : Thread Cert.KernelDmergeIdeal.nD Cert.KernelDmergeIdeal.τ).loc Cert.KernelDmergeIdeal.main_arg5) = m ((c.tc : Thread Cert.KernelDmergeIdeal.nD Cert.KernelDmergeIdeal.τ).loc Cert.KernelDmergeIdeal.main_arg5)
      ∧ r.2.mem ((c.tc : Thread Cert.KernelDmergeIdeal.nD Cert.KernelDmergeIdeal.τ).loc Cert.KernelDmergeIdeal.main_arg6) = m ((c.tc : Thread Cert.KernelDmergeIdeal.nD Cert.KernelDmergeIdeal.τ).loc Cert.KernelDmergeIdeal.main_arg6)
      ∧ r.2.mem ((c.tc : Thread Cert.KernelDmergeIdeal.nD Cert.KernelDmergeIdeal.τ).loc Cert.KernelDmergeIdeal.main_arg7) = m ((c.tc : Thread Cert.KernelDmergeIdeal.nD Cert.KernelDmergeIdeal.τ).loc Cert.KernelDmergeIdeal.main_arg7)
      ∧ r.2.mem ((c.tc : Thread Cert.KernelDmergeIdeal.nD Cert.KernelDmergeIdeal.τ).loc Cert.KernelDmergeIdeal.main_arg8) = m ((c.tc : Thread Cert.KernelDmergeIdeal.nD Cert.KernelDmergeIdeal.τ).loc Cert.KernelDmergeIdeal.main_arg8))
      ∧ r.2.sem = fun _ => 0)

def quiescent_ReferenceDmergeIdeal [hReferenceDmergeIdeal : Cert.ReferenceDmergeIdeal.Facts] : Prop :=
  ∀ (m : (ℓ : Loc Cert.ReferenceDmergeIdeal.nD Cert.ReferenceDmergeIdeal.τ Cert.ReferenceDmergeIdeal.sig) → Buf (Elt Ideal) ℓ) (g : Dev Cert.ReferenceDmergeIdeal.nD → PrngReg), Pre_ReferenceDmergeIdeal m →
    θ_run (Cert.ReferenceDmergeIdeal.defs (F := Ideal)) (onTc (τ := Cert.ReferenceDmergeIdeal.τ) (Cert.ReferenceDmergeIdeal.main (F := Ideal))) ⟨m, fun _ => 0, g⟩ (fun r => (∀ c : Dev Cert.ReferenceDmergeIdeal.nD,
      r.2.mem ((c.tc : Thread Cert.ReferenceDmergeIdeal.nD Cert.ReferenceDmergeIdeal.τ).loc Cert.ReferenceDmergeIdeal.main_arg0) = m ((c.tc : Thread Cert.ReferenceDmergeIdeal.nD Cert.ReferenceDmergeIdeal.τ).loc Cert.ReferenceDmergeIdeal.main_arg0)
      ∧ r.2.mem ((c.tc : Thread Cert.ReferenceDmergeIdeal.nD Cert.ReferenceDmergeIdeal.τ).loc Cert.ReferenceDmergeIdeal.main_arg1) = m ((c.tc : Thread Cert.ReferenceDmergeIdeal.nD Cert.ReferenceDmergeIdeal.τ).loc Cert.ReferenceDmergeIdeal.main_arg1)
      ∧ r.2.mem ((c.tc : Thread Cert.ReferenceDmergeIdeal.nD Cert.ReferenceDmergeIdeal.τ).loc Cert.ReferenceDmergeIdeal.main_arg2) = m ((c.tc : Thread Cert.ReferenceDmergeIdeal.nD Cert.ReferenceDmergeIdeal.τ).loc Cert.ReferenceDmergeIdeal.main_arg2)
      ∧ r.2.mem ((c.tc : Thread Cert.ReferenceDmergeIdeal.nD Cert.ReferenceDmergeIdeal.τ).loc Cert.ReferenceDmergeIdeal.main_arg3) = m ((c.tc : Thread Cert.ReferenceDmergeIdeal.nD Cert.ReferenceDmergeIdeal.τ).loc Cert.ReferenceDmergeIdeal.main_arg3)
      ∧ r.2.mem ((c.tc : Thread Cert.ReferenceDmergeIdeal.nD Cert.ReferenceDmergeIdeal.τ).loc Cert.ReferenceDmergeIdeal.main_arg4) = m ((c.tc : Thread Cert.ReferenceDmergeIdeal.nD Cert.ReferenceDmergeIdeal.τ).loc Cert.ReferenceDmergeIdeal.main_arg4)
      ∧ r.2.mem ((c.tc : Thread Cert.ReferenceDmergeIdeal.nD Cert.ReferenceDmergeIdeal.τ).loc Cert.ReferenceDmergeIdeal.main_arg5) = m ((c.tc : Thread Cert.ReferenceDmergeIdeal.nD Cert.ReferenceDmergeIdeal.τ).loc Cert.ReferenceDmergeIdeal.main_arg5)
      ∧ r.2.mem ((c.tc : Thread Cert.ReferenceDmergeIdeal.nD Cert.ReferenceDmergeIdeal.τ).loc Cert.ReferenceDmergeIdeal.main_arg6) = m ((c.tc : Thread Cert.ReferenceDmergeIdeal.nD Cert.ReferenceDmergeIdeal.τ).loc Cert.ReferenceDmergeIdeal.main_arg6)
      ∧ r.2.mem ((c.tc : Thread Cert.ReferenceDmergeIdeal.nD Cert.ReferenceDmergeIdeal.τ).loc Cert.ReferenceDmergeIdeal.main_arg7) = m ((c.tc : Thread Cert.ReferenceDmergeIdeal.nD Cert.ReferenceDmergeIdeal.τ).loc Cert.ReferenceDmergeIdeal.main_arg7)
      ∧ r.2.mem ((c.tc : Thread Cert.ReferenceDmergeIdeal.nD Cert.ReferenceDmergeIdeal.τ).loc Cert.ReferenceDmergeIdeal.main_arg8) = m ((c.tc : Thread Cert.ReferenceDmergeIdeal.nD Cert.ReferenceDmergeIdeal.τ).loc Cert.ReferenceDmergeIdeal.main_arg8))
      ∧ r.2.sem = fun _ => 0)

def quiescent_KernelPle [hKernelPle : Cert.KernelPle.Facts] : Prop :=
  ∀ (m : (ℓ : Loc Cert.KernelPle.nD Cert.KernelPle.τ Cert.KernelPle.sig) → Buf (Elt Bits) ℓ) (g : Dev Cert.KernelPle.nD → PrngReg), Pre_KernelPle m →
    θ_run (Cert.KernelPle.defs (F := Bits)) (onTc (τ := Cert.KernelPle.τ) (Cert.KernelPle.main (F := Bits))) ⟨m, fun _ => 0, g⟩ (fun r => (∀ c : Dev Cert.KernelPle.nD,
      r.2.mem ((c.tc : Thread Cert.KernelPle.nD Cert.KernelPle.τ).loc Cert.KernelPle.main_arg0) = m ((c.tc : Thread Cert.KernelPle.nD Cert.KernelPle.τ).loc Cert.KernelPle.main_arg0)
      ∧ r.2.mem ((c.tc : Thread Cert.KernelPle.nD Cert.KernelPle.τ).loc Cert.KernelPle.main_arg1) = m ((c.tc : Thread Cert.KernelPle.nD Cert.KernelPle.τ).loc Cert.KernelPle.main_arg1)
      ∧ r.2.mem ((c.tc : Thread Cert.KernelPle.nD Cert.KernelPle.τ).loc Cert.KernelPle.main_arg2) = m ((c.tc : Thread Cert.KernelPle.nD Cert.KernelPle.τ).loc Cert.KernelPle.main_arg2)
      ∧ r.2.mem ((c.tc : Thread Cert.KernelPle.nD Cert.KernelPle.τ).loc Cert.KernelPle.main_arg3) = m ((c.tc : Thread Cert.KernelPle.nD Cert.KernelPle.τ).loc Cert.KernelPle.main_arg3)
      ∧ r.2.mem ((c.tc : Thread Cert.KernelPle.nD Cert.KernelPle.τ).loc Cert.KernelPle.main_arg4) = m ((c.tc : Thread Cert.KernelPle.nD Cert.KernelPle.τ).loc Cert.KernelPle.main_arg4))
      ∧ r.2.sem = fun _ => 0)

def quiescent_KernelPleIdeal [hKernelPleIdeal : Cert.KernelPleIdeal.Facts] : Prop :=
  ∀ (m : (ℓ : Loc Cert.KernelPleIdeal.nD Cert.KernelPleIdeal.τ Cert.KernelPleIdeal.sig) → Buf (Elt Ideal) ℓ) (g : Dev Cert.KernelPleIdeal.nD → PrngReg), Pre_KernelPleIdeal m →
    θ_run (Cert.KernelPleIdeal.defs (F := Ideal)) (onTc (τ := Cert.KernelPleIdeal.τ) (Cert.KernelPleIdeal.main (F := Ideal))) ⟨m, fun _ => 0, g⟩ (fun r => (∀ c : Dev Cert.KernelPleIdeal.nD,
      r.2.mem ((c.tc : Thread Cert.KernelPleIdeal.nD Cert.KernelPleIdeal.τ).loc Cert.KernelPleIdeal.main_arg0) = m ((c.tc : Thread Cert.KernelPleIdeal.nD Cert.KernelPleIdeal.τ).loc Cert.KernelPleIdeal.main_arg0)
      ∧ r.2.mem ((c.tc : Thread Cert.KernelPleIdeal.nD Cert.KernelPleIdeal.τ).loc Cert.KernelPleIdeal.main_arg1) = m ((c.tc : Thread Cert.KernelPleIdeal.nD Cert.KernelPleIdeal.τ).loc Cert.KernelPleIdeal.main_arg1)
      ∧ r.2.mem ((c.tc : Thread Cert.KernelPleIdeal.nD Cert.KernelPleIdeal.τ).loc Cert.KernelPleIdeal.main_arg2) = m ((c.tc : Thread Cert.KernelPleIdeal.nD Cert.KernelPleIdeal.τ).loc Cert.KernelPleIdeal.main_arg2)
      ∧ r.2.mem ((c.tc : Thread Cert.KernelPleIdeal.nD Cert.KernelPleIdeal.τ).loc Cert.KernelPleIdeal.main_arg3) = m ((c.tc : Thread Cert.KernelPleIdeal.nD Cert.KernelPleIdeal.τ).loc Cert.KernelPleIdeal.main_arg3)
      ∧ r.2.mem ((c.tc : Thread Cert.KernelPleIdeal.nD Cert.KernelPleIdeal.τ).loc Cert.KernelPleIdeal.main_arg4) = m ((c.tc : Thread Cert.KernelPleIdeal.nD Cert.KernelPleIdeal.τ).loc Cert.KernelPleIdeal.main_arg4))
      ∧ r.2.sem = fun _ => 0)

def quiescent_ReferencePleIdeal [hReferencePleIdeal : Cert.ReferencePleIdeal.Facts] : Prop :=
  ∀ (m : (ℓ : Loc Cert.ReferencePleIdeal.nD Cert.ReferencePleIdeal.τ Cert.ReferencePleIdeal.sig) → Buf (Elt Ideal) ℓ) (g : Dev Cert.ReferencePleIdeal.nD → PrngReg), Pre_ReferencePleIdeal m →
    θ_run (Cert.ReferencePleIdeal.defs (F := Ideal)) (onTc (τ := Cert.ReferencePleIdeal.τ) (Cert.ReferencePleIdeal.main (F := Ideal))) ⟨m, fun _ => 0, g⟩ (fun r => (∀ c : Dev Cert.ReferencePleIdeal.nD,
      r.2.mem ((c.tc : Thread Cert.ReferencePleIdeal.nD Cert.ReferencePleIdeal.τ).loc Cert.ReferencePleIdeal.main_arg0) = m ((c.tc : Thread Cert.ReferencePleIdeal.nD Cert.ReferencePleIdeal.τ).loc Cert.ReferencePleIdeal.main_arg0)
      ∧ r.2.mem ((c.tc : Thread Cert.ReferencePleIdeal.nD Cert.ReferencePleIdeal.τ).loc Cert.ReferencePleIdeal.main_arg1) = m ((c.tc : Thread Cert.ReferencePleIdeal.nD Cert.ReferencePleIdeal.τ).loc Cert.ReferencePleIdeal.main_arg1)
      ∧ r.2.mem ((c.tc : Thread Cert.ReferencePleIdeal.nD Cert.ReferencePleIdeal.τ).loc Cert.ReferencePleIdeal.main_arg2) = m ((c.tc : Thread Cert.ReferencePleIdeal.nD Cert.ReferencePleIdeal.τ).loc Cert.ReferencePleIdeal.main_arg2)
      ∧ r.2.mem ((c.tc : Thread Cert.ReferencePleIdeal.nD Cert.ReferencePleIdeal.τ).loc Cert.ReferencePleIdeal.main_arg3) = m ((c.tc : Thread Cert.ReferencePleIdeal.nD Cert.ReferencePleIdeal.τ).loc Cert.ReferencePleIdeal.main_arg3)
      ∧ r.2.mem ((c.tc : Thread Cert.ReferencePleIdeal.nD Cert.ReferencePleIdeal.τ).loc Cert.ReferencePleIdeal.main_arg4) = m ((c.tc : Thread Cert.ReferencePleIdeal.nD Cert.ReferencePleIdeal.τ).loc Cert.ReferencePleIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v94_0)) (v1 : (c : Dev Cert.KernelIdeal.nD) → Buf (Elt Ideal) ((c.tc : Thread Cert.KernelIdeal.nD Cert.KernelIdeal.τ).loc Cert.KernelIdeal.main_v94_1)) (v2 : (c : Dev Cert.KernelIdeal.nD) → Buf (Elt Ideal) ((c.tc : Thread Cert.KernelIdeal.nD Cert.KernelIdeal.τ).loc Cert.KernelIdeal.main_v94_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94_0) = v0 c
          ∧ r.2.mem ((c.tc : Thread Cert.KernelIdeal.nD Cert.KernelIdeal.τ).loc Cert.KernelIdeal.main_v94_1) = v1 c
          ∧ r.2.mem ((c.tc : Thread Cert.KernelIdeal.nD Cert.KernelIdeal.τ).loc Cert.KernelIdeal.main_v94_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v86) = v1 c
          ∧ r.2.mem ((c.tc : Thread Cert.ReferenceIdeal.nD Cert.ReferenceIdeal.τ).loc Cert.ReferenceIdeal.main_v91) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_KernelZ_KernelZIdeal : Prop :=
  True

def algebraic_KernelZIdeal_ReferenceZIdeal [hKernelZIdeal : Cert.KernelZIdeal.Facts] [hReferenceZIdeal : Cert.ReferenceZIdeal.Facts] : Prop :=
  ∀ (m : (ℓ : Loc Cert.KernelZIdeal.nD Cert.KernelZIdeal.τ Cert.KernelZIdeal.sig) → Buf (Elt Ideal) ℓ) (g : Dev Cert.KernelZIdeal.nD → PrngReg)
    (m' : (ℓ : Loc Cert.ReferenceZIdeal.nD Cert.ReferenceZIdeal.τ Cert.ReferenceZIdeal.sig) → Buf (Elt Ideal) ℓ) (g' : Dev Cert.ReferenceZIdeal.nD → PrngReg), Pre_KernelZIdeal m →
    (∀ c : Dev Cert.KernelZIdeal.nD,
      m' ((c.tc : Thread Cert.ReferenceZIdeal.nD Cert.ReferenceZIdeal.τ).loc Cert.ReferenceZIdeal.main_arg0) = m ((c.tc : Thread Cert.KernelZIdeal.nD Cert.KernelZIdeal.τ).loc Cert.KernelZIdeal.main_arg0)
      ∧ m' ((c.tc : Thread Cert.ReferenceZIdeal.nD Cert.ReferenceZIdeal.τ).loc Cert.ReferenceZIdeal.main_arg1) = m ((c.tc : Thread Cert.KernelZIdeal.nD Cert.KernelZIdeal.τ).loc Cert.KernelZIdeal.main_arg1)) →
    ∃ (v0 : (c : Dev Cert.KernelZIdeal.nD) → Buf (Elt Ideal) ((c.tc : Thread Cert.KernelZIdeal.nD Cert.KernelZIdeal.τ).loc Cert.KernelZIdeal.main_v0)),
      θ_run (Cert.KernelZIdeal.defs (F := Ideal)) (onTc (τ := Cert.KernelZIdeal.τ) (Cert.KernelZIdeal.main (F := Ideal))) ⟨m, fun _ => 0, g⟩ (fun r => ∀ c : Dev Cert.KernelZIdeal.nD,
          r.2.mem ((c.tc : Thread Cert.KernelZIdeal.nD Cert.KernelZIdeal.τ).loc Cert.KernelZIdeal.main_v0) = v0 c
          ∧ r.2.mem ((c.tc : Thread Cert.KernelZIdeal.nD Cert.KernelZIdeal.τ).loc Cert.KernelZIdeal.main_arg0) = m ((c.tc : Thread Cert.KernelZIdeal.nD Cert.KernelZIdeal.τ).loc Cert.KernelZIdeal.main_arg0)
          ∧ r.2.mem ((c.tc : Thread Cert.KernelZIdeal.nD Cert.KernelZIdeal.τ).loc Cert.KernelZIdeal.main_arg1) = m ((c.tc : Thread Cert.KernelZIdeal.nD Cert.KernelZIdeal.τ).loc Cert.KernelZIdeal.main_arg1))
      ∧ θ_run (Cert.ReferenceZIdeal.defs (F := Ideal)) (onTc (τ := Cert.ReferenceZIdeal.τ) (Cert.ReferenceZIdeal.main (F := Ideal))) ⟨m', fun _ => 0, g'⟩ (fun r => ∀ c : Dev Cert.ReferenceZIdeal.nD,
          r.2.mem ((c.tc : Thread Cert.ReferenceZIdeal.nD Cert.ReferenceZIdeal.τ).loc Cert.ReferenceZIdeal.main_v2) = v0 c
          ∧ r.2.mem ((c.tc : Thread Cert.ReferenceZIdeal.nD Cert.ReferenceZIdeal.τ).loc Cert.ReferenceZIdeal.main_arg0) = m' ((c.tc : Thread Cert.ReferenceZIdeal.nD Cert.ReferenceZIdeal.τ).loc Cert.ReferenceZIdeal.main_arg0)
          ∧ r.2.mem ((c.tc : Thread Cert.ReferenceZIdeal.nD Cert.ReferenceZIdeal.τ).loc Cert.ReferenceZIdeal.main_arg1) = m' ((c.tc : Thread Cert.ReferenceZIdeal.nD Cert.ReferenceZIdeal.τ).loc Cert.ReferenceZIdeal.main_arg1))

def preserves_KernelDh_KernelDhIdeal : Prop :=
  True

def algebraic_KernelDhIdeal_ReferenceDhIdeal [hKernelDhIdeal : Cert.KernelDhIdeal.Facts] [hReferenceDhIdeal : Cert.ReferenceDhIdeal.Facts] : Prop :=
  ∀ (m : (ℓ : Loc Cert.KernelDhIdeal.nD Cert.KernelDhIdeal.τ Cert.KernelDhIdeal.sig) → Buf (Elt Ideal) ℓ) (g : Dev Cert.KernelDhIdeal.nD → PrngReg)
    (m' : (ℓ : Loc Cert.ReferenceDhIdeal.nD Cert.ReferenceDhIdeal.τ Cert.ReferenceDhIdeal.sig) → Buf (Elt Ideal) ℓ) (g' : Dev Cert.ReferenceDhIdeal.nD → PrngReg), Pre_KernelDhIdeal m →
    (∀ c : Dev Cert.KernelDhIdeal.nD,
      m' ((c.tc : Thread Cert.ReferenceDhIdeal.nD Cert.ReferenceDhIdeal.τ).loc Cert.ReferenceDhIdeal.main_arg0) = m ((c.tc : Thread Cert.KernelDhIdeal.nD Cert.KernelDhIdeal.τ).loc Cert.KernelDhIdeal.main_arg0)
      ∧ m' ((c.tc : Thread Cert.ReferenceDhIdeal.nD Cert.ReferenceDhIdeal.τ).loc Cert.ReferenceDhIdeal.main_arg1) = m ((c.tc : Thread Cert.KernelDhIdeal.nD Cert.KernelDhIdeal.τ).loc Cert.KernelDhIdeal.main_arg1)) →
    ∃ (v0 : (c : Dev Cert.KernelDhIdeal.nD) → Buf (Elt Ideal) ((c.tc : Thread Cert.KernelDhIdeal.nD Cert.KernelDhIdeal.τ).loc Cert.KernelDhIdeal.main_v0)),
      θ_run (Cert.KernelDhIdeal.defs (F := Ideal)) (onTc (τ := Cert.KernelDhIdeal.τ) (Cert.KernelDhIdeal.main (F := Ideal))) ⟨m, fun _ => 0, g⟩ (fun r => ∀ c : Dev Cert.KernelDhIdeal.nD,
          r.2.mem ((c.tc : Thread Cert.KernelDhIdeal.nD Cert.KernelDhIdeal.τ).loc Cert.KernelDhIdeal.main_v0) = v0 c
          ∧ r.2.mem ((c.tc : Thread Cert.KernelDhIdeal.nD Cert.KernelDhIdeal.τ).loc Cert.KernelDhIdeal.main_arg0) = m ((c.tc : Thread Cert.KernelDhIdeal.nD Cert.KernelDhIdeal.τ).loc Cert.KernelDhIdeal.main_arg0)
          ∧ r.2.mem ((c.tc : Thread Cert.KernelDhIdeal.nD Cert.KernelDhIdeal.τ).loc Cert.KernelDhIdeal.main_arg1) = m ((c.tc : Thread Cert.KernelDhIdeal.nD Cert.KernelDhIdeal.τ).loc Cert.KernelDhIdeal.main_arg1))
      ∧ θ_run (Cert.ReferenceDhIdeal.defs (F := Ideal)) (onTc (τ := Cert.ReferenceDhIdeal.τ) (Cert.ReferenceDhIdeal.main (F := Ideal))) ⟨m', fun _ => 0, g'⟩ (fun r => ∀ c : Dev Cert.ReferenceDhIdeal.nD,
          r.2.mem ((c.tc : Thread Cert.ReferenceDhIdeal.nD Cert.ReferenceDhIdeal.τ).loc Cert.ReferenceDhIdeal.main_v4) = v0 c
          ∧ r.2.mem ((c.tc : Thread Cert.ReferenceDhIdeal.nD Cert.ReferenceDhIdeal.τ).loc Cert.ReferenceDhIdeal.main_arg0) = m' ((c.tc : Thread Cert.ReferenceDhIdeal.nD Cert.ReferenceDhIdeal.τ).loc Cert.ReferenceDhIdeal.main_arg0)
          ∧ r.2.mem ((c.tc : Thread Cert.ReferenceDhIdeal.nD Cert.ReferenceDhIdeal.τ).loc Cert.ReferenceDhIdeal.main_arg1) = m' ((c.tc : Thread Cert.ReferenceDhIdeal.nD Cert.ReferenceDhIdeal.τ).loc Cert.ReferenceDhIdeal.main_arg1))

def preserves_KernelDwz_KernelDwzIdeal : Prop :=
  True

def algebraic_KernelDwzIdeal_ReferenceDwzIdeal [hKernelDwzIdeal : Cert.KernelDwzIdeal.Facts] [hReferenceDwzIdeal : Cert.ReferenceDwzIdeal.Facts] : Prop :=
  ∀ (m : (ℓ : Loc Cert.KernelDwzIdeal.nD Cert.KernelDwzIdeal.τ Cert.KernelDwzIdeal.sig) → Buf (Elt Ideal) ℓ) (g : Dev Cert.KernelDwzIdeal.nD → PrngReg)
    (m' : (ℓ : Loc Cert.ReferenceDwzIdeal.nD Cert.ReferenceDwzIdeal.τ Cert.ReferenceDwzIdeal.sig) → Buf (Elt Ideal) ℓ) (g' : Dev Cert.ReferenceDwzIdeal.nD → PrngReg), Pre_KernelDwzIdeal m →
    (∀ c : Dev Cert.KernelDwzIdeal.nD,
      m' ((c.tc : Thread Cert.ReferenceDwzIdeal.nD Cert.ReferenceDwzIdeal.τ).loc Cert.ReferenceDwzIdeal.main_arg0) = m ((c.tc : Thread Cert.KernelDwzIdeal.nD Cert.KernelDwzIdeal.τ).loc Cert.KernelDwzIdeal.main_arg0)
      ∧ m' ((c.tc : Thread Cert.ReferenceDwzIdeal.nD Cert.ReferenceDwzIdeal.τ).loc Cert.ReferenceDwzIdeal.main_arg1) = m ((c.tc : Thread Cert.KernelDwzIdeal.nD Cert.KernelDwzIdeal.τ).loc Cert.KernelDwzIdeal.main_arg1)) →
    ∃ (v0 : (c : Dev Cert.KernelDwzIdeal.nD) → Buf (Elt Ideal) ((c.tc : Thread Cert.KernelDwzIdeal.nD Cert.KernelDwzIdeal.τ).loc Cert.KernelDwzIdeal.main_v0)),
      θ_run (Cert.KernelDwzIdeal.defs (F := Ideal)) (onTc (τ := Cert.KernelDwzIdeal.τ) (Cert.KernelDwzIdeal.main (F := Ideal))) ⟨m, fun _ => 0, g⟩ (fun r => ∀ c : Dev Cert.KernelDwzIdeal.nD,
          r.2.mem ((c.tc : Thread Cert.KernelDwzIdeal.nD Cert.KernelDwzIdeal.τ).loc Cert.KernelDwzIdeal.main_v0) = v0 c
          ∧ r.2.mem ((c.tc : Thread Cert.KernelDwzIdeal.nD Cert.KernelDwzIdeal.τ).loc Cert.KernelDwzIdeal.main_arg0) = m ((c.tc : Thread Cert.KernelDwzIdeal.nD Cert.KernelDwzIdeal.τ).loc Cert.KernelDwzIdeal.main_arg0)
          ∧ r.2.mem ((c.tc : Thread Cert.KernelDwzIdeal.nD Cert.KernelDwzIdeal.τ).loc Cert.KernelDwzIdeal.main_arg1) = m ((c.tc : Thread Cert.KernelDwzIdeal.nD Cert.KernelDwzIdeal.τ).loc Cert.KernelDwzIdeal.main_arg1))
      ∧ θ_run (Cert.ReferenceDwzIdeal.defs (F := Ideal)) (onTc (τ := Cert.ReferenceDwzIdeal.τ) (Cert.ReferenceDwzIdeal.main (F := Ideal))) ⟨m', fun _ => 0, g'⟩ (fun r => ∀ c : Dev Cert.ReferenceDwzIdeal.nD,
          r.2.mem ((c.tc : Thread Cert.ReferenceDwzIdeal.nD Cert.ReferenceDwzIdeal.τ).loc Cert.ReferenceDwzIdeal.main_v5) = v0 c
          ∧ r.2.mem ((c.tc : Thread Cert.ReferenceDwzIdeal.nD Cert.ReferenceDwzIdeal.τ).loc Cert.ReferenceDwzIdeal.main_arg0) = m' ((c.tc : Thread Cert.ReferenceDwzIdeal.nD Cert.ReferenceDwzIdeal.τ).loc Cert.ReferenceDwzIdeal.main_arg0)
          ∧ r.2.mem ((c.tc : Thread Cert.ReferenceDwzIdeal.nD Cert.ReferenceDwzIdeal.τ).loc Cert.ReferenceDwzIdeal.main_arg1) = m' ((c.tc : Thread Cert.ReferenceDwzIdeal.nD Cert.ReferenceDwzIdeal.τ).loc Cert.ReferenceDwzIdeal.main_arg1))

def preserves_KernelDwg_KernelDwgIdeal : Prop :=
  True

def algebraic_KernelDwgIdeal_ReferenceDwgIdeal [hKernelDwgIdeal : Cert.KernelDwgIdeal.Facts] [hReferenceDwgIdeal : Cert.ReferenceDwgIdeal.Facts] : Prop :=
  ∀ (m : (ℓ : Loc Cert.KernelDwgIdeal.nD Cert.KernelDwgIdeal.τ Cert.KernelDwgIdeal.sig) → Buf (Elt Ideal) ℓ) (g : Dev Cert.KernelDwgIdeal.nD → PrngReg)
    (m' : (ℓ : Loc Cert.ReferenceDwgIdeal.nD Cert.ReferenceDwgIdeal.τ Cert.ReferenceDwgIdeal.sig) → Buf (Elt Ideal) ℓ) (g' : Dev Cert.ReferenceDwgIdeal.nD → PrngReg), Pre_KernelDwgIdeal m →
    (∀ c : Dev Cert.KernelDwgIdeal.nD,
      m' ((c.tc : Thread Cert.ReferenceDwgIdeal.nD Cert.ReferenceDwgIdeal.τ).loc Cert.ReferenceDwgIdeal.main_arg0) = m ((c.tc : Thread Cert.KernelDwgIdeal.nD Cert.KernelDwgIdeal.τ).loc Cert.KernelDwgIdeal.main_arg0)
      ∧ m' ((c.tc : Thread Cert.ReferenceDwgIdeal.nD Cert.ReferenceDwgIdeal.τ).loc Cert.ReferenceDwgIdeal.main_arg1) = m ((c.tc : Thread Cert.KernelDwgIdeal.nD Cert.KernelDwgIdeal.τ).loc Cert.KernelDwgIdeal.main_arg1)) →
    ∃ (v0 : (c : Dev Cert.KernelDwgIdeal.nD) → Buf (Elt Ideal) ((c.tc : Thread Cert.KernelDwgIdeal.nD Cert.KernelDwgIdeal.τ).loc Cert.KernelDwgIdeal.main_v0)),
      θ_run (Cert.KernelDwgIdeal.defs (F := Ideal)) (onTc (τ := Cert.KernelDwgIdeal.τ) (Cert.KernelDwgIdeal.main (F := Ideal))) ⟨m, fun _ => 0, g⟩ (fun r => ∀ c : Dev Cert.KernelDwgIdeal.nD,
          r.2.mem ((c.tc : Thread Cert.KernelDwgIdeal.nD Cert.KernelDwgIdeal.τ).loc Cert.KernelDwgIdeal.main_v0) = v0 c
          ∧ r.2.mem ((c.tc : Thread Cert.KernelDwgIdeal.nD Cert.KernelDwgIdeal.τ).loc Cert.KernelDwgIdeal.main_arg0) = m ((c.tc : Thread Cert.KernelDwgIdeal.nD Cert.KernelDwgIdeal.τ).loc Cert.KernelDwgIdeal.main_arg0)
          ∧ r.2.mem ((c.tc : Thread Cert.KernelDwgIdeal.nD Cert.KernelDwgIdeal.τ).loc Cert.KernelDwgIdeal.main_arg1) = m ((c.tc : Thread Cert.KernelDwgIdeal.nD Cert.KernelDwgIdeal.τ).loc Cert.KernelDwgIdeal.main_arg1))
      ∧ θ_run (Cert.ReferenceDwgIdeal.defs (F := Ideal)) (onTc (τ := Cert.ReferenceDwgIdeal.τ) (Cert.ReferenceDwgIdeal.main (F := Ideal))) ⟨m', fun _ => 0, g'⟩ (fun r => ∀ c : Dev Cert.ReferenceDwgIdeal.nD,
          r.2.mem ((c.tc : Thread Cert.ReferenceDwgIdeal.nD Cert.ReferenceDwgIdeal.τ).loc Cert.ReferenceDwgIdeal.main_v5) = v0 c
          ∧ r.2.mem ((c.tc : Thread Cert.ReferenceDwgIdeal.nD Cert.ReferenceDwgIdeal.τ).loc Cert.ReferenceDwgIdeal.main_arg0) = m' ((c.tc : Thread Cert.ReferenceDwgIdeal.nD Cert.ReferenceDwgIdeal.τ).loc Cert.ReferenceDwgIdeal.main_arg0)
          ∧ r.2.mem ((c.tc : Thread Cert.ReferenceDwgIdeal.nD Cert.ReferenceDwgIdeal.τ).loc Cert.ReferenceDwgIdeal.main_arg1) = m' ((c.tc : Thread Cert.ReferenceDwgIdeal.nD Cert.ReferenceDwgIdeal.τ).loc Cert.ReferenceDwgIdeal.main_arg1))

def preserves_KernelDwp_KernelDwpIdeal : Prop :=
  True

def algebraic_KernelDwpIdeal_ReferenceDwpIdeal [hKernelDwpIdeal : Cert.KernelDwpIdeal.Facts] [hReferenceDwpIdeal : Cert.ReferenceDwpIdeal.Facts] : Prop :=
  ∀ (m : (ℓ : Loc Cert.KernelDwpIdeal.nD Cert.KernelDwpIdeal.τ Cert.KernelDwpIdeal.sig) → Buf (Elt Ideal) ℓ) (g : Dev Cert.KernelDwpIdeal.nD → PrngReg)
    (m' : (ℓ : Loc Cert.ReferenceDwpIdeal.nD Cert.ReferenceDwpIdeal.τ Cert.ReferenceDwpIdeal.sig) → Buf (Elt Ideal) ℓ) (g' : Dev Cert.ReferenceDwpIdeal.nD → PrngReg), Pre_KernelDwpIdeal m →
    (∀ c : Dev Cert.KernelDwpIdeal.nD,
      m' ((c.tc : Thread Cert.ReferenceDwpIdeal.nD Cert.ReferenceDwpIdeal.τ).loc Cert.ReferenceDwpIdeal.main_arg0) = m ((c.tc : Thread Cert.KernelDwpIdeal.nD Cert.KernelDwpIdeal.τ).loc Cert.KernelDwpIdeal.main_arg0)
      ∧ m' ((c.tc : Thread Cert.ReferenceDwpIdeal.nD Cert.ReferenceDwpIdeal.τ).loc Cert.ReferenceDwpIdeal.main_arg1) = m ((c.tc : Thread Cert.KernelDwpIdeal.nD Cert.KernelDwpIdeal.τ).loc Cert.KernelDwpIdeal.main_arg1)) →
    ∃ (v0 : (c : Dev Cert.KernelDwpIdeal.nD) → Buf (Elt Ideal) ((c.tc : Thread Cert.KernelDwpIdeal.nD Cert.KernelDwpIdeal.τ).loc Cert.KernelDwpIdeal.main_v0)),
      θ_run (Cert.KernelDwpIdeal.defs (F := Ideal)) (onTc (τ := Cert.KernelDwpIdeal.τ) (Cert.KernelDwpIdeal.main (F := Ideal))) ⟨m, fun _ => 0, g⟩ (fun r => ∀ c : Dev Cert.KernelDwpIdeal.nD,
          r.2.mem ((c.tc : Thread Cert.KernelDwpIdeal.nD Cert.KernelDwpIdeal.τ).loc Cert.KernelDwpIdeal.main_v0) = v0 c
          ∧ r.2.mem ((c.tc : Thread Cert.KernelDwpIdeal.nD Cert.KernelDwpIdeal.τ).loc Cert.KernelDwpIdeal.main_arg0) = m ((c.tc : Thread Cert.KernelDwpIdeal.nD Cert.KernelDwpIdeal.τ).loc Cert.KernelDwpIdeal.main_arg0)
          ∧ r.2.mem ((c.tc : Thread Cert.KernelDwpIdeal.nD Cert.KernelDwpIdeal.τ).loc Cert.KernelDwpIdeal.main_arg1) = m ((c.tc : Thread Cert.KernelDwpIdeal.nD Cert.KernelDwpIdeal.τ).loc Cert.KernelDwpIdeal.main_arg1))
      ∧ θ_run (Cert.ReferenceDwpIdeal.defs (F := Ideal)) (onTc (τ := Cert.ReferenceDwpIdeal.τ) (Cert.ReferenceDwpIdeal.main (F := Ideal))) ⟨m', fun _ => 0, g'⟩ (fun r => ∀ c : Dev Cert.ReferenceDwpIdeal.nD,
          r.2.mem ((c.tc : Thread Cert.ReferenceDwpIdeal.nD Cert.ReferenceDwpIdeal.τ).loc Cert.ReferenceDwpIdeal.main_v5) = v0 c
          ∧ r.2.mem ((c.tc : Thread Cert.ReferenceDwpIdeal.nD Cert.ReferenceDwpIdeal.τ).loc Cert.ReferenceDwpIdeal.main_arg0) = m' ((c.tc : Thread Cert.ReferenceDwpIdeal.nD Cert.ReferenceDwpIdeal.τ).loc Cert.ReferenceDwpIdeal.main_arg0)
          ∧ r.2.mem ((c.tc : Thread Cert.ReferenceDwpIdeal.nD Cert.ReferenceDwpIdeal.τ).loc Cert.ReferenceDwpIdeal.main_arg1) = m' ((c.tc : Thread Cert.ReferenceDwpIdeal.nD Cert.ReferenceDwpIdeal.τ).loc Cert.ReferenceDwpIdeal.main_arg1))

def preserves_KernelDwo_KernelDwoIdeal : Prop :=
  True

def algebraic_KernelDwoIdeal_ReferenceDwoIdeal [hKernelDwoIdeal : Cert.KernelDwoIdeal.Facts] [hReferenceDwoIdeal : Cert.ReferenceDwoIdeal.Facts] : Prop :=
  ∀ (m : (ℓ : Loc Cert.KernelDwoIdeal.nD Cert.KernelDwoIdeal.τ Cert.KernelDwoIdeal.sig) → Buf (Elt Ideal) ℓ) (g : Dev Cert.KernelDwoIdeal.nD → PrngReg)
    (m' : (ℓ : Loc Cert.ReferenceDwoIdeal.nD Cert.ReferenceDwoIdeal.τ Cert.ReferenceDwoIdeal.sig) → Buf (Elt Ideal) ℓ) (g' : Dev Cert.ReferenceDwoIdeal.nD → PrngReg), Pre_KernelDwoIdeal m →
    (∀ c : Dev Cert.KernelDwoIdeal.nD,
      m' ((c.tc : Thread Cert.ReferenceDwoIdeal.nD Cert.ReferenceDwoIdeal.τ).loc Cert.ReferenceDwoIdeal.main_arg0) = m ((c.tc : Thread Cert.KernelDwoIdeal.nD Cert.KernelDwoIdeal.τ).loc Cert.KernelDwoIdeal.main_arg0)
      ∧ m' ((c.tc : Thread Cert.ReferenceDwoIdeal.nD Cert.ReferenceDwoIdeal.τ).loc Cert.ReferenceDwoIdeal.main_arg1) = m ((c.tc : Thread Cert.KernelDwoIdeal.nD Cert.KernelDwoIdeal.τ).loc Cert.KernelDwoIdeal.main_arg1)) →
    ∃ (v0 : (c : Dev Cert.KernelDwoIdeal.nD) → Buf (Elt Ideal) ((c.tc : Thread Cert.KernelDwoIdeal.nD Cert.KernelDwoIdeal.τ).loc Cert.KernelDwoIdeal.main_v0)),
      θ_run (Cert.KernelDwoIdeal.defs (F := Ideal)) (onTc (τ := Cert.KernelDwoIdeal.τ) (Cert.KernelDwoIdeal.main (F := Ideal))) ⟨m, fun _ => 0, g⟩ (fun r => ∀ c : Dev Cert.KernelDwoIdeal.nD,
          r.2.mem ((c.tc : Thread Cert.KernelDwoIdeal.nD Cert.KernelDwoIdeal.τ).loc Cert.KernelDwoIdeal.main_v0) = v0 c
          ∧ r.2.mem ((c.tc : Thread Cert.KernelDwoIdeal.nD Cert.KernelDwoIdeal.τ).loc Cert.KernelDwoIdeal.main_arg0) = m ((c.tc : Thread Cert.KernelDwoIdeal.nD Cert.KernelDwoIdeal.τ).loc Cert.KernelDwoIdeal.main_arg0)
          ∧ r.2.mem ((c.tc : Thread Cert.KernelDwoIdeal.nD Cert.KernelDwoIdeal.τ).loc Cert.KernelDwoIdeal.main_arg1) = m ((c.tc : Thread Cert.KernelDwoIdeal.nD Cert.KernelDwoIdeal.τ).loc Cert.KernelDwoIdeal.main_arg1))
      ∧ θ_run (Cert.ReferenceDwoIdeal.defs (F := Ideal)) (onTc (τ := Cert.ReferenceDwoIdeal.τ) (Cert.ReferenceDwoIdeal.main (F := Ideal))) ⟨m', fun _ => 0, g'⟩ (fun r => ∀ c : Dev Cert.ReferenceDwoIdeal.nD,
          r.2.mem ((c.tc : Thread Cert.ReferenceDwoIdeal.nD Cert.ReferenceDwoIdeal.τ).loc Cert.ReferenceDwoIdeal.main_v5) = v0 c
          ∧ r.2.mem ((c.tc : Thread Cert.ReferenceDwoIdeal.nD Cert.ReferenceDwoIdeal.τ).loc Cert.ReferenceDwoIdeal.main_arg0) = m' ((c.tc : Thread Cert.ReferenceDwoIdeal.nD Cert.ReferenceDwoIdeal.τ).loc Cert.ReferenceDwoIdeal.main_arg0)
          ∧ r.2.mem ((c.tc : Thread Cert.ReferenceDwoIdeal.nD Cert.ReferenceDwoIdeal.τ).loc Cert.ReferenceDwoIdeal.main_arg1) = m' ((c.tc : Thread Cert.ReferenceDwoIdeal.nD Cert.ReferenceDwoIdeal.τ).loc Cert.ReferenceDwoIdeal.main_arg1))

def preserves_KernelDwup0_KernelDwup0Ideal : Prop :=
  True

def algebraic_KernelDwup0Ideal_ReferenceDwup0Ideal [hKernelDwup0Ideal : Cert.KernelDwup0Ideal.Facts] [hReferenceDwup0Ideal : Cert.ReferenceDwup0Ideal.Facts] : Prop :=
  ∀ (m : (ℓ : Loc Cert.KernelDwup0Ideal.nD Cert.KernelDwup0Ideal.τ Cert.KernelDwup0Ideal.sig) → Buf (Elt Ideal) ℓ) (g : Dev Cert.KernelDwup0Ideal.nD → PrngReg)
    (m' : (ℓ : Loc Cert.ReferenceDwup0Ideal.nD Cert.ReferenceDwup0Ideal.τ Cert.ReferenceDwup0Ideal.sig) → Buf (Elt Ideal) ℓ) (g' : Dev Cert.ReferenceDwup0Ideal.nD → PrngReg), Pre_KernelDwup0Ideal m →
    (∀ c : Dev Cert.KernelDwup0Ideal.nD,
      m' ((c.tc : Thread Cert.ReferenceDwup0Ideal.nD Cert.ReferenceDwup0Ideal.τ).loc Cert.ReferenceDwup0Ideal.main_arg0) = m ((c.tc : Thread Cert.KernelDwup0Ideal.nD Cert.KernelDwup0Ideal.τ).loc Cert.KernelDwup0Ideal.main_arg0)
      ∧ m' ((c.tc : Thread Cert.ReferenceDwup0Ideal.nD Cert.ReferenceDwup0Ideal.τ).loc Cert.ReferenceDwup0Ideal.main_arg1) = m ((c.tc : Thread Cert.KernelDwup0Ideal.nD Cert.KernelDwup0Ideal.τ).loc Cert.KernelDwup0Ideal.main_arg1)) →
    ∃ (v0 : (c : Dev Cert.KernelDwup0Ideal.nD) → Buf (Elt Ideal) ((c.tc : Thread Cert.KernelDwup0Ideal.nD Cert.KernelDwup0Ideal.τ).loc Cert.KernelDwup0Ideal.main_v0)),
      θ_run (Cert.KernelDwup0Ideal.defs (F := Ideal)) (onTc (τ := Cert.KernelDwup0Ideal.τ) (Cert.KernelDwup0Ideal.main (F := Ideal))) ⟨m, fun _ => 0, g⟩ (fun r => ∀ c : Dev Cert.KernelDwup0Ideal.nD,
          r.2.mem ((c.tc : Thread Cert.KernelDwup0Ideal.nD Cert.KernelDwup0Ideal.τ).loc Cert.KernelDwup0Ideal.main_v0) = v0 c
          ∧ r.2.mem ((c.tc : Thread Cert.KernelDwup0Ideal.nD Cert.KernelDwup0Ideal.τ).loc Cert.KernelDwup0Ideal.main_arg0) = m ((c.tc : Thread Cert.KernelDwup0Ideal.nD Cert.KernelDwup0Ideal.τ).loc Cert.KernelDwup0Ideal.main_arg0)
          ∧ r.2.mem ((c.tc : Thread Cert.KernelDwup0Ideal.nD Cert.KernelDwup0Ideal.τ).loc Cert.KernelDwup0Ideal.main_arg1) = m ((c.tc : Thread Cert.KernelDwup0Ideal.nD Cert.KernelDwup0Ideal.τ).loc Cert.KernelDwup0Ideal.main_arg1))
      ∧ θ_run (Cert.ReferenceDwup0Ideal.defs (F := Ideal)) (onTc (τ := Cert.ReferenceDwup0Ideal.τ) (Cert.ReferenceDwup0Ideal.main (F := Ideal))) ⟨m', fun _ => 0, g'⟩ (fun r => ∀ c : Dev Cert.ReferenceDwup0Ideal.nD,
          r.2.mem ((c.tc : Thread Cert.ReferenceDwup0Ideal.nD Cert.ReferenceDwup0Ideal.τ).loc Cert.ReferenceDwup0Ideal.main_v6) = v0 c
          ∧ r.2.mem ((c.tc : Thread Cert.ReferenceDwup0Ideal.nD Cert.ReferenceDwup0Ideal.τ).loc Cert.ReferenceDwup0Ideal.main_arg0) = m' ((c.tc : Thread Cert.ReferenceDwup0Ideal.nD Cert.ReferenceDwup0Ideal.τ).loc Cert.ReferenceDwup0Ideal.main_arg0)
          ∧ r.2.mem ((c.tc : Thread Cert.ReferenceDwup0Ideal.nD Cert.ReferenceDwup0Ideal.τ).loc Cert.ReferenceDwup0Ideal.main_arg1) = m' ((c.tc : Thread Cert.ReferenceDwup0Ideal.nD Cert.ReferenceDwup0Ideal.τ).loc Cert.ReferenceDwup0Ideal.main_arg1))

def preserves_KernelDwup1_KernelDwup1Ideal : Prop :=
  True

def algebraic_KernelDwup1Ideal_ReferenceDwup1Ideal [hKernelDwup1Ideal : Cert.KernelDwup1Ideal.Facts] [hReferenceDwup1Ideal : Cert.ReferenceDwup1Ideal.Facts] : Prop :=
  ∀ (m : (ℓ : Loc Cert.KernelDwup1Ideal.nD Cert.KernelDwup1Ideal.τ Cert.KernelDwup1Ideal.sig) → Buf (Elt Ideal) ℓ) (g : Dev Cert.KernelDwup1Ideal.nD → PrngReg)
    (m' : (ℓ : Loc Cert.ReferenceDwup1Ideal.nD Cert.ReferenceDwup1Ideal.τ Cert.ReferenceDwup1Ideal.sig) → Buf (Elt Ideal) ℓ) (g' : Dev Cert.ReferenceDwup1Ideal.nD → PrngReg), Pre_KernelDwup1Ideal m →
    (∀ c : Dev Cert.KernelDwup1Ideal.nD,
      m' ((c.tc : Thread Cert.ReferenceDwup1Ideal.nD Cert.ReferenceDwup1Ideal.τ).loc Cert.ReferenceDwup1Ideal.main_arg0) = m ((c.tc : Thread Cert.KernelDwup1Ideal.nD Cert.KernelDwup1Ideal.τ).loc Cert.KernelDwup1Ideal.main_arg0)
      ∧ m' ((c.tc : Thread Cert.ReferenceDwup1Ideal.nD Cert.ReferenceDwup1Ideal.τ).loc Cert.ReferenceDwup1Ideal.main_arg1) = m ((c.tc : Thread Cert.KernelDwup1Ideal.nD Cert.KernelDwup1Ideal.τ).loc Cert.KernelDwup1Ideal.main_arg1)) →
    ∃ (v0 : (c : Dev Cert.KernelDwup1Ideal.nD) → Buf (Elt Ideal) ((c.tc : Thread Cert.KernelDwup1Ideal.nD Cert.KernelDwup1Ideal.τ).loc Cert.KernelDwup1Ideal.main_v0)),
      θ_run (Cert.KernelDwup1Ideal.defs (F := Ideal)) (onTc (τ := Cert.KernelDwup1Ideal.τ) (Cert.KernelDwup1Ideal.main (F := Ideal))) ⟨m, fun _ => 0, g⟩ (fun r => ∀ c : Dev Cert.KernelDwup1Ideal.nD,
          r.2.mem ((c.tc : Thread Cert.KernelDwup1Ideal.nD Cert.KernelDwup1Ideal.τ).loc Cert.KernelDwup1Ideal.main_v0) = v0 c
          ∧ r.2.mem ((c.tc : Thread Cert.KernelDwup1Ideal.nD Cert.KernelDwup1Ideal.τ).loc Cert.KernelDwup1Ideal.main_arg0) = m ((c.tc : Thread Cert.KernelDwup1Ideal.nD Cert.KernelDwup1Ideal.τ).loc Cert.KernelDwup1Ideal.main_arg0)
          ∧ r.2.mem ((c.tc : Thread Cert.KernelDwup1Ideal.nD Cert.KernelDwup1Ideal.τ).loc Cert.KernelDwup1Ideal.main_arg1) = m ((c.tc : Thread Cert.KernelDwup1Ideal.nD Cert.KernelDwup1Ideal.τ).loc Cert.KernelDwup1Ideal.main_arg1))
      ∧ θ_run (Cert.ReferenceDwup1Ideal.defs (F := Ideal)) (onTc (τ := Cert.ReferenceDwup1Ideal.τ) (Cert.ReferenceDwup1Ideal.main (F := Ideal))) ⟨m', fun _ => 0, g'⟩ (fun r => ∀ c : Dev Cert.ReferenceDwup1Ideal.nD,
          r.2.mem ((c.tc : Thread Cert.ReferenceDwup1Ideal.nD Cert.ReferenceDwup1Ideal.τ).loc Cert.ReferenceDwup1Ideal.main_v6) = v0 c
          ∧ r.2.mem ((c.tc : Thread Cert.ReferenceDwup1Ideal.nD Cert.ReferenceDwup1Ideal.τ).loc Cert.ReferenceDwup1Ideal.main_arg0) = m' ((c.tc : Thread Cert.ReferenceDwup1Ideal.nD Cert.ReferenceDwup1Ideal.τ).loc Cert.ReferenceDwup1Ideal.main_arg0)
          ∧ r.2.mem ((c.tc : Thread Cert.ReferenceDwup1Ideal.nD Cert.ReferenceDwup1Ideal.τ).loc Cert.ReferenceDwup1Ideal.main_arg1) = m' ((c.tc : Thread Cert.ReferenceDwup1Ideal.nD Cert.ReferenceDwup1Ideal.τ).loc Cert.ReferenceDwup1Ideal.main_arg1))

def preserves_KernelDwup2_KernelDwup2Ideal : Prop :=
  True

def algebraic_KernelDwup2Ideal_ReferenceDwup2Ideal [hKernelDwup2Ideal : Cert.KernelDwup2Ideal.Facts] [hReferenceDwup2Ideal : Cert.ReferenceDwup2Ideal.Facts] : Prop :=
  ∀ (m : (ℓ : Loc Cert.KernelDwup2Ideal.nD Cert.KernelDwup2Ideal.τ Cert.KernelDwup2Ideal.sig) → Buf (Elt Ideal) ℓ) (g : Dev Cert.KernelDwup2Ideal.nD → PrngReg)
    (m' : (ℓ : Loc Cert.ReferenceDwup2Ideal.nD Cert.ReferenceDwup2Ideal.τ Cert.ReferenceDwup2Ideal.sig) → Buf (Elt Ideal) ℓ) (g' : Dev Cert.ReferenceDwup2Ideal.nD → PrngReg), Pre_KernelDwup2Ideal m →
    (∀ c : Dev Cert.KernelDwup2Ideal.nD,
      m' ((c.tc : Thread Cert.ReferenceDwup2Ideal.nD Cert.ReferenceDwup2Ideal.τ).loc Cert.ReferenceDwup2Ideal.main_arg0) = m ((c.tc : Thread Cert.KernelDwup2Ideal.nD Cert.KernelDwup2Ideal.τ).loc Cert.KernelDwup2Ideal.main_arg0)
      ∧ m' ((c.tc : Thread Cert.ReferenceDwup2Ideal.nD Cert.ReferenceDwup2Ideal.τ).loc Cert.ReferenceDwup2Ideal.main_arg1) = m ((c.tc : Thread Cert.KernelDwup2Ideal.nD Cert.KernelDwup2Ideal.τ).loc Cert.KernelDwup2Ideal.main_arg1)) →
    ∃ (v0 : (c : Dev Cert.KernelDwup2Ideal.nD) → Buf (Elt Ideal) ((c.tc : Thread Cert.KernelDwup2Ideal.nD Cert.KernelDwup2Ideal.τ).loc Cert.KernelDwup2Ideal.main_v0)),
      θ_run (Cert.KernelDwup2Ideal.defs (F := Ideal)) (onTc (τ := Cert.KernelDwup2Ideal.τ) (Cert.KernelDwup2Ideal.main (F := Ideal))) ⟨m, fun _ => 0, g⟩ (fun r => ∀ c : Dev Cert.KernelDwup2Ideal.nD,
          r.2.mem ((c.tc : Thread Cert.KernelDwup2Ideal.nD Cert.KernelDwup2Ideal.τ).loc Cert.KernelDwup2Ideal.main_v0) = v0 c
          ∧ r.2.mem ((c.tc : Thread Cert.KernelDwup2Ideal.nD Cert.KernelDwup2Ideal.τ).loc Cert.KernelDwup2Ideal.main_arg0) = m ((c.tc : Thread Cert.KernelDwup2Ideal.nD Cert.KernelDwup2Ideal.τ).loc Cert.KernelDwup2Ideal.main_arg0)
          ∧ r.2.mem ((c.tc : Thread Cert.KernelDwup2Ideal.nD Cert.KernelDwup2Ideal.τ).loc Cert.KernelDwup2Ideal.main_arg1) = m ((c.tc : Thread Cert.KernelDwup2Ideal.nD Cert.KernelDwup2Ideal.τ).loc Cert.KernelDwup2Ideal.main_arg1))
      ∧ θ_run (Cert.ReferenceDwup2Ideal.defs (F := Ideal)) (onTc (τ := Cert.ReferenceDwup2Ideal.τ) (Cert.ReferenceDwup2Ideal.main (F := Ideal))) ⟨m', fun _ => 0, g'⟩ (fun r => ∀ c : Dev Cert.ReferenceDwup2Ideal.nD,
          r.2.mem ((c.tc : Thread Cert.ReferenceDwup2Ideal.nD Cert.ReferenceDwup2Ideal.τ).loc Cert.ReferenceDwup2Ideal.main_v6) = v0 c
          ∧ r.2.mem ((c.tc : Thread Cert.ReferenceDwup2Ideal.nD Cert.ReferenceDwup2Ideal.τ).loc Cert.ReferenceDwup2Ideal.main_arg0) = m' ((c.tc : Thread Cert.ReferenceDwup2Ideal.nD Cert.ReferenceDwup2Ideal.τ).loc Cert.ReferenceDwup2Ideal.main_arg0)
          ∧ r.2.mem ((c.tc : Thread Cert.ReferenceDwup2Ideal.nD Cert.ReferenceDwup2Ideal.τ).loc Cert.ReferenceDwup2Ideal.main_arg1) = m' ((c.tc : Thread Cert.ReferenceDwup2Ideal.nD Cert.ReferenceDwup2Ideal.τ).loc Cert.ReferenceDwup2Ideal.main_arg1))

def preserves_KernelDwup3_KernelDwup3Ideal : Prop :=
  True

def algebraic_KernelDwup3Ideal_ReferenceDwup3Ideal [hKernelDwup3Ideal : Cert.KernelDwup3Ideal.Facts] [hReferenceDwup3Ideal : Cert.ReferenceDwup3Ideal.Facts] : Prop :=
  ∀ (m : (ℓ : Loc Cert.KernelDwup3Ideal.nD Cert.KernelDwup3Ideal.τ Cert.KernelDwup3Ideal.sig) → Buf (Elt Ideal) ℓ) (g : Dev Cert.KernelDwup3Ideal.nD → PrngReg)
    (m' : (ℓ : Loc Cert.ReferenceDwup3Ideal.nD Cert.ReferenceDwup3Ideal.τ Cert.ReferenceDwup3Ideal.sig) → Buf (Elt Ideal) ℓ) (g' : Dev Cert.ReferenceDwup3Ideal.nD → PrngReg), Pre_KernelDwup3Ideal m →
    (∀ c : Dev Cert.KernelDwup3Ideal.nD,
      m' ((c.tc : Thread Cert.ReferenceDwup3Ideal.nD Cert.ReferenceDwup3Ideal.τ).loc Cert.ReferenceDwup3Ideal.main_arg0) = m ((c.tc : Thread Cert.KernelDwup3Ideal.nD Cert.KernelDwup3Ideal.τ).loc Cert.KernelDwup3Ideal.main_arg0)
      ∧ m' ((c.tc : Thread Cert.ReferenceDwup3Ideal.nD Cert.ReferenceDwup3Ideal.τ).loc Cert.ReferenceDwup3Ideal.main_arg1) = m ((c.tc : Thread Cert.KernelDwup3Ideal.nD Cert.KernelDwup3Ideal.τ).loc Cert.KernelDwup3Ideal.main_arg1)) →
    ∃ (v0 : (c : Dev Cert.KernelDwup3Ideal.nD) → Buf (Elt Ideal) ((c.tc : Thread Cert.KernelDwup3Ideal.nD Cert.KernelDwup3Ideal.τ).loc Cert.KernelDwup3Ideal.main_v0)),
      θ_run (Cert.KernelDwup3Ideal.defs (F := Ideal)) (onTc (τ := Cert.KernelDwup3Ideal.τ) (Cert.KernelDwup3Ideal.main (F := Ideal))) ⟨m, fun _ => 0, g⟩ (fun r => ∀ c : Dev Cert.KernelDwup3Ideal.nD,
          r.2.mem ((c.tc : Thread Cert.KernelDwup3Ideal.nD Cert.KernelDwup3Ideal.τ).loc Cert.KernelDwup3Ideal.main_v0) = v0 c
          ∧ r.2.mem ((c.tc : Thread Cert.KernelDwup3Ideal.nD Cert.KernelDwup3Ideal.τ).loc Cert.KernelDwup3Ideal.main_arg0) = m ((c.tc : Thread Cert.KernelDwup3Ideal.nD Cert.KernelDwup3Ideal.τ).loc Cert.KernelDwup3Ideal.main_arg0)
          ∧ r.2.mem ((c.tc : Thread Cert.KernelDwup3Ideal.nD Cert.KernelDwup3Ideal.τ).loc Cert.KernelDwup3Ideal.main_arg1) = m ((c.tc : Thread Cert.KernelDwup3Ideal.nD Cert.KernelDwup3Ideal.τ).loc Cert.KernelDwup3Ideal.main_arg1))
      ∧ θ_run (Cert.ReferenceDwup3Ideal.defs (F := Ideal)) (onTc (τ := Cert.ReferenceDwup3Ideal.τ) (Cert.ReferenceDwup3Ideal.main (F := Ideal))) ⟨m', fun _ => 0, g'⟩ (fun r => ∀ c : Dev Cert.ReferenceDwup3Ideal.nD,
          r.2.mem ((c.tc : Thread Cert.ReferenceDwup3Ideal.nD Cert.ReferenceDwup3Ideal.τ).loc Cert.ReferenceDwup3Ideal.main_v6) = v0 c
          ∧ r.2.mem ((c.tc : Thread Cert.ReferenceDwup3Ideal.nD Cert.ReferenceDwup3Ideal.τ).loc Cert.ReferenceDwup3Ideal.main_arg0) = m' ((c.tc : Thread Cert.ReferenceDwup3Ideal.nD Cert.ReferenceDwup3Ideal.τ).loc Cert.ReferenceDwup3Ideal.main_arg0)
          ∧ r.2.mem ((c.tc : Thread Cert.ReferenceDwup3Ideal.nD Cert.ReferenceDwup3Ideal.τ).loc Cert.ReferenceDwup3Ideal.main_arg1) = m' ((c.tc : Thread Cert.ReferenceDwup3Ideal.nD Cert.ReferenceDwup3Ideal.τ).loc Cert.ReferenceDwup3Ideal.main_arg1))

def preserves_KernelMerge_KernelMergeIdeal : Prop :=
  True

def algebraic_KernelMergeIdeal_ReferenceMergeIdeal [hKernelMergeIdeal : Cert.KernelMergeIdeal.Facts] [hReferenceMergeIdeal : Cert.ReferenceMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg)
    (m' : (ℓ : Loc Cert.ReferenceMergeIdeal.nD Cert.ReferenceMergeIdeal.τ Cert.ReferenceMergeIdeal.sig) → Buf (Elt Ideal) ℓ) (g' : Dev Cert.ReferenceMergeIdeal.nD → PrngReg), Pre_KernelMergeIdeal m →
    (∀ c : Dev Cert.KernelMergeIdeal.nD,
      m' ((c.tc : Thread Cert.ReferenceMergeIdeal.nD Cert.ReferenceMergeIdeal.τ).loc Cert.ReferenceMergeIdeal.main_arg0) = m ((c.tc : Thread Cert.KernelMergeIdeal.nD Cert.KernelMergeIdeal.τ).loc Cert.KernelMergeIdeal.main_arg0)
      ∧ m' ((c.tc : Thread Cert.ReferenceMergeIdeal.nD Cert.ReferenceMergeIdeal.τ).loc Cert.ReferenceMergeIdeal.main_arg1) = m ((c.tc : Thread Cert.KernelMergeIdeal.nD Cert.KernelMergeIdeal.τ).loc Cert.KernelMergeIdeal.main_arg1)
      ∧ m' ((c.tc : Thread Cert.ReferenceMergeIdeal.nD Cert.ReferenceMergeIdeal.τ).loc Cert.ReferenceMergeIdeal.main_arg2) = m ((c.tc : Thread Cert.KernelMergeIdeal.nD Cert.KernelMergeIdeal.τ).loc Cert.KernelMergeIdeal.main_arg2)
      ∧ m' ((c.tc : Thread Cert.ReferenceMergeIdeal.nD Cert.ReferenceMergeIdeal.τ).loc Cert.ReferenceMergeIdeal.main_arg3) = m ((c.tc : Thread Cert.KernelMergeIdeal.nD Cert.KernelMergeIdeal.τ).loc Cert.KernelMergeIdeal.main_arg3)
      ∧ m' ((c.tc : Thread Cert.ReferenceMergeIdeal.nD Cert.ReferenceMergeIdeal.τ).loc Cert.ReferenceMergeIdeal.main_arg4) = m ((c.tc : Thread Cert.KernelMergeIdeal.nD Cert.KernelMergeIdeal.τ).loc Cert.KernelMergeIdeal.main_arg4)
      ∧ m' ((c.tc : Thread Cert.ReferenceMergeIdeal.nD Cert.ReferenceMergeIdeal.τ).loc Cert.ReferenceMergeIdeal.main_arg5) = m ((c.tc : Thread Cert.KernelMergeIdeal.nD Cert.KernelMergeIdeal.τ).loc Cert.KernelMergeIdeal.main_arg5)
      ∧ m' ((c.tc : Thread Cert.ReferenceMergeIdeal.nD Cert.ReferenceMergeIdeal.τ).loc Cert.ReferenceMergeIdeal.main_arg6) = m ((c.tc : Thread Cert.KernelMergeIdeal.nD Cert.KernelMergeIdeal.τ).loc Cert.KernelMergeIdeal.main_arg6)
      ∧ m' ((c.tc : Thread Cert.ReferenceMergeIdeal.nD Cert.ReferenceMergeIdeal.τ).loc Cert.ReferenceMergeIdeal.main_arg7) = m ((c.tc : Thread Cert.KernelMergeIdeal.nD Cert.KernelMergeIdeal.τ).loc Cert.KernelMergeIdeal.main_arg7)
      ∧ m' ((c.tc : Thread Cert.ReferenceMergeIdeal.nD Cert.ReferenceMergeIdeal.τ).loc Cert.ReferenceMergeIdeal.main_arg8) = m ((c.tc : Thread Cert.KernelMergeIdeal.nD Cert.KernelMergeIdeal.τ).loc Cert.KernelMergeIdeal.main_arg8)) →
    ∃ (v0 : (c : Dev Cert.KernelMergeIdeal.nD) → Buf (Elt Ideal) ((c.tc : Thread Cert.KernelMergeIdeal.nD Cert.KernelMergeIdeal.τ).loc Cert.KernelMergeIdeal.main_v0_0)) (v1 : (c : Dev Cert.KernelMergeIdeal.nD) → Buf (Elt Ideal) ((c.tc : Thread Cert.KernelMergeIdeal.nD Cert.KernelMergeIdeal.τ).loc Cert.KernelMergeIdeal.main_v0_1)),
      θ_run (Cert.KernelMergeIdeal.defs (F := Ideal)) (onTc (τ := Cert.KernelMergeIdeal.τ) (Cert.KernelMergeIdeal.main (F := Ideal))) ⟨m, fun _ => 0, g⟩ (fun r => ∀ c : Dev Cert.KernelMergeIdeal.nD,
          r.2.mem ((c.tc : Thread Cert.KernelMergeIdeal.nD Cert.KernelMergeIdeal.τ).loc Cert.KernelMergeIdeal.main_v0_0) = v0 c
          ∧ r.2.mem ((c.tc : Thread Cert.KernelMergeIdeal.nD Cert.KernelMergeIdeal.τ).loc Cert.KernelMergeIdeal.main_v0_1) = v1 c
          ∧ r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
          ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
          ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
          ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
          ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
          ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
          ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6)
          ∧ r.2.mem ((c.tc : Thread Cert.KernelMergeIdeal.nD Cert.KernelMergeIdeal.τ).loc Cert.KernelMergeIdeal.main_arg7) = m ((c.tc : Thread Cert.KernelMergeIdeal.nD Cert.KernelMergeIdeal.τ).loc Cert.KernelMergeIdeal.main_arg7)
          ∧ r.2.mem ((c.tc : Thread Cert.KernelMergeIdeal.nD Cert.KernelMergeIdeal.τ).loc Cert.KernelMergeIdeal.main_arg8) = m ((c.tc : Thread Cert.KernelMergeIdeal.nD Cert.KernelMergeIdeal.τ).loc Cert.KernelMergeIdeal.main_arg8))
      ∧ θ_run (Cert.ReferenceMergeIdeal.defs (F := Ideal)) (onTc (τ := Cert.ReferenceMergeIdeal.τ) (Cert.ReferenceMergeIdeal.main (F := Ideal))) ⟨m', fun _ => 0, g'⟩ (fun r => ∀ c : Dev Cert.ReferenceMergeIdeal.nD,
          r.2.mem ((c.tc : Thread Cert.ReferenceMergeIdeal.nD Cert.ReferenceMergeIdeal.τ).loc Cert.ReferenceMergeIdeal.main_v24) = v0 c
          ∧ r.2.mem ((c.tc : Thread Cert.ReferenceMergeIdeal.nD Cert.ReferenceMergeIdeal.τ).loc Cert.ReferenceMergeIdeal.main_v25) = v1 c
          ∧ r.2.mem ((c.tc : Thread Cert.ReferenceMergeIdeal.nD Cert.ReferenceMergeIdeal.τ).loc Cert.ReferenceMergeIdeal.main_arg0) = m' ((c.tc : Thread Cert.ReferenceMergeIdeal.nD Cert.ReferenceMergeIdeal.τ).loc Cert.ReferenceMergeIdeal.main_arg0)
          ∧ r.2.mem ((c.tc : Thread Cert.ReferenceMergeIdeal.nD Cert.ReferenceMergeIdeal.τ).loc Cert.ReferenceMergeIdeal.main_arg1) = m' ((c.tc : Thread Cert.ReferenceMergeIdeal.nD Cert.ReferenceMergeIdeal.τ).loc Cert.ReferenceMergeIdeal.main_arg1)
          ∧ r.2.mem ((c.tc : Thread Cert.ReferenceMergeIdeal.nD Cert.ReferenceMergeIdeal.τ).loc Cert.ReferenceMergeIdeal.main_arg2) = m' ((c.tc : Thread Cert.ReferenceMergeIdeal.nD Cert.ReferenceMergeIdeal.τ).loc Cert.ReferenceMergeIdeal.main_arg2)
          ∧ r.2.mem ((c.tc : Thread Cert.ReferenceMergeIdeal.nD Cert.ReferenceMergeIdeal.τ).loc Cert.ReferenceMergeIdeal.main_arg3) = m' ((c.tc : Thread Cert.ReferenceMergeIdeal.nD Cert.ReferenceMergeIdeal.τ).loc Cert.ReferenceMergeIdeal.main_arg3)
          ∧ r.2.mem ((c.tc : Thread Cert.ReferenceMergeIdeal.nD Cert.ReferenceMergeIdeal.τ).loc Cert.ReferenceMergeIdeal.main_arg4) = m' ((c.tc : Thread Cert.ReferenceMergeIdeal.nD Cert.ReferenceMergeIdeal.τ).loc Cert.ReferenceMergeIdeal.main_arg4)
          ∧ r.2.mem ((c.tc : Thread Cert.ReferenceMergeIdeal.nD Cert.ReferenceMergeIdeal.τ).loc Cert.ReferenceMergeIdeal.main_arg5) = m' ((c.tc : Thread Cert.ReferenceMergeIdeal.nD Cert.ReferenceMergeIdeal.τ).loc Cert.ReferenceMergeIdeal.main_arg5)
          ∧ r.2.mem ((c.tc : Thread Cert.ReferenceMergeIdeal.nD Cert.ReferenceMergeIdeal.τ).loc Cert.ReferenceMergeIdeal.main_arg6) = m' ((c.tc : Thread Cert.ReferenceMergeIdeal.nD Cert.ReferenceMergeIdeal.τ).loc Cert.ReferenceMergeIdeal.main_arg6)
          ∧ r.2.mem ((c.tc : Thread Cert.ReferenceMergeIdeal.nD Cert.ReferenceMergeIdeal.τ).loc Cert.ReferenceMergeIdeal.main_arg7) = m' ((c.tc : Thread Cert.ReferenceMergeIdeal.nD Cert.ReferenceMergeIdeal.τ).loc Cert.ReferenceMergeIdeal.main_arg7)
          ∧ r.2.mem ((c.tc : Thread Cert.ReferenceMergeIdeal.nD Cert.ReferenceMergeIdeal.τ).loc Cert.ReferenceMergeIdeal.main_arg8) = m' ((c.tc : Thread Cert.ReferenceMergeIdeal.nD Cert.ReferenceMergeIdeal.τ).loc Cert.ReferenceMergeIdeal.main_arg8))

def preserves_KernelDmerge_KernelDmergeIdeal : Prop :=
  True

def algebraic_KernelDmergeIdeal_ReferenceDmergeIdeal [hKernelDmergeIdeal : Cert.KernelDmergeIdeal.Facts] [hReferenceDmergeIdeal : Cert.ReferenceDmergeIdeal.Facts] : Prop :=
  ∀ (m : (ℓ : Loc Cert.KernelDmergeIdeal.nD Cert.KernelDmergeIdeal.τ Cert.KernelDmergeIdeal.sig) → Buf (Elt Ideal) ℓ) (g : Dev Cert.KernelDmergeIdeal.nD → PrngReg)
    (m' : (ℓ : Loc Cert.ReferenceDmergeIdeal.nD Cert.ReferenceDmergeIdeal.τ Cert.ReferenceDmergeIdeal.sig) → Buf (Elt Ideal) ℓ) (g' : Dev Cert.ReferenceDmergeIdeal.nD → PrngReg), Pre_KernelDmergeIdeal m →
    (∀ c : Dev Cert.KernelDmergeIdeal.nD,
      m' ((c.tc : Thread Cert.ReferenceDmergeIdeal.nD Cert.ReferenceDmergeIdeal.τ).loc Cert.ReferenceDmergeIdeal.main_arg0) = m ((c.tc : Thread Cert.KernelDmergeIdeal.nD Cert.KernelDmergeIdeal.τ).loc Cert.KernelDmergeIdeal.main_arg0)
      ∧ m' ((c.tc : Thread Cert.ReferenceDmergeIdeal.nD Cert.ReferenceDmergeIdeal.τ).loc Cert.ReferenceDmergeIdeal.main_arg1) = m ((c.tc : Thread Cert.KernelDmergeIdeal.nD Cert.KernelDmergeIdeal.τ).loc Cert.KernelDmergeIdeal.main_arg1)
      ∧ m' ((c.tc : Thread Cert.ReferenceDmergeIdeal.nD Cert.ReferenceDmergeIdeal.τ).loc Cert.ReferenceDmergeIdeal.main_arg2) = m ((c.tc : Thread Cert.KernelDmergeIdeal.nD Cert.KernelDmergeIdeal.τ).loc Cert.KernelDmergeIdeal.main_arg2)
      ∧ m' ((c.tc : Thread Cert.ReferenceDmergeIdeal.nD Cert.ReferenceDmergeIdeal.τ).loc Cert.ReferenceDmergeIdeal.main_arg3) = m ((c.tc : Thread Cert.KernelDmergeIdeal.nD Cert.KernelDmergeIdeal.τ).loc Cert.KernelDmergeIdeal.main_arg3)
      ∧ m' ((c.tc : Thread Cert.ReferenceDmergeIdeal.nD Cert.ReferenceDmergeIdeal.τ).loc Cert.ReferenceDmergeIdeal.main_arg4) = m ((c.tc : Thread Cert.KernelDmergeIdeal.nD Cert.KernelDmergeIdeal.τ).loc Cert.KernelDmergeIdeal.main_arg4)
      ∧ m' ((c.tc : Thread Cert.ReferenceDmergeIdeal.nD Cert.ReferenceDmergeIdeal.τ).loc Cert.ReferenceDmergeIdeal.main_arg5) = m ((c.tc : Thread Cert.KernelDmergeIdeal.nD Cert.KernelDmergeIdeal.τ).loc Cert.KernelDmergeIdeal.main_arg5)
      ∧ m' ((c.tc : Thread Cert.ReferenceDmergeIdeal.nD Cert.ReferenceDmergeIdeal.τ).loc Cert.ReferenceDmergeIdeal.main_arg6) = m ((c.tc : Thread Cert.KernelDmergeIdeal.nD Cert.KernelDmergeIdeal.τ).loc Cert.KernelDmergeIdeal.main_arg6)
      ∧ m' ((c.tc : Thread Cert.ReferenceDmergeIdeal.nD Cert.ReferenceDmergeIdeal.τ).loc Cert.ReferenceDmergeIdeal.main_arg7) = m ((c.tc : Thread Cert.KernelDmergeIdeal.nD Cert.KernelDmergeIdeal.τ).loc Cert.KernelDmergeIdeal.main_arg7)
      ∧ m' ((c.tc : Thread Cert.ReferenceDmergeIdeal.nD Cert.ReferenceDmergeIdeal.τ).loc Cert.ReferenceDmergeIdeal.main_arg8) = m ((c.tc : Thread Cert.KernelDmergeIdeal.nD Cert.KernelDmergeIdeal.τ).loc Cert.KernelDmergeIdeal.main_arg8)) →
    ∃ (v0 : (c : Dev Cert.KernelDmergeIdeal.nD) → Buf (Elt Ideal) ((c.tc : Thread Cert.KernelDmergeIdeal.nD Cert.KernelDmergeIdeal.τ).loc Cert.KernelDmergeIdeal.main_v0_1)) (v1 : (c : Dev Cert.KernelDmergeIdeal.nD) → Buf (Elt Ideal) ((c.tc : Thread Cert.KernelDmergeIdeal.nD Cert.KernelDmergeIdeal.τ).loc Cert.KernelDmergeIdeal.main_v0_2)) (v2 : (c : Dev Cert.KernelDmergeIdeal.nD) → Buf (Elt Ideal) ((c.tc : Thread Cert.KernelDmergeIdeal.nD Cert.KernelDmergeIdeal.τ).loc Cert.KernelDmergeIdeal.main_v0_3)) (v3 : (c : Dev Cert.KernelDmergeIdeal.nD) → Buf (Elt Ideal) ((c.tc : Thread Cert.KernelDmergeIdeal.nD Cert.KernelDmergeIdeal.τ).loc Cert.KernelDmergeIdeal.main_v0_4)),
      θ_run (Cert.KernelDmergeIdeal.defs (F := Ideal)) (onTc (τ := Cert.KernelDmergeIdeal.τ) (Cert.KernelDmergeIdeal.main (F := Ideal))) ⟨m, fun _ => 0, g⟩ (fun r => ∀ c : Dev Cert.KernelDmergeIdeal.nD,
          r.2.mem ((c.tc : Thread Cert.KernelDmergeIdeal.nD Cert.KernelDmergeIdeal.τ).loc Cert.KernelDmergeIdeal.main_v0_1) = v0 c
          ∧ r.2.mem ((c.tc : Thread Cert.KernelDmergeIdeal.nD Cert.KernelDmergeIdeal.τ).loc Cert.KernelDmergeIdeal.main_v0_2) = v1 c
          ∧ r.2.mem ((c.tc : Thread Cert.KernelDmergeIdeal.nD Cert.KernelDmergeIdeal.τ).loc Cert.KernelDmergeIdeal.main_v0_3) = v2 c
          ∧ r.2.mem ((c.tc : Thread Cert.KernelDmergeIdeal.nD Cert.KernelDmergeIdeal.τ).loc Cert.KernelDmergeIdeal.main_v0_4) = v3 c
          ∧ r.2.mem ((c.tc : Thread Cert.KernelDmergeIdeal.nD Cert.KernelDmergeIdeal.τ).loc Cert.KernelDmergeIdeal.main_arg0) = m ((c.tc : Thread Cert.KernelDmergeIdeal.nD Cert.KernelDmergeIdeal.τ).loc Cert.KernelDmergeIdeal.main_arg0)
          ∧ r.2.mem ((c.tc : Thread Cert.KernelDmergeIdeal.nD Cert.KernelDmergeIdeal.τ).loc Cert.KernelDmergeIdeal.main_arg1) = m ((c.tc : Thread Cert.KernelDmergeIdeal.nD Cert.KernelDmergeIdeal.τ).loc Cert.KernelDmergeIdeal.main_arg1)
          ∧ r.2.mem ((c.tc : Thread Cert.KernelDmergeIdeal.nD Cert.KernelDmergeIdeal.τ).loc Cert.KernelDmergeIdeal.main_arg2) = m ((c.tc : Thread Cert.KernelDmergeIdeal.nD Cert.KernelDmergeIdeal.τ).loc Cert.KernelDmergeIdeal.main_arg2)
          ∧ r.2.mem ((c.tc : Thread Cert.KernelDmergeIdeal.nD Cert.KernelDmergeIdeal.τ).loc Cert.KernelDmergeIdeal.main_arg3) = m ((c.tc : Thread Cert.KernelDmergeIdeal.nD Cert.KernelDmergeIdeal.τ).loc Cert.KernelDmergeIdeal.main_arg3)
          ∧ r.2.mem ((c.tc : Thread Cert.KernelDmergeIdeal.nD Cert.KernelDmergeIdeal.τ).loc Cert.KernelDmergeIdeal.main_arg4) = m ((c.tc : Thread Cert.KernelDmergeIdeal.nD Cert.KernelDmergeIdeal.τ).loc Cert.KernelDmergeIdeal.main_arg4)
          ∧ r.2.mem ((c.tc : Thread Cert.KernelDmergeIdeal.nD Cert.KernelDmergeIdeal.τ).loc Cert.KernelDmergeIdeal.main_arg5) = m ((c.tc : Thread Cert.KernelDmergeIdeal.nD Cert.KernelDmergeIdeal.τ).loc Cert.KernelDmergeIdeal.main_arg5)
          ∧ r.2.mem ((c.tc : Thread Cert.KernelDmergeIdeal.nD Cert.KernelDmergeIdeal.τ).loc Cert.KernelDmergeIdeal.main_arg6) = m ((c.tc : Thread Cert.KernelDmergeIdeal.nD Cert.KernelDmergeIdeal.τ).loc Cert.KernelDmergeIdeal.main_arg6)
          ∧ r.2.mem ((c.tc : Thread Cert.KernelDmergeIdeal.nD Cert.KernelDmergeIdeal.τ).loc Cert.KernelDmergeIdeal.main_arg7) = m ((c.tc : Thread Cert.KernelDmergeIdeal.nD Cert.KernelDmergeIdeal.τ).loc Cert.KernelDmergeIdeal.main_arg7)
          ∧ r.2.mem ((c.tc : Thread Cert.KernelDmergeIdeal.nD Cert.KernelDmergeIdeal.τ).loc Cert.KernelDmergeIdeal.main_arg8) = m ((c.tc : Thread Cert.KernelDmergeIdeal.nD Cert.KernelDmergeIdeal.τ).loc Cert.KernelDmergeIdeal.main_arg8))
      ∧ θ_run (Cert.ReferenceDmergeIdeal.defs (F := Ideal)) (onTc (τ := Cert.ReferenceDmergeIdeal.τ) (Cert.ReferenceDmergeIdeal.main (F := Ideal))) ⟨m', fun _ => 0, g'⟩ (fun r => ∀ c : Dev Cert.ReferenceDmergeIdeal.nD,
          r.2.mem ((c.tc : Thread Cert.ReferenceDmergeIdeal.nD Cert.ReferenceDmergeIdeal.τ).loc Cert.ReferenceDmergeIdeal.main_v38) = v0 c
          ∧ r.2.mem ((c.tc : Thread Cert.ReferenceDmergeIdeal.nD Cert.ReferenceDmergeIdeal.τ).loc Cert.ReferenceDmergeIdeal.main_v39) = v1 c
          ∧ r.2.mem ((c.tc : Thread Cert.ReferenceDmergeIdeal.nD Cert.ReferenceDmergeIdeal.τ).loc Cert.ReferenceDmergeIdeal.main_v41) = v2 c
          ∧ r.2.mem ((c.tc : Thread Cert.ReferenceDmergeIdeal.nD Cert.ReferenceDmergeIdeal.τ).loc Cert.ReferenceDmergeIdeal.main_v42) = v3 c
          ∧ r.2.mem ((c.tc : Thread Cert.ReferenceDmergeIdeal.nD Cert.ReferenceDmergeIdeal.τ).loc Cert.ReferenceDmergeIdeal.main_arg0) = m' ((c.tc : Thread Cert.ReferenceDmergeIdeal.nD Cert.ReferenceDmergeIdeal.τ).loc Cert.ReferenceDmergeIdeal.main_arg0)
          ∧ r.2.mem ((c.tc : Thread Cert.ReferenceDmergeIdeal.nD Cert.ReferenceDmergeIdeal.τ).loc Cert.ReferenceDmergeIdeal.main_arg1) = m' ((c.tc : Thread Cert.ReferenceDmergeIdeal.nD Cert.ReferenceDmergeIdeal.τ).loc Cert.ReferenceDmergeIdeal.main_arg1)
          ∧ r.2.mem ((c.tc : Thread Cert.ReferenceDmergeIdeal.nD Cert.ReferenceDmergeIdeal.τ).loc Cert.ReferenceDmergeIdeal.main_arg2) = m' ((c.tc : Thread Cert.ReferenceDmergeIdeal.nD Cert.ReferenceDmergeIdeal.τ).loc Cert.ReferenceDmergeIdeal.main_arg2)
          ∧ r.2.mem ((c.tc : Thread Cert.ReferenceDmergeIdeal.nD Cert.ReferenceDmergeIdeal.τ).loc Cert.ReferenceDmergeIdeal.main_arg3) = m' ((c.tc : Thread Cert.ReferenceDmergeIdeal.nD Cert.ReferenceDmergeIdeal.τ).loc Cert.ReferenceDmergeIdeal.main_arg3)
          ∧ r.2.mem ((c.tc : Thread Cert.ReferenceDmergeIdeal.nD Cert.ReferenceDmergeIdeal.τ).loc Cert.ReferenceDmergeIdeal.main_arg4) = m' ((c.tc : Thread Cert.ReferenceDmergeIdeal.nD Cert.ReferenceDmergeIdeal.τ).loc Cert.ReferenceDmergeIdeal.main_arg4)
          ∧ r.2.mem ((c.tc : Thread Cert.ReferenceDmergeIdeal.nD Cert.ReferenceDmergeIdeal.τ).loc Cert.ReferenceDmergeIdeal.main_arg5) = m' ((c.tc : Thread Cert.ReferenceDmergeIdeal.nD Cert.ReferenceDmergeIdeal.τ).loc Cert.ReferenceDmergeIdeal.main_arg5)
          ∧ r.2.mem ((c.tc : Thread Cert.ReferenceDmergeIdeal.nD Cert.ReferenceDmergeIdeal.τ).loc Cert.ReferenceDmergeIdeal.main_arg6) = m' ((c.tc : Thread Cert.ReferenceDmergeIdeal.nD Cert.ReferenceDmergeIdeal.τ).loc Cert.ReferenceDmergeIdeal.main_arg6)
          ∧ r.2.mem ((c.tc : Thread Cert.ReferenceDmergeIdeal.nD Cert.ReferenceDmergeIdeal.τ).loc Cert.ReferenceDmergeIdeal.main_arg7) = m' ((c.tc : Thread Cert.ReferenceDmergeIdeal.nD Cert.ReferenceDmergeIdeal.τ).loc Cert.ReferenceDmergeIdeal.main_arg7)
          ∧ r.2.mem ((c.tc : Thread Cert.ReferenceDmergeIdeal.nD Cert.ReferenceDmergeIdeal.τ).loc Cert.ReferenceDmergeIdeal.main_arg8) = m' ((c.tc : Thread Cert.ReferenceDmergeIdeal.nD Cert.ReferenceDmergeIdeal.τ).loc Cert.ReferenceDmergeIdeal.main_arg8))

def preserves_KernelPle_KernelPleIdeal : Prop :=
  True

def algebraic_KernelPleIdeal_ReferencePleIdeal [hKernelPleIdeal : Cert.KernelPleIdeal.Facts] [hReferencePleIdeal : Cert.ReferencePleIdeal.Facts] : Prop :=
  ∀ (m : (ℓ : Loc Cert.KernelPleIdeal.nD Cert.KernelPleIdeal.τ Cert.KernelPleIdeal.sig) → Buf (Elt Ideal) ℓ) (g : Dev Cert.KernelPleIdeal.nD → PrngReg)
    (m' : (ℓ : Loc Cert.ReferencePleIdeal.nD Cert.ReferencePleIdeal.τ Cert.ReferencePleIdeal.sig) → Buf (Elt Ideal) ℓ) (g' : Dev Cert.ReferencePleIdeal.nD → PrngReg), Pre_KernelPleIdeal m →
    (∀ c : Dev Cert.KernelPleIdeal.nD,
      m' ((c.tc : Thread Cert.ReferencePleIdeal.nD Cert.ReferencePleIdeal.τ).loc Cert.ReferencePleIdeal.main_arg0) = m ((c.tc : Thread Cert.KernelPleIdeal.nD Cert.KernelPleIdeal.τ).loc Cert.KernelPleIdeal.main_arg0)
      ∧ m' ((c.tc : Thread Cert.ReferencePleIdeal.nD Cert.ReferencePleIdeal.τ).loc Cert.ReferencePleIdeal.main_arg1) = m ((c.tc : Thread Cert.KernelPleIdeal.nD Cert.KernelPleIdeal.τ).loc Cert.KernelPleIdeal.main_arg1)
      ∧ m' ((c.tc : Thread Cert.ReferencePleIdeal.nD Cert.ReferencePleIdeal.τ).loc Cert.ReferencePleIdeal.main_arg2) = m ((c.tc : Thread Cert.KernelPleIdeal.nD Cert.KernelPleIdeal.τ).loc Cert.KernelPleIdeal.main_arg2)
      ∧ m' ((c.tc : Thread Cert.ReferencePleIdeal.nD Cert.ReferencePleIdeal.τ).loc Cert.ReferencePleIdeal.main_arg3) = m ((c.tc : Thread Cert.KernelPleIdeal.nD Cert.KernelPleIdeal.τ).loc Cert.KernelPleIdeal.main_arg3)
      ∧ m' ((c.tc : Thread Cert.ReferencePleIdeal.nD Cert.ReferencePleIdeal.τ).loc Cert.ReferencePleIdeal.main_arg4) = m ((c.tc : Thread Cert.KernelPleIdeal.nD Cert.KernelPleIdeal.τ).loc Cert.KernelPleIdeal.main_arg4)) →
    ∃ (v0 : (c : Dev Cert.KernelPleIdeal.nD) → Buf (Elt Ideal) ((c.tc : Thread Cert.KernelPleIdeal.nD Cert.KernelPleIdeal.τ).loc Cert.KernelPleIdeal.main_v0)),
      θ_run (Cert.KernelPleIdeal.defs (F := Ideal)) (onTc (τ := Cert.KernelPleIdeal.τ) (Cert.KernelPleIdeal.main (F := Ideal))) ⟨m, fun _ => 0, g⟩ (fun r => ∀ c : Dev Cert.KernelPleIdeal.nD,
          r.2.mem ((c.tc : Thread Cert.KernelPleIdeal.nD Cert.KernelPleIdeal.τ).loc Cert.KernelPleIdeal.main_v0) = v0 c
          ∧ r.2.mem ((c.tc : Thread Cert.KernelPleIdeal.nD Cert.KernelPleIdeal.τ).loc Cert.KernelPleIdeal.main_arg0) = m ((c.tc : Thread Cert.KernelPleIdeal.nD Cert.KernelPleIdeal.τ).loc Cert.KernelPleIdeal.main_arg0)
          ∧ r.2.mem ((c.tc : Thread Cert.KernelPleIdeal.nD Cert.KernelPleIdeal.τ).loc Cert.KernelPleIdeal.main_arg1) = m ((c.tc : Thread Cert.KernelPleIdeal.nD Cert.KernelPleIdeal.τ).loc Cert.KernelPleIdeal.main_arg1)
          ∧ r.2.mem ((c.tc : Thread Cert.KernelPleIdeal.nD Cert.KernelPleIdeal.τ).loc Cert.KernelPleIdeal.main_arg2) = m ((c.tc : Thread Cert.KernelPleIdeal.nD Cert.KernelPleIdeal.τ).loc Cert.KernelPleIdeal.main_arg2)
          ∧ r.2.mem ((c.tc : Thread Cert.KernelPleIdeal.nD Cert.KernelPleIdeal.τ).loc Cert.KernelPleIdeal.main_arg3) = m ((c.tc : Thread Cert.KernelPleIdeal.nD Cert.KernelPleIdeal.τ).loc Cert.KernelPleIdeal.main_arg3)
          ∧ r.2.mem ((c.tc : Thread Cert.KernelPleIdeal.nD Cert.KernelPleIdeal.τ).loc Cert.KernelPleIdeal.main_arg4) = m ((c.tc : Thread Cert.KernelPleIdeal.nD Cert.KernelPleIdeal.τ).loc Cert.KernelPleIdeal.main_arg4))
      ∧ θ_run (Cert.ReferencePleIdeal.defs (F := Ideal)) (onTc (τ := Cert.ReferencePleIdeal.τ) (Cert.ReferencePleIdeal.main (F := Ideal))) ⟨m', fun _ => 0, g'⟩ (fun r => ∀ c : Dev Cert.ReferencePleIdeal.nD,
          r.2.mem ((c.tc : Thread Cert.ReferencePleIdeal.nD Cert.ReferencePleIdeal.τ).loc Cert.ReferencePleIdeal.main_v23) = v0 c
          ∧ r.2.mem ((c.tc : Thread Cert.ReferencePleIdeal.nD Cert.ReferencePleIdeal.τ).loc Cert.ReferencePleIdeal.main_arg0) = m' ((c.tc : Thread Cert.ReferencePleIdeal.nD Cert.ReferencePleIdeal.τ).loc Cert.ReferencePleIdeal.main_arg0)
          ∧ r.2.mem ((c.tc : Thread Cert.ReferencePleIdeal.nD Cert.ReferencePleIdeal.τ).loc Cert.ReferencePleIdeal.main_arg1) = m' ((c.tc : Thread Cert.ReferencePleIdeal.nD Cert.ReferencePleIdeal.τ).loc Cert.ReferencePleIdeal.main_arg1)
          ∧ r.2.mem ((c.tc : Thread Cert.ReferencePleIdeal.nD Cert.ReferencePleIdeal.τ).loc Cert.ReferencePleIdeal.main_arg2) = m' ((c.tc : Thread Cert.ReferencePleIdeal.nD Cert.ReferencePleIdeal.τ).loc Cert.ReferencePleIdeal.main_arg2)
          ∧ r.2.mem ((c.tc : Thread Cert.ReferencePleIdeal.nD Cert.ReferencePleIdeal.τ).loc Cert.ReferencePleIdeal.main_arg3) = m' ((c.tc : Thread Cert.ReferencePleIdeal.nD Cert.ReferencePleIdeal.τ).loc Cert.ReferencePleIdeal.main_arg3)
          ∧ r.2.mem ((c.tc : Thread Cert.ReferencePleIdeal.nD Cert.ReferencePleIdeal.τ).loc Cert.ReferencePleIdeal.main_arg4) = m' ((c.tc : Thread Cert.ReferencePleIdeal.nD Cert.ReferencePleIdeal.τ).loc Cert.ReferencePleIdeal.main_arg4))

def Claim : Prop :=
  ∃ (hKernel : Cert.Kernel.Facts) (hKernelIdeal : Cert.KernelIdeal.Facts) (hReferenceIdeal : Cert.ReferenceIdeal.Facts) (hKernelZ : Cert.KernelZ.Facts) (hKernelZIdeal : Cert.KernelZIdeal.Facts) (hReferenceZIdeal : Cert.ReferenceZIdeal.Facts) (hKernelDh : Cert.KernelDh.Facts) (hKernelDhIdeal : Cert.KernelDhIdeal.Facts) (hReferenceDhIdeal : Cert.ReferenceDhIdeal.Facts) (hKernelDwz : Cert.KernelDwz.Facts) (hKernelDwzIdeal : Cert.KernelDwzIdeal.Facts) (hReferenceDwzIdeal : Cert.ReferenceDwzIdeal.Facts) (hKernelDwg : Cert.KernelDwg.Facts) (hKernelDwgIdeal : Cert.KernelDwgIdeal.Facts) (hReferenceDwgIdeal : Cert.ReferenceDwgIdeal.Facts) (hKernelDwp : Cert.KernelDwp.Facts) (hKernelDwpIdeal : Cert.KernelDwpIdeal.Facts) (hReferenceDwpIdeal : Cert.ReferenceDwpIdeal.Facts) (hKernelDwo : Cert.KernelDwo.Facts) (hKernelDwoIdeal : Cert.KernelDwoIdeal.Facts) (hReferenceDwoIdeal : Cert.ReferenceDwoIdeal.Facts) (hKernelDwup0 : Cert.KernelDwup0.Facts) (hKernelDwup0Ideal : Cert.KernelDwup0Ideal.Facts) (hReferenceDwup0Ideal : Cert.ReferenceDwup0Ideal.Facts) (hKernelDwup1 : Cert.KernelDwup1.Facts) (hKernelDwup1Ideal : Cert.KernelDwup1Ideal.Facts) (hReferenceDwup1Ideal : Cert.ReferenceDwup1Ideal.Facts) (hKernelDwup2 : Cert.KernelDwup2.Facts) (hKernelDwup2Ideal : Cert.KernelDwup2Ideal.Facts) (hReferenceDwup2Ideal : Cert.ReferenceDwup2Ideal.Facts) (hKernelDwup3 : Cert.KernelDwup3.Facts) (hKernelDwup3Ideal : Cert.KernelDwup3Ideal.Facts) (hReferenceDwup3Ideal : Cert.ReferenceDwup3Ideal.Facts) (hKernelMerge : Cert.KernelMerge.Facts) (hKernelMergeIdeal : Cert.KernelMergeIdeal.Facts) (hReferenceMergeIdeal : Cert.ReferenceMergeIdeal.Facts) (hKernelDmerge : Cert.KernelDmerge.Facts) (hKernelDmergeIdeal : Cert.KernelDmergeIdeal.Facts) (hReferenceDmergeIdeal : Cert.ReferenceDmergeIdeal.Facts) (hKernelPle : Cert.KernelPle.Facts) (hKernelPleIdeal : Cert.KernelPleIdeal.Facts) (hReferencePleIdeal : Cert.ReferencePleIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelZ (hKernelZ := hKernelZ)
    ∧ quiescent_KernelZIdeal (hKernelZIdeal := hKernelZIdeal)
    ∧ quiescent_ReferenceZIdeal (hReferenceZIdeal := hReferenceZIdeal)
    ∧ quiescent_KernelDh (hKernelDh := hKernelDh)
    ∧ quiescent_KernelDhIdeal (hKernelDhIdeal := hKernelDhIdeal)
    ∧ quiescent_ReferenceDhIdeal (hReferenceDhIdeal := hReferenceDhIdeal)
    ∧ quiescent_KernelDwz (hKernelDwz := hKernelDwz)
    ∧ quiescent_KernelDwzIdeal (hKernelDwzIdeal := hKernelDwzIdeal)
    ∧ quiescent_ReferenceDwzIdeal (hReferenceDwzIdeal := hReferenceDwzIdeal)
    ∧ quiescent_KernelDwg (hKernelDwg := hKernelDwg)
    ∧ quiescent_KernelDwgIdeal (hKernelDwgIdeal := hKernelDwgIdeal)
    ∧ quiescent_ReferenceDwgIdeal (hReferenceDwgIdeal := hReferenceDwgIdeal)
    ∧ quiescent_KernelDwp (hKernelDwp := hKernelDwp)
    ∧ quiescent_KernelDwpIdeal (hKernelDwpIdeal := hKernelDwpIdeal)
    ∧ quiescent_ReferenceDwpIdeal (hReferenceDwpIdeal := hReferenceDwpIdeal)
    ∧ quiescent_KernelDwo (hKernelDwo := hKernelDwo)
    ∧ quiescent_KernelDwoIdeal (hKernelDwoIdeal := hKernelDwoIdeal)
    ∧ quiescent_ReferenceDwoIdeal (hReferenceDwoIdeal := hReferenceDwoIdeal)
    ∧ quiescent_KernelDwup0 (hKernelDwup0 := hKernelDwup0)
    ∧ quiescent_KernelDwup0Ideal (hKernelDwup0Ideal := hKernelDwup0Ideal)
    ∧ quiescent_ReferenceDwup0Ideal (hReferenceDwup0Ideal := hReferenceDwup0Ideal)
    ∧ quiescent_KernelDwup1 (hKernelDwup1 := hKernelDwup1)
    ∧ quiescent_KernelDwup1Ideal (hKernelDwup1Ideal := hKernelDwup1Ideal)
    ∧ quiescent_ReferenceDwup1Ideal (hReferenceDwup1Ideal := hReferenceDwup1Ideal)
    ∧ quiescent_KernelDwup2 (hKernelDwup2 := hKernelDwup2)
    ∧ quiescent_KernelDwup2Ideal (hKernelDwup2Ideal := hKernelDwup2Ideal)
    ∧ quiescent_ReferenceDwup2Ideal (hReferenceDwup2Ideal := hReferenceDwup2Ideal)
    ∧ quiescent_KernelDwup3 (hKernelDwup3 := hKernelDwup3)
    ∧ quiescent_KernelDwup3Ideal (hKernelDwup3Ideal := hKernelDwup3Ideal)
    ∧ quiescent_ReferenceDwup3Ideal (hReferenceDwup3Ideal := hReferenceDwup3Ideal)
    ∧ quiescent_KernelMerge (hKernelMerge := hKernelMerge)
    ∧ quiescent_KernelMergeIdeal (hKernelMergeIdeal := hKernelMergeIdeal)
    ∧ quiescent_ReferenceMergeIdeal (hReferenceMergeIdeal := hReferenceMergeIdeal)
    ∧ quiescent_KernelDmerge (hKernelDmerge := hKernelDmerge)
    ∧ quiescent_KernelDmergeIdeal (hKernelDmergeIdeal := hKernelDmergeIdeal)
    ∧ quiescent_ReferenceDmergeIdeal (hReferenceDmergeIdeal := hReferenceDmergeIdeal)
    ∧ quiescent_KernelPle (hKernelPle := hKernelPle)
    ∧ quiescent_KernelPleIdeal (hKernelPleIdeal := hKernelPleIdeal)
    ∧ quiescent_ReferencePleIdeal (hReferencePleIdeal := hReferencePleIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelZ_KernelZIdeal
    ∧ algebraic_KernelZIdeal_ReferenceZIdeal (hKernelZIdeal := hKernelZIdeal) (hReferenceZIdeal := hReferenceZIdeal)
    ∧ preserves_KernelDh_KernelDhIdeal
    ∧ algebraic_KernelDhIdeal_ReferenceDhIdeal (hKernelDhIdeal := hKernelDhIdeal) (hReferenceDhIdeal := hReferenceDhIdeal)
    ∧ preserves_KernelDwz_KernelDwzIdeal
    ∧ algebraic_KernelDwzIdeal_ReferenceDwzIdeal (hKernelDwzIdeal := hKernelDwzIdeal) (hReferenceDwzIdeal := hReferenceDwzIdeal)
    ∧ preserves_KernelDwg_KernelDwgIdeal
    ∧ algebraic_KernelDwgIdeal_ReferenceDwgIdeal (hKernelDwgIdeal := hKernelDwgIdeal) (hReferenceDwgIdeal := hReferenceDwgIdeal)
    ∧ preserves_KernelDwp_KernelDwpIdeal
    ∧ algebraic_KernelDwpIdeal_ReferenceDwpIdeal (hKernelDwpIdeal := hKernelDwpIdeal) (hReferenceDwpIdeal := hReferenceDwpIdeal)
    ∧ preserves_KernelDwo_KernelDwoIdeal
    ∧ algebraic_KernelDwoIdeal_ReferenceDwoIdeal (hKernelDwoIdeal := hKernelDwoIdeal) (hReferenceDwoIdeal := hReferenceDwoIdeal)
    ∧ preserves_KernelDwup0_KernelDwup0Ideal
    ∧ algebraic_KernelDwup0Ideal_ReferenceDwup0Ideal (hKernelDwup0Ideal := hKernelDwup0Ideal) (hReferenceDwup0Ideal := hReferenceDwup0Ideal)
    ∧ preserves_KernelDwup1_KernelDwup1Ideal
    ∧ algebraic_KernelDwup1Ideal_ReferenceDwup1Ideal (hKernelDwup1Ideal := hKernelDwup1Ideal) (hReferenceDwup1Ideal := hReferenceDwup1Ideal)
    ∧ preserves_KernelDwup2_KernelDwup2Ideal
    ∧ algebraic_KernelDwup2Ideal_ReferenceDwup2Ideal (hKernelDwup2Ideal := hKernelDwup2Ideal) (hReferenceDwup2Ideal := hReferenceDwup2Ideal)
    ∧ preserves_KernelDwup3_KernelDwup3Ideal
    ∧ algebraic_KernelDwup3Ideal_ReferenceDwup3Ideal (hKernelDwup3Ideal := hKernelDwup3Ideal) (hReferenceDwup3Ideal := hReferenceDwup3Ideal)
    ∧ preserves_KernelMerge_KernelMergeIdeal
    ∧ algebraic_KernelMergeIdeal_ReferenceMergeIdeal (hKernelMergeIdeal := hKernelMergeIdeal) (hReferenceMergeIdeal := hReferenceMergeIdeal)
    ∧ preserves_KernelDmerge_KernelDmergeIdeal
    ∧ algebraic_KernelDmergeIdeal_ReferenceDmergeIdeal (hKernelDmergeIdeal := hKernelDmergeIdeal) (hReferenceDmergeIdeal := hReferenceDmergeIdeal)
    ∧ preserves_KernelPle_KernelPleIdeal
    ∧ algebraic_KernelPleIdeal_ReferencePleIdeal (hKernelPleIdeal := hKernelPleIdeal) (hReferencePleIdeal := hReferencePleIdeal)
-- ==== Pre_finite.lean ====
abbrev S8192x256 : Shape := ⟨2, ![8192, 256]⟩
abbrev S8192x4 : Shape := ⟨2, ![8192, 4]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x4 : S_.BroadcastsInDim S8192x4 (![] : Fin 0 → Fin S8192x4.rank)
  reducesTo_S8192x4_S_d0_1 : S8192x4.ReducesTo [0, 1] S_

variable [Facts]

def fn_part1 {F : FTy → Type} [FloatOps F] (main_arg4 : FVec F S8192x256 .f32) (main_v3 : IVec S_ 1) (main_v7 : IVec S_ 1) (main_v11 : IVec S_ 1) (main_v15 : IVec S_ 1) : IVec S_ 1 :=
  let main_v16 : FVec F S8192x256 .f32 := Host.absf main_arg4
  let main_cst_6 : FVec F S_ .f32 := constant S_ .f32 0x7F800000#32
  let main_v17 : FVec F S8192x256 .f32 := broadcastInDim S8192x256 ![] bcast_S_S8192x256 main_cst_6
  let main_v18 : IVec S8192x256 1 := cmpf .olt main_v16 main_v17
  let main_c_7 : IVec S_ 1 := constantI S_ 1 1#1
  let main_v19 : IVec S_ 1 := (fun x v => Host.reduce IntOp.andi x v reducesTo_S8192x256_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S8192x256 .f32) (main_arg1 : FVec F S8192x256 .f32) (main_arg2 : FVec F S8192x256 .f32) (main_arg3 : FVec F S8192x4 .f32) (main_arg4 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : FVec F S8192x256 .f32 := Host.absf main_arg2
  let main_cst_2 : FVec F S_ .f32 := constant S_ .f32 0x7F800000#32
  let main_v9 : FVec F S8192x256 .f32 := broadcastInDim S8192x256 ![] bcast_S_S8192x256 main_cst_2
  let main_v10 : IVec S8192x256 1 := cmpf .olt main_v8 main_v9
  let main_c_3 : IVec S_ 1 := constantI S_ 1 1#1
  let main_v11 : IVec S_ 1 := (fun x v => Host.reduce IntOp.andi x v reducesTo_S8192x256_S_d0_1 h_S_) main_v10 main_c_3
  let main_v12 : FVec F S8192x4 .f32 := Host.absf main_arg3
  let main_cst_4 : FVec F S_ .f32 := constant S_ .f32 0x7F800000#32
  let main_v13 : FVec F S8192x4 .f32 := broadcastInDim S8192x4 ![] bcast_S_S8192x4 main_cst_4
  let main_v14 : IVec S8192x4 1 := cmpf .olt main_v12 main_v13
  let main_c_5 : IVec S_ 1 := constantI S_ 1 1#1
  let main_v15 : IVec S_ 1 := (fun x v => Host.reduce IntOp.andi x v reducesTo_S8192x4_S_d0_1 h_S_) main_v14 main_c_5
  fn_part1 (F := F) main_arg4 main_v3 main_v7 main_v11 main_v15
-- ==== Kernel.lean ====
abbrev S8192x256 : Shape := ⟨2, ![8192, 256]⟩
abbrev S8192x4 : Shape := ⟨2, ![8192, 4]⟩
abbrev S8192x4x64 : Shape := ⟨3, ![8192, 4, 64]⟩
abbrev S8192 : Shape := ⟨1, ![8192]⟩
abbrev S4x8192x8192 : Shape := ⟨3, ![4, 8192, 8192]⟩
abbrev S_ : Shape := ⟨0, ![]⟩
abbrev S4x8192 : Shape := ⟨2, ![4, 8192]⟩
abbrev S4x8192x1 : Shape := ⟨3, ![4, 8192, 1]⟩
abbrev S4x1x8192 : Shape := ⟨3, ![4, 1, 8192]⟩
abbrev S8192x1 : Shape := ⟨2, ![8192, 1]⟩
abbrev S1x8192 : Shape := ⟨2, ![1, 8192]⟩
abbrev S8192x8192 : Shape := ⟨2, ![8192, 8192]⟩
abbrev S4x64x8192 : Shape := ⟨3, ![4, 64, 8192]⟩
abbrev S8192x4x3 : Shape := ⟨3, ![8192, 4, 3]⟩
abbrev S8192x4x1 : Shape := ⟨3, ![8192, 4, 1]⟩
abbrev S8192x4x58 : Shape := ⟨3, ![8192, 4, 58]⟩
abbrev S8192x4x128 : Shape := ⟨3, ![8192, 4, 128]⟩
abbrev S8192x512 : Shape := ⟨2, ![8192, 512]⟩
abbrev S8192x4x61 : Shape := ⟨3, ![8192, 4, 61]⟩
abbrev S8192x128 : Shape := ⟨2, ![8192, 128]⟩
abbrev S1024x512 : Shape := ⟨2, ![1024, 512]⟩
abbrev S1024x256 : Shape := ⟨2, ![1024, 256]⟩
abbrev S1024x128 : Shape := ⟨2, ![1024, 128]⟩
abbrev S1024x1024 : Shape := ⟨2, ![1024, 1024]⟩
abbrev S1024x64 : Shape := ⟨2, ![1024, 64]⟩
abbrev S1024x1 : Shape := ⟨2, ![1024, 1]⟩
abbrev S1024 : Shape := ⟨1, ![1024]⟩

abbrev nBuf : Space → Nat
  | .hbm => 116
  | .vmem => 14
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S8192x4, .f32⟩
  | .hbm, ⟨4, _⟩ => ⟨S8192x256, .f32⟩
  | .hbm, ⟨5, _⟩ => ⟨S8192x4x64, .f32⟩
  | .hbm, ⟨6, _⟩ => ⟨S8192x4x64, .f32⟩
  | .hbm, ⟨7, _⟩ => ⟨S8192x4x64, .f32⟩
  | .hbm, ⟨8, _⟩ => ⟨S8192, .i32⟩
  | .hbm, ⟨9, _⟩ => ⟨S4x8192x8192, .f32⟩
  | .hbm, ⟨10, _⟩ => ⟨S_, .f32⟩
  | .hbm, ⟨11, _⟩ => ⟨S4x8192x8192, .f32⟩
  | .hbm, ⟨12, _⟩ => ⟨S4x8192x8192, .f32⟩
  | .hbm, ⟨13, _⟩ => ⟨S4x8192, .f32⟩
  | .hbm, ⟨14, _⟩ => ⟨S4x8192x1, .f32⟩
  | .hbm, ⟨15, _⟩ => ⟨S4x8192, .f32⟩
  | .hbm, ⟨16, _⟩ => ⟨S4x1x8192, .f32⟩
  | .hbm, ⟨17, _⟩ => ⟨S4x8192x8192, .f32⟩
  | .hbm, ⟨18, _⟩ => ⟨S4x8192x8192, .f32⟩
  | .hbm, ⟨19, _⟩ => ⟨S4x8192x8192, .f32⟩
  | .hbm, ⟨20, _⟩ => ⟨S4x8192x8192, .f32⟩
  | .hbm, ⟨21, _⟩ => ⟨S8192x1, .i32⟩
  | .hbm, ⟨22, _⟩ => ⟨S1x8192, .i32⟩
  | .hbm, ⟨23, _⟩ => ⟨S8192x8192, .i32⟩
  | .hbm, ⟨24, _⟩ => ⟨S8192x8192, .i32⟩
  | .hbm, ⟨25, _⟩ => ⟨S8192x8192, .i1⟩
  | .hbm, ⟨26, _⟩ => ⟨S_, .f32⟩
  | .hbm, ⟨27, _⟩ => ⟨S_, .f32⟩
  | .hbm, ⟨28, _⟩ => ⟨S4x8192x8192, .i1⟩
  | .hbm, ⟨29, _⟩ => ⟨S4x8192x8192, .f32⟩
  | .hbm, ⟨30, _⟩ => ⟨S4x8192x8192, .f32⟩
  | .hbm, ⟨31, _⟩ => ⟨S_, .f32⟩
  | .hbm, ⟨32, _⟩ => ⟨S4x8192, .f32⟩
  | .hbm, ⟨33, _⟩ => ⟨S4x8192x1, .f32⟩
  | .hbm, ⟨34, _⟩ => ⟨S4x8192x8192, .f32⟩
  | .hbm, ⟨35, _⟩ => ⟨S4x8192x8192, .f32⟩
  | .hbm, ⟨36, _⟩ => ⟨S4x8192x8192, .f32⟩
  | .hbm, ⟨37, _⟩ => ⟨S_, .f32⟩
  | .hbm, ⟨38, _⟩ => ⟨S4x8192, .f32⟩
  | .hbm, ⟨39, _⟩ => ⟨S4x8192x1, .f32⟩
  | .hbm, ⟨40, _⟩ => ⟨S4x8192x8192, .f32⟩
  | .hbm, ⟨41, _⟩ => ⟨S4x8192x8192, .f32⟩
  | .hbm, ⟨42, _⟩ => ⟨S4x64x8192, .f32⟩
  | .hbm, ⟨43, _⟩ => ⟨S8192x4x64, .f32⟩
  | .hbm, ⟨44, _⟩ => ⟨S4x8192x1, .f32⟩
  | .hbm, ⟨45, _⟩ => ⟨S4x8192x1, .f32⟩
  | .hbm, ⟨46, _⟩ => ⟨S4x8192, .f32⟩
  | .hbm, ⟨47, _⟩ => ⟨S8192x4, .f32⟩
  | .hbm, ⟨48, _⟩ => ⟨S8192x4x64, .f32⟩
  | .hbm, ⟨49, _⟩ => ⟨S8192x4x64, .f32⟩
  | .hbm, ⟨50, _⟩ => ⟨S_, .f32⟩
  | .hbm, ⟨51, _⟩ => ⟨S8192x4, .f32⟩
  | .hbm, ⟨52, _⟩ => ⟨S_, .f32⟩
  | .hbm, ⟨53, _⟩ => ⟨S8192x4x3, .f32⟩
  | .hbm, ⟨54, _⟩ => ⟨S_, .f32⟩
  | .hbm, ⟨55, _⟩ => ⟨S8192x256, .f32⟩
  | .hbm, ⟨56, _⟩ => ⟨S8192x256, .f32⟩
  | .hbm, ⟨57, _⟩ => ⟨S8192x4, .f32⟩
  | .hbm, ⟨58, _⟩ => ⟨S8192x4, .bf16⟩
  | .hbm, ⟨59, _⟩ => ⟨S8192x4, .f32⟩
  | .hbm, ⟨60, _⟩ => ⟨S8192x4, .f32⟩
  | .hbm, ⟨61, _⟩ => ⟨S8192x4, .bf16⟩
  | .hbm, ⟨62, _⟩ => ⟨S8192x4, .f32⟩
  | .hbm, ⟨63, _⟩ => ⟨S8192x4, .f32⟩
  | .hbm, ⟨64, _⟩ => ⟨S8192x4x1, .f32⟩
  | .hbm, ⟨65, _⟩ => ⟨S8192x4x1, .f32⟩
  | .hbm, ⟨66, _⟩ => ⟨S8192x4x1, .f32⟩
  | .hbm, ⟨67, _⟩ => ⟨S_, .f32⟩
  | .hbm, ⟨68, _⟩ => ⟨S8192x4x58, .f32⟩
  | .hbm, ⟨69, _⟩ => ⟨S8192x4x64, .f32⟩
  | .hbm, ⟨70, _⟩ => ⟨S8192x4x128, .f32⟩
  | .hbm, ⟨71, _⟩ => ⟨S8192x512, .f32⟩
  | .hbm, ⟨72, _⟩ => ⟨S8192x512, .bf16⟩
  | .hbm, ⟨73, _⟩ => ⟨S8192x4, .bf16⟩
  | .hbm, ⟨74, _⟩ => ⟨S8192x4, .f32⟩
  | .hbm, ⟨75, _⟩ => ⟨S8192x4, .f32⟩
  | .hbm, ⟨76, _⟩ => ⟨S8192x4, .bf16⟩
  | .hbm, ⟨77, _⟩ => ⟨S8192x4, .f32⟩
  | .hbm, ⟨78, _⟩ => ⟨S8192x4, .f32⟩
  | .hbm, ⟨79, _⟩ => ⟨S8192x4, .f32⟩
  | .hbm, ⟨80, _⟩ => ⟨S8192x4x1, .f32⟩
  | .hbm, ⟨81, _⟩ => ⟨S8192x4, .f32⟩
  | .hbm, ⟨82, _⟩ => ⟨S8192x4x1, .f32⟩
  | .hbm, ⟨83, _⟩ => ⟨S8192x4, .f32⟩
  | .hbm, ⟨84, _⟩ => ⟨S8192x4x1, .f32⟩
  | .hbm, ⟨85, _⟩ => ⟨S_, .f32⟩
  | .hbm, ⟨86, _⟩ => ⟨S8192x4x58, .f32⟩
  | .hbm, ⟨87, _⟩ => ⟨S8192x4x64, .f32⟩
  | .hbm, ⟨88, _⟩ => ⟨S8192x4x128, .f32⟩
  | .hbm, ⟨89, _⟩ => ⟨S8192x512, .f32⟩
  | .hbm, ⟨90, _⟩ => ⟨S8192x512, .bf16⟩
  | .hbm, ⟨91, _⟩ => ⟨S8192x4x3, .f32⟩
  | .hbm, ⟨92, _⟩ => ⟨S_, .f32⟩
  | .hbm, ⟨93, _⟩ => ⟨S8192x4x61, .f32⟩
  | .hbm, ⟨94, _⟩ => ⟨S8192x4x64, .f32⟩
  | .hbm, ⟨95, _⟩ => ⟨S8192x4x128, .f32⟩
  | .hbm, ⟨96, _⟩ => ⟨S8192x512, .f32⟩
  | .hbm, ⟨97, _⟩ => ⟨S8192x512, .bf16⟩
  | .hbm, ⟨98, _⟩ => ⟨S8192x4, .bf16⟩
  | .hbm, ⟨99, _⟩ => ⟨S8192x4, .f32⟩
  | .hbm, ⟨100, _⟩ => ⟨S8192x4, .f32⟩
  | .hbm, ⟨101, _⟩ => ⟨S8192x4, .bf16⟩
  | .hbm, ⟨102, _⟩ => ⟨S8192x4, .f32⟩
  | .hbm, ⟨103, _⟩ => ⟨S8192x4, .f32⟩
  | .hbm, ⟨104, _⟩ => ⟨S8192x4x1, .f32⟩
  | .hbm, ⟨105, _⟩ => ⟨S8192x4x1, .f32⟩
  | .hbm, ⟨106, _⟩ => ⟨S8192x4x1, .f32⟩
  | .hbm, ⟨107, _⟩ => ⟨S_, .f32⟩
  | .hbm, ⟨108, _⟩ => ⟨S8192x4x61, .f32⟩
  | .hbm, ⟨109, _⟩ => ⟨S8192x4x64, .f32⟩
  | .hbm, ⟨110, _⟩ => ⟨S8192x4x128, .f32⟩
  | .hbm, ⟨111, _⟩ => ⟨S8192x512, .f32⟩
  | .hbm, ⟨112, _⟩ => ⟨S8192x512, .bf16⟩
  | .hbm, ⟨113, _⟩ => ⟨S8192x256, .f32⟩
  | .hbm, ⟨114, _⟩ => ⟨S8192x256, .f32⟩
  | .hbm, ⟨115, _⟩ => ⟨S8192x128, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x128, .f32⟩
  | .local _ .vmem, ⟨13, _⟩ => ⟨S1024x128, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_3 : Ref sig .tc := ⟨.hbm, 50, rfl⟩
abbrev main_v38 : Ref sig .tc := ⟨.hbm, 51, rfl⟩
abbrev main_cst_4 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_6 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_cst_7 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_cst_8 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_cst_9 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94_0 : Ref sig .tc := ⟨.hbm, 113, rfl⟩
abbrev main_v94_1 : Ref sig .tc := ⟨.hbm, 114, rfl⟩
abbrev main_v94_2 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let arg0 : BitVec 32 := BitVec.ofNat 32 (i 0).val
  let v3 : BitVec 1 := Scalar.cmpi .sgt arg1 arg0
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let arg0 : BitVec 32 := BitVec.ofNat 32 (i 0).val
  let v6 : BitVec 1 := Scalar.cmpi .sge arg1 arg0
  let v7 : BitVec 32 := Scalar.extui v6
  let c0_i32_2 : BitVec 32 := 0#32
  let v8 : BitVec 1 := Scalar.cmpi .ne v7 c0_i32_2
  v8

def k0_cond4 (i : grid0.Coords) : BitVec 1 :=
  let arg1 : BitVec 32 := BitVec.ofNat 32 (i 1).val
  let arg0 : BitVec 32 := BitVec.ofNat 32 (i 0).val
  let v9 : BitVec 1 := Scalar.cmpi .sle arg1 arg0
  let v10 : BitVec 32 := Scalar.extui v9
  let c0_i32_3 : BitVec 32 := 0#32
  let v11 : BitVec 1 := Scalar.cmpi .ne v10 c0_i32_3
  v11

def cc0_transform_0 (i : grid0.Coords) : Fin 2 → Nat :=
  let arg0 : BitVec 32 := BitVec.ofNat 32 (i 0).val
  let arg1 : BitVec 32 := BitVec.ofNat 32 (i 1).val
  let v0 : BitVec 32 := Scalar.maxsi arg1 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let v0 : BitVec 32 := Scalar.maxsi arg1 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S8192x256 : Shape := ⟨2, ![8192, 256]⟩
abbrev S8192x4 : Shape := ⟨2, ![8192, 4]⟩
abbrev S8192x4x64 : Shape := ⟨3, ![8192, 4, 64]⟩
abbrev S4x8192x64 : Shape := ⟨3, ![4, 8192, 64]⟩
abbrev S4x8192 : Shape := ⟨2, ![4, 8192]⟩
abbrev S8192 : Shape := ⟨1, ![8192]⟩
abbrev S4x8192x8192 : Shape := ⟨3, ![4, 8192, 8192]⟩
abbrev S_ : Shape := ⟨0, ![]⟩
abbrev S4x8192x1 : Shape := ⟨3, ![4, 8192, 1]⟩
abbrev S4x1x8192 : Shape := ⟨3, ![4, 1, 8192]⟩
abbrev S8192x1 : Shape := ⟨2, ![8192, 1]⟩
abbrev S1x8192 : Shape := ⟨2, ![1, 8192]⟩
abbrev S8192x8192 : Shape := ⟨2, ![8192, 8192]⟩
abbrev S4x64x8192 : Shape := ⟨3, ![4, 64, 8192]⟩
abbrev S8192x128 : Shape := ⟨2, ![8192, 128]⟩

abbrev nBuf : Space → Nat
  | .hbm => 125
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S8192x4, .f32⟩
  | .hbm, ⟨4, _⟩ => ⟨S8192x256, .f32⟩
  | .hbm, ⟨5, _⟩ => ⟨S8192x4x64, .f32⟩
  | .hbm, ⟨6, _⟩ => ⟨S4x8192x64, .f32⟩
  | .hbm, ⟨7, _⟩ => ⟨S8192x4x64, .f32⟩
  | .hbm, ⟨8, _⟩ => ⟨S4x8192x64, .f32⟩
  | .hbm, ⟨9, _⟩ => ⟨S8192x4x64, .f32⟩
  | .hbm, ⟨10, _⟩ => ⟨S4x8192x64, .f32⟩
  | .hbm, ⟨11, _⟩ => ⟨S4x8192, .f32⟩
  | .hbm, ⟨12, _⟩ => ⟨S8192, .i32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x1, .f32⟩
  | .hbm, ⟨18, _⟩ => ⟨S4x1x8192, .f32⟩
  | .hbm, ⟨19, _⟩ => ⟨S4x8192x8192, .f32⟩
  | .hbm, ⟨20, _⟩ => ⟨S4x8192x8192, .f32⟩
  | .hbm, ⟨21, _⟩ => ⟨S4x8192x8192, .f32⟩
  | .hbm, ⟨22, _⟩ => ⟨S4x8192x8192, .f32⟩
  | .hbm, ⟨23, _⟩ => ⟨S8192x1, .i32⟩
  | .hbm, ⟨24, _⟩ => ⟨S1x8192, .i32⟩
  | .hbm, ⟨25, _⟩ => ⟨S8192x8192, .i32⟩
  | .hbm, ⟨26, _⟩ => ⟨S8192x8192, .i32⟩
  | .hbm, ⟨27, _⟩ => ⟨S8192x8192, .i1⟩
  | .hbm, ⟨28, _⟩ => ⟨S_, .f32⟩
  | .hbm, ⟨29, _⟩ => ⟨S_, .f32⟩
  | .hbm, ⟨30, _⟩ => ⟨S4x8192x8192, .i1⟩
  | .hbm, ⟨31, _⟩ => ⟨S4x8192x8192, .f32⟩
  | .hbm, ⟨32, _⟩ => ⟨S4x8192x8192, .f32⟩
  | .hbm, ⟨33, _⟩ => ⟨S_, .f32⟩
  | .hbm, ⟨34, _⟩ => ⟨S4x8192x8192, .f32⟩
  | .hbm, ⟨35, _⟩ => ⟨S_, .f32⟩
  | .hbm, ⟨36, _⟩ => ⟨S4x8192, .f32⟩
  | .hbm, ⟨37, _⟩ => ⟨S4x8192x1, .f32⟩
  | .hbm, ⟨38, _⟩ => ⟨S4x8192x8192, .f32⟩
  | .hbm, ⟨39, _⟩ => ⟨S4x8192x8192, .i1⟩
  | .hbm, ⟨40, _⟩ => ⟨S4x8192x8192, .f32⟩
  | .hbm, ⟨41, _⟩ => ⟨S_, .f32⟩
  | .hbm, ⟨42, _⟩ => ⟨S4x8192, .f32⟩
  | .hbm, ⟨43, _⟩ => ⟨S_, .f32⟩
  | .hbm, ⟨44, _⟩ => ⟨S4x8192, .f32⟩
  | .hbm, ⟨45, _⟩ => ⟨S4x8192, .f32⟩
  | .hbm, ⟨46, _⟩ => ⟨S_, .f32⟩
  | .hbm, ⟨47, _⟩ => ⟨S4x8192, .f32⟩
  | .hbm, ⟨48, _⟩ => ⟨S4x8192, .i1⟩
  | .hbm, ⟨49, _⟩ => ⟨S_, .f32⟩
  | .hbm, ⟨50, _⟩ => ⟨S4x8192, .f32⟩
  | .hbm, ⟨51, _⟩ => ⟨S4x8192, .i1⟩
  | .hbm, ⟨52, _⟩ => ⟨S_, .f32⟩
  | .hbm, ⟨53, _⟩ => ⟨S4x8192, .f32⟩
  | .hbm, ⟨54, _⟩ => ⟨S_, .f32⟩
  | .hbm, ⟨55, _⟩ => ⟨S4x8192, .f32⟩
  | .hbm, ⟨56, _⟩ => ⟨S_, .f32⟩
  | .hbm, ⟨57, _⟩ => ⟨S4x8192, .f32⟩
  | .hbm, ⟨58, _⟩ => ⟨S4x8192, .f32⟩
  | .hbm, ⟨59, _⟩ => ⟨S4x8192, .f32⟩
  | .hbm, ⟨60, _⟩ => ⟨S4x8192x1, .f32⟩
  | .hbm, ⟨61, _⟩ => ⟨S4x8192x8192, .f32⟩
  | .hbm, ⟨62, _⟩ => ⟨S4x8192x8192, .f32⟩
  | .hbm, ⟨63, _⟩ => ⟨S4x8192x8192, .f32⟩
  | .hbm, ⟨64, _⟩ => ⟨S_, .f32⟩
  | .hbm, ⟨65, _⟩ => ⟨S4x8192, .f32⟩
  | .hbm, ⟨66, _⟩ => ⟨S4x8192x1, .f32⟩
  | .hbm, ⟨67, _⟩ => ⟨S4x8192x8192, .f32⟩
  | .hbm, ⟨68, _⟩ => ⟨S4x8192x8192, .f32⟩
  | .hbm, ⟨69, _⟩ => ⟨S4x8192x1, .f32⟩
  | .hbm, ⟨70, _⟩ => ⟨S_, .f32⟩
  | .hbm, ⟨71, _⟩ => ⟨S4x8192x1, .f32⟩
  | .hbm, ⟨72, _⟩ => ⟨S4x8192x1, .f32⟩
  | .hbm, ⟨73, _⟩ => ⟨S4x8192x64, .f32⟩
  | .hbm, ⟨74, _⟩ => ⟨S8192x4x64, .f32⟩
  | .hbm, ⟨75, _⟩ => ⟨S8192x256, .f32⟩
  | .hbm, ⟨76, _⟩ => ⟨S8192x4x64, .f32⟩
  | .hbm, ⟨77, _⟩ => ⟨S4x8192x64, .f32⟩
  | .hbm, ⟨78, _⟩ => ⟨S4x64x8192, .f32⟩
  | .hbm, ⟨79, _⟩ => ⟨S4x8192x64, .f32⟩
  | .hbm, ⟨80, _⟩ => ⟨S4x8192x8192, .f32⟩
  | .hbm, ⟨81, _⟩ => ⟨S4x8192x8192, .f32⟩
  | .hbm, ⟨82, _⟩ => ⟨S4x8192x8192, .f32⟩
  | .hbm, ⟨83, _⟩ => ⟨S4x8192x8192, .f32⟩
  | .hbm, ⟨84, _⟩ => ⟨S_, .f32⟩
  | .hbm, ⟨85, _⟩ => ⟨S4x8192, .f32⟩
  | .hbm, ⟨86, _⟩ => ⟨S4x8192x1, .f32⟩
  | .hbm, ⟨87, _⟩ => ⟨S4x8192x1, .f32⟩
  | .hbm, ⟨88, _⟩ => ⟨S4x8192x8192, .f32⟩
  | .hbm, ⟨89, _⟩ => ⟨S4x8192x8192, .f32⟩
  | .hbm, ⟨90, _⟩ => ⟨S_, .f32⟩
  | .hbm, ⟨91, _⟩ => ⟨S4x8192, .f32⟩
  | .hbm, ⟨92, _⟩ => ⟨S4x8192x8192, .f32⟩
  | .hbm, ⟨93, _⟩ => ⟨S4x8192x8192, .f32⟩
  | .hbm, ⟨94, _⟩ => ⟨S4x8192x8192, .f32⟩
  | .hbm, ⟨95, _⟩ => ⟨S_, .f32⟩
  | .hbm, ⟨96, _⟩ => ⟨S4x8192x8192, .f32⟩
  | .hbm, ⟨97, _⟩ => ⟨S4x8192x8192, .f32⟩
  | .hbm, ⟨98, _⟩ => ⟨S_, .f32⟩
  | .hbm, ⟨99, _⟩ => ⟨S4x8192, .f32⟩
  | .hbm, ⟨100, _⟩ => ⟨S4x8192x1, .f32⟩
  | .hbm, ⟨101, _⟩ => ⟨S4x8192x8192, .f32⟩
  | .hbm, ⟨102, _⟩ => ⟨S_, .f32⟩
  | .hbm, ⟨103, _⟩ => ⟨S4x8192, .f32⟩
  | .hbm, ⟨104, _⟩ => ⟨S4x1x8192, .f32⟩
  | .hbm, ⟨105, _⟩ => ⟨S_, .f32⟩
  | .hbm, ⟨106, _⟩ => ⟨S4x8192, .f32⟩
  | .hbm, ⟨107, _⟩ => ⟨S_, .f32⟩
  | .hbm, ⟨108, _⟩ => ⟨S4x8192, .f32⟩
  | .hbm, ⟨109, _⟩ => ⟨S4x8192, .f32⟩
  | .hbm, ⟨110, _⟩ => ⟨S_, .f32⟩
  | .hbm, ⟨111, _⟩ => ⟨S4x8192x8192, .f32⟩
  | .hbm, ⟨112, _⟩ => ⟨S4x8192x8192, .f32⟩
  | .hbm, ⟨113, _⟩ => ⟨S4x8192x64, .f32⟩
  | .hbm, ⟨114, _⟩ => ⟨S4x8192x64, .f32⟩
  | .hbm, ⟨115, _⟩ => ⟨S8192x4, .f32⟩
  | .hbm, ⟨116, _⟩ => ⟨S8192x4x64, .f32⟩
  | .hbm, ⟨117, _⟩ => ⟨S8192x256, .f32⟩
  | .hbm, ⟨118, _⟩ => ⟨S8192x4x64, .f32⟩
  | .hbm, ⟨119, _⟩ => ⟨S8192x256, .f32⟩
  | .hbm, ⟨120, _⟩ => ⟨S8192x4x64, .f32⟩
  | .hbm, ⟨121, _⟩ => ⟨S8192x256, .f32⟩
  | .hbm, ⟨122, _⟩ => ⟨S_, .i32⟩
  | .hbm, ⟨123, _⟩ => ⟨S_, .f32⟩
  | .hbm, ⟨124, _⟩ => ⟨S8192x128, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_call0_v0 : Ref sig .tc := ⟨.hbm, 29, rfl⟩
abbrev main_v22_1 : Ref sig .tc := ⟨.hbm, 30, rfl⟩
abbrev main_call0_v2 : Ref sig .tc := ⟨.hbm, 31, rfl⟩
abbrev main_v22_0 : Ref sig .tc := ⟨.hbm, 32, rfl⟩
abbrev main_call0_cst : Ref sig .tc := ⟨.hbm, 33, rfl⟩
abbrev main_v22_2 : Ref sig .tc := ⟨.hbm, 34, rfl⟩
abbrev main_cst_1 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_9 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_10 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_11 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_12 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_call1_cst : Ref sig .tc := ⟨.hbm, 95, rfl⟩
abbrev main_call1_v0 : Ref sig .tc := ⟨.hbm, 96, rfl⟩
abbrev main_v71 : Ref sig .tc := ⟨.hbm, 97, rfl⟩
abbrev main_cst_13 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_14 : Ref sig .tc := ⟨.hbm, 102, rfl⟩
abbrev main_v75 : Ref sig .tc := ⟨.hbm, 103, rfl⟩
abbrev main_v76 : Ref sig .tc := ⟨.hbm, 104, rfl⟩
abbrev main_cst_15 : Ref sig .tc := ⟨.hbm, 105, rfl⟩
abbrev main_v77 : Ref sig .tc := ⟨.hbm, 106, rfl⟩
abbrev main_cst_16 : Ref sig .tc := ⟨.hbm, 107, rfl⟩
abbrev main_v78 : Ref sig .tc := ⟨.hbm, 108, rfl⟩
abbrev main_v79 : Ref sig .tc := ⟨.hbm, 109, rfl⟩
abbrev main_cst_17 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_c : Ref sig .tc := ⟨.hbm, 122, rfl⟩
abbrev main_call2_v0 : Ref sig .tc := ⟨.hbm, 123, rfl⟩
abbrev main_v91 : Ref sig .tc := ⟨.hbm, 124, rfl⟩

abbrev nD : Nat := 1
abbrev τ : Topo := Topo.v7x

variable {F : FTy → Type} [FloatOps F]
-- ==== KernelZ.lean ====
abbrev S8192x1024 : Shape := ⟨2, ![8192, 1024]⟩
abbrev S1024x8320 : Shape := ⟨2, ![1024, 8320]⟩
abbrev S8192x8320 : Shape := ⟨2, ![8192, 8320]⟩
abbrev S1024x1024 : Shape := ⟨2, ![1024, 1024]⟩
abbrev S1024x1664 : Shape := ⟨2, ![1024, 1664]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x8320, .bf16⟩
  | .hbm, ⟨2, _⟩ => ⟨S8192x8320, .f32⟩
  | .local _ .vmem, ⟨0, _⟩ => ⟨S1024x1024, .bf16⟩
  | .local _ .vmem, ⟨1, _⟩ => ⟨S1024x1024, .bf16⟩
  | .local _ .vmem, ⟨2, _⟩ => ⟨S1024x1664, .bf16⟩
  | .local _ .vmem, ⟨3, _⟩ => ⟨S1024x1664, .bf16⟩
  | .local _ .vmem, ⟨4, _⟩ => ⟨S1024x1664, .f32⟩
  | .local _ .vmem, ⟨5, _⟩ => ⟨S1024x1664, .f32⟩
  | .local _ .vmem, ⟨6, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceZIdeal.lean ====
abbrev S8192x1024 : Shape := ⟨2, ![8192, 1024]⟩
abbrev S1024x8320 : Shape := ⟨2, ![1024, 8320]⟩
abbrev S8192x8320 : Shape := ⟨2, ![8192, 8320]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x8320, .bf16⟩
  | .hbm, ⟨2, _⟩ => ⟨S8192x1024, .f32⟩
  | .hbm, ⟨3, _⟩ => ⟨S1024x8320, .f32⟩
  | .hbm, ⟨4, _⟩ => ⟨S8192x8320, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelDh.lean ====
abbrev S8192x8320 : Shape := ⟨2, ![8192, 8320]⟩
abbrev S1024x8320 : Shape := ⟨2, ![1024, 8320]⟩
abbrev S8192x1024 : Shape := ⟨2, ![8192, 1024]⟩
abbrev S256x8320 : Shape := ⟨2, ![256, 8320]⟩
abbrev S256x1024 : Shape := ⟨2, ![256, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x8320, .bf16⟩
  | .hbm, ⟨1, _⟩ => ⟨S1024x8320, .bf16⟩
  | .hbm, ⟨2, _⟩ => ⟨S8192x1024, .f32⟩
  | .local _ .vmem, ⟨0, _⟩ => ⟨S256x8320, .bf16⟩
  | .local _ .vmem, ⟨1, _⟩ => ⟨S256x8320, .bf16⟩
  | .local _ .vmem, ⟨2, _⟩ => ⟨S1024x8320, .bf16⟩
  | .local _ .vmem, ⟨3, _⟩ => ⟨S256x1024, .f32⟩
  | .local _ .vmem, ⟨4, _⟩ => ⟨S256x1024, .f32⟩
  | .local _ .vmem, ⟨5, _⟩ => ⟨S8x128, .f32⟩
  | _, _ => ⟨S8192x8320, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 32, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S256x8320 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x8320 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDhIdeal.lean ====
abbrev S8192x8320 : Shape := ⟨2, ![8192, 8320]⟩
abbrev S1024x8320 : Shape := ⟨2, ![1024, 8320]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x8320, .bf16⟩
  | .hbm, ⟨1, _⟩ => ⟨S1024x8320, .bf16⟩
  | .hbm, ⟨2, _⟩ => ⟨S_, .f32⟩
  | .hbm, ⟨3, _⟩ => ⟨S8192x1024, .f32⟩
  | .hbm, ⟨4, _⟩ => ⟨S1024x8320, .f32⟩
  | .hbm, ⟨5, _⟩ => ⟨S8192x8320, .f32⟩
  | .hbm, ⟨6, _⟩ => ⟨S8192x8320, .f32⟩
  | .hbm, ⟨7, _⟩ => ⟨S8192x1024, .f32⟩
  | _, _ => ⟨S8192x8320, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelDwz.lean ====
abbrev S8192x1024 : Shape := ⟨2, ![8192, 1024]⟩
abbrev S8192x8320 : Shape := ⟨2, ![8192, 8320]⟩
abbrev S1024x8320 : Shape := ⟨2, ![1024, 8320]⟩
abbrev S2048x1024 : Shape := ⟨2, ![2048, 1024]⟩
abbrev S2048x1664 : Shape := ⟨2, ![2048, 1664]⟩
abbrev S1024x1664 : Shape := ⟨2, ![1024, 1664]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x8320, .bf16⟩
  | .hbm, ⟨2, _⟩ => ⟨S1024x8320, .f32⟩
  | .local _ .vmem, ⟨0, _⟩ => ⟨S2048x1024, .bf16⟩
  | .local _ .vmem, ⟨1, _⟩ => ⟨S2048x1024, .bf16⟩
  | .local _ .vmem, ⟨2, _⟩ => ⟨S2048x1664, .bf16⟩
  | .local _ .vmem, ⟨3, _⟩ => ⟨S2048x1664, .bf16⟩
  | .local _ .vmem, ⟨4, _⟩ => ⟨S1024x1664, .f32⟩
  | .local _ .vmem, ⟨5, _⟩ => ⟨S1024x1664, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![5, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceDwzIdeal.lean ====
abbrev S8192x1024 : Shape := ⟨2, ![8192, 1024]⟩
abbrev S8192x8320 : Shape := ⟨2, ![8192, 8320]⟩
abbrev S_ : Shape := ⟨0, ![]⟩
abbrev S1024x8320 : Shape := ⟨2, ![1024, 8320]⟩
abbrev S8320x1024 : Shape := ⟨2, ![8320, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x8320, .bf16⟩
  | .hbm, ⟨2, _⟩ => ⟨S_, .f32⟩
  | .hbm, ⟨3, _⟩ => ⟨S1024x8320, .f32⟩
  | .hbm, ⟨4, _⟩ => ⟨S8192x1024, .f32⟩
  | .hbm, ⟨5, _⟩ => ⟨S8192x8320, .f32⟩
  | .hbm, ⟨6, _⟩ => ⟨S8192x8320, .f32⟩
  | .hbm, ⟨7, _⟩ => ⟨S8320x1024, .f32⟩
  | .hbm, ⟨8, _⟩ => ⟨S1024x8320, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelDwg.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== ReferenceDwgIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelDwp.lean ====
abbrev S8192x256 : Shape := ⟨2, ![8192, 256]⟩
abbrev S8192x1024 : Shape := ⟨2, ![8192, 1024]⟩
abbrev S256x1024 : Shape := ⟨2, ![256, 1024]⟩
abbrev S2048x256 : Shape := ⟨2, ![2048, 256]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x256, .bf16⟩
  | .hbm, ⟨1, _⟩ => ⟨S8192x1024, .bf16⟩
  | .hbm, ⟨2, _⟩ => ⟨S256x1024, .f32⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S2048x1024, .bf16⟩
  | .local _ .vmem, ⟨4, _⟩ => ⟨S256x1024, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== ReferenceDwpIdeal.lean ====
abbrev S8192x256 : Shape := ⟨2, ![8192, 256]⟩
abbrev S8192x1024 : Shape := ⟨2, ![8192, 1024]⟩
abbrev S_ : Shape := ⟨0, ![]⟩
abbrev S256x1024 : Shape := ⟨2, ![256, 1024]⟩
abbrev S1024x256 : Shape := ⟨2, ![1024, 256]⟩

abbrev nBuf : Space → Nat
  | .hbm => 9
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S8192x1024, .bf16⟩
  | .hbm, ⟨2, _⟩ => ⟨S_, .f32⟩
  | .hbm, ⟨3, _⟩ => ⟨S256x1024, .f32⟩
  | .hbm, ⟨4, _⟩ => ⟨S8192x256, .f32⟩
  | .hbm, ⟨5, _⟩ => ⟨S8192x1024, .f32⟩
  | .hbm, ⟨6, _⟩ => ⟨S8192x1024, .f32⟩
  | .hbm, ⟨7, _⟩ => ⟨S1024x256, .f32⟩
  | .hbm, ⟨8, _⟩ => ⟨S256x1024, .f32⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelDwo.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== ReferenceDwoIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelDwup0.lean ====
abbrev S8192x256 : Shape := ⟨2, ![8192, 256]⟩
abbrev S8192x4096 : Shape := ⟨2, ![8192, 4096]⟩
abbrev S256x1024 : Shape := ⟨2, ![256, 1024]⟩
abbrev S2048x256 : Shape := ⟨2, ![2048, 256]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x256, .bf16⟩
  | .hbm, ⟨1, _⟩ => ⟨S8192x4096, .bf16⟩
  | .hbm, ⟨2, _⟩ => ⟨S256x1024, .f32⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S2048x1024, .bf16⟩
  | .local _ .vmem, ⟨4, _⟩ => ⟨S256x1024, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== KernelDwup0Ideal.lean ====
  let v0 : BitVec 32 := Scalar.addi c0_i32 arg0
  let c0_i32_0 : BitVec 32 := 0#32
-- ==== ReferenceDwup0Ideal.lean ====
abbrev S8192x256 : Shape := ⟨2, ![8192, 256]⟩
abbrev S8192x4096 : Shape := ⟨2, ![8192, 4096]⟩
abbrev S8192x1024 : Shape := ⟨2, ![8192, 1024]⟩
abbrev S_ : Shape := ⟨0, ![]⟩
abbrev S256x1024 : Shape := ⟨2, ![256, 1024]⟩
abbrev S1024x256 : Shape := ⟨2, ![1024, 256]⟩

abbrev nBuf : Space → Nat
  | .hbm => 10
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S8192x4096, .bf16⟩
  | .hbm, ⟨2, _⟩ => ⟨S8192x1024, .bf16⟩
  | .hbm, ⟨3, _⟩ => ⟨S_, .f32⟩
  | .hbm, ⟨4, _⟩ => ⟨S256x1024, .f32⟩
  | .hbm, ⟨5, _⟩ => ⟨S8192x256, .f32⟩
  | .hbm, ⟨6, _⟩ => ⟨S8192x1024, .f32⟩
  | .hbm, ⟨7, _⟩ => ⟨S8192x1024, .f32⟩
  | .hbm, ⟨8, _⟩ => ⟨S1024x256, .f32⟩
  | .hbm, ⟨9, _⟩ => ⟨S256x1024, .f32⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelDwup1.lean ====
abbrev S8192x256 : Shape := ⟨2, ![8192, 256]⟩
abbrev S8192x4096 : Shape := ⟨2, ![8192, 4096]⟩
abbrev S256x1024 : Shape := ⟨2, ![256, 1024]⟩
abbrev S2048x256 : Shape := ⟨2, ![2048, 256]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x256, .bf16⟩
  | .hbm, ⟨1, _⟩ => ⟨S8192x4096, .bf16⟩
  | .hbm, ⟨2, _⟩ => ⟨S256x1024, .f32⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S2048x1024, .bf16⟩
  | .local _ .vmem, ⟨4, _⟩ => ⟨S256x1024, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== KernelDwup1Ideal.lean ====
  let c1_i32 : BitVec 32 := 1#32
  let v0 : BitVec 32 := Scalar.addi c1_i32 arg0
-- ==== ReferenceDwup1Ideal.lean ====
abbrev S8192x256 : Shape := ⟨2, ![8192, 256]⟩
abbrev S8192x4096 : Shape := ⟨2, ![8192, 4096]⟩
abbrev S8192x1024 : Shape := ⟨2, ![8192, 1024]⟩
abbrev S_ : Shape := ⟨0, ![]⟩
abbrev S256x1024 : Shape := ⟨2, ![256, 1024]⟩
abbrev S1024x256 : Shape := ⟨2, ![1024, 256]⟩

abbrev nBuf : Space → Nat
  | .hbm => 10
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S8192x4096, .bf16⟩
  | .hbm, ⟨2, _⟩ => ⟨S8192x1024, .bf16⟩
  | .hbm, ⟨3, _⟩ => ⟨S_, .f32⟩
  | .hbm, ⟨4, _⟩ => ⟨S256x1024, .f32⟩
  | .hbm, ⟨5, _⟩ => ⟨S8192x256, .f32⟩
  | .hbm, ⟨6, _⟩ => ⟨S8192x1024, .f32⟩
  | .hbm, ⟨7, _⟩ => ⟨S8192x1024, .f32⟩
  | .hbm, ⟨8, _⟩ => ⟨S1024x256, .f32⟩
  | .hbm, ⟨9, _⟩ => ⟨S256x1024, .f32⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelDwup2.lean ====
abbrev S8192x256 : Shape := ⟨2, ![8192, 256]⟩
abbrev S8192x4096 : Shape := ⟨2, ![8192, 4096]⟩
abbrev S256x1024 : Shape := ⟨2, ![256, 1024]⟩
abbrev S2048x256 : Shape := ⟨2, ![2048, 256]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x256, .bf16⟩
  | .hbm, ⟨1, _⟩ => ⟨S8192x4096, .bf16⟩
  | .hbm, ⟨2, _⟩ => ⟨S256x1024, .f32⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S2048x1024, .bf16⟩
  | .local _ .vmem, ⟨4, _⟩ => ⟨S256x1024, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== KernelDwup2Ideal.lean ====
  let c2_i32 : BitVec 32 := 2#32
  let v0 : BitVec 32 := Scalar.addi c2_i32 arg0
-- ==== ReferenceDwup2Ideal.lean ====
abbrev S8192x256 : Shape := ⟨2, ![8192, 256]⟩
abbrev S8192x4096 : Shape := ⟨2, ![8192, 4096]⟩
abbrev S8192x1024 : Shape := ⟨2, ![8192, 1024]⟩
abbrev S_ : Shape := ⟨0, ![]⟩
abbrev S256x1024 : Shape := ⟨2, ![256, 1024]⟩
abbrev S1024x256 : Shape := ⟨2, ![1024, 256]⟩

abbrev nBuf : Space → Nat
  | .hbm => 10
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S8192x4096, .bf16⟩
  | .hbm, ⟨2, _⟩ => ⟨S8192x1024, .bf16⟩
  | .hbm, ⟨3, _⟩ => ⟨S_, .f32⟩
  | .hbm, ⟨4, _⟩ => ⟨S256x1024, .f32⟩
  | .hbm, ⟨5, _⟩ => ⟨S8192x256, .f32⟩
  | .hbm, ⟨6, _⟩ => ⟨S8192x1024, .f32⟩
  | .hbm, ⟨7, _⟩ => ⟨S8192x1024, .f32⟩
  | .hbm, ⟨8, _⟩ => ⟨S1024x256, .f32⟩
  | .hbm, ⟨9, _⟩ => ⟨S256x1024, .f32⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelDwup3.lean ====
abbrev S8192x256 : Shape := ⟨2, ![8192, 256]⟩
abbrev S8192x4096 : Shape := ⟨2, ![8192, 4096]⟩
abbrev S256x1024 : Shape := ⟨2, ![256, 1024]⟩
abbrev S2048x256 : Shape := ⟨2, ![2048, 256]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x256, .bf16⟩
  | .hbm, ⟨1, _⟩ => ⟨S8192x4096, .bf16⟩
  | .hbm, ⟨2, _⟩ => ⟨S256x1024, .f32⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S2048x1024, .bf16⟩
  | .local _ .vmem, ⟨4, _⟩ => ⟨S256x1024, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== ReferenceDwup3Ideal.lean ====
abbrev S8192x256 : Shape := ⟨2, ![8192, 256]⟩
abbrev S8192x4096 : Shape := ⟨2, ![8192, 4096]⟩
abbrev S8192x1024 : Shape := ⟨2, ![8192, 1024]⟩
abbrev S_ : Shape := ⟨0, ![]⟩
abbrev S256x1024 : Shape := ⟨2, ![256, 1024]⟩
abbrev S1024x256 : Shape := ⟨2, ![1024, 256]⟩

abbrev nBuf : Space → Nat
  | .hbm => 10
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S8192x4096, .bf16⟩
  | .hbm, ⟨2, _⟩ => ⟨S8192x1024, .bf16⟩
  | .hbm, ⟨3, _⟩ => ⟨S_, .f32⟩
  | .hbm, ⟨4, _⟩ => ⟨S256x1024, .f32⟩
  | .hbm, ⟨5, _⟩ => ⟨S8192x256, .f32⟩
  | .hbm, ⟨6, _⟩ => ⟨S8192x1024, .f32⟩
  | .hbm, ⟨7, _⟩ => ⟨S8192x1024, .f32⟩
  | .hbm, ⟨8, _⟩ => ⟨S1024x256, .f32⟩
  | .hbm, ⟨9, _⟩ => ⟨S256x1024, .f32⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelMerge.lean ====
abbrev S8192x1024 : Shape := ⟨2, ![8192, 1024]⟩
abbrev S8192x8320 : Shape := ⟨2, ![8192, 8320]⟩
abbrev S8192x256 : Shape := ⟨2, ![8192, 256]⟩
abbrev S4x256x1024 : Shape := ⟨3, ![4, 256, 1024]⟩
abbrev S4x1024 : Shape := ⟨2, ![4, 1024]⟩
abbrev S1024x1024 : Shape := ⟨2, ![1024, 1024]⟩
abbrev S512x1024 : Shape := ⟨2, ![512, 1024]⟩
abbrev S512x4096 : Shape := ⟨2, ![512, 4096]⟩
abbrev S512x256 : Shape := ⟨2, ![512, 256]⟩
abbrev S1x1024 : Shape := ⟨2, ![1, 1024]⟩
abbrev S1x256x1024 : Shape := ⟨3, ![1, 256, 1024]⟩
abbrev S256x1024 : Shape := ⟨2, ![256, 1024]⟩

abbrev nBuf : Space → Nat
  | .hbm => 11
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S8192x8320, .f32⟩
  | .hbm, ⟨2, _⟩ => ⟨S8192x256, .bf16⟩
  | .hbm, ⟨3, _⟩ => ⟨S8192x256, .bf16⟩
  | .hbm, ⟨4, _⟩ => ⟨S8192x256, .bf16⟩
  | .hbm, ⟨5, _⟩ => ⟨S8192x256, .bf16⟩
  | .hbm, ⟨6, _⟩ => ⟨S4x256x1024, .bf16⟩
  | .hbm, ⟨7, _⟩ => ⟨S4x1024, .f32⟩
  | .hbm, ⟨8, _⟩ => ⟨S1024x1024, .bf16⟩
  | .hbm, ⟨9, _⟩ => ⟨S8192x1024, .f32⟩
  | .hbm, ⟨10, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x4096, .f32⟩
  | .local _ .vmem, ⟨3, _⟩ => ⟨S512x4096, .f32⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S4x256x1024, .bf16⟩
  | .local _ .vmem, ⟨13, _⟩ => ⟨S4x1024, .f32⟩
  | .local _ .vmem, ⟨14, _⟩ => ⟨S1024x1024, .bf16⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceMergeIdeal.lean ====
abbrev S8192x1024 : Shape := ⟨2, ![8192, 1024]⟩
abbrev S8192x8320 : Shape := ⟨2, ![8192, 8320]⟩
abbrev S8192x256 : Shape := ⟨2, ![8192, 256]⟩
abbrev S4x256x1024 : Shape := ⟨3, ![4, 256, 1024]⟩
abbrev S4x1024 : Shape := ⟨2, ![4, 1024]⟩
abbrev S1024x1024 : Shape := ⟨2, ![1024, 1024]⟩
abbrev S1x8192x256 : Shape := ⟨3, ![1, 8192, 256]⟩
abbrev S4x8192x256 : Shape := ⟨3, ![4, 8192, 256]⟩
abbrev S8192x4096 : Shape := ⟨2, ![8192, 4096]⟩
abbrev S8192x4x1024 : Shape := ⟨3, ![8192, 4, 1024]⟩
abbrev S4x1024x8192 : Shape := ⟨3, ![4, 1024, 8192]⟩
abbrev S1x4x1024 : Shape := ⟨3, ![1, 4, 1024]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x8320, .f32⟩
  | .hbm, ⟨2, _⟩ => ⟨S8192x256, .bf16⟩
  | .hbm, ⟨3, _⟩ => ⟨S8192x256, .bf16⟩
  | .hbm, ⟨4, _⟩ => ⟨S8192x256, .bf16⟩
  | .hbm, ⟨5, _⟩ => ⟨S8192x256, .bf16⟩
  | .hbm, ⟨6, _⟩ => ⟨S4x256x1024, .bf16⟩
  | .hbm, ⟨7, _⟩ => ⟨S4x1024, .f32⟩
  | .hbm, ⟨8, _⟩ => ⟨S1024x1024, .bf16⟩
  | .hbm, ⟨9, _⟩ => ⟨S1x8192x256, .bf16⟩
  | .hbm, ⟨10, _⟩ => ⟨S1x8192x256, .bf16⟩
  | .hbm, ⟨11, _⟩ => ⟨S1x8192x256, .bf16⟩
  | .hbm, ⟨12, _⟩ => ⟨S1x8192x256, .bf16⟩
  | .hbm, ⟨13, _⟩ => ⟨S4x8192x256, .bf16⟩
  | .hbm, ⟨14, _⟩ => ⟨S4x8192x256, .f32⟩
  | .hbm, ⟨15, _⟩ => ⟨S8192x4096, .f32⟩
  | .hbm, ⟨16, _⟩ => ⟨S8192x4x1024, .f32⟩
  | .hbm, ⟨17, _⟩ => ⟨S4x256x1024, .f32⟩
  | .hbm, ⟨18, _⟩ => ⟨S1024x1024, .f32⟩
  | .hbm, ⟨19, _⟩ => ⟨S4x1024x8192, .f32⟩
  | .hbm, ⟨20, _⟩ => ⟨S8192x4x1024, .f32⟩
  | .hbm, ⟨21, _⟩ => ⟨S1x4x1024, .f32⟩
  | .hbm, ⟨22, _⟩ => ⟨S8192x4x1024, .f32⟩
  | .hbm, ⟨23, _⟩ => ⟨S8192x4x1024, .f32⟩
  | .hbm, ⟨24, _⟩ => ⟨S8192x4x1024, .f32⟩
  | .hbm, ⟨25, _⟩ => ⟨S8192x4x1024, .f32⟩
  | .hbm, ⟨26, _⟩ => ⟨S_, .f32⟩
  | .hbm, ⟨27, _⟩ => ⟨S8192x4x1024, .f32⟩
  | .hbm, ⟨28, _⟩ => ⟨S8192x4x1024, .f32⟩
  | .hbm, ⟨29, _⟩ => ⟨S_, .f32⟩
  | .hbm, ⟨30, _⟩ => ⟨S8192x4x1024, .f32⟩
  | .hbm, ⟨31, _⟩ => ⟨S8192x4x1024, .f32⟩
  | .hbm, ⟨32, _⟩ => ⟨S8192x4x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_cst_0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩

abbrev nD : Nat := 1
abbrev τ : Topo := Topo.v7x

variable {F : FTy → Type} [FloatOps F]
-- ==== KernelDmerge.lean ====
abbrev S8192x1024 : Shape := ⟨2, ![8192, 1024]⟩
abbrev S8192x8320 : Shape := ⟨2, ![8192, 8320]⟩
abbrev S8192x256 : Shape := ⟨2, ![8192, 256]⟩
abbrev S4x256x1024 : Shape := ⟨3, ![4, 256, 1024]⟩
abbrev S4x1024 : Shape := ⟨2, ![4, 1024]⟩
abbrev S1024x1024 : Shape := ⟨2, ![1024, 1024]⟩
abbrev S8192x4096 : Shape := ⟨2, ![8192, 4096]⟩
abbrev S8x1024 : Shape := ⟨2, ![8, 1024]⟩
abbrev S512x1024 : Shape := ⟨2, ![512, 1024]⟩
abbrev S512x4096 : Shape := ⟨2, ![512, 4096]⟩
abbrev S512x256 : Shape := ⟨2, ![512, 256]⟩
abbrev S1x256x1024 : Shape := ⟨3, ![1, 256, 1024]⟩
abbrev S256x1024 : Shape := ⟨2, ![256, 1024]⟩
abbrev S1x1024 : Shape := ⟨2, ![1, 1024]⟩
abbrev S1024 : Shape := ⟨1, ![1024]⟩

abbrev nBuf : Space → Nat
  | .hbm => 14
  | .vmem => 24
  | .smem => 0
  | _ => 0

abbrev bufTy : (tb : Table) → Fin (tcTables nBuf tb) → BufTy
  | .hbm, ⟨0, _⟩ => ⟨S8192x1024, .f32⟩
  | .hbm, ⟨1, _⟩ => ⟨S8192x8320, .f32⟩
  | .hbm, ⟨2, _⟩ => ⟨S8192x256, .bf16⟩
  | .hbm, ⟨3, _⟩ => ⟨S8192x256, .bf16⟩
  | .hbm, ⟨4, _⟩ => ⟨S8192x256, .bf16⟩
  | .hbm, ⟨5, _⟩ => ⟨S8192x256, .bf16⟩
  | .hbm, ⟨6, _⟩ => ⟨S4x256x1024, .bf16⟩
  | .hbm, ⟨7, _⟩ => ⟨S4x1024, .f32⟩
  | .hbm, ⟨8, _⟩ => ⟨S1024x1024, .bf16⟩
  | .hbm, ⟨9, _⟩ => ⟨S8192x8320, .bf16⟩
  | .hbm, ⟨10, _⟩ => ⟨S8192x4096, .bf16⟩
  | .hbm, ⟨11, _⟩ => ⟨S8192x1024, .bf16⟩
  | .hbm, ⟨12, _⟩ => ⟨S8192x1024, .f32⟩
  | .hbm, ⟨13, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x4096, .f32⟩
  | .local _ .vmem, ⟨3, _⟩ => ⟨S512x4096, .f32⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S4x256x1024, .bf16⟩
  | .local _ .vmem, ⟨13, _⟩ => ⟨S4x1024, .f32⟩
  | .local _ .vmem, ⟨14, _⟩ => ⟨S1024x1024, .bf16⟩
  | .local _ .vmem, ⟨15, _⟩ => ⟨S512x4096, .bf16⟩
  | .local _ .vmem, ⟨16, _⟩ => ⟨S512x4096, .bf16⟩
  | .local _ .vmem, ⟨17, _⟩ => ⟨S512x4096, .bf16⟩
  | .local _ .vmem, ⟨18, _⟩ => ⟨S512x4096, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .f32⟩
  | .local _ .vmem, ⟨22, _⟩ => ⟨S512x1024, .f32⟩
  | .local _ .vmem, ⟨23, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceDmergeIdeal.lean ====
abbrev S8192x1024 : Shape := ⟨2, ![8192, 1024]⟩
abbrev S8192x8320 : Shape := ⟨2, ![8192, 8320]⟩
abbrev S8192x256 : Shape := ⟨2, ![8192, 256]⟩
abbrev S4x256x1024 : Shape := ⟨3, ![4, 256, 1024]⟩
abbrev S4x1024 : Shape := ⟨2, ![4, 1024]⟩
abbrev S1024x1024 : Shape := ⟨2, ![1024, 1024]⟩
abbrev S1x8192x256 : Shape := ⟨3, ![1, 8192, 256]⟩
abbrev S4x8192x256 : Shape := ⟨3, ![4, 8192, 256]⟩
abbrev S8192x4096 : Shape := ⟨2, ![8192, 4096]⟩
abbrev S8192x4x1024 : Shape := ⟨3, ![8192, 4, 1024]⟩
abbrev S4x1024x8192 : Shape := ⟨3, ![4, 1024, 8192]⟩
abbrev S1x4x1024 : Shape := ⟨3, ![1, 4, 1024]⟩
abbrev S_ : Shape := ⟨0, ![]⟩
abbrev S8192x4x256 : Shape := ⟨3, ![8192, 4, 256]⟩
abbrev S8x1024 : Shape := ⟨2, ![8, 1024]⟩

abbrev nBuf : Space → Nat
  | .hbm => 60
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x8320, .f32⟩
  | .hbm, ⟨2, _⟩ => ⟨S8192x256, .bf16⟩
  | .hbm, ⟨3, _⟩ => ⟨S8192x256, .bf16⟩
  | .hbm, ⟨4, _⟩ => ⟨S8192x256, .bf16⟩
  | .hbm, ⟨5, _⟩ => ⟨S8192x256, .bf16⟩
  | .hbm, ⟨6, _⟩ => ⟨S4x256x1024, .bf16⟩
  | .hbm, ⟨7, _⟩ => ⟨S4x1024, .f32⟩
  | .hbm, ⟨8, _⟩ => ⟨S1024x1024, .bf16⟩
  | .hbm, ⟨9, _⟩ => ⟨S1x8192x256, .bf16⟩
  | .hbm, ⟨10, _⟩ => ⟨S1x8192x256, .bf16⟩
  | .hbm, ⟨11, _⟩ => ⟨S1x8192x256, .bf16⟩
  | .hbm, ⟨12, _⟩ => ⟨S1x8192x256, .bf16⟩
  | .hbm, ⟨13, _⟩ => ⟨S4x8192x256, .bf16⟩
  | .hbm, ⟨14, _⟩ => ⟨S4x8192x256, .f32⟩
  | .hbm, ⟨15, _⟩ => ⟨S8192x4096, .f32⟩
  | .hbm, ⟨16, _⟩ => ⟨S8192x4x1024, .f32⟩
  | .hbm, ⟨17, _⟩ => ⟨S4x256x1024, .f32⟩
  | .hbm, ⟨18, _⟩ => ⟨S1024x1024, .f32⟩
  | .hbm, ⟨19, _⟩ => ⟨S4x1024x8192, .f32⟩
  | .hbm, ⟨20, _⟩ => ⟨S8192x4x1024, .f32⟩
  | .hbm, ⟨21, _⟩ => ⟨S1x4x1024, .f32⟩
  | .hbm, ⟨22, _⟩ => ⟨S8192x4x1024, .f32⟩
  | .hbm, ⟨23, _⟩ => ⟨S8192x4x1024, .f32⟩
  | .hbm, ⟨24, _⟩ => ⟨S8192x4x1024, .f32⟩
  | .hbm, ⟨25, _⟩ => ⟨S8192x4x1024, .f32⟩
  | .hbm, ⟨26, _⟩ => ⟨S_, .f32⟩
  | .hbm, ⟨27, _⟩ => ⟨S8192x4x1024, .f32⟩
  | .hbm, ⟨28, _⟩ => ⟨S8192x4x1024, .f32⟩
  | .hbm, ⟨29, _⟩ => ⟨S_, .f32⟩
  | .hbm, ⟨30, _⟩ => ⟨S8192x4x1024, .f32⟩
  | .hbm, ⟨31, _⟩ => ⟨S8192x4x1024, .f32⟩
  | .hbm, ⟨32, _⟩ => ⟨S_, .f32⟩
  | .hbm, ⟨33, _⟩ => ⟨S8192x4x1024, .f32⟩
  | .hbm, ⟨34, _⟩ => ⟨S8192x4x1024, .f32⟩
  | .hbm, ⟨35, _⟩ => ⟨S8192x4x1024, .f32⟩
  | .hbm, ⟨36, _⟩ => ⟨S8192x4x1024, .f32⟩
  | .hbm, ⟨37, _⟩ => ⟨S_, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x4x1024, .f32⟩
  | .hbm, ⟨42, _⟩ => ⟨S8192x4x1024, .f32⟩
  | .hbm, ⟨43, _⟩ => ⟨S8192x4x1024, .f32⟩
  | .hbm, ⟨44, _⟩ => ⟨S8192x4x1024, .f32⟩
  | .hbm, ⟨45, _⟩ => ⟨S_, .f32⟩
  | .hbm, ⟨46, _⟩ => ⟨S4x1024, .f32⟩
  | .hbm, ⟨47, _⟩ => ⟨S1x4x1024, .f32⟩
  | .hbm, ⟨48, _⟩ => ⟨S_, .f32⟩
  | .hbm, ⟨49, _⟩ => ⟨S4x1024, .f32⟩
  | .hbm, ⟨50, _⟩ => ⟨S4x1024x8192, .f32⟩
  | .hbm, ⟨51, _⟩ => ⟨S4x8192x256, .f32⟩
  | .hbm, ⟨52, _⟩ => ⟨S8192x4096, .f32⟩
  | .hbm, ⟨53, _⟩ => ⟨S8192x4096, .bf16⟩
  | .hbm, ⟨54, _⟩ => ⟨S8192x1024, .bf16⟩
  | .hbm, ⟨55, _⟩ => ⟨S8192x4x256, .f32⟩
  | .hbm, ⟨56, _⟩ => ⟨S8192x1024, .f32⟩
  | .hbm, ⟨57, _⟩ => ⟨S_, .i32⟩
  | .hbm, ⟨58, _⟩ => ⟨S_, .f32⟩
  | .hbm, ⟨59, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_cst_0 : Ref sig .tc := ⟨.hbm, 29, rfl⟩
abbrev main_v19 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_c : Ref sig .tc := ⟨.hbm, 57, rfl⟩
abbrev main_call0_v0 : Ref sig .tc := ⟨.hbm, 58, rfl⟩
abbrev main_v42 : Ref sig .tc := ⟨.hbm, 59, rfl⟩

abbrev nD : Nat := 1
abbrev τ : Topo := Topo.v7x

variable {F : FTy → Type} [FloatOps F]
-- ==== KernelPle.lean ====
abbrev S8192x1024 : Shape := ⟨2, ![8192, 1024]⟩
abbrev S8192x256 : Shape := ⟨2, ![8192, 256]⟩
abbrev S1x1024 : Shape := ⟨2, ![1, 1024]⟩
abbrev S1024x1024 : Shape := ⟨2, ![1024, 1024]⟩
abbrev S256x1024 : Shape := ⟨2, ![256, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 6
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S1x1024, .f32⟩
  | .hbm, ⟨3, _⟩ => ⟨S1024x1024, .bf16⟩
  | .hbm, ⟨4, _⟩ => ⟨S256x1024, .bf16⟩
  | .hbm, ⟨5, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S1x1024, .f32⟩
  | .local _ .vmem, ⟨5, _⟩ => ⟨S1024x1024, .bf16⟩
  | .local _ .vmem, ⟨6, _⟩ => ⟨S256x1024, .bf16⟩
  | .local _ .vmem, ⟨7, _⟩ => ⟨S512x1024, .f32⟩
  | .local _ .vmem, ⟨8, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferencePleIdeal.lean ====
abbrev S8192x1024 : Shape := ⟨2, ![8192, 1024]⟩
abbrev S8192x256 : Shape := ⟨2, ![8192, 256]⟩
abbrev S1x1024 : Shape := ⟨2, ![1, 1024]⟩
abbrev S1024x1024 : Shape := ⟨2, ![1024, 1024]⟩
abbrev S256x1024 : Shape := ⟨2, ![256, 1024]⟩
abbrev S_ : Shape := ⟨0, ![]⟩
abbrev S8192 : Shape := ⟨1, ![8192]⟩
abbrev S8192x1 : Shape := ⟨2, ![8192, 1]⟩

abbrev nBuf : Space → Nat
  | .hbm => 34
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S1x1024, .f32⟩
  | .hbm, ⟨3, _⟩ => ⟨S1024x1024, .bf16⟩
  | .hbm, ⟨4, _⟩ => ⟨S256x1024, .bf16⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S1024x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S256x1024, .f32⟩
  | .hbm, ⟨31, _⟩ => ⟨S8192x1024, .f32⟩
  | .hbm, ⟨32, _⟩ => ⟨S8192x1024, .f32⟩
  | .hbm, ⟨33, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== Proof.InputProjection.lean ====
/-
  The input projection: every grid point writes one tile of the product, whole.
-/
module

public import proofs.«01_k».proof.Proof.Gen.KernelZIdeal.Value
public import proofs.«01_k».proof.Proof.Gen.ReferenceZIdeal.Run
public import proofs.«01_k».proof.Proof.Gen.ReferenceZIdeal.Read
public import Idealize.ShloMosaic.Lib.Pipeline.ValueKit
public import Idealize.ShloMosaic.Lib.Pipeline.ReadBack

@[expose] public section

set_option maxRecDepth 16384

noncomputable section

namespace Cert.Products.Projection

open Idealize.ShloMosaic Idealize.ShloMosaic.TcCoe Idealize.SL.Sem Cert.KernelZIdeal Cert.KernelZIdeal.Gen

variable (m : (ℓ : Loc nD τ sig) → Buf (Elt Ideal) ℓ) (c : Dev nD) (t : Fin cfg0.N)

/-- The blocks that a point reads. -/
abbrev aBlock : FVec Ideal S1024x1024 .bf16 := iblk m c 0 t

abbrev bBlock : FVec Ideal S1024x1664 .bf16 := iblk m c 1 t

/-- The tile of a point is the product of its two blocks. -/
theorem tile (s : Fin 1024) (l : Fin 1664) :
    outsAt0 (F := Ideal) m c t (ix2 s l) = ∑ k : Fin 1024, aBlock m c t (ix2 s k) * bBlock m c t (ix2 k l) := by
  unfold outsAt0 aBlock bBlock
  frame_out
  generalize iblk m c 0 t = x
  generalize iblk m c 1 t = y
  pointwise [k0_pay1]

/-- The rows of a tile, and its columns. -/
theorem index_a : ∀ t : Fin cfg0.N, win0_0.index t = ![t.val % 8, 0] := by decide +kernel

theorem index_b : ∀ t : Fin cfg0.N, win0_1.index t = ![0, t.val / 8] := by decide +kernel

theorem index_o : ∀ t : Fin cfg0.N, win0_2.index t = ![t.val % 8, t.val / 8] := by decide +kernel

abbrev rowOf (s : Fin 1024) : Fin 8192 := ⟨1024 * (t.val % 8) + s.val, by omega⟩

abbrev colOf (l : Fin 1664) : Fin 8320 := ⟨1664 * (t.val / 8) + l.val, by have : t.val < 40 := t.isLt; omega⟩

theorem a_block (s : Fin 1024) (k : Fin 1024) : aBlock m c t (ix2 s k) = m ((c : Thread nD τ).loc main_arg0) (ix2 (rowOf t s) k) := by
  rw [← V_main_arg0 m c]
  blk_ext [aBlock, iblk, index_a t]

theorem b_block (k : Fin 1024) (l : Fin 1664) : bBlock m c t (ix2 k l) = m ((c : Thread nD τ).loc main_arg1) (ix2 k (colOf t l)) := by
  rw [← V_main_arg1 m c]
  blk_ext [bBlock, iblk, index_b t]

/-- The reference, at an element. -/
theorem reference_apply (x : (⟨S8192x1024, .bf16⟩ : BufTy).Contents (Elt Ideal)) (w : (⟨S1024x8320, .bf16⟩ : BufTy).Contents (Elt Ideal)) (r : Fin 8192) (n : Fin 8320) :
    Cert.ReferenceZIdeal.Read.val_main_v2 (F := Ideal) x w (ix2 r n) = ∑ k : Fin 1024, x (ix2 r k) * w (ix2 k n) := by
  unfold Cert.ReferenceZIdeal.Read.val_main_v2 Cert.ReferenceZIdeal.Read.val_main_v0 Cert.ReferenceZIdeal.Read.val_main_v1
  pointwise []

/-- The tile of a point is the product's tile. -/
theorem tile_eq (s : Fin 1024) (l : Fin 1664) :
    outsAt0 (F := Ideal) m c t (ix2 s l)
      = Cert.ReferenceZIdeal.Read.val_main_v2 (F := Ideal) (m ((c : Thread nD τ).loc main_arg0)) (m ((c : Thread nD τ).loc main_arg1)) (ix2 (rowOf t s) (colOf t l)) := by
  rw [tile, reference_apply]
  exact Finset.sum_congr rfl fun k _ => congrArg₂ _ (a_block m c t s k) (b_block m c t k l)

/-- The array that the call leaves is the product. -/
theorem result : (dats m 0 c).arrAt 2 cfg0.N
    = Cert.ReferenceZIdeal.Read.val_main_v2 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  obtain ⟨s, l, rfl⟩ : ∃ s l, y = ix2 s l := ⟨y 0, y 1, by ext i; fin_cases i <;> rfl⟩
  have e : (win0_2.blk t).view.emb (ix2 s l) = ix2 (rowOf t s) (colOf t l) := by
    blk_ext [index_o t]
  rw [e]
  exact tile_eq m c t s l

/-- Equal arguments, equal products. -/
theorem congr {x x' : (⟨S8192x1024, .bf16⟩ : BufTy).Contents (Elt Ideal)} {w w' : (⟨S1024x8320, .bf16⟩ : BufTy).Contents (Elt Ideal)} (ex : x = x') (ew : w = w') :
    Cert.ReferenceZIdeal.Read.val_main_v2 (F := Ideal) x w = Cert.ReferenceZIdeal.Read.val_main_v2 x' w' := by
  subst ex ew
  rfl

end Cert.Products.Projection

end
-- ==== Proof.InputGradient.lean ====
/-
  The input projection's gradient in its rows: every grid point writes 256 rows of the product with the weights' transpose.
-/
module

public import proofs.«01_k».proof.Proof.Gen.KernelDhIdeal.Value
public import proofs.«01_k».proof.Proof.Gen.ReferenceDhIdeal.Run
public import proofs.«01_k».proof.Proof.Gen.ReferenceDhIdeal.Read
public import Idealize.ShloMosaic.Lib.Pipeline.ValueKit
public import Idealize.ShloMosaic.Lib.Pipeline.ReadBack

@[expose] public section

set_option maxRecDepth 16384

noncomputable section

namespace Cert.Products.Gradient

open Idealize.ShloMosaic Idealize.ShloMosaic.TcCoe Idealize.SL.Sem Cert.KernelDhIdeal Cert.KernelDhIdeal.Gen

variable (m : (ℓ : Loc nD τ sig) → Buf (Elt Ideal) ℓ) (c : Dev nD) (t : Fin cfg0.N)

/-- The blocks that a point reads. -/
abbrev aBlock : FVec Ideal S256x8320 .bf16 := iblk m c 0 t

abbrev bBlock : FVec Ideal S1024x8320 .bf16 := iblk m c 1 t

/-- The tile of a point is the product of its two blocks. -/
theorem tile (s : Fin 256) (l : Fin 1024) :
    outsAt0 (F := Ideal) m c t (ix2 s l) = ∑ k : Fin 8320, aBlock m c t (ix2 s k) * bBlock m c t (ix2 l k) := by
  unfold outsAt0 aBlock bBlock
  frame_out
  generalize iblk m c 0 t = x
  generalize iblk m c 1 t = y
  pointwise [k0_pay1]

/-- The rows of a tile. -/
theorem index_a : ∀ t : Fin cfg0.N, win0_0.index t = ![t.val, 0] := by decide +kernel

theorem index_b : ∀ t : Fin cfg0.N, win0_1.index t = ![0, 0] := by decide +kernel

theorem index_o : ∀ t : Fin cfg0.N, win0_2.index t = ![t.val, 0] := by decide +kernel

abbrev rowOf (s : Fin 256) : Fin 8192 := ⟨256 * t.val + s.val, by have : t.val < 32 := t.isLt; omega⟩

theorem a_block (s : Fin 256) (k : Fin 8320) : aBlock m c t (ix2 s k) = m ((c : Thread nD τ).loc main_arg0) (ix2 (rowOf t s) k) := by
  rw [← V_main_arg0 m c]
  blk_ext [aBlock, iblk, index_a t]

theorem b_block (l : Fin 1024) (k : Fin 8320) : bBlock m c t (ix2 l k) = m ((c : Thread nD τ).loc main_arg1) (ix2 l k) := by
  rw [← V_main_arg1 m c]
  blk_ext [bBlock, iblk, index_b t]

/-- The reference, at an element. -/
theorem reference_apply (x : (⟨S8192x8320, .bf16⟩ : BufTy).Contents (Elt Ideal)) (w : (⟨S1024x8320, .bf16⟩ : BufTy).Contents (Elt Ideal)) (r : Fin 8192) (n : Fin 1024) :
    Cert.ReferenceDhIdeal.Read.val_main_v4 (F := Ideal) x w (ix2 r n) = ∑ k : Fin 8320, x (ix2 r k) * w (ix2 n k) := by
  unfold Cert.ReferenceDhIdeal.Read.val_main_v4 Cert.ReferenceDhIdeal.Read.val_main_v3 Cert.ReferenceDhIdeal.Read.val_main_v1
  pointwise []

/-- The tile of a point is the product's tile. -/
theorem tile_eq (s : Fin 256) (l : Fin 1024) :
    outsAt0 (F := Ideal) m c t (ix2 s l)
      = Cert.ReferenceDhIdeal.Read.val_main_v4 (F := Ideal) (m ((c : Thread nD τ).loc main_arg0)) (m ((c : Thread nD τ).loc main_arg1)) (ix2 (rowOf t s) l) := by
  rw [tile, reference_apply]
  exact Finset.sum_congr rfl fun k _ => congrArg₂ _ (a_block m c t s k) (b_block m c t l k)

/-- The array that the call leaves is the product. -/
theorem result : (dats m 0 c).arrAt 2 cfg0.N
    = Cert.ReferenceDhIdeal.Read.val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  obtain ⟨s, l, rfl⟩ : ∃ s l, y = ix2 s l := ⟨y 0, y 1, by ext i; fin_cases i <;> rfl⟩
  have e : (win0_2.blk t).view.emb (ix2 s l) = ix2 (rowOf t s) l := by
    blk_ext [index_o t]
  rw [e]
  exact tile_eq m c t s l

/-- Equal arguments, equal products. -/
theorem congr {x x' : (⟨S8192x8320, .bf16⟩ : BufTy).Contents (Elt Ideal)} {w w' : (⟨S1024x8320, .bf16⟩ : BufTy).Contents (Elt Ideal)} (ex : x = x') (ew : w = w') :
    Cert.ReferenceDhIdeal.Read.val_main_v4 (F := Ideal) x w = Cert.ReferenceDhIdeal.Read.val_main_v4 x' w' := by
  subst ex ew
  rfl

end Cert.Products.Gradient

end
-- ==== Proof.RowSums.lean ====
/-
  A sum over the 8192 rows, taken in four blocks of 2048 rows one after the other.
-/
module

public import Idealize.ShloMosaic.Lib.Pipeline.Value
public import Idealize.ShloMosaic.PureOps.Ideal

@[expose] public section

noncomputable section

namespace Cert.Products

open Idealize.ShloMosaic

/-- The sum of `f` over the rows of a block. -/
def part (f : Fin 8192 → EReal) (n : ℕ) : EReal := ∑ u : Fin 2048, f ⟨2048 * (n % 4) + u.val, by omega⟩

/-- The four blocks' sums make the sum over all rows. -/
theorem parts (f : Fin 8192 → EReal) (j : ℕ) : part f (4 * j) + part f (4 * j + 1) + part f (4 * j + 2) + part f (4 * j + 3) = ∑ r, f r := by
  rw [← Equiv.sum_comp (finProdFinEquiv (m := 4) (n := 2048)) f, Fintype.sum_prod_type, Fin.sum_univ_four]
  have e (b : Fin 4) (n : ℕ) (h : n % 4 = b.val) : part f n = ∑ u : Fin 2048, f (finProdFinEquiv (b, u)) := by
    refine Finset.sum_congr rfl fun u _ => congrArg f (Fin.ext ?_)
    show 2048 * (n % 4) + u.val = u.val + 2048 * b.val
    omega
  rw [e 0 _ (by simp), e 1 _ (by simp), e 2 _ (by simp), e 3 _ (by simp)]

/-- A value that starts as a block's sum, and adds the next block's at each of three steps. -/
theorem accumulated {N : ℕ} {ι : Type} (a : (n : ℕ) → n < N → ι → EReal) (g : (n : ℕ) → n < N → (ι → EReal) → ι → EReal) (i : ι)
    (f : Fin 8192 → EReal) (j : ℕ) (h : 4 * j + 3 < N) (ha : ∀ h, a (4 * j) h i = part f (4 * j))
    (hg : ∀ n h acc, n / 4 = j → g n h acc i = acc i + part f n) : Pipeline.accAt a g (4 * j) 3 h i = ∑ r, f r := by
  show g (4 * j + 3) _ (g (4 * j + 2) _ (g (4 * j + 1) _ (a (4 * j) _))) i = _
  rw [hg _ _ _ (by omega), hg _ _ _ (by omega), hg _ _ _ (by omega), ha, parts]

end Cert.Products

end
-- ==== Proof.InputWeights.lean ====
/-
  The input projection's gradient in its weights.
-/
module

public import proofs.«01_k».proof.Proof.RowSums
public import proofs.«01_k».proof.Proof.Gen.KernelDwzIdeal.Value
public import proofs.«01_k».proof.Proof.Gen.ReferenceDwzIdeal.Run
public import proofs.«01_k».proof.Proof.Gen.ReferenceDwzIdeal.Read
public import Idealize.ShloMosaic.Lib.Pipeline.ValueKit
public import Idealize.ShloMosaic.Lib.Pipeline.ReadBack

@[expose] public section

set_option maxRecDepth 16384

noncomputable section

namespace Cert.Products.InputWeights

open Idealize.ShloMosaic Idealize.ShloMosaic.TcCoe Idealize.SL.Sem Cert.KernelDwzIdeal Cert.KernelDwzIdeal.Gen

variable (m : (ℓ : Loc nD τ sig) → Buf (Elt Ideal) ℓ) (c : Dev nD) (t : Fin cfg0.N)

/-- The blocks that a point reads. -/
abbrev xBlock : FVec Ideal S2048x1024 .bf16 := iblk m c 0 t

abbrev yBlock : FVec Ideal S2048x1664 .bf16 := iblk m c 1 t

/-- The two arguments. -/
abbrev xs : (⟨S8192x1024, .bf16⟩ : BufTy).Contents (Elt Ideal) := m ((c : Thread nD τ).loc main_arg0)

abbrev ys : (⟨S8192x8320, .bf16⟩ : BufTy).Contents (Elt Ideal) := m ((c : Thread nD τ).loc main_arg1)

/-- A tile's columns, in the second argument and in the result. -/
abbrev colIn (l : Fin 1664) : Fin 8320 := ⟨1664 * (t.val / 4) + l.val, by have : t.val < 20 := t.isLt; omega⟩

abbrev colOut (l : Fin 1664) : Fin 8320 := ⟨1664 * (t.val / 4) + l.val, by have : t.val < 20 := t.isLt; omega⟩

theorem index_x : ∀ t : Fin cfg0.N, win0_0.index t = ![t.val % 4, 0] := by decide +kernel

theorem index_y : ∀ t : Fin cfg0.N, win0_1.index t = ![t.val % 4, t.val / 4] := by decide +kernel

theorem index_o : ∀ t : Fin cfg0.N, win0_2.index t = ![0, t.val / 4] := by decide +kernel

theorem x_block (u : Fin 2048) (s : Fin 1024) : xBlock m c t (ix2 u s) = xs m c (ix2 ⟨2048 * (t.val % 4) + u.val, by omega⟩ s) := by
  unfold xs
  rw [← V_main_arg0 m c]
  blk_ext [xBlock, iblk, index_x t]

theorem y_block (u : Fin 2048) (l : Fin 1664) : yBlock m c t (ix2 u l) = ys m c (ix2 ⟨2048 * (t.val % 4) + u.val, by omega⟩ (colIn t l)) := by
  unfold ys
  rw [← V_main_arg1 m c]
  blk_ext [yBlock, iblk, index_y t]

/-- What a point adds: its row block's share of the product. -/
theorem share (s : Fin 1024) (l : Fin 1664) :
    ∑ u : Fin 2048, xBlock m c t (ix2 u s) * yBlock m c t (ix2 u l) = part (fun r => xs m c (ix2 r s) * ys m c (ix2 r (colIn t l))) t.val :=
  Finset.sum_congr rfl fun u _ => congrArg₂ _ (x_block m c t u s) (y_block m c t u l)

theorem added (acc : FVec Ideal S1024x1664 .f32) (x : FVec Ideal S2048x1024 .bf16) (y : FVec Ideal S2048x1664 .bf16) (s : Fin 1024) (l : Fin 1664) :
    k0_pay2 (F := Ideal) acc x y (ix2 s l) = acc (ix2 s l) + ∑ u : Fin 2048, x (ix2 u s) * y (ix2 u l) := by
  pointwise [k0_pay2]

theorem zeros (s : Fin 1024) (l : Fin 1664) : k0_pay1 (F := Ideal) (ix2 s l) = 0 := by
  pointwise [k0_pay1]

/-- At the last of a tile's four points the tile holds the whole sums. -/
theorem tile (ht : t.val % 4 = 3) (s : Fin 1024) (l : Fin 1664) :
    outsAt0 (F := Ideal) m c t.val t.isLt (ix2 s l) = ∑ r : Fin 8192, xs m c (ix2 r s) * ys m c (ix2 r (colIn t l)) := by
  have hl (n : ℕ) (h : n < cfg0.N) (e : n / 4 = t.val / 4) : colIn ⟨n, h⟩ l = colIn t l := Fin.ext (by simp only [e])
  rw [Cert.KernelDwzIdeal.Value.outsAt_2_eq]
  have hN : 4 * (t.val / 4) + 3 < cfg0.N := by have := t.isLt; omega
  have e (j : ℕ) (h : 4 * (t.val / 4) + j < cfg0.N) (hj : j = 3) :
      Pipeline.accAt (Cert.KernelDwzIdeal.Value.reset2 m c) (Cert.KernelDwzIdeal.Value.step2 m c) (4 * (t.val / 4)) j h
        = Pipeline.accAt (Cert.KernelDwzIdeal.Value.reset2 m c) (Cert.KernelDwzIdeal.Value.step2 m c) (4 * (t.val / 4)) 3 hN := by
    subst hj
    rfl
  rw [e _ _ ht]
  refine accumulated _ _ (ix2 s l) (fun r => xs m c (ix2 r s) * ys m c (ix2 r (colIn t l))) (t.val / 4) hN (fun h => ?_) fun n h acc hn => ?_
  · refine (added _ _ _ s l).trans ?_
    rw [zeros, zero_add]
    refine (share m c ⟨_, h⟩ s l).trans ?_
    rw [hl _ h (by omega)]
  · refine (added _ _ _ s l).trans (congrArg (acc (ix2 s l) + ·) ?_)
    refine (share m c ⟨n, h⟩ s l).trans ?_
    rw [hl _ h hn]

/-- The reference, at an element. -/
theorem reference_apply (x : (⟨S8192x1024, .bf16⟩ : BufTy).Contents (Elt Ideal)) (y : (⟨S8192x8320, .bf16⟩ : BufTy).Contents (Elt Ideal)) (s : Fin 1024) (n : Fin 8320) :
    Cert.ReferenceDwzIdeal.Read.val_main_v5 (F := Ideal) x y (ix2 s n) = ∑ r : Fin 8192, x (ix2 r s) * y (ix2 r n) := by
  unfold Cert.ReferenceDwzIdeal.Read.val_main_v5 Cert.ReferenceDwzIdeal.Read.val_main_v4 Cert.ReferenceDwzIdeal.Read.val_main_v3 Cert.ReferenceDwzIdeal.Read.val_main_v1
  pointwise []
  exact Finset.sum_congr rfl fun r _ => mul_comm _ _

/-- The array that the call leaves is the reference's. -/
theorem result : (dats m 0 c).arrAt 2 cfg0.N = Cert.ReferenceDwzIdeal.Read.val_main_v5 (F := Ideal) (xs m c) (ys m c) := by
  refine (dats m 0 c).arrAt_eq_of_covers 2 _ (by decide +kernel) fun t hf y => ?_
  blk_simp
  rw [after0_2]
  have h3 : t.val % 4 = 3 := (flush0_2 t).mp hf
  obtain ⟨s, l, rfl⟩ : ∃ s l, y = ix2 s l := ⟨y 0, y 1, by ext i; fin_cases i <;> rfl⟩
  have e : (win0_2.blk t).view.emb (ix2 s l) = ix2 s (colOut t l) := by
    blk_ext [index_o t]
  rw [e]
  exact (tile m c t h3 s l).trans (reference_apply _ _ s (colOut t l)).symm

end Cert.Products.InputWeights

end
-- ==== Proof.GateWeights.lean ====
/-
  The gradient in the weights of the per-layer embedding's gate.
-/
module

public import proofs.«01_k».proof.Proof.RowSums
public import proofs.«01_k».proof.Proof.Gen.KernelDwgIdeal.Value
public import proofs.«01_k».proof.Proof.Gen.ReferenceDwgIdeal.Run
public import proofs.«01_k».proof.Proof.Gen.ReferenceDwgIdeal.Read
public import Idealize.ShloMosaic.Lib.Pipeline.ValueKit
public import Idealize.ShloMosaic.Lib.Pipeline.ReadBack

@[expose] public section

set_option maxRecDepth 16384

noncomputable section

namespace Cert.Products.GateWeights

open Idealize.ShloMosaic Idealize.ShloMosaic.TcCoe Idealize.SL.Sem Cert.KernelDwgIdeal Cert.KernelDwgIdeal.Gen

variable (m : (ℓ : Loc nD τ sig) → Buf (Elt Ideal) ℓ) (c : Dev nD) (t : Fin cfg0.N)

/-- The blocks that a point reads. -/
abbrev xBlock : FVec Ideal S2048x1024 .bf16 := iblk m c 0 t

abbrev yBlock : FVec Ideal S2048x1024 .bf16 := iblk m c 1 t

/-- The two arguments. -/
abbrev xs : (⟨S8192x1024, .bf16⟩ : BufTy).Contents (Elt Ideal) := m ((c : Thread nD τ).loc main_arg0)

abbrev ys : (⟨S8192x1024, .bf16⟩ : BufTy).Contents (Elt Ideal) := m ((c : Thread nD τ).loc main_arg1)

/-- A tile's columns, in the second argument and in the result. -/
abbrev colIn (l : Fin 1024) : Fin 1024 := ⟨1024 * (t.val / 4) + l.val, by have : t.val < 4 := t.isLt; omega⟩

abbrev colOut (l : Fin 1024) : Fin 1024 := ⟨1024 * (t.val / 4) + l.val, by have : t.val < 4 := t.isLt; omega⟩

theorem index_x : ∀ t : Fin cfg0.N, win0_0.index t = ![t.val % 4, 0] := by decide +kernel

theorem index_y : ∀ t : Fin cfg0.N, win0_1.index t = ![t.val % 4, t.val / 4] := by decide +kernel

theorem index_o : ∀ t : Fin cfg0.N, win0_2.index t = ![0, t.val / 4] := by decide +kernel

theorem x_block (u : Fin 2048) (s : Fin 1024) : xBlock m c t (ix2 u s) = xs m c (ix2 ⟨2048 * (t.val % 4) + u.val, by omega⟩ s) := by
  unfold xs
  rw [← V_main_arg0 m c]
  blk_ext [xBlock, iblk, index_x t]

theorem y_block (u : Fin 2048) (l : Fin 1024) : yBlock m c t (ix2 u l) = ys m c (ix2 ⟨2048 * (t.val % 4) + u.val, by omega⟩ (colIn t l)) := by
  unfold ys
  rw [← V_main_arg1 m c]
  blk_ext [yBlock, iblk, index_y t]

/-- What a point adds: its row block's share of the product. -/
theorem share (s : Fin 1024) (l : Fin 1024) :
    ∑ u : Fin 2048, xBlock m c t (ix2 u s) * yBlock m c t (ix2 u l) = part (fun r => xs m c (ix2 r s) * ys m c (ix2 r (colIn t l))) t.val :=
  Finset.sum_congr rfl fun u _ => congrArg₂ _ (x_block m c t u s) (y_block m c t u l)

theorem added (acc : FVec Ideal S1024x1024 .f32) (x : FVec Ideal S2048x1024 .bf16) (y : FVec Ideal S2048x1024 .bf16) (s : Fin 1024) (l : Fin 1024) :
    k0_pay2 (F := Ideal) acc x y (ix2 s l) = acc (ix2 s l) + ∑ u : Fin 2048, x (ix2 u s) * y (ix2 u l) := by
  pointwise [k0_pay2]

theorem zeros (s : Fin 1024) (l : Fin 1024) : k0_pay1 (F := Ideal) (ix2 s l) = 0 := by
  pointwise [k0_pay1]

/-- At the last of a tile's four points the tile holds the whole sums. -/
theorem tile (ht : t.val % 4 = 3) (s : Fin 1024) (l : Fin 1024) :
    outsAt0 (F := Ideal) m c t.val t.isLt (ix2 s l) = ∑ r : Fin 8192, xs m c (ix2 r s) * ys m c (ix2 r (colIn t l)) := by
  have hl (n : ℕ) (h : n < cfg0.N) (e : n / 4 = t.val / 4) : colIn ⟨n, h⟩ l = colIn t l := Fin.ext (by simp only [e])
  rw [Cert.KernelDwgIdeal.Value.outsAt_2_eq]
  have hN : 4 * (t.val / 4) + 3 < cfg0.N := by have := t.isLt; omega
  have e (j : ℕ) (h : 4 * (t.val / 4) + j < cfg0.N) (hj : j = 3) :
      Pipeline.accAt (Cert.KernelDwgIdeal.Value.reset2 m c) (Cert.KernelDwgIdeal.Value.step2 m c) (4 * (t.val / 4)) j h
        = Pipeline.accAt (Cert.KernelDwgIdeal.Value.reset2 m c) (Cert.KernelDwgIdeal.Value.step2 m c) (4 * (t.val / 4)) 3 hN := by
    subst hj
    rfl
  rw [e _ _ ht]
  refine accumulated _ _ (ix2 s l) (fun r => xs m c (ix2 r s) * ys m c (ix2 r (colIn t l))) (t.val / 4) hN (fun h => ?_) fun n h acc hn => ?_
  · refine (added _ _ _ s l).trans ?_
    rw [zeros, zero_add]
    refine (share m c ⟨_, h⟩ s l).trans ?_
    rw [hl _ h (by omega)]
  · refine (added _ _ _ s l).trans (congrArg (acc (ix2 s l) + ·) ?_)
    refine (share m c ⟨n, h⟩ s l).trans ?_
    rw [hl _ h hn]

/-- The reference, at an element. -/
theorem reference_apply (x : (⟨S8192x1024, .bf16⟩ : BufTy).Contents (Elt Ideal)) (y : (⟨S8192x1024, .bf16⟩ : BufTy).Contents (Elt Ideal)) (s : Fin 1024) (n : Fin 1024) :
    Cert.ReferenceDwgIdeal.Read.val_main_v5 (F := Ideal) x y (ix2 s n) = ∑ r : Fin 8192, x (ix2 r s) * y (ix2 r n) := by
  unfold Cert.ReferenceDwgIdeal.Read.val_main_v5 Cert.ReferenceDwgIdeal.Read.val_main_v4 Cert.ReferenceDwgIdeal.Read.val_main_v3 Cert.ReferenceDwgIdeal.Read.val_main_v1
  pointwise []
  exact Finset.sum_congr rfl fun r _ => mul_comm _ _

/-- The array that the call leaves is the reference's. -/
theorem result : (dats m 0 c).arrAt 2 cfg0.N = Cert.ReferenceDwgIdeal.Read.val_main_v5 (F := Ideal) (xs m c) (ys m c) := by
  refine (dats m 0 c).arrAt_eq_of_covers 2 _ (by decide +kernel) fun t hf y => ?_
  blk_simp
  rw [after0_2]
  have h3 : t.val % 4 = 3 := (flush0_2 t).mp hf
  obtain ⟨s, l, rfl⟩ : ∃ s l, y = ix2 s l := ⟨y 0, y 1, by ext i; fin_cases i <;> rfl⟩
  have e : (win0_2.blk t).view.emb (ix2 s l) = ix2 s (colOut t l) := by
    blk_ext [index_o t]
  rw [e]
  exact (tile m c t h3 s l).trans (reference_apply _ _ s (colOut t l)).symm

end Cert.Products.GateWeights

end
-- ==== Proof.EmbeddingWeights.lean ====
/-
  The gradient in the weights of the per-layer embedding's projection.
-/
module

public import proofs.«01_k».proof.Proof.RowSums
public import proofs.«01_k».proof.Proof.Gen.KernelDwpIdeal.Value
public import proofs.«01_k».proof.Proof.Gen.ReferenceDwpIdeal.Run
public import proofs.«01_k».proof.Proof.Gen.ReferenceDwpIdeal.Read
public import Idealize.ShloMosaic.Lib.Pipeline.ValueKit
public import Idealize.ShloMosaic.Lib.Pipeline.ReadBack

@[expose] public section

set_option maxRecDepth 16384

noncomputable section

namespace Cert.Products.EmbeddingWeights

open Idealize.ShloMosaic Idealize.ShloMosaic.TcCoe Idealize.SL.Sem Cert.KernelDwpIdeal Cert.KernelDwpIdeal.Gen

variable (m : (ℓ : Loc nD τ sig) → Buf (Elt Ideal) ℓ) (c : Dev nD) (t : Fin cfg0.N)

/-- The blocks that a point reads. -/
abbrev xBlock : FVec Ideal S2048x256 .bf16 := iblk m c 0 t

abbrev yBlock : FVec Ideal S2048x1024 .bf16 := iblk m c 1 t

/-- The two arguments. -/
abbrev xs : (⟨S8192x256, .bf16⟩ : BufTy).Contents (Elt Ideal) := m ((c : Thread nD τ).loc main_arg0)

abbrev ys : (⟨S8192x1024, .bf16⟩ : BufTy).Contents (Elt Ideal) := m ((c : Thread nD τ).loc main_arg1)

/-- A tile's columns, in the second argument and in the result. -/
abbrev colIn (l : Fin 1024) : Fin 1024 := ⟨1024 * (t.val / 4) + l.val, by have : t.val < 4 := t.isLt; omega⟩

abbrev colOut (l : Fin 1024) : Fin 1024 := ⟨1024 * (t.val / 4) + l.val, by have : t.val < 4 := t.isLt; omega⟩

theorem index_x : ∀ t : Fin cfg0.N, win0_0.index t = ![t.val % 4, 0] := by decide +kernel

theorem index_y : ∀ t : Fin cfg0.N, win0_1.index t = ![t.val % 4, t.val / 4] := by decide +kernel

theorem index_o : ∀ t : Fin cfg0.N, win0_2.index t = ![0, t.val / 4] := by decide +kernel

theorem x_block (u : Fin 2048) (s : Fin 256) : xBlock m c t (ix2 u s) = xs m c (ix2 ⟨2048 * (t.val % 4) + u.val, by omega⟩ s) := by
  unfold xs
  rw [← V_main_arg0 m c]
  blk_ext [xBlock, iblk, index_x t]

theorem y_block (u : Fin 2048) (l : Fin 1024) : yBlock m c t (ix2 u l) = ys m c (ix2 ⟨2048 * (t.val % 4) + u.val, by omega⟩ (colIn t l)) := by
  unfold ys
  rw [← V_main_arg1 m c]
  blk_ext [yBlock, iblk, index_y t]

/-- What a point adds: its row block's share of the product. -/
theorem share (s : Fin 256) (l : Fin 1024) :
    ∑ u : Fin 2048, xBlock m c t (ix2 u s) * yBlock m c t (ix2 u l) = part (fun r => xs m c (ix2 r s) * ys m c (ix2 r (colIn t l))) t.val :=
  Finset.sum_congr rfl fun u _ => congrArg₂ _ (x_block m c t u s) (y_block m c t u l)

theorem added (acc : FVec Ideal S256x1024 .f32) (x : FVec Ideal S2048x256 .bf16) (y : FVec Ideal S2048x1024 .bf16) (s : Fin 256) (l : Fin 1024) :
    k0_pay2 (F := Ideal) acc x y (ix2 s l) = acc (ix2 s l) + ∑ u : Fin 2048, x (ix2 u s) * y (ix2 u l) := by
  pointwise [k0_pay2]

theorem zeros (s : Fin 256) (l : Fin 1024) : k0_pay1 (F := Ideal) (ix2 s l) = 0 := by
  pointwise [k0_pay1]

/-- At the last of a tile's four points the tile holds the whole sums. -/
theorem tile (ht : t.val % 4 = 3) (s : Fin 256) (l : Fin 1024) :
    outsAt0 (F := Ideal) m c t.val t.isLt (ix2 s l) = ∑ r : Fin 8192, xs m c (ix2 r s) * ys m c (ix2 r (colIn t l)) := by
  have hl (n : ℕ) (h : n < cfg0.N) (e : n / 4 = t.val / 4) : colIn ⟨n, h⟩ l = colIn t l := Fin.ext (by simp only [e])
  rw [Cert.KernelDwpIdeal.Value.outsAt_2_eq]
  have hN : 4 * (t.val / 4) + 3 < cfg0.N := by have := t.isLt; omega
  have e (j : ℕ) (h : 4 * (t.val / 4) + j < cfg0.N) (hj : j = 3) :
      Pipeline.accAt (Cert.KernelDwpIdeal.Value.reset2 m c) (Cert.KernelDwpIdeal.Value.step2 m c) (4 * (t.val / 4)) j h
        = Pipeline.accAt (Cert.KernelDwpIdeal.Value.reset2 m c) (Cert.KernelDwpIdeal.Value.step2 m c) (4 * (t.val / 4)) 3 hN := by
    subst hj
    rfl
  rw [e _ _ ht]
  refine accumulated _ _ (ix2 s l) (fun r => xs m c (ix2 r s) * ys m c (ix2 r (colIn t l))) (t.val / 4) hN (fun h => ?_) fun n h acc hn => ?_
  · refine (added _ _ _ s l).trans ?_
    rw [zeros, zero_add]
    refine (share m c ⟨_, h⟩ s l).trans ?_
    rw [hl _ h (by omega)]
  · refine (added _ _ _ s l).trans (congrArg (acc (ix2 s l) + ·) ?_)
    refine (share m c ⟨n, h⟩ s l).trans ?_
    rw [hl _ h hn]

/-- The reference, at an element. -/
theorem reference_apply (x : (⟨S8192x256, .bf16⟩ : BufTy).Contents (Elt Ideal)) (y : (⟨S8192x1024, .bf16⟩ : BufTy).Contents (Elt Ideal)) (s : Fin 256) (n : Fin 1024) :
    Cert.ReferenceDwpIdeal.Read.val_main_v5 (F := Ideal) x y (ix2 s n) = ∑ r : Fin 8192, x (ix2 r s) * y (ix2 r n) := by
  unfold Cert.ReferenceDwpIdeal.Read.val_main_v5 Cert.ReferenceDwpIdeal.Read.val_main_v4 Cert.ReferenceDwpIdeal.Read.val_main_v3 Cert.ReferenceDwpIdeal.Read.val_main_v1
  pointwise []
  exact Finset.sum_congr rfl fun r _ => mul_comm _ _

/-- The array that the call leaves is the reference's. -/
theorem result : (dats m 0 c).arrAt 2 cfg0.N = Cert.ReferenceDwpIdeal.Read.val_main_v5 (F := Ideal) (xs m c) (ys m c) := by
  refine (dats m 0 c).arrAt_eq_of_covers 2 _ (by decide +kernel) fun t hf y => ?_
  blk_simp
  rw [after0_2]
  have h3 : t.val % 4 = 3 := (flush0_2 t).mp hf
  obtain ⟨s, l, rfl⟩ : ∃ s l, y = ix2 s l := ⟨y 0, y 1, by ext i; fin_cases i <;> rfl⟩
  have e : (win0_2.blk t).view.emb (ix2 s l) = ix2 s (colOut t l) := by
    blk_ext [index_o t]
  rw [e]
  exact (tile m c t h3 s l).trans (reference_apply _ _ s (colOut t l)).symm

end Cert.Products.EmbeddingWeights

end
-- ==== Proof.OutputWeights.lean ====
/-
  The gradient in the weights of the output projection.
-/
module

public import proofs.«01_k».proof.Proof.RowSums
public import proofs.«01_k».proof.Proof.Gen.KernelDwoIdeal.Value
public import proofs.«01_k».proof.Proof.Gen.ReferenceDwoIdeal.Run
public import proofs.«01_k».proof.Proof.Gen.ReferenceDwoIdeal.Read
public import Idealize.ShloMosaic.Lib.Pipeline.ValueKit
public import Idealize.ShloMosaic.Lib.Pipeline.ReadBack

@[expose] public section

set_option maxRecDepth 16384

noncomputable section

namespace Cert.Products.OutputWeights

open Idealize.ShloMosaic Idealize.ShloMosaic.TcCoe Idealize.SL.Sem Cert.KernelDwoIdeal Cert.KernelDwoIdeal.Gen

variable (m : (ℓ : Loc nD τ sig) → Buf (Elt Ideal) ℓ) (c : Dev nD) (t : Fin cfg0.N)

/-- The blocks that a point reads. -/
abbrev xBlock : FVec Ideal S2048x1024 .bf16 := iblk m c 0 t

abbrev yBlock : FVec Ideal S2048x1024 .bf16 := iblk m c 1 t

/-- The two arguments. -/
abbrev xs : (⟨S8192x1024, .bf16⟩ : BufTy).Contents (Elt Ideal) := m ((c : Thread nD τ).loc main_arg0)

abbrev ys : (⟨S8192x1024, .bf16⟩ : BufTy).Contents (Elt Ideal) := m ((c : Thread nD τ).loc main_arg1)

/-- A tile's columns, in the second argument and in the result. -/
abbrev colIn (l : Fin 1024) : Fin 1024 := ⟨1024 * (t.val / 4) + l.val, by have : t.val < 4 := t.isLt; omega⟩

abbrev colOut (l : Fin 1024) : Fin 1024 := ⟨1024 * (t.val / 4) + l.val, by have : t.val < 4 := t.isLt; omega⟩

theorem index_x : ∀ t : Fin cfg0.N, win0_0.index t = ![t.val % 4, 0] := by decide +kernel

theorem index_y : ∀ t : Fin cfg0.N, win0_1.index t = ![t.val % 4, t.val / 4] := by decide +kernel

theorem index_o : ∀ t : Fin cfg0.N, win0_2.index t = ![0, t.val / 4] := by decide +kernel

theorem x_block (u : Fin 2048) (s : Fin 1024) : xBlock m c t (ix2 u s) = xs m c (ix2 ⟨2048 * (t.val % 4) + u.val, by omega⟩ s) := by
  unfold xs
  rw [← V_main_arg0 m c]
  blk_ext [xBlock, iblk, index_x t]

theorem y_block (u : Fin 2048) (l : Fin 1024) : yBlock m c t (ix2 u l) = ys m c (ix2 ⟨2048 * (t.val % 4) + u.val, by omega⟩ (colIn t l)) := by
  unfold ys
  rw [← V_main_arg1 m c]
  blk_ext [yBlock, iblk, index_y t]

/-- What a point adds: its row block's share of the product. -/
theorem share (s : Fin 1024) (l : Fin 1024) :
    ∑ u : Fin 2048, xBlock m c t (ix2 u s) * yBlock m c t (ix2 u l) = part (fun r => xs m c (ix2 r s) * ys m c (ix2 r (colIn t l))) t.val :=
  Finset.sum_congr rfl fun u _ => congrArg₂ _ (x_block m c t u s) (y_block m c t u l)

theorem added (acc : FVec Ideal S1024x1024 .f32) (x : FVec Ideal S2048x1024 .bf16) (y : FVec Ideal S2048x1024 .bf16) (s : Fin 1024) (l : Fin 1024) :
    k0_pay2 (F := Ideal) acc x y (ix2 s l) = acc (ix2 s l) + ∑ u : Fin 2048, x (ix2 u s) * y (ix2 u l) := by
  pointwise [k0_pay2]

theorem zeros (s : Fin 1024) (l : Fin 1024) : k0_pay1 (F := Ideal) (ix2 s l) = 0 := by
  pointwise [k0_pay1]

/-- At the last of a tile's four points the tile holds the whole sums. -/
theorem tile (ht : t.val % 4 = 3) (s : Fin 1024) (l : Fin 1024) :
    outsAt0 (F := Ideal) m c t.val t.isLt (ix2 s l) = ∑ r : Fin 8192, xs m c (ix2 r s) * ys m c (ix2 r (colIn t l)) := by
  have hl (n : ℕ) (h : n < cfg0.N) (e : n / 4 = t.val / 4) : colIn ⟨n, h⟩ l = colIn t l := Fin.ext (by simp only [e])
  rw [Cert.KernelDwoIdeal.Value.outsAt_2_eq]
  have hN : 4 * (t.val / 4) + 3 < cfg0.N := by have := t.isLt; omega
  have e (j : ℕ) (h : 4 * (t.val / 4) + j < cfg0.N) (hj : j = 3) :
      Pipeline.accAt (Cert.KernelDwoIdeal.Value.reset2 m c) (Cert.KernelDwoIdeal.Value.step2 m c) (4 * (t.val / 4)) j h
        = Pipeline.accAt (Cert.KernelDwoIdeal.Value.reset2 m c) (Cert.KernelDwoIdeal.Value.step2 m c) (4 * (t.val / 4)) 3 hN := by
    subst hj
    rfl
  rw [e _ _ ht]
  refine accumulated _ _ (ix2 s l) (fun r => xs m c (ix2 r s) * ys m c (ix2 r (colIn t l))) (t.val / 4) hN (fun h => ?_) fun n h acc hn => ?_
  · refine (added _ _ _ s l).trans ?_
    rw [zeros, zero_add]
    refine (share m c ⟨_, h⟩ s l).trans ?_
    rw [hl _ h (by omega)]
  · refine (added _ _ _ s l).trans (congrArg (acc (ix2 s l) + ·) ?_)
    refine (share m c ⟨n, h⟩ s l).trans ?_
    rw [hl _ h hn]

/-- The reference, at an element. -/
theorem reference_apply (x : (⟨S8192x1024, .bf16⟩ : BufTy).Contents (Elt Ideal)) (y : (⟨S8192x1024, .bf16⟩ : BufTy).Contents (Elt Ideal)) (s : Fin 1024) (n : Fin 1024) :
    Cert.ReferenceDwoIdeal.Read.val_main_v5 (F := Ideal) x y (ix2 s n) = ∑ r : Fin 8192, x (ix2 r s) * y (ix2 r n) := by
  unfold Cert.ReferenceDwoIdeal.Read.val_main_v5 Cert.ReferenceDwoIdeal.Read.val_main_v4 Cert.ReferenceDwoIdeal.Read.val_main_v3 Cert.ReferenceDwoIdeal.Read.val_main_v1
  pointwise []
  exact Finset.sum_congr rfl fun r _ => mul_comm _ _

/-- The array that the call leaves is the reference's. -/
theorem result : (dats m 0 c).arrAt 2 cfg0.N = Cert.ReferenceDwoIdeal.Read.val_main_v5 (F := Ideal) (xs m c) (ys m c) := by
  refine (dats m 0 c).arrAt_eq_of_covers 2 _ (by decide +kernel) fun t hf y => ?_
  blk_simp
  rw [after0_2]
  have h3 : t.val % 4 = 3 := (flush0_2 t).mp hf
  obtain ⟨s, l, rfl⟩ : ∃ s l, y = ix2 s l := ⟨y 0, y 1, by ext i; fin_cases i <;> rfl⟩
  have e : (win0_2.blk t).view.emb (ix2 s l) = ix2 s (colOut t l) := by
    blk_ext [index_o t]
  rw [e]
  exact (tile m c t h3 s l).trans (reference_apply _ _ s (colOut t l)).symm

end Cert.Products.OutputWeights

end
-- ==== Proof.UpWeights0.lean ====
/-
  The gradient in the weights of the first mixer's up-projection.
-/
module

public import proofs.«01_k».proof.Proof.RowSums
public import proofs.«01_k».proof.Proof.Gen.KernelDwup0Ideal.Value
public import proofs.«01_k».proof.Proof.Gen.ReferenceDwup0Ideal.Run
public import proofs.«01_k».proof.Proof.Gen.ReferenceDwup0Ideal.Read
public import Idealize.ShloMosaic.Lib.Pipeline.ValueKit
public import Idealize.ShloMosaic.Lib.Pipeline.ReadBack

@[expose] public section

set_option maxRecDepth 16384

noncomputable section

namespace Cert.Products.UpWeights0

open Idealize.ShloMosaic Idealize.ShloMosaic.TcCoe Idealize.SL.Sem Cert.KernelDwup0Ideal Cert.KernelDwup0Ideal.Gen

variable (m : (ℓ : Loc nD τ sig) → Buf (Elt Ideal) ℓ) (c : Dev nD) (t : Fin cfg0.N)

/-- The blocks that a point reads. -/
abbrev xBlock : FVec Ideal S2048x256 .bf16 := iblk m c 0 t

abbrev yBlock : FVec Ideal S2048x1024 .bf16 := iblk m c 1 t

/-- The two arguments. -/
abbrev xs : (⟨S8192x256, .bf16⟩ : BufTy).Contents (Elt Ideal) := m ((c : Thread nD τ).loc main_arg0)

abbrev ys : (⟨S8192x4096, .bf16⟩ : BufTy).Contents (Elt Ideal) := m ((c : Thread nD τ).loc main_arg1)

/-- A tile's columns, in the second argument and in the result. -/
abbrev colIn (l : Fin 1024) : Fin 4096 := ⟨1024 * (t.val / 4) + l.val, by have : t.val < 4 := t.isLt; omega⟩

abbrev colOut (l : Fin 1024) : Fin 1024 := ⟨1024 * (t.val / 4) + l.val, by have : t.val < 4 := t.isLt; omega⟩

theorem index_x : ∀ t : Fin cfg0.N, win0_0.index t = ![t.val % 4, 0] := by decide +kernel

theorem index_y : ∀ t : Fin cfg0.N, win0_1.index t = ![t.val % 4, t.val / 4] := by decide +kernel

theorem index_o : ∀ t : Fin cfg0.N, win0_2.index t = ![0, t.val / 4] := by decide +kernel

theorem x_block (u : Fin 2048) (s : Fin 256) : xBlock m c t (ix2 u s) = xs m c (ix2 ⟨2048 * (t.val % 4) + u.val, by omega⟩ s) := by
  unfold xs
  rw [← V_main_arg0 m c]
  blk_ext [xBlock, iblk, index_x t]

theorem y_block (u : Fin 2048) (l : Fin 1024) : yBlock m c t (ix2 u l) = ys m c (ix2 ⟨2048 * (t.val % 4) + u.val, by omega⟩ (colIn t l)) := by
  unfold ys
  rw [← V_main_arg1 m c]
  blk_ext [yBlock, iblk, index_y t]

/-- What a point adds: its row block's share of the product. -/
theorem share (s : Fin 256) (l : Fin 1024) :
    ∑ u : Fin 2048, xBlock m c t (ix2 u s) * yBlock m c t (ix2 u l) = part (fun r => xs m c (ix2 r s) * ys m c (ix2 r (colIn t l))) t.val :=
  Finset.sum_congr rfl fun u _ => congrArg₂ _ (x_block m c t u s) (y_block m c t u l)

theorem added (acc : FVec Ideal S256x1024 .f32) (x : FVec Ideal S2048x256 .bf16) (y : FVec Ideal S2048x1024 .bf16) (s : Fin 256) (l : Fin 1024) :
    k0_pay2 (F := Ideal) acc x y (ix2 s l) = acc (ix2 s l) + ∑ u : Fin 2048, x (ix2 u s) * y (ix2 u l) := by
  pointwise [k0_pay2]

theorem zeros (s : Fin 256) (l : Fin 1024) : k0_pay1 (F := Ideal) (ix2 s l) = 0 := by
  pointwise [k0_pay1]

/-- At the last of a tile's four points the tile holds the whole sums. -/
theorem tile (ht : t.val % 4 = 3) (s : Fin 256) (l : Fin 1024) :
    outsAt0 (F := Ideal) m c t.val t.isLt (ix2 s l) = ∑ r : Fin 8192, xs m c (ix2 r s) * ys m c (ix2 r (colIn t l)) := by
  have hl (n : ℕ) (h : n < cfg0.N) (e : n / 4 = t.val / 4) : colIn ⟨n, h⟩ l = colIn t l := Fin.ext (by simp only [e])
  rw [Cert.KernelDwup0Ideal.Value.outsAt_2_eq]
  have hN : 4 * (t.val / 4) + 3 < cfg0.N := by have := t.isLt; omega
  have e (j : ℕ) (h : 4 * (t.val / 4) + j < cfg0.N) (hj : j = 3) :
      Pipeline.accAt (Cert.KernelDwup0Ideal.Value.reset2 m c) (Cert.KernelDwup0Ideal.Value.step2 m c) (4 * (t.val / 4)) j h
        = Pipeline.accAt (Cert.KernelDwup0Ideal.Value.reset2 m c) (Cert.KernelDwup0Ideal.Value.step2 m c) (4 * (t.val / 4)) 3 hN := by
    subst hj
    rfl
  rw [e _ _ ht]
  refine accumulated _ _ (ix2 s l) (fun r => xs m c (ix2 r s) * ys m c (ix2 r (colIn t l))) (t.val / 4) hN (fun h => ?_) fun n h acc hn => ?_
  · refine (added _ _ _ s l).trans ?_
    rw [zeros, zero_add]
    refine (share m c ⟨_, h⟩ s l).trans ?_
    rw [hl _ h (by omega)]
  · refine (added _ _ _ s l).trans (congrArg (acc (ix2 s l) + ·) ?_)
    refine (share m c ⟨n, h⟩ s l).trans ?_
    rw [hl _ h hn]

/-- The reference, at an element. -/
theorem reference_apply (x : (⟨S8192x256, .bf16⟩ : BufTy).Contents (Elt Ideal)) (y : (⟨S8192x4096, .bf16⟩ : BufTy).Contents (Elt Ideal)) (s : Fin 256) (n : Fin 1024) :
    Cert.ReferenceDwup0Ideal.Read.val_main_v6 (F := Ideal) x y (ix2 s n) = ∑ r : Fin 8192, x (ix2 r s) * y (ix2 r ⟨n.val, by omega⟩) := by
  unfold Cert.ReferenceDwup0Ideal.Read.val_main_v6 Cert.ReferenceDwup0Ideal.Read.val_main_v5 Cert.ReferenceDwup0Ideal.Read.val_main_v4 Cert.ReferenceDwup0Ideal.Read.val_main_v2 Cert.ReferenceDwup0Ideal.Read.val_main_v0
  pointwise []
  exact Finset.sum_congr rfl fun r _ => mul_comm _ _

/-- The array that the call leaves is the reference's. -/
theorem result : (dats m 0 c).arrAt 2 cfg0.N = Cert.ReferenceDwup0Ideal.Read.val_main_v6 (F := Ideal) (xs m c) (ys m c) := by
  refine (dats m 0 c).arrAt_eq_of_covers 2 _ (by decide +kernel) fun t hf y => ?_
  blk_simp
  rw [after0_2]
  have h3 : t.val % 4 = 3 := (flush0_2 t).mp hf
  obtain ⟨s, l, rfl⟩ : ∃ s l, y = ix2 s l := ⟨y 0, y 1, by ext i; fin_cases i <;> rfl⟩
  have e : (win0_2.blk t).view.emb (ix2 s l) = ix2 s (colOut t l) := by
    blk_ext [index_o t]
  rw [e]
  exact (tile m c t h3 s l).trans (reference_apply _ _ s (colOut t l)).symm

end Cert.Products.UpWeights0

end
-- ==== Proof.UpWeights1.lean ====
/-
  The gradient in the weights of the second mixer's up-projection.
-/
module

public import proofs.«01_k».proof.Proof.RowSums
public import proofs.«01_k».proof.Proof.Gen.KernelDwup1Ideal.Value
public import proofs.«01_k».proof.Proof.Gen.ReferenceDwup1Ideal.Run
public import proofs.«01_k».proof.Proof.Gen.ReferenceDwup1Ideal.Read
public import Idealize.ShloMosaic.Lib.Pipeline.ValueKit
public import Idealize.ShloMosaic.Lib.Pipeline.ReadBack

@[expose] public section

set_option maxRecDepth 16384

noncomputable section

namespace Cert.Products.UpWeights1

open Idealize.ShloMosaic Idealize.ShloMosaic.TcCoe Idealize.SL.Sem Cert.KernelDwup1Ideal Cert.KernelDwup1Ideal.Gen

variable (m : (ℓ : Loc nD τ sig) → Buf (Elt Ideal) ℓ) (c : Dev nD) (t : Fin cfg0.N)

/-- The blocks that a point reads. -/
abbrev xBlock : FVec Ideal S2048x256 .bf16 := iblk m c 0 t

abbrev yBlock : FVec Ideal S2048x1024 .bf16 := iblk m c 1 t

/-- The two arguments. -/
abbrev xs : (⟨S8192x256, .bf16⟩ : BufTy).Contents (Elt Ideal) := m ((c : Thread nD τ).loc main_arg0)

abbrev ys : (⟨S8192x4096, .bf16⟩ : BufTy).Contents (Elt Ideal) := m ((c : Thread nD τ).loc main_arg1)

/-- A tile's columns, in the second argument and in the result. -/
abbrev colIn (l : Fin 1024) : Fin 4096 := ⟨1024 + (1024 * (t.val / 4) + l.val), by have : t.val < 4 := t.isLt; omega⟩

abbrev colOut (l : Fin 1024) : Fin 1024 := ⟨1024 * (t.val / 4) + l.val, by have : t.val < 4 := t.isLt; omega⟩

theorem index_x : ∀ t : Fin cfg0.N, win0_0.index t = ![t.val % 4, 0] := by decide +kernel

theorem index_y : ∀ t : Fin cfg0.N, win0_1.index t = ![t.val % 4, t.val / 4 + 1] := by decide +kernel

theorem index_o : ∀ t : Fin cfg0.N, win0_2.index t = ![0, t.val / 4] := by decide +kernel

theorem x_block (u : Fin 2048) (s : Fin 256) : xBlock m c t (ix2 u s) = xs m c (ix2 ⟨2048 * (t.val % 4) + u.val, by omega⟩ s) := by
  unfold xs
  rw [← V_main_arg0 m c]
  blk_ext [xBlock, iblk, index_x t]

theorem y_block (u : Fin 2048) (l : Fin 1024) : yBlock m c t (ix2 u l) = ys m c (ix2 ⟨2048 * (t.val % 4) + u.val, by omega⟩ (colIn t l)) := by
  unfold ys
  rw [← V_main_arg1 m c]
  blk_ext [yBlock, iblk, index_y t]

/-- What a point adds: its row block's share of the product. -/
theorem share (s : Fin 256) (l : Fin 1024) :
    ∑ u : Fin 2048, xBlock m c t (ix2 u s) * yBlock m c t (ix2 u l) = part (fun r => xs m c (ix2 r s) * ys m c (ix2 r (colIn t l))) t.val :=
  Finset.sum_congr rfl fun u _ => congrArg₂ _ (x_block m c t u s) (y_block m c t u l)

theorem added (acc : FVec Ideal S256x1024 .f32) (x : FVec Ideal S2048x256 .bf16) (y : FVec Ideal S2048x1024 .bf16) (s : Fin 256) (l : Fin 1024) :
    k0_pay2 (F := Ideal) acc x y (ix2 s l) = acc (ix2 s l) + ∑ u : Fin 2048, x (ix2 u s) * y (ix2 u l) := by
  pointwise [k0_pay2]

theorem zeros (s : Fin 256) (l : Fin 1024) : k0_pay1 (F := Ideal) (ix2 s l) = 0 := by
  pointwise [k0_pay1]

/-- At the last of a tile's four points the tile holds the whole sums. -/
theorem tile (ht : t.val % 4 = 3) (s : Fin 256) (l : Fin 1024) :
    outsAt0 (F := Ideal) m c t.val t.isLt (ix2 s l) = ∑ r : Fin 8192, xs m c (ix2 r s) * ys m c (ix2 r (colIn t l)) := by
  have hl (n : ℕ) (h : n < cfg0.N) (e : n / 4 = t.val / 4) : colIn ⟨n, h⟩ l = colIn t l := Fin.ext (by simp only [e])
  rw [Cert.KernelDwup1Ideal.Value.outsAt_2_eq]
  have hN : 4 * (t.val / 4) + 3 < cfg0.N := by have := t.isLt; omega
  have e (j : ℕ) (h : 4 * (t.val / 4) + j < cfg0.N) (hj : j = 3) :
      Pipeline.accAt (Cert.KernelDwup1Ideal.Value.reset2 m c) (Cert.KernelDwup1Ideal.Value.step2 m c) (4 * (t.val / 4)) j h
        = Pipeline.accAt (Cert.KernelDwup1Ideal.Value.reset2 m c) (Cert.KernelDwup1Ideal.Value.step2 m c) (4 * (t.val / 4)) 3 hN := by
    subst hj
    rfl
  rw [e _ _ ht]
  refine accumulated _ _ (ix2 s l) (fun r => xs m c (ix2 r s) * ys m c (ix2 r (colIn t l))) (t.val / 4) hN (fun h => ?_) fun n h acc hn => ?_
  · refine (added _ _ _ s l).trans ?_
    rw [zeros, zero_add]
    refine (share m c ⟨_, h⟩ s l).trans ?_
    rw [hl _ h (by omega)]
  · refine (added _ _ _ s l).trans (congrArg (acc (ix2 s l) + ·) ?_)
    refine (share m c ⟨n, h⟩ s l).trans ?_
    rw [hl _ h hn]

/-- The reference, at an element. -/
theorem reference_apply (x : (⟨S8192x256, .bf16⟩ : BufTy).Contents (Elt Ideal)) (y : (⟨S8192x4096, .bf16⟩ : BufTy).Contents (Elt Ideal)) (s : Fin 256) (n : Fin 1024) :
    Cert.ReferenceDwup1Ideal.Read.val_main_v6 (F := Ideal) x y (ix2 s n) = ∑ r : Fin 8192, x (ix2 r s) * y (ix2 r ⟨1024 + n.val, by omega⟩) := by
  unfold Cert.ReferenceDwup1Ideal.Read.val_main_v6 Cert.ReferenceDwup1Ideal.Read.val_main_v5 Cert.ReferenceDwup1Ideal.Read.val_main_v4 Cert.ReferenceDwup1Ideal.Read.val_main_v2 Cert.ReferenceDwup1Ideal.Read.val_main_v0
  pointwise []
  exact Finset.sum_congr rfl fun r _ => mul_comm _ _

/-- The array that the call leaves is the reference's. -/
theorem result : (dats m 0 c).arrAt 2 cfg0.N = Cert.ReferenceDwup1Ideal.Read.val_main_v6 (F := Ideal) (xs m c) (ys m c) := by
  refine (dats m 0 c).arrAt_eq_of_covers 2 _ (by decide +kernel) fun t hf y => ?_
  blk_simp
  rw [after0_2]
  have h3 : t.val % 4 = 3 := (flush0_2 t).mp hf
  obtain ⟨s, l, rfl⟩ : ∃ s l, y = ix2 s l := ⟨y 0, y 1, by ext i; fin_cases i <;> rfl⟩
  have e : (win0_2.blk t).view.emb (ix2 s l) = ix2 s (colOut t l) := by
    blk_ext [index_o t]
  rw [e]
  exact (tile m c t h3 s l).trans (reference_apply _ _ s (colOut t l)).symm

end Cert.Products.UpWeights1

end
-- ==== Proof.UpWeights2.lean ====
/-
  The gradient in the weights of the third mixer's up-projection.
-/
module

public import proofs.«01_k».proof.Proof.RowSums
public import proofs.«01_k».proof.Proof.Gen.KernelDwup2Ideal.Value
public import proofs.«01_k».proof.Proof.Gen.ReferenceDwup2Ideal.Run
public import proofs.«01_k».proof.Proof.Gen.ReferenceDwup2Ideal.Read
public import Idealize.ShloMosaic.Lib.Pipeline.ValueKit
public import Idealize.ShloMosaic.Lib.Pipeline.ReadBack

@[expose] public section

set_option maxRecDepth 16384

noncomputable section

namespace Cert.Products.UpWeights2

open Idealize.ShloMosaic Idealize.ShloMosaic.TcCoe Idealize.SL.Sem Cert.KernelDwup2Ideal Cert.KernelDwup2Ideal.Gen

variable (m : (ℓ : Loc nD τ sig) → Buf (Elt Ideal) ℓ) (c : Dev nD) (t : Fin cfg0.N)

/-- The blocks that a point reads. -/
abbrev xBlock : FVec Ideal S2048x256 .bf16 := iblk m c 0 t

abbrev yBlock : FVec Ideal S2048x1024 .bf16 := iblk m c 1 t

/-- The two arguments. -/
abbrev xs : (⟨S8192x256, .bf16⟩ : BufTy).Contents (Elt Ideal) := m ((c : Thread nD τ).loc main_arg0)

abbrev ys : (⟨S8192x4096, .bf16⟩ : BufTy).Contents (Elt Ideal) := m ((c : Thread nD τ).loc main_arg1)

/-- A tile's columns, in the second argument and in the result. -/
abbrev colIn (l : Fin 1024) : Fin 4096 := ⟨2048 + (1024 * (t.val / 4) + l.val), by have : t.val < 4 := t.isLt; omega⟩

abbrev colOut (l : Fin 1024) : Fin 1024 := ⟨1024 * (t.val / 4) + l.val, by have : t.val < 4 := t.isLt; omega⟩

theorem index_x : ∀ t : Fin cfg0.N, win0_0.index t = ![t.val % 4, 0] := by decide +kernel

theorem index_y : ∀ t : Fin cfg0.N, win0_1.index t = ![t.val % 4, t.val / 4 + 2] := by decide +kernel

theorem index_o : ∀ t : Fin cfg0.N, win0_2.index t = ![0, t.val / 4] := by decide +kernel

theorem x_block (u : Fin 2048) (s : Fin 256) : xBlock m c t (ix2 u s) = xs m c (ix2 ⟨2048 * (t.val % 4) + u.val, by omega⟩ s) := by
  unfold xs
  rw [← V_main_arg0 m c]
  blk_ext [xBlock, iblk, index_x t]

theorem y_block (u : Fin 2048) (l : Fin 1024) : yBlock m c t (ix2 u l) = ys m c (ix2 ⟨2048 * (t.val % 4) + u.val, by omega⟩ (colIn t l)) := by
  unfold ys
  rw [← V_main_arg1 m c]
  blk_ext [yBlock, iblk, index_y t]

/-- What a point adds: its row block's share of the product. -/
theorem share (s : Fin 256) (l : Fin 1024) :
    ∑ u : Fin 2048, xBlock m c t (ix2 u s) * yBlock m c t (ix2 u l) = part (fun r => xs m c (ix2 r s) * ys m c (ix2 r (colIn t l))) t.val :=
  Finset.sum_congr rfl fun u _ => congrArg₂ _ (x_block m c t u s) (y_block m c t u l)

theorem added (acc : FVec Ideal S256x1024 .f32) (x : FVec Ideal S2048x256 .bf16) (y : FVec Ideal S2048x1024 .bf16) (s : Fin 256) (l : Fin 1024) :
    k0_pay2 (F := Ideal) acc x y (ix2 s l) = acc (ix2 s l) + ∑ u : Fin 2048, x (ix2 u s) * y (ix2 u l) := by
  pointwise [k0_pay2]

theorem zeros (s : Fin 256) (l : Fin 1024) : k0_pay1 (F := Ideal) (ix2 s l) = 0 := by
  pointwise [k0_pay1]

/-- At the last of a tile's four points the tile holds the whole sums. -/
theorem tile (ht : t.val % 4 = 3) (s : Fin 256) (l : Fin 1024) :
    outsAt0 (F := Ideal) m c t.val t.isLt (ix2 s l) = ∑ r : Fin 8192, xs m c (ix2 r s) * ys m c (ix2 r (colIn t l)) := by
  have hl (n : ℕ) (h : n < cfg0.N) (e : n / 4 = t.val / 4) : colIn ⟨n, h⟩ l = colIn t l := Fin.ext (by simp only [e])
  rw [Cert.KernelDwup2Ideal.Value.outsAt_2_eq]
  have hN : 4 * (t.val / 4) + 3 < cfg0.N := by have := t.isLt; omega
  have e (j : ℕ) (h : 4 * (t.val / 4) + j < cfg0.N) (hj : j = 3) :
      Pipeline.accAt (Cert.KernelDwup2Ideal.Value.reset2 m c) (Cert.KernelDwup2Ideal.Value.step2 m c) (4 * (t.val / 4)) j h
        = Pipeline.accAt (Cert.KernelDwup2Ideal.Value.reset2 m c) (Cert.KernelDwup2Ideal.Value.step2 m c) (4 * (t.val / 4)) 3 hN := by
    subst hj
    rfl
  rw [e _ _ ht]
  refine accumulated _ _ (ix2 s l) (fun r => xs m c (ix2 r s) * ys m c (ix2 r (colIn t l))) (t.val / 4) hN (fun h => ?_) fun n h acc hn => ?_
  · refine (added _ _ _ s l).trans ?_
    rw [zeros, zero_add]
    refine (share m c ⟨_, h⟩ s l).trans ?_
    rw [hl _ h (by omega)]
  · refine (added _ _ _ s l).trans (congrArg (acc (ix2 s l) + ·) ?_)
    refine (share m c ⟨n, h⟩ s l).trans ?_
    rw [hl _ h hn]

/-- The reference, at an element. -/
theorem reference_apply (x : (⟨S8192x256, .bf16⟩ : BufTy).Contents (Elt Ideal)) (y : (⟨S8192x4096, .bf16⟩ : BufTy).Contents (Elt Ideal)) (s : Fin 256) (n : Fin 1024) :
    Cert.ReferenceDwup2Ideal.Read.val_main_v6 (F := Ideal) x y (ix2 s n) = ∑ r : Fin 8192, x (ix2 r s) * y (ix2 r ⟨2048 + n.val, by omega⟩) := by
  unfold Cert.ReferenceDwup2Ideal.Read.val_main_v6 Cert.ReferenceDwup2Ideal.Read.val_main_v5 Cert.ReferenceDwup2Ideal.Read.val_main_v4 Cert.ReferenceDwup2Ideal.Read.val_main_v2 Cert.ReferenceDwup2Ideal.Read.val_main_v0
  pointwise []
  exact Finset.sum_congr rfl fun r _ => mul_comm _ _

/-- The array that the call leaves is the reference's. -/
theorem result : (dats m 0 c).arrAt 2 cfg0.N = Cert.ReferenceDwup2Ideal.Read.val_main_v6 (F := Ideal) (xs m c) (ys m c) := by
  refine (dats m 0 c).arrAt_eq_of_covers 2 _ (by decide +kernel) fun t hf y => ?_
  blk_simp
  rw [after0_2]
  have h3 : t.val % 4 = 3 := (flush0_2 t).mp hf
  obtain ⟨s, l, rfl⟩ : ∃ s l, y = ix2 s l := ⟨y 0, y 1, by ext i; fin_cases i <;> rfl⟩
  have e : (win0_2.blk t).view.emb (ix2 s l) = ix2 s (colOut t l) := by
    blk_ext [index_o t]
  rw [e]
  exact (tile m c t h3 s l).trans (reference_apply _ _ s (colOut t l)).symm

end Cert.Products.UpWeights2

end
-- ==== Proof.UpWeights3.lean ====
/-
  The gradient in the weights of the fourth mixer's up-projection.
-/
module

public import proofs.«01_k».proof.Proof.RowSums
public import proofs.«01_k».proof.Proof.Gen.KernelDwup3Ideal.Value
public import proofs.«01_k».proof.Proof.Gen.ReferenceDwup3Ideal.Run
public import proofs.«01_k».proof.Proof.Gen.ReferenceDwup3Ideal.Read
public import Idealize.ShloMosaic.Lib.Pipeline.ValueKit
public import Idealize.ShloMosaic.Lib.Pipeline.ReadBack

@[expose] public section

set_option maxRecDepth 16384

noncomputable section

namespace Cert.Products.UpWeights3

open Idealize.ShloMosaic Idealize.ShloMosaic.TcCoe Idealize.SL.Sem Cert.KernelDwup3Ideal Cert.KernelDwup3Ideal.Gen

variable (m : (ℓ : Loc nD τ sig) → Buf (Elt Ideal) ℓ) (c : Dev nD) (t : Fin cfg0.N)

/-- The blocks that a point reads. -/
abbrev xBlock : FVec Ideal S2048x256 .bf16 := iblk m c 0 t

abbrev yBlock : FVec Ideal S2048x1024 .bf16 := iblk m c 1 t

/-- The two arguments. -/
abbrev xs : (⟨S8192x256, .bf16⟩ : BufTy).Contents (Elt Ideal) := m ((c : Thread nD τ).loc main_arg0)

abbrev ys : (⟨S8192x4096, .bf16⟩ : BufTy).Contents (Elt Ideal) := m ((c : Thread nD τ).loc main_arg1)

/-- A tile's columns, in the second argument and in the result. -/
abbrev colIn (l : Fin 1024) : Fin 4096 := ⟨3072 + (1024 * (t.val / 4) + l.val), by have : t.val < 4 := t.isLt; omega⟩

abbrev colOut (l : Fin 1024) : Fin 1024 := ⟨1024 * (t.val / 4) + l.val, by have : t.val < 4 := t.isLt; omega⟩

theorem index_x : ∀ t : Fin cfg0.N, win0_0.index t = ![t.val % 4, 0] := by decide +kernel

theorem index_y : ∀ t : Fin cfg0.N, win0_1.index t = ![t.val % 4, t.val / 4 + 3] := by decide +kernel

theorem index_o : ∀ t : Fin cfg0.N, win0_2.index t = ![0, t.val / 4] := by decide +kernel

theorem x_block (u : Fin 2048) (s : Fin 256) : xBlock m c t (ix2 u s) = xs m c (ix2 ⟨2048 * (t.val % 4) + u.val, by omega⟩ s) := by
  unfold xs
  rw [← V_main_arg0 m c]
  blk_ext [xBlock, iblk, index_x t]

theorem y_block (u : Fin 2048) (l : Fin 1024) : yBlock m c t (ix2 u l) = ys m c (ix2 ⟨2048 * (t.val % 4) + u.val, by omega⟩ (colIn t l)) := by
  unfold ys
  rw [← V_main_arg1 m c]
  blk_ext [yBlock, iblk, index_y t]

/-- What a point adds: its row block's share of the product. -/
theorem share (s : Fin 256) (l : Fin 1024) :
    ∑ u : Fin 2048, xBlock m c t (ix2 u s) * yBlock m c t (ix2 u l) = part (fun r => xs m c (ix2 r s) * ys m c (ix2 r (colIn t l))) t.val :=
  Finset.sum_congr rfl fun u _ => congrArg₂ _ (x_block m c t u s) (y_block m c t u l)

theorem added (acc : FVec Ideal S256x1024 .f32) (x : FVec Ideal S2048x256 .bf16) (y : FVec Ideal S2048x1024 .bf16) (s : Fin 256) (l : Fin 1024) :
    k0_pay2 (F := Ideal) acc x y (ix2 s l) = acc (ix2 s l) + ∑ u : Fin 2048, x (ix2 u s) * y (ix2 u l) := by
  pointwise [k0_pay2]

theorem zeros (s : Fin 256) (l : Fin 1024) : k0_pay1 (F := Ideal) (ix2 s l) = 0 := by
  pointwise [k0_pay1]

/-- At the last of a tile's four points the tile holds the whole sums. -/
theorem tile (ht : t.val % 4 = 3) (s : Fin 256) (l : Fin 1024) :
    outsAt0 (F := Ideal) m c t.val t.isLt (ix2 s l) = ∑ r : Fin 8192, xs m c (ix2 r s) * ys m c (ix2 r (colIn t l)) := by
  have hl (n : ℕ) (h : n < cfg0.N) (e : n / 4 = t.val / 4) : colIn ⟨n, h⟩ l = colIn t l := Fin.ext (by simp only [e])
  rw [Cert.KernelDwup3Ideal.Value.outsAt_2_eq]
  have hN : 4 * (t.val / 4) + 3 < cfg0.N := by have := t.isLt; omega
  have e (j : ℕ) (h : 4 * (t.val / 4) + j < cfg0.N) (hj : j = 3) :
      Pipeline.accAt (Cert.KernelDwup3Ideal.Value.reset2 m c) (Cert.KernelDwup3Ideal.Value.step2 m c) (4 * (t.val / 4)) j h
        = Pipeline.accAt (Cert.KernelDwup3Ideal.Value.reset2 m c) (Cert.KernelDwup3Ideal.Value.step2 m c) (4 * (t.val / 4)) 3 hN := by
    subst hj
    rfl
  rw [e _ _ ht]
  refine accumulated _ _ (ix2 s l) (fun r => xs m c (ix2 r s) * ys m c (ix2 r (colIn t l))) (t.val / 4) hN (fun h => ?_) fun n h acc hn => ?_
  · refine (added _ _ _ s l).trans ?_
    rw [zeros, zero_add]
    refine (share m c ⟨_, h⟩ s l).trans ?_
    rw [hl _ h (by omega)]
  · refine (added _ _ _ s l).trans (congrArg (acc (ix2 s l) + ·) ?_)
    refine (share m c ⟨n, h⟩ s l).trans ?_
    rw [hl _ h hn]

/-- The reference, at an element. -/
theorem reference_apply (x : (⟨S8192x256, .bf16⟩ : BufTy).Contents (Elt Ideal)) (y : (⟨S8192x4096, .bf16⟩ : BufTy).Contents (Elt Ideal)) (s : Fin 256) (n : Fin 1024) :
    Cert.ReferenceDwup3Ideal.Read.val_main_v6 (F := Ideal) x y (ix2 s n) = ∑ r : Fin 8192, x (ix2 r s) * y (ix2 r ⟨3072 + n.val, by omega⟩) := by
  unfold Cert.ReferenceDwup3Ideal.Read.val_main_v6 Cert.ReferenceDwup3Ideal.Read.val_main_v5 Cert.ReferenceDwup3Ideal.Read.val_main_v4 Cert.ReferenceDwup3Ideal.Read.val_main_v2 Cert.ReferenceDwup3Ideal.Read.val_main_v0
  pointwise []
  exact Finset.sum_congr rfl fun r _ => mul_comm _ _

/-- The array that the call leaves is the reference's. -/
theorem result : (dats m 0 c).arrAt 2 cfg0.N = Cert.ReferenceDwup3Ideal.Read.val_main_v6 (F := Ideal) (xs m c) (ys m c) := by
  refine (dats m 0 c).arrAt_eq_of_covers 2 _ (by decide +kernel) fun t hf y => ?_
  blk_simp
  rw [after0_2]
  have h3 : t.val % 4 = 3 := (flush0_2 t).mp hf
  obtain ⟨s, l, rfl⟩ : ∃ s l, y = ix2 s l := ⟨y 0, y 1, by ext i; fin_cases i <;> rfl⟩
  have e : (win0_2.blk t).view.emb (ix2 s l) = ix2 s (colOut t l) := by
    blk_ext [index_o t]
  rw [e]
  exact (tile m c t h3 s l).trans (reference_apply _ _ s (colOut t l)).symm

end Cert.Products.UpWeights3

end
-- ==== Proof.Products.lean ====
/-
  The claims of the ten products: the references leave their arguments as they were, and each call ends with its
  reference's array.
-/
module

public import proofs.«01_k».proof.Defs
public import proofs.«01_k».proof.Proof.InputProjection
public import proofs.«01_k».proof.Proof.InputGradient
public import proofs.«01_k».proof.Proof.InputWeights
public import proofs.«01_k».proof.Proof.GateWeights
public import proofs.«01_k».proof.Proof.EmbeddingWeights
public import proofs.«01_k».proof.Proof.OutputWeights
public import proofs.«01_k».proof.Proof.UpWeights0
public import proofs.«01_k».proof.Proof.UpWeights1
public import proofs.«01_k».proof.Proof.UpWeights2
public import proofs.«01_k».proof.Proof.UpWeights3
public import proofs.«01_k».proof.Proof.Gen.ReferenceZIdeal
public import proofs.«01_k».proof.Proof.Gen.ReferenceDhIdeal
public import proofs.«01_k».proof.Proof.Gen.ReferenceDwzIdeal
public import proofs.«01_k».proof.Proof.Gen.ReferenceDwgIdeal
public import proofs.«01_k».proof.Proof.Gen.ReferenceDwpIdeal
public import proofs.«01_k».proof.Proof.Gen.ReferenceDwoIdeal
public import proofs.«01_k».proof.Proof.Gen.ReferenceDwup0Ideal
public import proofs.«01_k».proof.Proof.Gen.ReferenceDwup1Ideal
public import proofs.«01_k».proof.Proof.Gen.ReferenceDwup2Ideal
public import proofs.«01_k».proof.Proof.Gen.ReferenceDwup3Ideal
public import Idealize.ShloMosaic.Adequacy
public import Idealize.ShloMosaic.Init

@[expose] public section

noncomputable section

namespace Cert.Products

open Idealize.ShloMosaic Idealize.SL.Sem

/-- Equal arguments, equal results. -/
theorem congr_two {α β γ : Type*} (f : α → β → γ) {x x' : α} {y y' : β} (ex : x = x') (ey : y = y') : f x y = f x' y' := by
  subst ex ey
  rfl

/-- The reference of the input projection changes no argument. -/
theorem Projection.reference_frame : Cert.quiescent_ReferenceZIdeal (hReferenceZIdeal := Cert.ReferenceZIdeal.Gen.facts) := fun m ρ _ =>
  (θ_run _ _ _).mono (fun r h => ⟨fun c => (h c).2, sem_eq_zero_of_no_sems (by decide) r.2⟩) (Cert.ReferenceZIdeal.Value.run m ρ)

/-- The call and the reference of the input projection end with the same array. -/
theorem Projection.algebraic : Cert.algebraic_KernelZIdeal_ReferenceZIdeal (hKernelZIdeal := Cert.KernelZIdeal.Gen.facts)
    (hReferenceZIdeal := Cert.ReferenceZIdeal.Gen.facts) := by
  intro m g m' g' _ hargs
  refine ⟨fun c => (Cert.KernelZIdeal.Gen.dats m 0 c).arrAt 2 Cert.KernelZIdeal.cfg0.N, Cert.KernelZIdeal.Value.run_blocks m g, ?_⟩
  refine (θ_run _ _ _).mono (fun r hr c => ⟨?_, (hr c).2⟩) (Cert.ReferenceZIdeal.Value.run m' g')
  exact (hr c).1.trans ((Cert.ReferenceZIdeal.Read.val_main_v2_eq _ _).trans
    ((congr_two (Cert.ReferenceZIdeal.Read.val_main_v2 (F := Ideal)) (hargs c).1 (hargs c).2).trans (Projection.result m c).symm))

/-- The reference of the input projection's gradient in its rows changes no argument. -/
theorem Gradient.reference_frame : Cert.quiescent_ReferenceDhIdeal (hReferenceDhIdeal := Cert.ReferenceDhIdeal.Gen.facts) := fun m ρ _ =>
  (θ_run _ _ _).mono (fun r h => ⟨fun c => (h c).2, sem_eq_zero_of_no_sems (by decide) r.2⟩) (Cert.ReferenceDhIdeal.Value.run m ρ)

/-- The call and the reference of the input projection's gradient in its rows end with the same array. -/
theorem Gradient.algebraic : Cert.algebraic_KernelDhIdeal_ReferenceDhIdeal (hKernelDhIdeal := Cert.KernelDhIdeal.Gen.facts)
    (hReferenceDhIdeal := Cert.ReferenceDhIdeal.Gen.facts) := by
  intro m g m' g' _ hargs
  refine ⟨fun c => (Cert.KernelDhIdeal.Gen.dats m 0 c).arrAt 2 Cert.KernelDhIdeal.cfg0.N, Cert.KernelDhIdeal.Value.run_blocks m g, ?_⟩
  refine (θ_run _ _ _).mono (fun r hr c => ⟨?_, (hr c).2⟩) (Cert.ReferenceDhIdeal.Value.run m' g')
  exact (hr c).1.trans ((Cert.ReferenceDhIdeal.Read.val_main_v4_eq _ _).trans
    ((congr_two (Cert.ReferenceDhIdeal.Read.val_main_v4 (F := Ideal)) (hargs c).1 (hargs c).2).trans (Gradient.result m c).symm))

/-- The reference of the input projection's gradient in its weights changes no argument. -/
theorem InputWeights.reference_frame : Cert.quiescent_ReferenceDwzIdeal (hReferenceDwzIdeal := Cert.ReferenceDwzIdeal.Gen.facts) := fun m ρ _ =>
  (θ_run _ _ _).mono (fun r h => ⟨fun c => (h c).2, sem_eq_zero_of_no_sems (by decide) r.2⟩) (Cert.ReferenceDwzIdeal.Value.run m ρ)

/-- The call and the reference of the input projection's gradient in its weights end with the same array. -/
theorem InputWeights.algebraic : Cert.algebraic_KernelDwzIdeal_ReferenceDwzIdeal (hKernelDwzIdeal := Cert.KernelDwzIdeal.Gen.facts)
    (hReferenceDwzIdeal := Cert.ReferenceDwzIdeal.Gen.facts) := by
  intro m g m' g' _ hargs
  refine ⟨fun c => (Cert.KernelDwzIdeal.Gen.dats m 0 c).arrAt 2 Cert.KernelDwzIdeal.cfg0.N, Cert.KernelDwzIdeal.Value.run_blocks m g, ?_⟩
  refine (θ_run _ _ _).mono (fun r hr c => ⟨?_, (hr c).2⟩) (Cert.ReferenceDwzIdeal.Value.run m' g')
  exact (hr c).1.trans ((Cert.ReferenceDwzIdeal.Read.val_main_v5_eq _ _).trans
    ((congr_two (Cert.ReferenceDwzIdeal.Read.val_main_v5 (F := Ideal)) (hargs c).1 (hargs c).2).trans (InputWeights.result m c).symm))

/-- The reference of the gradient in the weights of the embedding's gate changes no argument. -/
theorem GateWeights.reference_frame : Cert.quiescent_ReferenceDwgIdeal (hReferenceDwgIdeal := Cert.ReferenceDwgIdeal.Gen.facts) := fun m ρ _ =>
  (θ_run _ _ _).mono (fun r h => ⟨fun c => (h c).2, sem_eq_zero_of_no_sems (by decide) r.2⟩) (Cert.ReferenceDwgIdeal.Value.run m ρ)

/-- The call and the reference of the gradient in the weights of the embedding's gate end with the same array. -/
theorem GateWeights.algebraic : Cert.algebraic_KernelDwgIdeal_ReferenceDwgIdeal (hKernelDwgIdeal := Cert.KernelDwgIdeal.Gen.facts)
    (hReferenceDwgIdeal := Cert.ReferenceDwgIdeal.Gen.facts) := by
  intro m g m' g' _ hargs
  refine ⟨fun c => (Cert.KernelDwgIdeal.Gen.dats m 0 c).arrAt 2 Cert.KernelDwgIdeal.cfg0.N, Cert.KernelDwgIdeal.Value.run_blocks m g, ?_⟩
  refine (θ_run _ _ _).mono (fun r hr c => ⟨?_, (hr c).2⟩) (Cert.ReferenceDwgIdeal.Value.run m' g')
  exact (hr c).1.trans ((Cert.ReferenceDwgIdeal.Read.val_main_v5_eq _ _).trans
    ((congr_two (Cert.ReferenceDwgIdeal.Read.val_main_v5 (F := Ideal)) (hargs c).1 (hargs c).2).trans (GateWeights.result m c).symm))

/-- The reference of the gradient in the weights of the embedding's projection changes no argument. -/
theorem EmbeddingWeights.reference_frame : Cert.quiescent_ReferenceDwpIdeal (hReferenceDwpIdeal := Cert.ReferenceDwpIdeal.Gen.facts) := fun m ρ _ =>
  (θ_run _ _ _).mono (fun r h => ⟨fun c => (h c).2, sem_eq_zero_of_no_sems (by decide) r.2⟩) (Cert.ReferenceDwpIdeal.Value.run m ρ)

/-- The call and the reference of the gradient in the weights of the embedding's projection end with the same array. -/
theorem EmbeddingWeights.algebraic : Cert.algebraic_KernelDwpIdeal_ReferenceDwpIdeal (hKernelDwpIdeal := Cert.KernelDwpIdeal.Gen.facts)
    (hReferenceDwpIdeal := Cert.ReferenceDwpIdeal.Gen.facts) := by
  intro m g m' g' _ hargs
  refine ⟨fun c => (Cert.KernelDwpIdeal.Gen.dats m 0 c).arrAt 2 Cert.KernelDwpIdeal.cfg0.N, Cert.KernelDwpIdeal.Value.run_blocks m g, ?_⟩
  refine (θ_run _ _ _).mono (fun r hr c => ⟨?_, (hr c).2⟩) (Cert.ReferenceDwpIdeal.Value.run m' g')
  exact (hr c).1.trans ((Cert.ReferenceDwpIdeal.Read.val_main_v5_eq _ _).trans
    ((congr_two (Cert.ReferenceDwpIdeal.Read.val_main_v5 (F := Ideal)) (hargs c).1 (hargs c).2).trans (EmbeddingWeights.result m c).symm))

/-- The reference of the gradient in the weights of the output projection changes no argument. -/
theorem OutputWeights.reference_frame : Cert.quiescent_ReferenceDwoIdeal (hReferenceDwoIdeal := Cert.ReferenceDwoIdeal.Gen.facts) := fun m ρ _ =>
  (θ_run _ _ _).mono (fun r h => ⟨fun c => (h c).2, sem_eq_zero_of_no_sems (by decide) r.2⟩) (Cert.ReferenceDwoIdeal.Value.run m ρ)

/-- The call and the reference of the gradient in the weights of the output projection end with the same array. -/
theorem OutputWeights.algebraic : Cert.algebraic_KernelDwoIdeal_ReferenceDwoIdeal (hKernelDwoIdeal := Cert.KernelDwoIdeal.Gen.facts)
    (hReferenceDwoIdeal := Cert.ReferenceDwoIdeal.Gen.facts) := by
  intro m g m' g' _ hargs
  refine ⟨fun c => (Cert.KernelDwoIdeal.Gen.dats m 0 c).arrAt 2 Cert.KernelDwoIdeal.cfg0.N, Cert.KernelDwoIdeal.Value.run_blocks m g, ?_⟩
  refine (θ_run _ _ _).mono (fun r hr c => ⟨?_, (hr c).2⟩) (Cert.ReferenceDwoIdeal.Value.run m' g')
  exact (hr c).1.trans ((Cert.ReferenceDwoIdeal.Read.val_main_v5_eq _ _).trans
    ((congr_two (Cert.ReferenceDwoIdeal.Read.val_main_v5 (F := Ideal)) (hargs c).1 (hargs c).2).trans (OutputWeights.result m c).symm))

/-- The reference of the gradient in the weights of the first up-projection changes no argument. -/
theorem UpWeights0.reference_frame : Cert.quiescent_ReferenceDwup0Ideal (hReferenceDwup0Ideal := Cert.ReferenceDwup0Ideal.Gen.facts) := fun m ρ _ =>
  (θ_run _ _ _).mono (fun r h => ⟨fun c => (h c).2, sem_eq_zero_of_no_sems (by decide) r.2⟩) (Cert.ReferenceDwup0Ideal.Value.run m ρ)

/-- The call and the reference of the gradient in the weights of the first up-projection end with the same array. -/
theorem UpWeights0.algebraic : Cert.algebraic_KernelDwup0Ideal_ReferenceDwup0Ideal (hKernelDwup0Ideal := Cert.KernelDwup0Ideal.Gen.facts)
    (hReferenceDwup0Ideal := Cert.ReferenceDwup0Ideal.Gen.facts) := by
  intro m g m' g' _ hargs
  refine ⟨fun c => (Cert.KernelDwup0Ideal.Gen.dats m 0 c).arrAt 2 Cert.KernelDwup0Ideal.cfg0.N, Cert.KernelDwup0Ideal.Value.run_blocks m g, ?_⟩
  refine (θ_run _ _ _).mono (fun r hr c => ⟨?_, (hr c).2⟩) (Cert.ReferenceDwup0Ideal.Value.run m' g')
  exact (hr c).1.trans ((Cert.ReferenceDwup0Ideal.Read.val_main_v6_eq _ _).trans
    ((congr_two (Cert.ReferenceDwup0Ideal.Read.val_main_v6 (F := Ideal)) (hargs c).1 (hargs c).2).trans (UpWeights0.result m c).symm))

/-- The reference of the gradient in the weights of the second up-projection changes no argument. -/
theorem UpWeights1.reference_frame : Cert.quiescent_ReferenceDwup1Ideal (hReferenceDwup1Ideal := Cert.ReferenceDwup1Ideal.Gen.facts) := fun m ρ _ =>
  (θ_run _ _ _).mono (fun r h => ⟨fun c => (h c).2, sem_eq_zero_of_no_sems (by decide) r.2⟩) (Cert.ReferenceDwup1Ideal.Value.run m ρ)

/-- The call and the reference of the gradient in the weights of the second up-projection end with the same array. -/
theorem UpWeights1.algebraic : Cert.algebraic_KernelDwup1Ideal_ReferenceDwup1Ideal (hKernelDwup1Ideal := Cert.KernelDwup1Ideal.Gen.facts)
    (hReferenceDwup1Ideal := Cert.ReferenceDwup1Ideal.Gen.facts) := by
  intro m g m' g' _ hargs
  refine ⟨fun c => (Cert.KernelDwup1Ideal.Gen.dats m 0 c).arrAt 2 Cert.KernelDwup1Ideal.cfg0.N, Cert.KernelDwup1Ideal.Value.run_blocks m g, ?_⟩
  refine (θ_run _ _ _).mono (fun r hr c => ⟨?_, (hr c).2⟩) (Cert.ReferenceDwup1Ideal.Value.run m' g')
  exact (hr c).1.trans ((Cert.ReferenceDwup1Ideal.Read.val_main_v6_eq _ _).trans
    ((congr_two (Cert.ReferenceDwup1Ideal.Read.val_main_v6 (F := Ideal)) (hargs c).1 (hargs c).2).trans (UpWeights1.result m c).symm))

/-- The reference of the gradient in the weights of the third up-projection changes no argument. -/
theorem UpWeights2.reference_frame : Cert.quiescent_ReferenceDwup2Ideal (hReferenceDwup2Ideal := Cert.ReferenceDwup2Ideal.Gen.facts) := fun m ρ _ =>
  (θ_run _ _ _).mono (fun r h => ⟨fun c => (h c).2, sem_eq_zero_of_no_sems (by decide) r.2⟩) (Cert.ReferenceDwup2Ideal.Value.run m ρ)

/-- The call and the reference of the gradient in the weights of the third up-projection end with the same array. -/
theorem UpWeights2.algebraic : Cert.algebraic_KernelDwup2Ideal_ReferenceDwup2Ideal (hKernelDwup2Ideal := Cert.KernelDwup2Ideal.Gen.facts)
    (hReferenceDwup2Ideal := Cert.ReferenceDwup2Ideal.Gen.facts) := by
  intro m g m' g' _ hargs
  refine ⟨fun c => (Cert.KernelDwup2Ideal.Gen.dats m 0 c).arrAt 2 Cert.KernelDwup2Ideal.cfg0.N, Cert.KernelDwup2Ideal.Value.run_blocks m g, ?_⟩
  refine (θ_run _ _ _).mono (fun r hr c => ⟨?_, (hr c).2⟩) (Cert.ReferenceDwup2Ideal.Value.run m' g')
  exact (hr c).1.trans ((Cert.ReferenceDwup2Ideal.Read.val_main_v6_eq _ _).trans
    ((congr_two (Cert.ReferenceDwup2Ideal.Read.val_main_v6 (F := Ideal)) (hargs c).1 (hargs c).2).trans (UpWeights2.result m c).symm))

/-- The reference of the gradient in the weights of the fourth up-projection changes no argument. -/
theorem UpWeights3.reference_frame : Cert.quiescent_ReferenceDwup3Ideal (hReferenceDwup3Ideal := Cert.ReferenceDwup3Ideal.Gen.facts) := fun m ρ _ =>
  (θ_run _ _ _).mono (fun r h => ⟨fun c => (h c).2, sem_eq_zero_of_no_sems (by decide) r.2⟩) (Cert.ReferenceDwup3Ideal.Value.run m ρ)

/-- The call and the reference of the gradient in the weights of the fourth up-projection end with the same array. -/
theorem UpWeights3.algebraic : Cert.algebraic_KernelDwup3Ideal_ReferenceDwup3Ideal (hKernelDwup3Ideal := Cert.KernelDwup3Ideal.Gen.facts)
    (hReferenceDwup3Ideal := Cert.ReferenceDwup3Ideal.Gen.facts) := by
  intro m g m' g' _ hargs
  refine ⟨fun c => (Cert.KernelDwup3Ideal.Gen.dats m 0 c).arrAt 2 Cert.KernelDwup3Ideal.cfg0.N, Cert.KernelDwup3Ideal.Value.run_blocks m g, ?_⟩
  refine (θ_run _ _ _).mono (fun r hr c => ⟨?_, (hr c).2⟩) (Cert.ReferenceDwup3Ideal.Value.run m' g')
  exact (hr c).1.trans ((Cert.ReferenceDwup3Ideal.Read.val_main_v6_eq _ _).trans
    ((congr_two (Cert.ReferenceDwup3Ideal.Read.val_main_v6 (F := Ideal)) (hargs c).1 (hargs c).2).trans (UpWeights3.result m c).symm))

end Cert.Products

end
-- ==== Proof.MergeReference.lean ====
/-
  The merge's gates and up-projections as the references have them.
-/
module

public import proofs.«01_k».proof.Proof.Gen.ReferenceMergeIdeal.Read
public import Idealize.ShloMosaic.Lib.Pipeline.ValueKit

@[expose] public section

set_option maxRecDepth 16384

noncomputable section

namespace Cert.Merge

open Idealize.ShloMosaic Idealize.ShloMosaic.TcCoe Idealize.SL.Sem Cert.ReferenceMergeIdeal Cert.ReferenceMergeIdeal.Read

/-- The four mixers' outputs, their up-projection, the logits of the gates with their bias. -/
abbrev Rows := (⟨S8192x256, .bf16⟩ : BufTy).Contents (Elt Ideal)

abbrev Logits := (⟨S8192x8320, .f32⟩ : BufTy).Contents (Elt Ideal)

abbrev Ups := (⟨S4x256x1024, .bf16⟩ : BufTy).Contents (Elt Ideal)

abbrev Biases := (⟨S4x1024, .f32⟩ : BufTy).Contents (Elt Ideal)

variable (z : Logits) (ya yb yc yd : Rows) (w : Ups) (mb : Biases)

/-- Branch `b` of a row: its projection and its gate. -/
def up (s : Fin 8192) (b : Fin 4) (d : Fin 1024) : EReal := ∑ k : Fin 256, ![ya, yb, yc, yd] b (ix2 s k) * w (ix3 b k d)

def gate (s : Fin 8192) (b : Fin 4) (d : Fin 1024) : EReal := Ideal.logistic (z (ix2 s ⟨b.val * 1024 + d.val, by omega⟩) + mb (ix2 b d))

theorem stacked (s : Fin 8192) (b : Fin 4) (k : Fin 256) : val_main_v4 (F := Ideal) ya yb yc yd (ix3 b s k) = ![ya, yb, yc, yd] b (ix2 s k) := by
  unfold val_main_v4 val_main_v0 val_main_v1 val_main_v2 val_main_v3
  fin_cases b <;> pointwise [] <;> rfl

theorem up_eq (s : Fin 8192) (b : Fin 4) (d : Fin 1024) : val_main_v11 (F := Ideal) ya yb yc yd w (ix3 s b d) = up ya yb yc yd w s b d := by
  unfold val_main_v11 val_main_v10 val_main_v5 val_main_v8 up
  simp only [← stacked]
  generalize val_main_v4 (F := Ideal) ya yb yc yd = y
  pointwise []
  exact Finset.sum_congr rfl fun k _ => mul_comm _ _

theorem gate_eq (s : Fin 8192) (b : Fin 4) (d : Fin 1024) : val_main_v20 (F := Ideal) z mb (ix3 s b d) = gate z mb s b d := by
  unfold val_main_v20 val_main_v19 val_main_v18 val_main_v17 val_main_v16 val_main_v15 val_main_v14 val_main_v13 val_main_v12 val_main_v7 val_main_v6 val_main_cst val_main_cst_0 gate
  pointwise []
  rfl

theorem merged_eq (s : Fin 8192) (d : Fin 1024) : val_main_v22 (F := Ideal) z ya yb yc yd w mb (ix2 s d) = ∑ b : Fin 4, gate z mb s b d * up ya yb yc yd w s b d := by
  unfold val_main_v22 val_main_v21 val_main_cst_1
  simp only [← gate_eq, ← up_eq]
  generalize val_main_v20 (F := Ideal) z mb = g
  generalize val_main_v11 (F := Ideal) ya yb yc yd w = u
  pointwise []

end Cert.Merge

end
-- ==== Proof.GatedMerge.lean ====
/-
  The gated merge: every grid point writes 512 rows of the merged branches and of the residual's sum.
-/
module

public import proofs.«01_k».proof.Proof.Gen.KernelMergeIdeal.Value
public import proofs.«01_k».proof.Proof.Gen.ReferenceMergeIdeal.Run
public import proofs.«01_k».proof.Proof.MergeReference
public import Idealize.ShloMosaic.Lib.Pipeline.ReadBack

@[expose] public section

set_option maxRecDepth 16384

noncomputable section

namespace Cert.Merge.Forward

open Idealize.ShloMosaic Idealize.ShloMosaic.TcCoe Idealize.SL.Sem Cert.KernelMergeIdeal Cert.KernelMergeIdeal.Gen

/-- A branch's columns and its weights, loaded from a block. -/
abbrev cols (z : FVec Ideal S512x4096 .f32) (o : Fin 2 → ℕ) (h : ∀ a : Fin S512x4096.rank, o a + S512x1024.size a ≤ S512x4096.size a) : Vec Ideal S512x1024 .f32 :=
  View.ld (Val := Elt Ideal) (e' := .f32) z (Rect.unit (s := S512x4096) o S512x1024.size h)

abbrev layer (w : FVec Ideal S4x256x1024 .bf16) (o : Fin 3 → ℕ) (h : ∀ a : Fin S4x256x1024.rank, o a + S1x256x1024.size a ≤ S4x256x1024.size a) : Vec Ideal S1x256x1024 .bf16 :=
  View.ld (Val := Elt Ideal) (e' := .bf16) w (Rect.unit (s := S4x256x1024) o S1x256x1024.size h)

/-- One row's four gated branches, added up. -/
theorem added (z : FVec Ideal S512x4096 .f32) (ya yb yc yd : FVec Ideal S512x256 .bf16) (w : FVec Ideal S4x256x1024 .bf16) (mb : FVec Ideal S4x1024 .f32) (s : Fin 512) (l : Fin 1024) :
    k0_pay1 (F := Ideal) mb
      (k0_pay3 mb (cols z ![0, 0] inb_S512x4096_S512x1024_0_0) ya
        (layer w ![0, 0, 0] inb_S4x256x1024_S1x256x1024_0_0_0)
        (cols z ![0, 1024] inb_S512x4096_S512x1024_0_1024) yb
        (layer w ![1, 0, 0] inb_S4x256x1024_S1x256x1024_1_0_0)
        (cols z ![0, 2048] inb_S512x4096_S512x1024_0_2048) yc
        (layer w ![2, 0, 0] inb_S4x256x1024_S1x256x1024_2_0_0))
      (cols z ![0, 3072] inb_S512x4096_S512x1024_0_3072) yd
      (layer w ![3, 0, 0] inb_S4x256x1024_S1x256x1024_3_0_0) (ix2 s l)
      = ∑ b : Fin 4, Ideal.logistic (z (ix2 s ⟨b.val * 1024 + l.val, by omega⟩) + mb (ix2 b l)) * ∑ k : Fin 256, ![ya, yb, yc, yd] b (ix2 s k) * w (ix3 b k l) := by
  rw [Fin.sum_univ_four]
  pointwise [k0_pay1, k0_pay3, cols, layer]

variable (m : (ℓ : Loc nD τ sig) → Buf (Elt Ideal) ℓ) (c : Dev nD) (t : Fin cfg0.N)

/-- The blocks that a point reads. -/
abbrev xBlock : FVec Ideal S512x1024 .f32 := iblk m c 0 t

abbrev zBlock : FVec Ideal S512x4096 .f32 := X0_1 m c t

abbrev aBlock : FVec Ideal S512x256 .bf16 := iblk m c 2 t

abbrev bBlock : FVec Ideal S512x256 .bf16 := iblk m c 3 t

abbrev cBlock : FVec Ideal S512x256 .bf16 := iblk m c 4 t

abbrev dBlock : FVec Ideal S512x256 .bf16 := iblk m c 5 t

abbrev upBlock : FVec Ideal S4x256x1024 .bf16 := iblk m c 6 t

abbrev biasBlock : FVec Ideal S4x1024 .f32 := iblk m c 7 t

abbrev outBlock : FVec Ideal S1024x1024 .bf16 := iblk m c 8 t

/-- The arguments. -/
abbrev xs : (⟨S8192x1024, .f32⟩ : BufTy).Contents (Elt Ideal) := m ((c : Thread nD τ).loc main_arg0)

abbrev zs : Logits := m ((c : Thread nD τ).loc main_arg1)

abbrev ya : Rows := m ((c : Thread nD τ).loc main_arg2)

abbrev yb : Rows := m ((c : Thread nD τ).loc main_arg3)

abbrev yc : Rows := m ((c : Thread nD τ).loc main_arg4)

abbrev yd : Rows := m ((c : Thread nD τ).loc main_arg5)

abbrev ups : Ups := m ((c : Thread nD τ).loc main_arg6)

abbrev biases : Biases := m ((c : Thread nD τ).loc main_arg7)

abbrev out : (⟨S1024x1024, .bf16⟩ : BufTy).Contents (Elt Ideal) := m ((c : Thread nD τ).loc main_arg8)

/-- A point's rows. -/
abbrev rowOf (s : Fin 512) : Fin 8192 := ⟨512 * t.val + s.val, by have : t.val < 16 := t.isLt; omega⟩

theorem index_rows : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_9.index t = ![t.val, 0] ∧ win0_10.index t = ![t.val, 0] := by decide +kernel

theorem index_whole : ∀ t : Fin cfg0.N, win0_6.index t = ![0, 0, 0] ∧ win0_7.index t = ![0, 0] ∧ win0_8.index t = ![0, 0] := by decide +kernel

theorem x_block (s : Fin 512) (k : Fin 1024) : xBlock m c t (ix2 s k) = xs m c (ix2 (rowOf t s) k) := by
  unfold xs
  rw [← V_main_arg0 m c]
  blk_ext [xBlock, iblk, (index_rows t).1]

theorem z_block (s : Fin 512) (k : Fin 4096) : zBlock m c t (ix2 s k) = zs m c (ix2 (rowOf t s) ⟨k.val, by omega⟩) := by
  unfold zs zBlock X0_1 Pipeline.Window.fill
  rw [← V_main_arg1 m c, dif_pos (moved0_1 t _)]
  blk_ext [iblk, (index_rows t).2.1]

theorem branches (b : Fin 4) (s : Fin 512) (k : Fin 256) :
    ![aBlock m c t, bBlock m c t, cBlock m c t, dBlock m c t] b (ix2 s k) = ![ya m c, yb m c, yc m c, yd m c] b (ix2 (rowOf t s) k) := by
  obtain ⟨-, -, ea, eb, ec, ed, -⟩ := index_rows t
  fin_cases b
  · show aBlock m c t (ix2 s k) = ya m c (ix2 (rowOf t s) k)
    unfold ya
    rw [← V_main_arg2 m c]
    blk_ext [aBlock, iblk, ea]
  · show bBlock m c t (ix2 s k) = yb m c (ix2 (rowOf t s) k)
    unfold yb
    rw [← V_main_arg3 m c]
    blk_ext [bBlock, iblk, eb]
  · show cBlock m c t (ix2 s k) = yc m c (ix2 (rowOf t s) k)
    unfold yc
    rw [← V_main_arg4 m c]
    blk_ext [cBlock, iblk, ec]
  · show dBlock m c t (ix2 s k) = yd m c (ix2 (rowOf t s) k)
    unfold yd
    rw [← V_main_arg5 m c]
    blk_ext [dBlock, iblk, ed]

theorem up_block (b : Fin 4) (k : Fin 256) (l : Fin 1024) : upBlock m c t (ix3 b k l) = ups m c (ix3 b k l) := by
  unfold ups
  rw [← V_main_arg6 m c]
  blk_ext [upBlock, iblk, (index_whole t).1]

theorem bias_block (b : Fin 4) (l : Fin 1024) : biasBlock m c t (ix2 b l) = biases m c (ix2 b l) := by
  unfold biases
  rw [← V_main_arg7 m c]
  blk_ext [biasBlock, iblk, (index_whole t).2.1]

theorem out_block (k : Fin 1024) (l : Fin 1024) : outBlock m c t (ix2 k l) = out m c (ix2 k l) := by
  unfold out
  rw [← V_main_arg8 m c]
  blk_ext [outBlock, iblk, (index_whole t).2.2]

/-- The merged rows, as the reference has them. -/
abbrev merged (s : Fin 512) (l : Fin 1024) : EReal :=
  Cert.ReferenceMergeIdeal.Read.val_main_v22 (F := Ideal) (zs m c) (ya m c) (yb m c) (yc m c) (yd m c) (ups m c) (biases m c) (ix2 (rowOf t s) l)

theorem sums (s : Fin 512) (l : Fin 1024) :
    ∑ b : Fin 4, Ideal.logistic (zBlock m c t (ix2 s ⟨b.val * 1024 + l.val, by omega⟩) + biasBlock m c t (ix2 b l))
        * ∑ k : Fin 256, ![aBlock m c t, bBlock m c t, cBlock m c t, dBlock m c t] b (ix2 s k) * upBlock m c t (ix3 b k l)
      = merged m c t s l := by
  unfold merged
  rw [merged_eq]
  refine Finset.sum_congr rfl fun b _ => congrArg₂ _ (congrArg Ideal.logistic (congrArg₂ _ ?_ (bias_block m c t b l))) (Finset.sum_congr rfl fun k _ => congrArg₂ _ (branches m c t b s k) (up_block m c t b k l))
  exact z_block m c t s _

theorem merged_tile (s : Fin 512) (l : Fin 1024) : (outsAt0 (F := Ideal) m c t).2 (ix2 s l) = merged m c t s l := by
  rw [← sums]
  unfold outsAt0
  frame_out
  exact added (zBlock m c t) (aBlock m c t) (bBlock m c t) (cBlock m c t) (dBlock m c t) (upBlock m c t) (biasBlock m c t) s l

/-- The residual's rows plus the merged rows' projection. -/
theorem residual (mb : FVec Ideal S4x1024 .f32) (p z : FVec Ideal S512x1024 .f32) (y : FVec Ideal S512x256 .bf16) (w : FVec Ideal S1x256x1024 .bf16)
    (x : FVec Ideal S512x1024 .f32) (wo : FVec Ideal S1024x1024 .bf16) (s : Fin 512) (l : Fin 1024) :
    k0_pay2 (F := Ideal) mb p z y w x wo (ix2 s l) = x (ix2 s l) + ∑ k : Fin 1024, k0_pay1 (F := Ideal) mb p z y w (ix2 s k) * wo (ix2 k l) := by
  unfold k0_pay2
  generalize k0_pay1 (F := Ideal) mb p z y w = g
  pointwise []

theorem sum_tile (s : Fin 512) (l : Fin 1024) :
    (outsAt0 (F := Ideal) m c t).1 (ix2 s l)
      = xs m c (ix2 (rowOf t s) l) + ∑ k : Fin 1024, merged m c t s k * out m c (ix2 k l) := by
  unfold outsAt0
  frame_out
  refine (residual _ _ _ _ _ (xBlock m c t) (outBlock m c t) s l).trans ?_
  refine congrArg₂ _ (x_block m c t s l) (Finset.sum_congr rfl fun k _ => congrArg₂ _ ?_ (out_block m c t k l))
  rw [← sums]
  exact added (zBlock m c t) (aBlock m c t) (bBlock m c t) (cBlock m c t) (dBlock m c t) (upBlock m c t) (biasBlock m c t) s k

theorem reference_sum (x : (⟨S8192x1024, .f32⟩ : BufTy).Contents (Elt Ideal)) (z : Logits) (ya yb yc yd : Rows) (w : Ups) (mb : Biases)
    (wo : (⟨S1024x1024, .bf16⟩ : BufTy).Contents (Elt Ideal)) (s : Fin 8192) (l : Fin 1024) :
    Cert.ReferenceMergeIdeal.Read.val_main_v24 (F := Ideal) x z ya yb yc yd w mb wo (ix2 s l)
      = x (ix2 s l) + ∑ k : Fin 1024, Cert.ReferenceMergeIdeal.Read.val_main_v22 (F := Ideal) z ya yb yc yd w mb (ix2 s k) * wo (ix2 k l) := by
  unfold Cert.ReferenceMergeIdeal.Read.val_main_v24 Cert.ReferenceMergeIdeal.Read.val_main_v23 Cert.ReferenceMergeIdeal.Read.val_main_v9
  generalize Cert.ReferenceMergeIdeal.Read.val_main_v22 (F := Ideal) z ya yb yc yd w mb = g
  pointwise []

/-- The arrays that the call leaves are the reference's. -/
theorem result_sum : (dats m 0 c).arrAt 9 cfg0.N
    = Cert.ReferenceMergeIdeal.Read.val_main_v24 (F := Ideal) (xs m c) (zs m c) (ya m c) (yb m c) (yc m c) (yd m c) (ups m c) (biases m c) (out m c) := by
  refine (dats m 0 c).arrAt_eq_of_covers 9 _ (by decide +kernel) fun t hf y => ?_
  blk_simp
  rw [after0_9]
  obtain ⟨s, l, rfl⟩ : ∃ s l, y = ix2 s l := ⟨y 0, y 1, by ext i; fin_cases i <;> rfl⟩
  have e : (win0_9.blk t).view.emb (ix2 s l) = ix2 (rowOf t s) l := by
    blk_ext [(index_rows t).2.2.2.2.2.2.1]
  rw [e]
  exact (sum_tile m c t s l).trans (reference_sum _ _ _ _ _ _ _ _ _ (rowOf t s) l).symm

theorem result_merged : (dats m 0 c).arrAt 10 cfg0.N
    = Cert.ReferenceMergeIdeal.Read.val_main_v25 (F := Ideal) (zs m c) (ya m c) (yb m c) (yc m c) (yd m c) (ups m c) (biases m c) := by
  refine (dats m 0 c).arrAt_eq_of_covers 10 _ (by decide +kernel) fun t hf y => ?_
  blk_simp
  rw [after0_10]
  obtain ⟨s, l, rfl⟩ : ∃ s l, y = ix2 s l := ⟨y 0, y 1, by ext i; fin_cases i <;> rfl⟩
  have e : (win0_10.blk t).view.emb (ix2 s l) = ix2 (rowOf t s) l := by
    blk_ext [(index_rows t).2.2.2.2.2.2.2]
  rw [e]
  exact merged_tile m c t s l

end Cert.Merge.Forward

end
-- ==== Proof.MergeGradientReference.lean ====
/-
  The merge's gradient as the reference has it, read at each place of its results.
-/
module

public import proofs.«01_k».proof.Proof.Gen.ReferenceDmergeIdeal.Read
public import proofs.«01_k».proof.Proof.MergeReference

@[expose] public section

set_option maxRecDepth 16384

noncomputable section

namespace Cert.Merge.Backward

open Idealize.ShloMosaic Idealize.ShloMosaic.TcCoe Idealize.SL.Sem Cert.ReferenceDmergeIdeal Cert.ReferenceDmergeIdeal.Read

variable (ct : (⟨S8192x1024, .f32⟩ : BufTy).Contents (Elt Ideal)) (z : Logits) (ya yb yc yd : Rows) (w : Ups) (mb : Biases)
  (wo : (⟨S1024x1024, .bf16⟩ : BufTy).Contents (Elt Ideal))

/-- The reference's gates and projections are those of the merge itself. -/
theorem gate_same : val_main_v20 (F := Ideal) z mb = Cert.ReferenceMergeIdeal.Read.val_main_v20 (F := Ideal) z mb := rfl

theorem up_same : val_main_v11 (F := Ideal) ya yb yc yd w = Cert.ReferenceMergeIdeal.Read.val_main_v11 (F := Ideal) ya yb yc yd w := rfl

/-- The incoming rows times the output's transpose. -/
def passed (s : Fin 8192) (l : Fin 1024) : EReal := ∑ k : Fin 1024, ct (ix2 s k) * wo (ix2 l k)

theorem passed_eq (s : Fin 8192) (l : Fin 1024) : val_main_v27 (F := Ideal) ct wo (ix2 s l) = passed ct wo s l := by
  unfold val_main_v27 val_main_v9 passed
  pointwise []

theorem spread_eq (s : Fin 8192) (b : Fin 4) (l : Fin 1024) : val_main_v28 (F := Ideal) ct wo (ix3 s b l) = passed ct wo s l := by
  rw [← passed_eq]
  unfold val_main_v28
  generalize val_main_v27 (F := Ideal) ct wo = v
  pointwise []

theorem gated_eq (s : Fin 8192) (b : Fin 4) (l : Fin 1024) : val_main_v29 (F := Ideal) ct z mb wo (ix3 s b l) = passed ct wo s l * gate z mb s b l := by
  rw [← spread_eq ct wo s b l, ← gate_eq, ← gate_same, mul_comm]
  rfl

theorem du_eq (s : Fin 8192) (b : Fin 4) (l : Fin 1024) :
    val_main_v38 (F := Ideal) ct z mb wo (ix2 s ⟨b.val * 1024 + l.val, by omega⟩) = passed ct wo s l * gate z mb s b l := by
  rw [← gated_eq]
  unfold val_main_v38 val_main_v37
  generalize val_main_v29 (F := Ideal) ct z mb wo = v
  pointwise []

theorem dxb_eq (s : Fin 8192) (l : Fin 1024) : val_main_v39 (F := Ideal) ct (ix2 s l) = ct (ix2 s l) := rfl

theorem dy_eq (s : Fin 8192) (b : Fin 4) (k : Fin 256) :
    val_main_v41 (F := Ideal) ct z w mb wo (ix2 s ⟨b.val * 256 + k.val, by omega⟩) = ∑ l : Fin 1024, passed ct wo s l * gate z mb s b l * w (ix3 b k l) := by
  simp only [← gated_eq]
  unfold val_main_v41 val_main_v40 val_main_v36 val_main_v35 val_main_v8
  generalize val_main_v29 (F := Ideal) ct z mb wo = v
  pointwise []

/-- What a bias receives from one row. -/
def received (s : Fin 8192) (b : Fin 4) (l : Fin 1024) : EReal :=
  passed ct wo s l * up ya yb yc yd w s b l * gate z mb s b l * (1 - gate z mb s b l)

theorem received_eq (s : Fin 8192) (b : Fin 4) (l : Fin 1024) :
    val_main_v31 (F := Ideal) ct z ya yb yc yd w mb wo (ix3 s b l) = received ct z ya yb yc yd w mb wo s b l := by
  unfold received
  rw [← spread_eq ct wo s b l, ← gate_eq, ← gate_same, ← up_eq, ← up_same, mul_assoc]
  unfold val_main_v31 val_main_v30 val_main_v23 val_main_v22 val_main_v21 val_main_cst_1
  generalize val_main_v28 (F := Ideal) ct wo = v
  generalize val_main_v20 (F := Ideal) z mb = g
  generalize val_main_v11 (F := Ideal) ya yb yc yd w = u
  pointwise []

theorem biases_eq (b : Fin 4) (l : Fin 1024) :
    val_main_v34 (F := Ideal) ct z ya yb yc yd w mb wo (ix2 b l) = ∑ s : Fin 8192, received ct z ya yb yc yd w mb wo s b l := by
  simp only [← received_eq]
  unfold val_main_v34 val_main_v33 val_main_v32 val_main_cst_3 val_main_cst_4
  generalize val_main_v31 (F := Ideal) ct z ya yb yc yd w mb wo = v
  pointwise []
  simp only [Finset.univ_unique, Finset.sum_singleton]

theorem padding : val_main_call0_v0 (F := Ideal) (Shape.Idx.first Gen.h_S_) = 0 := by
  show (((0#32 : BitVec 32).toInt : ℝ) : EReal) = 0
  simp

theorem st_eq (r : Fin 8) (l : Fin 1024) :
    val_main_v42 (F := Ideal) ct z ya yb yc yd w mb wo (ix2 r l)
      = if h : r.val < 4 then ∑ s : Fin 8192, received ct z ya yb yc yd w mb wo s ⟨r.val, h⟩ l else 0 := by
  simp only [← biases_eq]
  unfold val_main_v42
  generalize val_main_v34 (F := Ideal) ct z ya yb yc yd w mb wo = v
  fin_cases r
  all_goals pointwise []
  all_goals exact padding

end Cert.Merge.Backward

end
-- ==== Proof.Attention.lean ====
/-
  The gradient of causal softmax attention with a forget gate, for one head, over the reals: the quantities of the
  forward pass, the gradients in the values, the keys and the cumulated log gates, and the facts that the comparison of
  the two programs uses.
-/
module

public import Idealize.ShloMosaic.PureOps.Ideal.Laws
public import Mathlib.Algebra.BigOperators.Fin
public import Mathlib.Tactic.Ring
public import Mathlib.Tactic.FieldSimp
public import Mathlib.Tactic.Linarith

@[expose] public section

noncomputable section

namespace Cert.Attention

open Idealize.ShloMosaic

/-! ## Real numbers among the extended reals -/

/-- A finite sum of real numbers, read among the extended reals. -/
theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- Division of real numbers by a real number that is not zero. -/
theorem div_coe (a b : ℝ) (hb : b ≠ 0) : Ideal.div (a : EReal) (b : EReal) = ((a / b : ℝ) : EReal) := by
  unfold Ideal.div
  rw [if_neg (by simpa using hb), ← EReal.coe_inv, ← EReal.coe_mul, div_eq_mul_inv]

/-- The exponential of a real number. -/
theorem exp_coe (a : ℝ) : Ideal.exp (a : EReal) = ((Real.exp a : ℝ) : EReal) := rfl

/-- The logarithm of a positive real number. -/
theorem log_coe (a : ℝ) (ha : 0 < a) : Ideal.log (a : EReal) = ((Real.log a : ℝ) : EReal) := by
  show (if a ≤ 0 then (⊥ : EReal) else ((Real.log a : ℝ) : EReal)) = _
  rw [if_neg (not_le.mpr ha)]

/-- An extended real of finite absolute value is a real number. -/
theorem eq_coe_of_abs_lt {x : EReal} (h : max x (-x) < ⊤) : x = ((x.toReal : ℝ) : EReal) := by
  have h1 : x ≠ ⊤ := fun e => by rw [e] at h; simp at h
  have h2 : x ≠ ⊥ := fun e => by rw [e] at h; simp at h
  exact (EReal.coe_toReal h1 h2).symm

/-! ## One head -/

/-- The queries, keys, values, cumulated log gates of one head, and the gradient that reaches its output. -/
structure Head where
  q : Fin 8192 → Fin 64 → ℝ
  k : Fin 8192 → Fin 64 → ℝ
  v : Fin 8192 → Fin 64 → ℝ
  c : Fin 8192 → ℝ
  g : Fin 8192 → Fin 64 → ℝ

namespace Head

variable (A : Head)

/-- The scaled product of a query and a key, with the gates' decay between the two positions. -/
def logit (t s : Fin 8192) : ℝ := (∑ d, A.q t d * A.k s d) * (1 / 8) + (A.c t - A.c s)

/-- The same, with the positions after the query's put to `-∞`. -/
def masked (t s : Fin 8192) : EReal := if s ≤ t then (A.logit t s : EReal) else ⊥

/-- The largest logit of a row. -/
def rowMax (t : Fin 8192) : ℝ := (Finset.univ.fold max (⊥ : EReal) (A.masked t)).toReal

/-- The unnormalised weight of a position. -/
def weight (t s : Fin 8192) : ℝ := if s ≤ t then Real.exp (A.logit t s - A.rowMax t) else 0

/-- The sum of a row's weights. -/
def total (t : Fin 8192) : ℝ := ∑ s, A.weight t s

/-- The softmax. -/
def prob (t s : Fin 8192) : ℝ := A.weight t s / A.total t

/-- The attention's output. -/
def out (t : Fin 8192) (d : Fin 64) : ℝ := ∑ s, A.prob t s * A.v s d

/-- The logarithm of the sum of the exponentials of a row's logits. -/
def lse (t : Fin 8192) : ℝ := A.rowMax t + Real.log (A.total t)

/-- The product of a row of the output with its gradient. -/
def delta (t : Fin 8192) : ℝ := ∑ d, A.g t d * A.out t d

/-- The gradient in a softmax weight. -/
def dprob (t s : Fin 8192) : ℝ := ∑ d, A.g t d * A.v s d

/-- The gradient in a logit. -/
def dlogit (t s : Fin 8192) : ℝ := A.prob t s * (A.dprob t s - A.delta t)

/-- The gradient in a value. -/
def gradV (s : Fin 8192) (d : Fin 64) : ℝ := ∑ t, A.prob t s * A.g t d

/-- The gradient in a key. -/
def gradK (s : Fin 8192) (d : Fin 64) : ℝ := ∑ t, A.dlogit t s * (A.q t d * (1 / 8))

/-- The gradient in a cumulated log gate. -/
def gradC (s : Fin 8192) : ℝ := ∑ t, -A.dlogit t s

/-- The largest logit of a row is a real number: the query's own position is never masked. -/
theorem fold_masked (t : Fin 8192) : Finset.univ.fold max (⊥ : EReal) (A.masked t) = (A.rowMax t : EReal) := by
  have h1 : Finset.univ.fold max (⊥ : EReal) (A.masked t) ≠ ⊤ := by
    apply ne_of_lt
    rw [Finset.fold_max_lt]
    refine ⟨bot_lt_top, fun s _ => ?_⟩
    unfold masked
    split
    · exact EReal.coe_lt_top _
    · exact bot_lt_top
  have h2 : Finset.univ.fold max (⊥ : EReal) (A.masked t) ≠ ⊥ := by
    apply ne_of_gt
    rw [Finset.lt_fold_max]
    refine Or.inr ⟨t, Finset.mem_univ _, ?_⟩
    unfold masked
    rw [if_pos le_rfl]
    exact EReal.bot_lt_coe _
  exact (EReal.coe_toReal h1 h2).symm

/-- The exponential of a masked logit less the row's largest. -/
theorem exp_masked (t s : Fin 8192) : Ideal.exp (A.masked t s - (A.rowMax t : EReal)) = (A.weight t s : EReal) := by
  unfold masked weight
  split
  · rw [← EReal.coe_sub, exp_coe]
  · rw [sub_eq_add_neg, EReal.bot_add]; rfl

theorem weight_nonneg (t s : Fin 8192) : 0 ≤ A.weight t s := by
  unfold weight; split
  · exact (Real.exp_pos _).le
  · exact le_rfl

/-- A row's weights have a positive sum. -/
theorem total_pos (t : Fin 8192) : 0 < A.total t := by
  have h : 0 < A.weight t t := by unfold weight; rw [if_pos le_rfl]; exact Real.exp_pos _
  exact lt_of_lt_of_le h (Finset.single_le_sum (fun s _ => A.weight_nonneg t s) (Finset.mem_univ t))

/-- The softmax is the exponential of the logit less the logarithm of the row's sum. -/
theorem prob_of_le {t s : Fin 8192} (h : s ≤ t) : A.prob t s = Real.exp (A.logit t s - A.lse t) := by
  unfold prob weight lse
  rw [if_pos h, ← sub_sub, Real.exp_sub _ (Real.log _), Real.exp_log (A.total_pos t)]

theorem prob_of_lt {t s : Fin 8192} (h : t < s) : A.prob t s = 0 := by
  unfold prob weight
  rw [if_neg (not_le.mpr h), zero_div]

theorem dlogit_of_lt {t s : Fin 8192} (h : t < s) : A.dlogit t s = 0 := by
  unfold dlogit
  rw [A.prob_of_lt h, zero_mul]

/-- The softmax weights of a row sum to one. -/
theorem sum_prob (t : Fin 8192) : ∑ s, A.prob t s = 1 := by
  unfold prob
  rw [← Finset.sum_div]
  exact div_self (A.total_pos t).ne'

/-- The row product is the softmax's mean of its gradient. -/
theorem delta_eq (t : Fin 8192) : A.delta t = ∑ s, A.prob t s * A.dprob t s := by
  unfold delta out dprob
  simp only [Finset.mul_sum]
  rw [Finset.sum_comm]
  refine Finset.sum_congr rfl fun s _ => Finset.sum_congr rfl fun d _ => ?_
  ring

/-- A logit's gradients sum to zero along a row. -/
theorem sum_dlogit (t : Fin 8192) : ∑ s, A.dlogit t s = 0 := by
  unfold dlogit
  simp only [mul_sub, Finset.sum_sub_distrib]
  rw [← Finset.sum_mul, A.sum_prob, one_mul, A.delta_eq, sub_self]

/-- A logit's gradient as the reverse rule of the division writes it. -/
theorem dlogit_eq (t s : Fin 8192) :
    (A.dprob t s / A.total t + -(∑ r, A.dprob t r * (1 / (A.total t * A.total t)) * A.weight t r)) * A.weight t s = A.dlogit t s := by
  have hl := (A.total_pos t).ne'
  have h : (∑ r, A.dprob t r * (1 / (A.total t * A.total t)) * A.weight t r) = A.delta t / A.total t := by
    rw [A.delta_eq, Finset.sum_div]
    refine Finset.sum_congr rfl fun r _ => ?_
    unfold prob
    field_simp
  rw [h]
  unfold dlogit prob
  field_simp
  ring

/-! ## The extra lanes -/

/-- A query's row: the scaled query, the gate less the row's logarithm, three ones. -/
def laneQ (t : Fin 8192) (l : ℕ) : ℝ :=
  if h : l < 64 then A.q t ⟨l, h⟩ * (1 / 8) else if l = 64 then A.c t - A.lse t else if l < 67 then 0 else if l < 70 then 1 else 0

/-- A key's row: the key, three ones, minus the gate. -/
def laneK (s : Fin 8192) (l : ℕ) : ℝ :=
  if h : l < 64 then A.k s ⟨l, h⟩ else if l < 67 then 1 else if l = 67 then -A.c s else 0

/-- A value's row: the value, three times minus one. -/
def laneV (s : Fin 8192) (l : ℕ) : ℝ :=
  if h : l < 64 then A.v s ⟨l, h⟩ else if l < 67 then -1 else 0

/-- A row of the output's gradient: the gradient, the row product. -/
def laneG (t : Fin 8192) (l : ℕ) : ℝ :=
  if h : l < 64 then A.g t ⟨l, h⟩ else if l = 64 then A.delta t else 0

theorem sum_lanes (f : ℕ → ℝ) : ∑ l : Fin 128, f l = (∑ d : Fin 64, f d) + ∑ e ∈ Finset.range 64, f (64 + e) := by
  rw [Fin.sum_univ_eq_sum_range f 128, Fin.sum_univ_eq_sum_range f 64]
  exact Finset.sum_range_add f 64 64

/-- The product of a key's row and a query's row is the exponent of the softmax. -/
theorem sum_laneK_laneQ (t s : Fin 8192) : ∑ l : Fin 128, A.laneK s l * A.laneQ t l = A.logit t s - A.lse t := by
  rw [sum_lanes fun l => A.laneK s l * A.laneQ t l]
  have h1 : ∑ d : Fin 64, A.laneK s d * A.laneQ t d = (∑ d, A.q t d * A.k s d) * (1 / 8) := by
    rw [Finset.sum_mul]
    refine Finset.sum_congr rfl fun d _ => ?_
    unfold laneK laneQ
    rw [dif_pos d.isLt, dif_pos d.isLt]
    ring
  have h2 : ∑ e ∈ Finset.range 64, A.laneK s (64 + e) * A.laneQ t (64 + e) = (A.c t - A.lse t) - A.c s := by
    simp [Finset.sum_range_succ, laneK, laneQ]
    ring
  rw [h1, h2]
  unfold logit
  ring

/-- The product of a value's row and a row of the gradient is the softmax weight's gradient less the row product. -/
theorem sum_laneV_laneG (t s : Fin 8192) : ∑ l : Fin 128, A.laneV s l * A.laneG t l = A.dprob t s - A.delta t := by
  rw [sum_lanes fun l => A.laneV s l * A.laneG t l]
  have h1 : ∑ d : Fin 64, A.laneV s d * A.laneG t d = A.dprob t s := by
    refine Finset.sum_congr rfl fun d _ => ?_
    unfold laneV laneG
    rw [dif_pos d.isLt, dif_pos d.isLt]
    ring
  have h2 : ∑ e ∈ Finset.range 64, A.laneV s (64 + e) * A.laneG t (64 + e) = -A.delta t := by
    simp [Finset.sum_range_succ, laneV, laneG]
  rw [h1, h2]
  ring

end Head

end Cert.Attention

end
-- ==== Proof.Heads.lean ====
/-
  The heads of the attention read off the program's arguments: four groups of 64 columns of the queries, keys, values and
  of the output's gradient, and a column of the cumulated log gates for each; and the constants that the programs share.
-/
module

public import Idealize.ShloMosaic.Lib.Pointwise
public import proofs.«01_k».proof.Proof.Attention

@[expose] public section

noncomputable section

namespace Cert.Attention

open Idealize.ShloMosaic

/-- Element `d` of head `h` is column `64 h + d`. -/
abbrev headCol (h : Fin 4) (d : Fin 64) : Fin 256 := ⟨h.val * 64 + d.val, by omega⟩

/-- Head `h` of the arguments. -/
def headOf (q k v : (⟨2, ![8192, 256]⟩ : Shape).Idx → EReal) (c : (⟨2, ![8192, 4]⟩ : Shape).Idx → EReal)
    (g : (⟨2, ![8192, 256]⟩ : Shape).Idx → EReal) (h : Fin 4) : Head where
  q t d := (q (ix2 t (headCol h d))).toReal
  k t d := (k (ix2 t (headCol h d))).toReal
  v t d := (v (ix2 t (headCol h d))).toReal
  c t := (c (ix2 t h)).toReal
  g t d := (g (ix2 t (headCol h d))).toReal

/-- Every element of the array is a real number. -/
def AllReal {s : Shape} (x : s.Idx → EReal) : Prop := ∀ i, x i = ((x i).toReal : EReal)

/-- The word of one eighth. -/
theorem ofBits_eighth : Ideal.ofBits .f32 0x3E000000#32 = ((1 / 8 : ℝ) : EReal) := by
  have h : Ideal.ofBits .f32 0x3E000000#32 = ((8388608 * (2 : ℝ) ^ (-26 : ℤ) : ℝ) : EReal) := by
    simp [Ideal.ofBits, Ideal.ieee]
  rw [h]; norm_num

/-- The word of minus infinity. -/
theorem ofBits_bot : Ideal.ofBits .f32 0xFF800000#32 = ⊥ := by
  simp [Ideal.ofBits, Ideal.ieee]

/-- The word of plus infinity. -/
theorem ofBits_top : Ideal.ofBits .f32 0x7F800000#32 = ⊤ := by
  simp [Ideal.ofBits, Ideal.ieee]

/-- The larger of two numbers, as the programs take it. -/
theorem max_ideal (a b : Ideal .f32) : FloatOps.maximumf a b = max a b := rfl

/-- A constant's value, as the programs read it. -/
theorem ofBits_ideal (w : BitVec 32) : (FloatOps.ofBits .f32 w : Ideal .f32) = Ideal.ofBits .f32 w := rfl

end Cert.Attention
-- ==== Proof.HostPrefix.lean ====
/-
  The host lines before the kernel's launch, as functions of the arguments: the logits and their softmax, the logarithm of
  a row's sum, the row product of the output and its gradient, and the four augmented operands that the kernel stages.
-/
module

public import proofs.«01_k».proof.Proof.Heads
public import proofs.«01_k».proof.Proof.Gen.KernelIdeal.Frame.Runs
public import Idealize.ShloMosaic.Lib.StableHlo.ReadAt

@[expose] public section

set_option maxRecDepth 16384

noncomputable section

namespace Cert.Attention.Host

open Idealize.ShloMosaic Idealize.ShloMosaic.TcCoe Idealize.SL.Sem Cert.KernelIdeal Cert.KernelIdeal.Gen

/-- An array of numbers of the given shape. -/
abbrev Arr (s : Shape) : Type := FVec Ideal s .f32

/-- The masked logits. -/
def masked (x0 x1 : Arr S8192x256) (x3 : Arr S8192x4) : Arr S4x8192x8192 :=
  select
    (broadcastInDim S4x8192x8192 ![1, 2] bcast_S8192x8192_S4x8192x8192_1_2
      (cmpi .sge
        (broadcastInDim S8192x8192 ![0, 1] bcast_S8192x1_S8192x8192_0_1 (broadcastInDim S8192x1 ![0] bcast_S8192_S8192x1_0 (iotaInDim S8192 32 0)))
        (broadcastInDim S8192x8192 ![0, 1] bcast_S1x8192_S8192x8192_0_1 (broadcastInDim S1x8192 ![1] bcast_S8192_S1x8192_1 (iotaInDim S8192 32 0)))))
    (addf
      (mulf
        (Host.dotGeneral dot_S8192x4x64_S8192x4x64_S4x8192x8192_2_2_0_0_1_1 none
          (shapeCast S8192x4x64 x0 shapeCasts_S8192x256_S8192x4x64) (shapeCast S8192x4x64 x1 shapeCasts_S8192x256_S8192x4x64))
        (broadcastInDim S4x8192x8192 ![] bcast_S_S4x8192x8192 (constant S_ .f32 0x3E000000#32)))
      (subf
        (broadcastInDim S4x8192x8192 ![0, 1, 2] bcast_S4x8192x1_S4x8192x8192_0_1_2
          (broadcastInDim S4x8192x1 ![0, 1] bcast_S4x8192_S4x8192x1_0_1 (transpose S4x8192 [1, 0] x3 transposes_S8192x4_S4x8192_1_0)))
        (broadcastInDim S4x8192x8192 ![0, 1, 2] bcast_S4x1x8192_S4x8192x8192_0_1_2
          (broadcastInDim S4x1x8192 ![0, 2] bcast_S4x8192_S4x1x8192_0_2 (transpose S4x8192 [1, 0] x3 transposes_S8192x4_S4x8192_1_0)))))
    (broadcastInDim S4x8192x8192 ![] bcast_S_S4x8192x8192 (id (constant S_ .f32 0xFF800000#32)))

/-- The largest logit of a row. -/
def rowMax (x0 x1 : Arr S8192x256) (x3 : Arr S8192x4) : Arr S4x8192 :=
  Host.reduce FloatOps.maximumf (masked x0 x1 x3) (constant S_ .f32 0xFF800000#32) reducesTo_S4x8192x8192_S4x8192_d2 h_S_

/-- The unnormalised weights. -/
def weight (x0 x1 : Arr S8192x256) (x3 : Arr S8192x4) : Arr S4x8192x8192 :=
  Host.exp (subf (masked x0 x1 x3)
    (broadcastInDim S4x8192x8192 ![0, 1, 2] bcast_S4x8192x1_S4x8192x8192_0_1_2
      (broadcastInDim S4x8192x1 ![0, 1] bcast_S4x8192_S4x8192x1_0_1 (rowMax x0 x1 x3))))

/-- The sums of the weights, a column for each row. -/
def total (x0 x1 : Arr S8192x256) (x3 : Arr S8192x4) : Arr S4x8192x1 :=
  broadcastInDim S4x8192x1 ![0, 1] bcast_S4x8192_S4x8192x1_0_1
    (Host.reduceAdd (weight x0 x1 x3) (constant S_ .f32 0x00000000#32) reducesTo_S4x8192x8192_S4x8192_d2 h_S_)

/-- The softmax. -/
def prob (x0 x1 : Arr S8192x256) (x3 : Arr S8192x4) : Arr S4x8192x8192 :=
  Host.divf (weight x0 x1 x3) (broadcastInDim S4x8192x8192 ![0, 1, 2] bcast_S4x8192x1_S4x8192x8192_0_1_2 (total x0 x1 x3))

/-- The attention's output. -/
def out (x0 x1 x2 : Arr S8192x256) (x3 : Arr S8192x4) : Arr S8192x4x64 :=
  transpose S8192x4x64 [2, 0, 1]
    (Host.dotGeneral dot_S8192x4x64_S4x8192x8192_S4x64x8192_0_2_2_1_1_0 none
      (shapeCast S8192x4x64 x2 shapeCasts_S8192x256_S8192x4x64) (prob x0 x1 x3))
    transposes_S4x64x8192_S8192x4x64_2_0_1

/-- The logarithm of the sum of a row's exponentials. -/
def lse (x0 x1 : Arr S8192x256) (x3 : Arr S8192x4) : Arr S8192x4 :=
  transpose S8192x4 [1, 0]
    (shapeCast S4x8192
      (addf (broadcastInDim S4x8192x1 ![0, 1] bcast_S4x8192_S4x8192x1_0_1 (rowMax x0 x1 x3)) (Host.log (total x0 x1 x3)))
      shapeCasts_S4x8192x1_S4x8192)
    transposes_S4x8192_S8192x4_1_0

/-- The product of a row of the output with its gradient. -/
def delta (x0 x1 x2 : Arr S8192x256) (x3 : Arr S8192x4) (x4 : Arr S8192x256) : Arr S8192x4 :=
  Host.reduceAdd (mulf (shapeCast S8192x4x64 x4 shapeCasts_S8192x256_S8192x4x64) (out x0 x1 x2 x3))
    (constant S_ .f32 0x00000000#32) reducesTo_S8192x4x64_S8192x4_d2 h_S_

/-- The first of the three pieces of an array. -/
def piece1 (y : Arr S8192x4) : Arr S8192x4 := extf .f32 (truncf .bf16 y bitsLt_bf16_f32) bitsLt_bf16_f32

/-- What the first piece leaves. -/
def rest (y : Arr S8192x4) : Arr S8192x4 := subf y (piece1 y)

/-- The second piece. -/
def piece2 (y : Arr S8192x4) : Arr S8192x4 := piece1 (rest y)

/-- The third piece. -/
def piece3 (y : Arr S8192x4) : Arr S8192x4 := rest (rest y)

/-- An array of four columns as columns of one lane. -/
def lane (y : Arr S8192x4) : Arr S8192x4x1 := broadcastInDim S8192x4x1 ![0, 1] bcast_S8192x4_S8192x4x1_0_1 y

/-- Three lanes of ones. -/
def ones : Arr S8192x4x3 := broadcastInDim S8192x4x3 ![] bcast_S_S8192x4x3 (constant S_ .f32 0x3F800000#32)

/-- The lanes of the queries' operand, side by side. -/
def lanesQ (a0 : Arr S8192x4x64) (a1 : Arr S8192x4x1) (a2 : Arr S8192x4x1) (a3 : Arr S8192x4x1) (a4 : Arr S8192x4x3) (a5 : Arr S8192x4x58) : Arr S8192x4x128 :=
  concatenate S8192x4x128 2 [⟨S8192x4x64, a0⟩, ⟨S8192x4x1, a1⟩, ⟨S8192x4x1, a2⟩, ⟨S8192x4x1, a3⟩, ⟨S8192x4x3, a4⟩, ⟨S8192x4x58, a5⟩] concatenates_S8192x4x64_S8192x4x1_S8192x4x1_S8192x4x1_S8192x4x3_S8192x4x58_S8192x4x128_d2

theorem lanesQ_eq (a0 : Arr S8192x4x64) (a1 : Arr S8192x4x1) (a2 : Arr S8192x4x1) (a3 : Arr S8192x4x1) (a4 : Arr S8192x4x3) (a5 : Arr S8192x4x58) :
    concatenate S8192x4x128 2 [⟨S8192x4x64, a0⟩, ⟨S8192x4x1, a1⟩, ⟨S8192x4x1, a2⟩, ⟨S8192x4x1, a3⟩, ⟨S8192x4x3, a4⟩, ⟨S8192x4x58, a5⟩] concatenates_S8192x4x64_S8192x4x1_S8192x4x1_S8192x4x1_S8192x4x3_S8192x4x58_S8192x4x128_d2 = lanesQ a0 a1 a2 a3 a4 a5 := rfl

/-- The lanes of the keys' operand, side by side. -/
def lanesK (a0 : Arr S8192x4x64) (a1 : Arr S8192x4x3) (a2 : Arr S8192x4x1) (a3 : Arr S8192x4x1) (a4 : Arr S8192x4x1) (a5 : Arr S8192x4x58) : Arr S8192x4x128 :=
  concatenate S8192x4x128 2 [⟨S8192x4x64, a0⟩, ⟨S8192x4x3, a1⟩, ⟨S8192x4x1, a2⟩, ⟨S8192x4x1, a3⟩, ⟨S8192x4x1, a4⟩, ⟨S8192x4x58, a5⟩] concatenates_S8192x4x64_S8192x4x3_S8192x4x1_S8192x4x1_S8192x4x1_S8192x4x58_S8192x4x128_d2

theorem lanesK_eq (a0 : Arr S8192x4x64) (a1 : Arr S8192x4x3) (a2 : Arr S8192x4x1) (a3 : Arr S8192x4x1) (a4 : Arr S8192x4x1) (a5 : Arr S8192x4x58) :
    concatenate S8192x4x128 2 [⟨S8192x4x64, a0⟩, ⟨S8192x4x3, a1⟩, ⟨S8192x4x1, a2⟩, ⟨S8192x4x1, a3⟩, ⟨S8192x4x1, a4⟩, ⟨S8192x4x58, a5⟩] concatenates_S8192x4x64_S8192x4x3_S8192x4x1_S8192x4x1_S8192x4x1_S8192x4x58_S8192x4x128_d2 = lanesK a0 a1 a2 a3 a4 a5 := rfl

/-- The lanes of the values' operand, side by side. -/
def lanesV (a0 : Arr S8192x4x64) (a1 : Arr S8192x4x3) (a2 : Arr S8192x4x61) : Arr S8192x4x128 :=
  concatenate S8192x4x128 2 [⟨S8192x4x64, a0⟩, ⟨S8192x4x3, a1⟩, ⟨S8192x4x61, a2⟩] concatenates_S8192x4x64_S8192x4x3_S8192x4x61_S8192x4x128_d2

theorem lanesV_eq (a0 : Arr S8192x4x64) (a1 : Arr S8192x4x3) (a2 : Arr S8192x4x61) :
    concatenate S8192x4x128 2 [⟨S8192x4x64, a0⟩, ⟨S8192x4x3, a1⟩, ⟨S8192x4x61, a2⟩] concatenates_S8192x4x64_S8192x4x3_S8192x4x61_S8192x4x128_d2 = lanesV a0 a1 a2 := rfl

/-- The lanes of the output's gradient's operand, side by side. -/
def lanesG (a0 : Arr S8192x4x64) (a1 : Arr S8192x4x1) (a2 : Arr S8192x4x1) (a3 : Arr S8192x4x1) (a4 : Arr S8192x4x61) : Arr S8192x4x128 :=
  concatenate S8192x4x128 2 [⟨S8192x4x64, a0⟩, ⟨S8192x4x1, a1⟩, ⟨S8192x4x1, a2⟩, ⟨S8192x4x1, a3⟩, ⟨S8192x4x61, a4⟩] concatenates_S8192x4x64_S8192x4x1_S8192x4x1_S8192x4x1_S8192x4x61_S8192x4x128_d2

theorem lanesG_eq (a0 : Arr S8192x4x64) (a1 : Arr S8192x4x1) (a2 : Arr S8192x4x1) (a3 : Arr S8192x4x1) (a4 : Arr S8192x4x61) :
    concatenate S8192x4x128 2 [⟨S8192x4x64, a0⟩, ⟨S8192x4x1, a1⟩, ⟨S8192x4x1, a2⟩, ⟨S8192x4x1, a3⟩, ⟨S8192x4x61, a4⟩] concatenates_S8192x4x64_S8192x4x1_S8192x4x1_S8192x4x1_S8192x4x61_S8192x4x128_d2 = lanesG a0 a1 a2 a3 a4 := rfl

/-- The queries' operand. -/
def queries (x0 x1 : Arr S8192x256) (x3 : Arr S8192x4) : FVec Ideal S8192x512 .bf16 :=
  truncf .bf16
    (shapeCast S8192x512
      (lanesQ (shapeCast S8192x4x64 (mulf x0 (broadcastInDim S8192x256 ![] bcast_S_S8192x256 (constant S_ .f32 0x3E000000#32))) shapeCasts_S8192x256_S8192x4x64)
        (lane (piece1 (subf x3 (lse x0 x1 x3))))
        (lane (piece2 (subf x3 (lse x0 x1 x3))))
        (lane (piece3 (subf x3 (lse x0 x1 x3))))
        ones
        (broadcastInDim S8192x4x58 ![] bcast_S_S8192x4x58 (constant S_ .f32 0x00000000#32)))
      shapeCasts_S8192x4x128_S8192x512)
    bitsLt_bf16_f32

/-- The keys' operand. -/
def keys (x1 : Arr S8192x256) (x3 : Arr S8192x4) : FVec Ideal S8192x512 .bf16 :=
  truncf .bf16
    (shapeCast S8192x512
      (lanesK (shapeCast S8192x4x64 x1 shapeCasts_S8192x256_S8192x4x64)
        ones
        (lane (Host.negf (piece1 x3)))
        (lane (Host.negf (piece2 x3)))
        (lane (Host.negf (piece3 x3)))
        (broadcastInDim S8192x4x58 ![] bcast_S_S8192x4x58 (constant S_ .f32 0x00000000#32)))
      shapeCasts_S8192x4x128_S8192x512)
    bitsLt_bf16_f32

/-- The values' operand. -/
def values (x2 : Arr S8192x256) : FVec Ideal S8192x512 .bf16 :=
  truncf .bf16
    (shapeCast S8192x512
      (lanesV (shapeCast S8192x4x64 x2 shapeCasts_S8192x256_S8192x4x64)
        (Host.negf ones)
        (broadcastInDim S8192x4x61 ![] bcast_S_S8192x4x61 (constant S_ .f32 0x00000000#32)))
      shapeCasts_S8192x4x128_S8192x512)
    bitsLt_bf16_f32

/-- The operand of the output's gradient. -/
def grads (x0 x1 x2 : Arr S8192x256) (x3 : Arr S8192x4) (x4 : Arr S8192x256) : FVec Ideal S8192x512 .bf16 :=
  truncf .bf16
    (shapeCast S8192x512
      (lanesG (shapeCast S8192x4x64 x4 shapeCasts_S8192x256_S8192x4x64)
        (lane (piece1 (delta x0 x1 x2 x3 x4)))
        (lane (piece2 (delta x0 x1 x2 x3 x4)))
        (lane (piece3 (delta x0 x1 x2 x3 x4)))
        (broadcastInDim S8192x4x61 ![] bcast_S_S8192x4x61 (constant S_ .f32 0x00000000#32)))
      shapeCasts_S8192x4x128_S8192x512)
    bitsLt_bf16_f32

variable (m : (ℓ : Loc nD τ sig) → Buf (Elt Ideal) ℓ) (c : Dev nD)

/-- Argument `b` of the program. -/
abbrev arg (b : Ref sig .tc) : Buf (Elt Ideal) ((c : Thread nD τ).loc b) := m ((c : Thread nD τ).loc b)

/-- What the kernel stages as its first operand. -/
theorem V_queries : (V m c main_v56 : FVec Ideal S8192x512 .bf16) = queries (arg m c main_arg0) (arg m c main_arg1) (arg m c main_arg3) := by
  unfold V
  after_reads_simp
  dsimp only [Matrix.cons_val]
  simp only [lanesQ_eq]
  after_reads_simp
  simp -implicitDefEqProofs only [StableHlo.TRef.toBuf, StableHlo.TRef.ofBuf, cast_cast, cast_eq]
  rfl

/-- What the kernel stages as its second operand. -/
theorem V_keys : (V m c main_v73 : FVec Ideal S8192x512 .bf16) = keys (arg m c main_arg1) (arg m c main_arg3) := by
  unfold V
  after_reads_simp
  dsimp only [Matrix.cons_val]
  simp only [lanesK_eq]
  after_reads_simp
  rfl

/-- What the kernel stages as its third operand. -/
theorem V_values : (V m c main_v79 : FVec Ideal S8192x512 .bf16) = values (arg m c main_arg2) := by
  unfold V
  after_reads_simp
  dsimp only [Matrix.cons_val]
  simp only [lanesV_eq]
  after_reads_simp
  rfl

/-- What the kernel stages as its fourth operand. -/
theorem V_grads : (V m c main_v93 : FVec Ideal S8192x512 .bf16)
    = grads (arg m c main_arg0) (arg m c main_arg1) (arg m c main_arg2) (arg m c main_arg3) (arg m c main_arg4) := by
  unfold V
  after_reads_simp
  dsimp only [Matrix.cons_val]
  simp only [lanesG_eq]
  after_reads_simp
  simp -implicitDefEqProofs only [StableHlo.TRef.toBuf, StableHlo.TRef.ofBuf, cast_cast, cast_eq]
  rfl

end Cert.Attention.Host
-- ==== Proof.HostValues.lean ====
/-
  The host lines before the kernel's launch, over the reals: the four staged operands hold, lane by lane, the rows of
  `Attention.lean` for the heads of the arguments.
-/
module

public import proofs.«01_k».proof.Proof.HostPrefix
public import Idealize.ShloMosaic.Lib.WordCmp

@[expose] public section

set_option maxRecDepth 16384

noncomputable section

namespace Cert.Attention.Host

open Idealize.ShloMosaic Cert.KernelIdeal Cert.KernelIdeal.Gen

/-- Lane `l` of head `h` is column `128 h + l`. -/
abbrev laneCol (h : Fin 4) (l : Fin 128) : Fin 512 := ⟨h.val * 128 + l.val, by omega⟩

variable {x0 x1 x2 : Arr S8192x256} {x3 : Arr S8192x4} {x4 : Arr S8192x256}
  (f0 : AllReal x0) (f1 : AllReal x1) (f2 : AllReal x2) (f3 : AllReal x3) (f4 : AllReal x4)

theorem select_causal {α : Type} (t s : Fin 8192) (a b : α) :
    Scalar.select (IntOp.cmpi .sge (BitVec.ofNat 32 t.val) (BitVec.ofNat 32 s.val)) a b = if s ≤ t then a else b := by
  rw [WordCmp.cmpi_sge_ofNat (by omega) (by omega), WordCmp.select_ofBool]
  simp only [decide_eq_true_eq, Fin.le_def]

/-- A masked logit, from the arguments. -/
theorem masked_at (h : Fin 4) (t s : Fin 8192) : masked x0 x1 x3 (ix3 h t s)
    = if s ≤ t then (∑ d : Fin 64, x0 (ix2 t (headCol h d)) * x1 (ix2 s (headCol h d))) * Ideal.ofBits .f32 0x3E000000#32
        + (x3 (ix2 t h) - x3 (ix2 s h)) else id (constant (F := Ideal) S_ .f32 0xFF800000#32) ix0 := by
  rw [← select_causal]
  pointwise [masked]

include f0 f1 f3 in
/-- The masked logits. -/
theorem masked_apply (h : Fin 4) (t s : Fin 8192) : masked x0 x1 x3 (ix3 h t s) = (headOf x0 x1 x2 x3 x4 h).masked t s := by
  rw [masked_at, ofBits_eighth, f3 (ix2 t h), f3 (ix2 s h), Finset.sum_congr rfl fun d _ => by
    rw [f0 (ix2 t (headCol h d)), f1 (ix2 s (headCol h d)), ← EReal.coe_mul], ← coe_sum, ← EReal.coe_mul, ← EReal.coe_sub, ← EReal.coe_add]
  unfold Head.masked
  exact congrArg (fun b : EReal => if s ≤ t then (((headOf x0 x1 x2 x3 x4 h).logit t s : ℝ) : EReal) else b) ofBits_bot

/-- The largest element of a row, as a fold. -/
theorem rowMax_fold (h : Fin 4) (t : Fin 8192) : rowMax x0 x1 x3 (ix2 h t)
    = Finset.fold max (Ideal.ofBits FTy.f32 4286578688#32) (fun s => masked x0 x1 x3 (ix3 h t s)) Finset.univ := by
  pointwise [rowMax]

/-- That fold, for a head whose masked logits the row holds. -/
theorem fold_row (A : Head) (h : Fin 4) (t : Fin 8192) (e : (fun s => masked x0 x1 x3 (ix3 h t s)) = A.masked t) :
    Finset.fold max (Ideal.ofBits FTy.f32 4286578688#32) (fun s => masked x0 x1 x3 (ix3 h t s)) Finset.univ
      = (A.rowMax t : EReal) := by
  rw [ofBits_bot, e]
  exact A.fold_masked t

include f0 f1 f3 in
/-- The largest logit of a row. -/
theorem rowMax_apply (h : Fin 4) (t : Fin 8192) : rowMax x0 x1 x3 (ix2 h t) = (((headOf x0 x1 x2 x3 x4 h).rowMax t : ℝ) : EReal) :=
  (rowMax_fold h t).trans (fold_row (headOf x0 x1 x2 x3 x4 h) h t (funext fun s => masked_apply f0 f1 f3 h t s))

/-- A weight, from the masked logit and the row's largest logit. -/
theorem weight_at (h : Fin 4) (t s : Fin 8192) : weight x0 x1 x3 (ix3 h t s)
    = Ideal.exp (masked x0 x1 x3 (ix3 h t s) - rowMax x0 x1 x3 (ix2 h t)) := by
  pointwise [weight]

include f0 f1 f3 in
/-- The unnormalised weights. -/
theorem weight_apply (h : Fin 4) (t s : Fin 8192) : weight x0 x1 x3 (ix3 h t s) = (((headOf x0 x1 x2 x3 x4 h).weight t s : ℝ) : EReal) := by
  rw [weight_at, masked_apply (x2 := x2) (x4 := x4) f0 f1 f3, rowMax_apply (x2 := x2) (x4 := x4) f0 f1 f3]
  exact Head.exp_masked _ t s

include f0 f1 f3 in
/-- The sums of the weights. -/
theorem total_apply (h : Fin 4) (t : Fin 8192) : total x0 x1 x3 (ix3 h t 0) = (((headOf x0 x1 x2 x3 x4 h).total t : ℝ) : EReal) := by
  pointwise [total]
  rw [Finset.sum_congr rfl fun s _ => weight_apply (x2 := x2) (x4 := x4) f0 f1 f3 h t s, ← coe_sum]
  rfl

include f0 f1 f3 in
/-- The softmax. -/
theorem prob_apply (h : Fin 4) (t s : Fin 8192) : prob x0 x1 x3 (ix3 h t s) = (((headOf x0 x1 x2 x3 x4 h).prob t s : ℝ) : EReal) := by
  pointwise [prob]
  rw [weight_apply (x2 := x2) (x4 := x4) f0 f1 f3, total_apply (x2 := x2) (x4 := x4) f0 f1 f3, div_coe _ _ (Head.total_pos _ t).ne']
  rfl

include f0 f1 f2 f3 in
/-- The attention's output. -/
theorem out_apply (h : Fin 4) (t : Fin 8192) (d : Fin 64) : out x0 x1 x2 x3 (ix3 t h d) = (((headOf x0 x1 x2 x3 x4 h).out t d : ℝ) : EReal) := by
  pointwise [out]
  rw [Finset.sum_congr rfl fun s _ => by
    rw [f2 (ix2 s (headCol h d)), prob_apply (x2 := x2) (x4 := x4) f0 f1 f3, mul_comm, ← EReal.coe_mul], ← coe_sum]
  rfl

/-- The logarithm of a row's sum, from a row's largest logit and its sum. -/
theorem lse_of (M : Arr S4x8192) (T : Arr S4x8192x1) (h : Fin 4) (t : Fin 8192) :
    transpose S8192x4 [1, 0]
      (shapeCast S4x8192 (addf (broadcastInDim S4x8192x1 ![0, 1] bcast_S4x8192_S4x8192x1_0_1 M) (Host.log T))
        shapeCasts_S4x8192x1_S4x8192) transposes_S4x8192_S8192x4_1_0 (ix2 t h)
      = M (ix2 h t) + Ideal.log (T (ix3 h t 0)) := by
  pointwise

theorem lse_at (h : Fin 4) (t : Fin 8192) : lse x0 x1 x3 (ix2 t h)
    = rowMax x0 x1 x3 (ix2 h t) + Ideal.log (total x0 x1 x3 (ix3 h t 0)) := by
  unfold lse
  exact lse_of _ _ h t

include f0 f1 f3 in
/-- The logarithm of the sum of a row's exponentials. -/
theorem lse_apply (h : Fin 4) (t : Fin 8192) : lse x0 x1 x3 (ix2 t h) = (((headOf x0 x1 x2 x3 x4 h).lse t : ℝ) : EReal) := by
  rw [lse_at, rowMax_apply (x2 := x2) (x4 := x4) f0 f1 f3, total_apply (x2 := x2) (x4 := x4) f0 f1 f3, log_coe _ (Head.total_pos _ t),
    ← EReal.coe_add]
  unfold Head.lse
  with_reducible rfl

include f0 f1 f2 f3 f4 in
/-- The product of a row of the output with its gradient. -/
theorem delta_apply (h : Fin 4) (t : Fin 8192) : delta x0 x1 x2 x3 x4 (ix2 t h) = (((headOf x0 x1 x2 x3 x4 h).delta t : ℝ) : EReal) := by
  pointwise [delta]
  rw [Finset.sum_congr rfl fun d _ => by
    rw [f4 (ix2 t (headCol h d)), out_apply (x4 := x4) f0 f1 f2 f3, ← EReal.coe_mul], ← coe_sum]
  rfl

/-- The first piece of a real number is the number, the others are zero. -/
theorem pieces (y : Arr S8192x4) (i) (r : ℝ) (e : y i = (r : EReal)) :
    piece1 y i = (r : EReal) ∧ piece2 y i = 0 ∧ piece3 y i = 0 := by
  have h : (r : EReal) - (r : EReal) = 0 := by rw [← EReal.coe_sub, sub_self, EReal.coe_zero]
  refine ⟨e, ?_, ?_⟩
  · show y i - y i = 0
    rw [e, h]
  · show (y i - y i) - (y i - y i) = (0 : EReal)
    rw [e, h, sub_zero]

end Cert.Attention.Host
-- ==== Proof.HostOperands.lean ====
/-
  The four staged operands hold, lane by lane, the rows of `Attention.lean` for the heads of the arguments.
-/
module

public import proofs.«01_k».proof.Proof.HostValues

@[expose] public section

set_option maxRecDepth 16384

noncomputable section

namespace Cert.Attention.Host

open Idealize.ShloMosaic Cert.KernelIdeal Cert.KernelIdeal.Gen

variable {x0 x1 x2 : Arr S8192x256} {x3 : Arr S8192x4} {x4 : Arr S8192x256}

/-- The queries' operand at a lane, from the arguments. -/
theorem queries_at (t : Fin 8192) (h : Fin 4) (l : Fin 128) : queries x0 x1 x3 (ix2 t (laneCol h l))
    = if h' : l.val < 64 then x0 (ix2 t (headCol h ⟨l.val, h'⟩)) * Ideal.ofBits .f32 0x3E000000#32
      else if l.val - 64 < 1 then piece1 (subf x3 (lse x0 x1 x3)) (ix2 t h)
      else if l.val - 64 - 1 < 1 then piece2 (subf x3 (lse x0 x1 x3)) (ix2 t h)
      else if l.val - 64 - 1 - 1 < 1 then piece3 (subf x3 (lse x0 x1 x3)) (ix2 t h)
      else if l.val - 64 - 1 - 1 - 1 < 3 then 1 else 0 := by
  have e1 : (h.val * 128 + l.val) / 128 = h.val := by omega
  have e2 : (h.val * 128 + l.val) % 128 = l.val := by omega
  pointwise [queries, lanesQ, ones, lane]
  simp only [e1, e2, Fin.eta]
  rfl

/-- The keys' operand at a lane, from the arguments. -/
theorem keys_at (t : Fin 8192) (h : Fin 4) (l : Fin 128) : keys x1 x3 (ix2 t (laneCol h l))
    = if h' : l.val < 64 then x1 (ix2 t (headCol h ⟨l.val, h'⟩)) else if l.val - 64 < 3 then 1
      else if l.val - 64 - 3 < 1 then -piece1 x3 (ix2 t h)
      else if l.val - 64 - 3 - 1 < 1 then -piece2 x3 (ix2 t h)
      else if l.val - 64 - 3 - 1 - 1 < 1 then -piece3 x3 (ix2 t h) else 0 := by
  have e1 : (h.val * 128 + l.val) / 128 = h.val := by omega
  have e2 : (h.val * 128 + l.val) % 128 = l.val := by omega
  pointwise [keys, lanesK, ones, lane]
  simp only [e1, e2, Fin.eta]
  rfl

/-- The values' operand at a lane, from the arguments. -/
theorem values_at (t : Fin 8192) (h : Fin 4) (l : Fin 128) : values x2 (ix2 t (laneCol h l))
    = if h' : l.val < 64 then x2 (ix2 t (headCol h ⟨l.val, h'⟩)) else if l.val - 64 < 3 then -1 else 0 := by
  have e1 : (h.val * 128 + l.val) / 128 = h.val := by omega
  have e2 : (h.val * 128 + l.val) % 128 = l.val := by omega
  pointwise [values, lanesV, ones]
  simp only [e1, e2, Fin.eta]
  rfl

/-- The operand of the output's gradient at a lane, from the arguments. -/
theorem grads_at (t : Fin 8192) (h : Fin 4) (l : Fin 128) : grads x0 x1 x2 x3 x4 (ix2 t (laneCol h l))
    = if h' : l.val < 64 then x4 (ix2 t (headCol h ⟨l.val, h'⟩))
      else if l.val - 64 < 1 then piece1 (delta x0 x1 x2 x3 x4) (ix2 t h)
      else if l.val - 64 - 1 < 1 then piece2 (delta x0 x1 x2 x3 x4) (ix2 t h)
      else if l.val - 64 - 1 - 1 < 1 then piece3 (delta x0 x1 x2 x3 x4) (ix2 t h) else 0 := by
  have e1 : (h.val * 128 + l.val) / 128 = h.val := by omega
  have e2 : (h.val * 128 + l.val) % 128 = l.val := by omega
  pointwise [grads, lanesG, ones, lane]
  simp only [e1, e2, Fin.eta]
  rfl

variable (f0 : AllReal x0) (f1 : AllReal x1) (f2 : AllReal x2) (f3 : AllReal x3) (f4 : AllReal x4)

include f0 f1 f3 in
/-- The queries' operand holds the queries' rows. -/
theorem queries_apply (t : Fin 8192) (h : Fin 4) (l : Fin 128) :
    queries x0 x1 x3 (ix2 t (laneCol h l)) = (((headOf x0 x1 x2 x3 x4 h).laneQ t l : ℝ) : EReal) := by
  have e : subf x3 (lse x0 x1 x3) (ix2 t h)
      = (((headOf x0 x1 x2 x3 x4 h).c t - (headOf x0 x1 x2 x3 x4 h).lse t : ℝ) : EReal) := by
    show x3 (ix2 t h) - lse x0 x1 x3 (ix2 t h) = _
    rw [lse_apply (x2 := x2) (x4 := x4) f0 f1 f3, f3 (ix2 t h), ← EReal.coe_sub]
    rfl
  obtain ⟨p1, p2, p3⟩ := pieces _ _ _ e
  rw [queries_at, ofBits_eighth, p1, p2, p3]
  unfold Head.laneQ
  by_cases h1 : l.val < 64
  · rw [dif_pos h1, dif_pos h1, f0 (ix2 t (headCol h ⟨l.val, h1⟩)), ← EReal.coe_mul]
    rfl
  rw [dif_neg h1, dif_neg h1]
  by_cases h2 : l.val = 64
  · rw [if_pos (by omega), if_pos h2]
  rw [if_neg (by omega), if_neg h2]
  by_cases h3 : l.val = 65
  · rw [if_pos (by omega), if_pos (by omega), EReal.coe_zero]
  rw [if_neg (by omega)]
  by_cases h4 : l.val = 66
  · rw [if_pos (by omega), if_pos (by omega), EReal.coe_zero]
  rw [if_neg (by omega), if_neg (by omega : ¬l.val < 67)]
  by_cases h5 : l.val < 70
  · rw [if_pos (by omega), if_pos h5, EReal.coe_one]
  · rw [if_neg (by omega), if_neg h5, EReal.coe_zero]

include f1 f3 in
/-- The keys' operand holds the keys' rows. -/
theorem keys_apply (s : Fin 8192) (h : Fin 4) (l : Fin 128) :
    keys x1 x3 (ix2 s (laneCol h l)) = (((headOf x0 x1 x2 x3 x4 h).laneK s l : ℝ) : EReal) := by
  obtain ⟨p1, p2, p3⟩ := pieces x3 (ix2 s h) _ (f3 _)
  rw [keys_at, p1, p2, p3]
  unfold Head.laneK
  by_cases h1 : l.val < 64
  · rw [dif_pos h1, dif_pos h1, f1 (ix2 s (headCol h ⟨l.val, h1⟩))]
    rfl
  rw [dif_neg h1, dif_neg h1]
  by_cases h2 : l.val < 67
  · rw [if_pos (by omega), if_pos h2, EReal.coe_one]
  rw [if_neg (by omega), if_neg h2]
  by_cases h3 : l.val = 67
  · rw [if_pos (by omega), if_pos h3, ← EReal.coe_neg]
    rfl
  rw [if_neg (by omega), if_neg h3, neg_zero, ite_self, ite_self, EReal.coe_zero]

include f2 in
/-- The values' operand holds the values' rows. -/
theorem values_apply (s : Fin 8192) (h : Fin 4) (l : Fin 128) :
    values x2 (ix2 s (laneCol h l)) = (((headOf x0 x1 x2 x3 x4 h).laneV s l : ℝ) : EReal) := by
  rw [values_at]
  unfold Head.laneV
  by_cases h1 : l.val < 64
  · rw [dif_pos h1, dif_pos h1, f2 (ix2 s (headCol h ⟨l.val, h1⟩))]
    rfl
  rw [dif_neg h1, dif_neg h1]
  by_cases h2 : l.val < 67
  · rw [if_pos (by omega), if_pos h2, EReal.coe_neg, EReal.coe_one]
  · rw [if_neg (by omega), if_neg h2, EReal.coe_zero]

include f0 f1 f2 f3 f4 in
/-- The operand of the output's gradient holds its rows. -/
theorem grads_apply (t : Fin 8192) (h : Fin 4) (l : Fin 128) :
    grads x0 x1 x2 x3 x4 (ix2 t (laneCol h l)) = (((headOf x0 x1 x2 x3 x4 h).laneG t l : ℝ) : EReal) := by
  obtain ⟨p1, p2, p3⟩ := pieces _ _ _ (delta_apply f0 f1 f2 f3 f4 h t)
  rw [grads_at, p1, p2, p3]
  unfold Head.laneG
  by_cases h1 : l.val < 64
  · rw [dif_pos h1, dif_pos h1, f4 (ix2 t (headCol h ⟨l.val, h1⟩))]
    rfl
  rw [dif_neg h1, dif_neg h1]
  by_cases h2 : l.val = 64
  · rw [if_pos (by omega), if_pos h2]
  · rw [if_neg (by omega), if_neg h2, ite_self, ite_self, EReal.coe_zero]

end Cert.Attention.Host
-- ==== Proof.Tile.lean ====
/-
  What one point of the kernel's grid leaves in the three staging blocks, in terms of the four staged operands and of what the
  point before left: a tile above the diagonal leaves them as they were (or zero, at a row's first point), a tile on or
  below it adds its share of the three sums.
-/
module

public import proofs.«01_k».proof.Proof.HostOperands
public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.Attention.Tile

open Idealize.ShloMosaic Idealize.ShloMosaic.TcCoe Idealize.SL.Sem Cert.KernelIdeal Cert.KernelIdeal.Gen Cert.Attention.Host

/-- A staged block of 1024 rows. -/
abbrev Blk : Type := FVec Ideal S1024x512 .bf16

/-- The column of head `h` that holds its lane `d < 64`. -/
abbrev dataCol (h : Fin 4) (d : Fin 64) : Fin 512 := ⟨h.val * 128 + d.val, by omega⟩

/-- The column of the third output that belongs to head `h`. -/
abbrev gateCol (h : Fin 4) : Fin 128 := ⟨h.val, by omega⟩

/-- The product of row `s` of one block and row `u` of another, over the lanes of head `h`. -/
def dots (a b : Blk) (h : Fin 4) (s u : Fin 1024) : EReal := ∑ l : Fin 128, a (ix2 s (laneCol h l)) * b (ix2 u (laneCol h l))

/-- The weights of a tile below the diagonal. -/
def full (q k : Blk) (h : Fin 4) (s u : Fin 1024) : EReal := Ideal.exp (dots k q h s u)

/-- The weights of a tile on the diagonal. -/
def diag (q k : Blk) (h : Fin 4) (s u : Fin 1024) : EReal := if s ≤ u then Ideal.exp (dots k q h s u) else 0

theorem four : ∀ h : Fin 4, h = 0 ∨ h = 1 ∨ h = 2 ∨ h = 3 := by decide

theorem laneCol_zero (l : Fin 128) : laneCol 0 l = ⟨l.val, by omega⟩ := Fin.ext (by simp)

theorem dataCol_zero (d : Fin 64) : dataCol 0 d = ⟨d.val, by omega⟩ := Fin.ext (by simp)

theorem headCol_zero (d : Fin 64) : headCol 0 d = ⟨d.val, by omega⟩ := Fin.ext (by simp)

theorem select_diag {α : Type} (s u : Fin 1024) (a b : α) :
    Scalar.select (IntOp.cmpi .sle (IntOp.addi 0#32 (BitVec.ofNat 32 s.val)) (BitVec.ofNat 32 u.val)) a b = if s ≤ u then a else b := by
  rw [show IntOp.addi 0#32 (BitVec.ofNat 32 s.val) = BitVec.ofNat 32 s.val from BitVec.zero_add _]
  rw [WordCmp.cmpi_sle_ofNat (by omega) (by omega), WordCmp.select_ofBool]
  simp only [decide_eq_true_eq, Fin.le_def]

section Pieces

variable {n w : ℕ} {Val : EltTy → Type} {e : EltTy} {κ : Kind} {sp : Space}

/-- The shape of a matrix. -/
abbrev Mat (n w : ℕ) : Shape := ⟨2, ![n, w]⟩

/-- The newest piece, read at a place it holds. -/
theorem canon_hit [∀ e, Nonempty (Val e)] {w' o : ℕ} (inb : ∀ a, (![0, o] : Fin 2 → ℕ) a + (![n, w'] : Fin 2 → ℕ) a ≤ (Mat n w).size a)
    (p : (Mat n w').Idx → Val e) (L : List (View.Piece Val (Mat n w) e)) (s : Fin n) (j : Fin w) (d : Fin w') (hj : j.val = o + d.val) :
    View.canon ((⟨Rect.unit ![0, o] ![n, w'] inb, p⟩ : View.Piece Val (Mat n w) e) :: L) (ix2 s j) = p (ix2 s d) := by
  have hx : (Rect.unit (s := Mat n w) ![0, o] ![n, w'] inb).emb (ix2 s d) = ix2 s j := by
    refine Rect.emb_eq_of_coords _ _ _ (Fin.forall_fin_two.2 ⟨?_, ?_⟩)
    · show s.val = 0 + 1 * s.val
      omega
    · show j.val = o + 1 * d.val
      omega
  rw [← hx]
  exact View.canon_cons_emb (Rect.unit (s := Mat n w) ![0, o] ![n, w'] inb) p L _

/-- The newest piece passed over, at a column it does not hold. -/
theorem canon_miss [∀ e, Nonempty (Val e)] {w' o : ℕ} (inb : ∀ a, (![0, o] : Fin 2 → ℕ) a + (![n, w'] : Fin 2 → ℕ) a ≤ (Mat n w).size a)
    (p : (Mat n w').Idx → Val e) (L : List (View.Piece Val (Mat n w) e)) (s : Fin n) (j : Fin w) (hj : j.val < o ∨ o + w' ≤ j.val) :
    View.canon ((⟨Rect.unit ![0, o] ![n, w'] inb, p⟩ : View.Piece Val (Mat n w) e) :: L) (ix2 s j) = View.canon L (ix2 s j) := by
  refine View.canon_cons_of_not_mem _ L ?_
  exact Rect.not_mem_set_of_axis (Rect.unit (s := Mat n w) ![0, o] ![n, w'] inb) (ix2 s j) 1 o w' rfl rfl rfl hj

variable {sig : RefSig} (v : View sig κ sp (Mat n w) e) (f : v.ty.Contents Val)

/-- The same over the contents that a block had before. -/
theorem read_hit {w' o : ℕ} (inb : ∀ a, (![0, o] : Fin 2 → ℕ) a + (![n, w'] : Fin 2 → ℕ) a ≤ (Mat n w).size a)
    (p : (Mat n w').Idx → Val e) (L : List (View.Piece Val (Mat n w) e)) (s : Fin n) (j : Fin w) (d : Fin w') (hj : j.val = o + d.val) :
    v.read Val (v.writes Val f ((⟨Rect.unit ![0, o] ![n, w'] inb, p⟩ : View.Piece Val (Mat n w) e) :: L)) (ix2 s j) = p (ix2 s d) := by
  refine View.read_writes_cons_hit_of_coords v f (Rect.unit ![0, o] ![n, w'] inb) p L (ix2 s d) (ix2 s j) (Fin.forall_fin_two.2 ⟨?_, ?_⟩)
  · show s.val = 0 + 1 * s.val
    omega
  · show j.val = o + 1 * d.val
    omega

theorem read_miss {w' o : ℕ} (inb : ∀ a, (![0, o] : Fin 2 → ℕ) a + (![n, w'] : Fin 2 → ℕ) a ≤ (Mat n w).size a)
    (p : (Mat n w').Idx → Val e) (L : List (View.Piece Val (Mat n w) e)) (s : Fin n) (j : Fin w) (hj : j.val < o ∨ o + w' ≤ j.val) :
    v.read Val (v.writes Val f ((⟨Rect.unit ![0, o] ![n, w'] inb, p⟩ : View.Piece Val (Mat n w) e) :: L)) (ix2 s j)
      = v.read Val (v.writes Val f L) (ix2 s j) :=
  View.read_writes_cons_miss_of_axis v f _ L (ix2 s j) 1 o w' rfl rfl rfl hj

end Pieces

variable (m : (ℓ : Loc nD τ sig) → Buf (Elt Ideal) ℓ) (c : Dev nD) (t : Fin cfg0.N)

/-- What the point before left. -/
abbrev before : Vec Ideal S1024x256 .f32 × Vec Ideal S1024x256 .f32 × Vec Ideal S1024x128 .f32 :=
  outsAt0 (F := Ideal) m c (t.val - 1) (Nat.lt_of_le_of_lt (Nat.sub_le _ _) t.isLt)

/-- The keys' sums after a tile below the diagonal. -/
theorem dk_B (h0 : ¬t.val % 8 = 0) (h1 : t.val / 8 % 8 + 1 ≤ t.val % 8) (h2 : t.val / 8 % 8 ≤ t.val % 8) (h3 : ¬t.val % 8 ≤ t.val / 8 % 8) (s : Fin 1024) (h : Fin 4) (d : Fin 64) :
    (outsAt0 (F := Ideal) m c t.val t.isLt).1 (ix2 s (headCol h d))
      = (before m c t).1 (ix2 s (headCol h d)) + ∑ u : Fin 1024, full (iblk m c 0 t) (iblk m c 1 t) h s u * dots (iblk m c 2 t) (iblk m c 3 t) h s u * iblk m c 0 t (ix2 u (dataCol h d)) := by
  unfold before
  rw [outsAt0_B m c t h0 h1 h2 h3]
  generalize outsAt0 (F := Ideal) m c (t.val - 1) _ = p
  frame_out
  generalize iblk m c 0 t = x0
  generalize iblk m c 1 t = x1
  generalize iblk m c 2 t = x2
  generalize iblk m c 3 t = x3
  obtain rfl | rfl | rfl | rfl := four h
  · refine (canon_miss _ _ _ _ _ (Or.inl (by simp <;> omega))).trans ?_
    refine (canon_miss _ _ _ _ _ (Or.inl (by simp <;> omega))).trans ?_
    refine (canon_miss _ _ _ _ _ (Or.inl (by simp <;> omega))).trans ?_
    refine (canon_hit _ _ _ _ _ d (by simp)).trans ?_
    unfold full dots
    pointwise [k0_pay4, k0_pay5, k0_pay6, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29]
    simp only [laneCol_zero, dataCol_zero, headCol_zero]
  · refine (canon_miss _ _ _ _ _ (Or.inl (by simp <;> omega))).trans ?_
    refine (canon_miss _ _ _ _ _ (Or.inl (by simp <;> omega))).trans ?_
    refine (canon_hit _ _ _ _ _ d (by simp)).trans ?_
    unfold full dots
    pointwise [k0_pay4, k0_pay5, k0_pay6, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29]
    rfl
  · refine (canon_miss _ _ _ _ _ (Or.inl (by simp <;> omega))).trans ?_
    refine (canon_hit _ _ _ _ _ d (by simp)).trans ?_
    unfold full dots
    pointwise [k0_pay4, k0_pay5, k0_pay6, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29]
    rfl
  · refine (canon_hit _ _ _ _ _ d (by simp)).trans ?_
    unfold full dots
    pointwise [k0_pay4, k0_pay5, k0_pay6, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29]
    rfl

/-- The values' sums after a tile below the diagonal. -/
theorem dv_B (h0 : ¬t.val % 8 = 0) (h1 : t.val / 8 % 8 + 1 ≤ t.val % 8) (h2 : t.val / 8 % 8 ≤ t.val % 8) (h3 : ¬t.val % 8 ≤ t.val / 8 % 8) (s : Fin 1024) (h : Fin 4) (d : Fin 64) :
    (outsAt0 (F := Ideal) m c t.val t.isLt).2.1 (ix2 s (headCol h d))
      = (before m c t).2.1 (ix2 s (headCol h d)) + ∑ u : Fin 1024, full (iblk m c 0 t) (iblk m c 1 t) h s u * iblk m c 3 t (ix2 u (dataCol h d)) := by
  unfold before
  rw [outsAt0_B m c t h0 h1 h2 h3]
  generalize outsAt0 (F := Ideal) m c (t.val - 1) _ = p
  frame_out
  generalize iblk m c 0 t = x0
  generalize iblk m c 1 t = x1
  generalize iblk m c 2 t = x2
  generalize iblk m c 3 t = x3
  obtain rfl | rfl | rfl | rfl := four h
  · refine (canon_miss _ _ _ _ _ (Or.inl (by simp <;> omega))).trans ?_
    refine (canon_miss _ _ _ _ _ (Or.inl (by simp <;> omega))).trans ?_
    refine (canon_miss _ _ _ _ _ (Or.inl (by simp <;> omega))).trans ?_
    refine (canon_hit _ _ _ _ _ d (by simp)).trans ?_
    unfold full dots
    pointwise [k0_pay4, k0_pay5, k0_pay6, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29]
    simp only [laneCol_zero, dataCol_zero, headCol_zero]
  · refine (canon_miss _ _ _ _ _ (Or.inl (by simp <;> omega))).trans ?_
    refine (canon_miss _ _ _ _ _ (Or.inl (by simp <;> omega))).trans ?_
    refine (canon_hit _ _ _ _ _ d (by simp)).trans ?_
    unfold full dots
    pointwise [k0_pay4, k0_pay5, k0_pay6, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29]
    rfl
  · refine (canon_miss _ _ _ _ _ (Or.inl (by simp <;> omega))).trans ?_
    refine (canon_hit _ _ _ _ _ d (by simp)).trans ?_
    unfold full dots
    pointwise [k0_pay4, k0_pay5, k0_pay6, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29]
    rfl
  · refine (canon_hit _ _ _ _ _ d (by simp)).trans ?_
    unfold full dots
    pointwise [k0_pay4, k0_pay5, k0_pay6, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29]
    rfl

/-- The gates' sums after a tile below the diagonal. -/
theorem dc_B (h0 : ¬t.val % 8 = 0) (h1 : t.val / 8 % 8 + 1 ≤ t.val % 8) (h2 : t.val / 8 % 8 ≤ t.val % 8) (h3 : ¬t.val % 8 ≤ t.val / 8 % 8) (s : Fin 1024) (h : Fin 4) :
    (outsAt0 (F := Ideal) m c t.val t.isLt).2.2 (ix2 s (gateCol h))
      = (before m c t).2.2 (ix2 s (gateCol h)) + (0 - ∑ u : Fin 1024, full (iblk m c 0 t) (iblk m c 1 t) h s u * dots (iblk m c 2 t) (iblk m c 3 t) h s u) := by
  unfold before
  rw [outsAt0_B m c t h0 h1 h2 h3]
  generalize outsAt0 (F := Ideal) m c (t.val - 1) _ = p
  frame_out
  generalize iblk m c 0 t = x0
  generalize iblk m c 1 t = x1
  generalize iblk m c 2 t = x2
  generalize iblk m c 3 t = x3
  obtain rfl | rfl | rfl | rfl := four h
  · refine (read_miss _ _ _ _ _ _ _ (Or.inl (by decide))).trans ?_
    refine (read_miss _ _ _ _ _ _ _ (Or.inl (by decide))).trans ?_
    refine (read_miss _ _ _ _ _ _ _ (Or.inl (by decide))).trans ?_
    refine (read_hit _ _ _ _ _ _ _ 0 (by simp)).trans ?_
    unfold full dots
    pointwise [k0_pay4, k0_pay5, k0_pay6, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29]
    simp only [laneCol_zero]
    rfl
  · refine (read_miss _ _ _ _ _ _ _ (Or.inl (by decide))).trans ?_
    refine (read_miss _ _ _ _ _ _ _ (Or.inl (by decide))).trans ?_
    refine (read_hit _ _ _ _ _ _ _ 0 (by simp)).trans ?_
    unfold full dots
    pointwise [k0_pay4, k0_pay5, k0_pay6, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29]
    rfl
  · refine (read_miss _ _ _ _ _ _ _ (Or.inl (by decide))).trans ?_
    refine (read_hit _ _ _ _ _ _ _ 0 (by simp)).trans ?_
    unfold full dots
    pointwise [k0_pay4, k0_pay5, k0_pay6, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29]
    rfl
  · refine (read_hit _ _ _ _ _ _ _ 0 (by simp)).trans ?_
    unfold full dots
    pointwise [k0_pay4, k0_pay5, k0_pay6, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29]
    rfl

/-- The keys' sums after a tile on the diagonal. -/
theorem dk_D (h0 : ¬t.val % 8 = 0) (h1 : ¬t.val / 8 % 8 + 1 ≤ t.val % 8) (h2 : t.val / 8 % 8 ≤ t.val % 8) (h3 : t.val % 8 ≤ t.val / 8 % 8) (s : Fin 1024) (h : Fin 4) (d : Fin 64) :
    (outsAt0 (F := Ideal) m c t.val t.isLt).1 (ix2 s (headCol h d))
      = (before m c t).1 (ix2 s (headCol h d)) + ∑ u : Fin 1024, diag (iblk m c 0 t) (iblk m c 1 t) h s u * dots (iblk m c 2 t) (iblk m c 3 t) h s u * iblk m c 0 t (ix2 u (dataCol h d)) := by
  unfold before
  rw [outsAt0_D m c t h0 h1 h2 h3]
  generalize outsAt0 (F := Ideal) m c (t.val - 1) _ = p
  frame_out
  generalize iblk m c 0 t = x0
  generalize iblk m c 1 t = x1
  generalize iblk m c 2 t = x2
  generalize iblk m c 3 t = x3
  obtain rfl | rfl | rfl | rfl := four h
  · refine (canon_miss _ _ _ _ _ (Or.inl (by simp <;> omega))).trans ?_
    refine (canon_miss _ _ _ _ _ (Or.inl (by simp <;> omega))).trans ?_
    refine (canon_miss _ _ _ _ _ (Or.inl (by simp <;> omega))).trans ?_
    refine (canon_hit _ _ _ _ _ d (by simp)).trans ?_
    unfold diag dots
    simp only [← select_diag]
    pointwise [k0_pay1, k0_pay2, k0_pay3, k0_pay4, k0_pay5, k0_pay6, k0_pay7, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52]
    simp only [laneCol_zero, dataCol_zero, headCol_zero]
  · refine (canon_miss _ _ _ _ _ (Or.inl (by simp <;> omega))).trans ?_
    refine (canon_miss _ _ _ _ _ (Or.inl (by simp <;> omega))).trans ?_
    refine (canon_hit _ _ _ _ _ d (by simp)).trans ?_
    unfold diag dots
    simp only [← select_diag]
    pointwise [k0_pay1, k0_pay2, k0_pay3, k0_pay4, k0_pay5, k0_pay6, k0_pay7, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52]
    rfl
  · refine (canon_miss _ _ _ _ _ (Or.inl (by simp <;> omega))).trans ?_
    refine (canon_hit _ _ _ _ _ d (by simp)).trans ?_
    unfold diag dots
    simp only [← select_diag]
    pointwise [k0_pay1, k0_pay2, k0_pay3, k0_pay4, k0_pay5, k0_pay6, k0_pay7, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52]
    rfl
  · refine (canon_hit _ _ _ _ _ d (by simp)).trans ?_
    unfold diag dots
    simp only [← select_diag]
    pointwise [k0_pay1, k0_pay2, k0_pay3, k0_pay4, k0_pay5, k0_pay6, k0_pay7, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52]
    rfl

/-- The values' sums after a tile on the diagonal. -/
theorem dv_D (h0 : ¬t.val % 8 = 0) (h1 : ¬t.val / 8 % 8 + 1 ≤ t.val % 8) (h2 : t.val / 8 % 8 ≤ t.val % 8) (h3 : t.val % 8 ≤ t.val / 8 % 8) (s : Fin 1024) (h : Fin 4) (d : Fin 64) :
    (outsAt0 (F := Ideal) m c t.val t.isLt).2.1 (ix2 s (headCol h d))
      = (before m c t).2.1 (ix2 s (headCol h d)) + ∑ u : Fin 1024, diag (iblk m c 0 t) (iblk m c 1 t) h s u * iblk m c 3 t (ix2 u (dataCol h d)) := by
  unfold before
  rw [outsAt0_D m c t h0 h1 h2 h3]
  generalize outsAt0 (F := Ideal) m c (t.val - 1) _ = p
  frame_out
  generalize iblk m c 0 t = x0
  generalize iblk m c 1 t = x1
  generalize iblk m c 2 t = x2
  generalize iblk m c 3 t = x3
  obtain rfl | rfl | rfl | rfl := four h
  · refine (canon_miss _ _ _ _ _ (Or.inl (by simp <;> omega))).trans ?_
    refine (canon_miss _ _ _ _ _ (Or.inl (by simp <;> omega))).trans ?_
    refine (canon_miss _ _ _ _ _ (Or.inl (by simp <;> omega))).trans ?_
    refine (canon_hit _ _ _ _ _ d (by simp)).trans ?_
    unfold diag dots
    simp only [← select_diag]
    pointwise [k0_pay1, k0_pay2, k0_pay3, k0_pay4, k0_pay5, k0_pay6, k0_pay7, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52]
    simp only [laneCol_zero, dataCol_zero, headCol_zero]
  · refine (canon_miss _ _ _ _ _ (Or.inl (by simp <;> omega))).trans ?_
    refine (canon_miss _ _ _ _ _ (Or.inl (by simp <;> omega))).trans ?_
    refine (canon_hit _ _ _ _ _ d (by simp)).trans ?_
    unfold diag dots
    simp only [← select_diag]
    pointwise [k0_pay1, k0_pay2, k0_pay3, k0_pay4, k0_pay5, k0_pay6, k0_pay7, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52]
    rfl
  · refine (canon_miss _ _ _ _ _ (Or.inl (by simp <;> omega))).trans ?_
    refine (canon_hit _ _ _ _ _ d (by simp)).trans ?_
    unfold diag dots
    simp only [← select_diag]
    pointwise [k0_pay1, k0_pay2, k0_pay3, k0_pay4, k0_pay5, k0_pay6, k0_pay7, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52]
    rfl
  · refine (canon_hit _ _ _ _ _ d (by simp)).trans ?_
    unfold diag dots
    simp only [← select_diag]
    pointwise [k0_pay1, k0_pay2, k0_pay3, k0_pay4, k0_pay5, k0_pay6, k0_pay7, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52]
    rfl

/-- The gates' sums after a tile on the diagonal. -/
theorem dc_D (h0 : ¬t.val % 8 = 0) (h1 : ¬t.val / 8 % 8 + 1 ≤ t.val % 8) (h2 : t.val / 8 % 8 ≤ t.val % 8) (h3 : t.val % 8 ≤ t.val / 8 % 8) (s : Fin 1024) (h : Fin 4) :
    (outsAt0 (F := Ideal) m c t.val t.isLt).2.2 (ix2 s (gateCol h))
      = (before m c t).2.2 (ix2 s (gateCol h)) + (0 - ∑ u : Fin 1024, diag (iblk m c 0 t) (iblk m c 1 t) h s u * dots (iblk m c 2 t) (iblk m c 3 t) h s u) := by
  unfold before
  rw [outsAt0_D m c t h0 h1 h2 h3]
  generalize outsAt0 (F := Ideal) m c (t.val - 1) _ = p
  frame_out
  generalize iblk m c 0 t = x0
  generalize iblk m c 1 t = x1
  generalize iblk m c 2 t = x2
  generalize iblk m c 3 t = x3
  obtain rfl | rfl | rfl | rfl := four h
  · refine (read_miss _ _ _ _ _ _ _ (Or.inl (by decide))).trans ?_
    refine (read_miss _ _ _ _ _ _ _ (Or.inl (by decide))).trans ?_
    refine (read_miss _ _ _ _ _ _ _ (Or.inl (by decide))).trans ?_
    refine (read_hit _ _ _ _ _ _ _ 0 (by simp)).trans ?_
    unfold diag dots
    simp only [← select_diag]
    pointwise [k0_pay1, k0_pay2, k0_pay3, k0_pay4, k0_pay5, k0_pay6, k0_pay7, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52]
    simp only [laneCol_zero]
    rfl
  · refine (read_miss _ _ _ _ _ _ _ (Or.inl (by decide))).trans ?_
    refine (read_miss _ _ _ _ _ _ _ (Or.inl (by decide))).trans ?_
    refine (read_hit _ _ _ _ _ _ _ 0 (by simp)).trans ?_
    unfold diag dots
    simp only [← select_diag]
    pointwise [k0_pay1, k0_pay2, k0_pay3, k0_pay4, k0_pay5, k0_pay6, k0_pay7, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52]
    rfl
  · refine (read_miss _ _ _ _ _ _ _ (Or.inl (by decide))).trans ?_
    refine (read_hit _ _ _ _ _ _ _ 0 (by simp)).trans ?_
    unfold diag dots
    simp only [← select_diag]
    pointwise [k0_pay1, k0_pay2, k0_pay3, k0_pay4, k0_pay5, k0_pay6, k0_pay7, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52]
    rfl
  · refine (read_hit _ _ _ _ _ _ _ 0 (by simp)).trans ?_
    unfold diag dots
    simp only [← select_diag]
    pointwise [k0_pay1, k0_pay2, k0_pay3, k0_pay4, k0_pay5, k0_pay6, k0_pay7, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52]
    rfl

/-- The keys' sums after the first tile of all, on the diagonal. -/
theorem dk_A (h0 : t.val % 8 = 0) (h1 : ¬t.val / 8 % 8 + 1 ≤ t.val % 8) (h2 : t.val / 8 % 8 ≤ t.val % 8) (h3 : t.val % 8 ≤ t.val / 8 % 8) (s : Fin 1024) (h : Fin 4) (d : Fin 64) :
    (outsAt0 (F := Ideal) m c t.val t.isLt).1 (ix2 s (headCol h d))
      = ∑ u : Fin 1024, diag (iblk m c 0 t) (iblk m c 1 t) h s u * dots (iblk m c 2 t) (iblk m c 3 t) h s u * iblk m c 0 t (ix2 u (dataCol h d)) := by
  rw [outsAt0_A m c t h0 h1 h2 h3]
  frame_open
  simp (disch := decide) only [↓ View.readCov_skip, ↓ View.readCov_cons_toLoadRect, ↓ View.readCov_fill]
  frame_out
  generalize iblk m c 0 t = x0
  generalize iblk m c 1 t = x1
  generalize iblk m c 2 t = x2
  generalize iblk m c 3 t = x3
  obtain rfl | rfl | rfl | rfl := four h
  · refine (canon_miss _ _ _ _ _ (Or.inl (by simp <;> omega))).trans ?_
    refine (canon_miss _ _ _ _ _ (Or.inl (by simp <;> omega))).trans ?_
    refine (canon_miss _ _ _ _ _ (Or.inl (by simp <;> omega))).trans ?_
    refine (canon_hit _ _ _ _ _ d (by simp)).trans ?_
    unfold diag dots
    simp only [← select_diag]
    pointwise [k0_pay1, k0_pay2, k0_pay3, k0_pay4, k0_pay5, k0_pay6, k0_pay7, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52]
    simp only [laneCol_zero, dataCol_zero]
  · refine (canon_miss _ _ _ _ _ (Or.inl (by simp <;> omega))).trans ?_
    refine (canon_miss _ _ _ _ _ (Or.inl (by simp <;> omega))).trans ?_
    refine (canon_hit _ _ _ _ _ d (by simp)).trans ?_
    unfold diag dots
    simp only [← select_diag]
    pointwise [k0_pay1, k0_pay2, k0_pay3, k0_pay4, k0_pay5, k0_pay6, k0_pay7, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52]
    rfl
  · refine (canon_miss _ _ _ _ _ (Or.inl (by simp <;> omega))).trans ?_
    refine (canon_hit _ _ _ _ _ d (by simp)).trans ?_
    unfold diag dots
    simp only [← select_diag]
    pointwise [k0_pay1, k0_pay2, k0_pay3, k0_pay4, k0_pay5, k0_pay6, k0_pay7, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52]
    rfl
  · refine (canon_hit _ _ _ _ _ d (by simp)).trans ?_
    unfold diag dots
    simp only [← select_diag]
    pointwise [k0_pay1, k0_pay2, k0_pay3, k0_pay4, k0_pay5, k0_pay6, k0_pay7, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52]
    rfl

/-- The values' sums after the first tile of all, on the diagonal. -/
theorem dv_A (h0 : t.val % 8 = 0) (h1 : ¬t.val / 8 % 8 + 1 ≤ t.val % 8) (h2 : t.val / 8 % 8 ≤ t.val % 8) (h3 : t.val % 8 ≤ t.val / 8 % 8) (s : Fin 1024) (h : Fin 4) (d : Fin 64) :
    (outsAt0 (F := Ideal) m c t.val t.isLt).2.1 (ix2 s (headCol h d))
      = ∑ u : Fin 1024, diag (iblk m c 0 t) (iblk m c 1 t) h s u * iblk m c 3 t (ix2 u (dataCol h d)) := by
  rw [outsAt0_A m c t h0 h1 h2 h3]
  frame_open
  simp (disch := decide) only [↓ View.readCov_skip, ↓ View.readCov_cons_toLoadRect, ↓ View.readCov_fill]
  frame_out
  generalize iblk m c 0 t = x0
  generalize iblk m c 1 t = x1
  generalize iblk m c 2 t = x2
  generalize iblk m c 3 t = x3
  obtain rfl | rfl | rfl | rfl := four h
  · refine (canon_miss _ _ _ _ _ (Or.inl (by simp <;> omega))).trans ?_
    refine (canon_miss _ _ _ _ _ (Or.inl (by simp <;> omega))).trans ?_
    refine (canon_miss _ _ _ _ _ (Or.inl (by simp <;> omega))).trans ?_
    refine (canon_hit _ _ _ _ _ d (by simp)).trans ?_
    unfold diag dots
    simp only [← select_diag]
    pointwise [k0_pay1, k0_pay2, k0_pay3, k0_pay4, k0_pay5, k0_pay6, k0_pay7, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52]
    simp only [laneCol_zero, dataCol_zero]
  · refine (canon_miss _ _ _ _ _ (Or.inl (by simp <;> omega))).trans ?_
    refine (canon_miss _ _ _ _ _ (Or.inl (by simp <;> omega))).trans ?_
    refine (canon_hit _ _ _ _ _ d (by simp)).trans ?_
    unfold diag dots
    simp only [← select_diag]
    pointwise [k0_pay1, k0_pay2, k0_pay3, k0_pay4, k0_pay5, k0_pay6, k0_pay7, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52]
    rfl
  · refine (canon_miss _ _ _ _ _ (Or.inl (by simp <;> omega))).trans ?_
    refine (canon_hit _ _ _ _ _ d (by simp)).trans ?_
    unfold diag dots
    simp only [← select_diag]
    pointwise [k0_pay1, k0_pay2, k0_pay3, k0_pay4, k0_pay5, k0_pay6, k0_pay7, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52]
    rfl
  · refine (canon_hit _ _ _ _ _ d (by simp)).trans ?_
    unfold diag dots
    simp only [← select_diag]
    pointwise [k0_pay1, k0_pay2, k0_pay3, k0_pay4, k0_pay5, k0_pay6, k0_pay7, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52]
    rfl

/-- The gates' sums after the first tile of all, on the diagonal. -/
theorem dc_A (h0 : t.val % 8 = 0) (h1 : ¬t.val / 8 % 8 + 1 ≤ t.val % 8) (h2 : t.val / 8 % 8 ≤ t.val % 8) (h3 : t.val % 8 ≤ t.val / 8 % 8) (s : Fin 1024) (h : Fin 4) :
    (outsAt0 (F := Ideal) m c t.val t.isLt).2.2 (ix2 s (gateCol h))
      = (0 - ∑ u : Fin 1024, diag (iblk m c 0 t) (iblk m c 1 t) h s u * dots (iblk m c 2 t) (iblk m c 3 t) h s u) := by
  rw [outsAt0_A m c t h0 h1 h2 h3]
  frame_open
  simp (disch := decide) only [↓ View.readCov_skip, ↓ View.readCov_cons_toLoadRect, ↓ View.readCov_fill]
  frame_out
  generalize iblk m c 0 t = x0
  generalize iblk m c 1 t = x1
  generalize iblk m c 2 t = x2
  generalize iblk m c 3 t = x3
  obtain rfl | rfl | rfl | rfl := four h
  · refine (canon_miss _ _ _ _ _ (Or.inl (by decide))).trans ?_
    refine (canon_miss _ _ _ _ _ (Or.inl (by decide))).trans ?_
    refine (canon_miss _ _ _ _ _ (Or.inl (by decide))).trans ?_
    refine (canon_hit _ _ _ _ _ 0 (by simp)).trans ?_
    unfold diag dots
    simp only [← select_diag]
    pointwise [k0_pay1, k0_pay2, k0_pay3, k0_pay4, k0_pay5, k0_pay6, k0_pay7, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52]
    simp only [laneCol_zero]
  · refine (canon_miss _ _ _ _ _ (Or.inl (by decide))).trans ?_
    refine (canon_miss _ _ _ _ _ (Or.inl (by decide))).trans ?_
    refine (canon_hit _ _ _ _ _ 0 (by simp)).trans ?_
    unfold diag dots
    simp only [← select_diag]
    pointwise [k0_pay1, k0_pay2, k0_pay3, k0_pay4, k0_pay5, k0_pay6, k0_pay7, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52]
    rfl
  · refine (canon_miss _ _ _ _ _ (Or.inl (by decide))).trans ?_
    refine (canon_hit _ _ _ _ _ 0 (by simp)).trans ?_
    unfold diag dots
    simp only [← select_diag]
    pointwise [k0_pay1, k0_pay2, k0_pay3, k0_pay4, k0_pay5, k0_pay6, k0_pay7, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52]
    rfl
  · refine (canon_hit _ _ _ _ _ 0 (by simp)).trans ?_
    unfold diag dots
    simp only [← select_diag]
    pointwise [k0_pay1, k0_pay2, k0_pay3, k0_pay4, k0_pay5, k0_pay6, k0_pay7, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52]
    rfl

/-- The columns of the third output that belong to no head. -/
theorem rest_B (h0 : ¬t.val % 8 = 0) (h1 : t.val / 8 % 8 + 1 ≤ t.val % 8) (h2 : t.val / 8 % 8 ≤ t.val % 8) (h3 : ¬t.val % 8 ≤ t.val / 8 % 8) (s : Fin 1024) (l : Fin 128) (hl : 4 ≤ l.val) :
    (outsAt0 (F := Ideal) m c t.val t.isLt).2.2 (ix2 s l) = (before m c t).2.2 (ix2 s l) := by
  unfold before
  rw [outsAt0_B m c t h0 h1 h2 h3]
  generalize outsAt0 (F := Ideal) m c (t.val - 1) _ = p
  frame_out
  generalize iblk m c 0 t = x0
  generalize iblk m c 1 t = x1
  generalize iblk m c 2 t = x2
  generalize iblk m c 3 t = x3
  refine (read_miss _ _ _ _ _ _ _ (Or.inr (by simpa using (by omega)))).trans ?_
  refine (read_miss _ _ _ _ _ _ _ (Or.inr (by simpa using (by omega)))).trans ?_
  refine (read_miss _ _ _ _ _ _ _ (Or.inr (by simpa using (by omega)))).trans ?_
  refine (read_miss _ _ _ _ _ _ _ (Or.inr (by simpa using (by omega)))).trans ?_
  rw [View.writes_nil, (hs0_6 t).read_unread]

/-- The columns of the third output that belong to no head. -/
theorem rest_D (h0 : ¬t.val % 8 = 0) (h1 : ¬t.val / 8 % 8 + 1 ≤ t.val % 8) (h2 : t.val / 8 % 8 ≤ t.val % 8) (h3 : t.val % 8 ≤ t.val / 8 % 8) (s : Fin 1024) (l : Fin 128) (hl : 4 ≤ l.val) :
    (outsAt0 (F := Ideal) m c t.val t.isLt).2.2 (ix2 s l) = (before m c t).2.2 (ix2 s l) := by
  unfold before
  rw [outsAt0_D m c t h0 h1 h2 h3]
  generalize outsAt0 (F := Ideal) m c (t.val - 1) _ = p
  frame_out
  generalize iblk m c 0 t = x0
  generalize iblk m c 1 t = x1
  generalize iblk m c 2 t = x2
  generalize iblk m c 3 t = x3
  refine (read_miss _ _ _ _ _ _ _ (Or.inr (by simpa using (by omega)))).trans ?_
  refine (read_miss _ _ _ _ _ _ _ (Or.inr (by simpa using (by omega)))).trans ?_
  refine (read_miss _ _ _ _ _ _ _ (Or.inr (by simpa using (by omega)))).trans ?_
  refine (read_miss _ _ _ _ _ _ _ (Or.inr (by simpa using (by omega)))).trans ?_
  rw [View.writes_nil, (hs0_6 t).read_unread]

/-- The columns of the third output that belong to no head. -/
theorem rest_A (h0 : t.val % 8 = 0) (h1 : ¬t.val / 8 % 8 + 1 ≤ t.val % 8) (h2 : t.val / 8 % 8 ≤ t.val % 8) (h3 : t.val % 8 ≤ t.val / 8 % 8) (s : Fin 1024) (l : Fin 128) (hl : 4 ≤ l.val) :
    (outsAt0 (F := Ideal) m c t.val t.isLt).2.2 (ix2 s l) = 0 := by
  rw [outsAt0_A m c t h0 h1 h2 h3]
  frame_open
  simp (disch := decide) only [↓ View.readCov_skip, ↓ View.readCov_cons_toLoadRect, ↓ View.readCov_fill]
  frame_out
  generalize iblk m c 0 t = x0
  generalize iblk m c 1 t = x1
  generalize iblk m c 2 t = x2
  generalize iblk m c 3 t = x3
  refine (canon_miss _ _ _ _ _ (Or.inr (by simpa using (by omega)))).trans ?_
  refine (canon_miss _ _ _ _ _ (Or.inr (by simpa using (by omega)))).trans ?_
  refine (canon_miss _ _ _ _ _ (Or.inr (by simpa using (by omega)))).trans ?_
  refine (canon_miss _ _ _ _ _ (Or.inr (by simpa using (by omega)))).trans ?_
  refine (canon_hit _ _ _ _ _ l (by simp)).trans ?_
  pointwise [k0_pay3]

/-- The keys' sums start from zero. -/
theorem dk_C (h0 : t.val % 8 = 0) (h1 : ¬t.val / 8 % 8 + 1 ≤ t.val % 8) (h2 : ¬t.val / 8 % 8 ≤ t.val % 8) (y) : (outsAt0 (F := Ideal) m c t.val t.isLt).1 y = 0 := by
  rw [outsAt0_C m c t h0 h1 h2]
  frame_out
  pointwise [k0_pay1, k0_pay2, k0_pay3]

/-- The values' sums start from zero. -/
theorem dv_C (h0 : t.val % 8 = 0) (h1 : ¬t.val / 8 % 8 + 1 ≤ t.val % 8) (h2 : ¬t.val / 8 % 8 ≤ t.val % 8) (y) : (outsAt0 (F := Ideal) m c t.val t.isLt).2.1 y = 0 := by
  rw [outsAt0_C m c t h0 h1 h2]
  frame_out
  pointwise [k0_pay1, k0_pay2, k0_pay3]

/-- The gates' sums start from zero. -/
theorem dc_C (h0 : t.val % 8 = 0) (h1 : ¬t.val / 8 % 8 + 1 ≤ t.val % 8) (h2 : ¬t.val / 8 % 8 ≤ t.val % 8) (y) : (outsAt0 (F := Ideal) m c t.val t.isLt).2.2 y = 0 := by
  rw [outsAt0_C m c t h0 h1 h2]
  frame_out
  pointwise [k0_pay1, k0_pay2, k0_pay3]

/-- A tile above the diagonal changes nothing. -/
theorem all_E (h0 : ¬t.val % 8 = 0) (h1 : ¬t.val / 8 % 8 + 1 ≤ t.val % 8) (h2 : ¬t.val / 8 % 8 ≤ t.val % 8) : outsAt0 (F := Ideal) m c t.val t.isLt = before m c t := by
  rw [outsAt0_E m c t h0 h1 h2]
  rfl

end Cert.Attention.Tile
-- ==== Proof.MergeBranches.lean ====
/-
  What a point of the merge's gradient computes of each branch, in terms of the blocks it reads.
-/
module

public import proofs.«01_k».proof.Proof.Gen.KernelDmergeIdeal.Value
public import proofs.«01_k».proof.Proof.Tile
public import Idealize.ShloMosaic.Lib.Pipeline.ReadBack

@[expose] public section

set_option maxRecDepth 16384

noncomputable section

namespace Cert.Merge.Backward

open Idealize.ShloMosaic Idealize.ShloMosaic.TcCoe Idealize.SL.Sem Cert.KernelDmergeIdeal Cert.KernelDmergeIdeal.Gen

/-- A branch's columns and its weights, loaded from a block. -/
abbrev cols (z : FVec Ideal S512x4096 .f32) (o : Fin 2 → ℕ) (h : ∀ a : Fin S512x4096.rank, o a + S512x1024.size a ≤ S512x4096.size a) : Vec Ideal S512x1024 .f32 :=
  View.ld (Val := Elt Ideal) (e' := .f32) z (Rect.unit (s := S512x4096) o S512x1024.size h)

abbrev layer (w : FVec Ideal S4x256x1024 .bf16) (o : Fin 3 → ℕ) (h : ∀ a : Fin S4x256x1024.rank, o a + S1x256x1024.size a ≤ S4x256x1024.size a) : Vec Ideal S1x256x1024 .bf16 :=
  View.ld (Val := Elt Ideal) (e' := .bf16) w (Rect.unit (s := S4x256x1024) o S1x256x1024.size h)

abbrev line (a : FVec Ideal S8x1024 .f32) (o : Fin 2 → ℕ) (h : ∀ i : Fin S8x1024.rank, o i + S1x1024.size i ≤ S8x1024.size i) : Vec Ideal S1x1024 .f32 :=
  View.ld (Val := Elt Ideal) (e' := .f32) a (Rect.unit (s := S8x1024) o S1x1024.size h)

variable (z : FVec Ideal S512x4096 .f32) (w : FVec Ideal S4x256x1024 .bf16) (mb : FVec Ideal S4x1024 .f32)

/-- A branch's gate, its projection, and what its bias receives from one row. -/
def gateAt (b : Fin 4) (s : Fin 512) (l : Fin 1024) : EReal := Ideal.logistic (z (ix2 s ⟨b.val * 1024 + l.val, by omega⟩) + mb (ix2 b l))

def upAt (y : FVec Ideal S512x256 .bf16) (b : Fin 4) (s : Fin 512) (l : Fin 1024) : EReal := ∑ k : Fin 256, y (ix2 s k) * w (ix3 b k l)

def biasAt (v : FVec Ideal S512x1024 .f32) (y : FVec Ideal S512x256 .bf16) (b : Fin 4) (s : Fin 512) (l : Fin 1024) : EReal :=
  v (ix2 s l) * upAt w y b s l * gateAt z mb b s l * (1 - gateAt z mb b s l)

/-- The incoming rows times the output's transpose. -/
theorem product (ct : FVec Ideal S512x1024 .f32) (wo : FVec Ideal S1024x1024 .bf16) (s : Fin 512) (l : Fin 1024) :
    k0_pay4 (F := Ideal) ct wo (ix2 s l) = ∑ k : Fin 1024, ct (ix2 s k) * wo (ix2 l k) := by
  pointwise [k0_pay4, k0_pay3]

section Projections

variable (v : FVec Ideal S512x1024 .f32) (s : Fin 512) (l : Fin 1024)

theorem du_one : k0_pay12 (F := Ideal) mb v (cols z ![0, 1024] inb_S512x4096_S512x1024_0_1024) (ix2 s l) = v (ix2 s l) * gateAt z mb 1 s l := by
  unfold gateAt
  pointwise [k0_pay12, k0_pay11, cols]

theorem du_two : k0_pay20 (F := Ideal) mb v (cols z ![0, 2048] inb_S512x4096_S512x1024_0_2048) (ix2 s l) = v (ix2 s l) * gateAt z mb 2 s l := by
  unfold gateAt
  pointwise [k0_pay20, k0_pay19, cols]

theorem du_three : k0_pay26 (F := Ideal) mb v (cols z ![0, 3072] inb_S512x4096_S512x1024_0_3072) (ix2 s l) = v (ix2 s l) * gateAt z mb 3 s l := by
  unfold gateAt
  pointwise [k0_pay26, k0_pay25, cols]

theorem du_zero (ct : FVec Ideal S512x1024 .f32) (wo : FVec Ideal S1024x1024 .bf16) :
    k0_pay6 (F := Ideal) mb ct wo (cols z ![0, 0] inb_S512x4096_S512x1024_0_0) (ix2 s l) = k0_pay4 (F := Ideal) ct wo (ix2 s l) * gateAt z mb 0 s l := by
  unfold gateAt k0_pay6
  generalize k0_pay4 (F := Ideal) ct wo = v
  pointwise [k0_pay5, cols]

variable (y : FVec Ideal S512x256 .bf16)

theorem bias_one : k0_pay13 (F := Ideal) mb v y (layer w ![1, 0, 0] inb_S4x256x1024_S1x256x1024_1_0_0) (cols z ![0, 1024] inb_S512x4096_S512x1024_0_1024) (ix2 s l)
    = biasAt z w mb v y 1 s l := by
  unfold biasAt gateAt upAt
  pointwise [k0_pay13, k0_pay11, cols, layer]

theorem bias_two : k0_pay21 (F := Ideal) mb v y (layer w ![2, 0, 0] inb_S4x256x1024_S1x256x1024_2_0_0) (cols z ![0, 2048] inb_S512x4096_S512x1024_0_2048) (ix2 s l)
    = biasAt z w mb v y 2 s l := by
  unfold biasAt gateAt upAt
  pointwise [k0_pay21, k0_pay19, cols, layer]

theorem bias_three : k0_pay27 (F := Ideal) mb v y (layer w ![3, 0, 0] inb_S4x256x1024_S1x256x1024_3_0_0) (cols z ![0, 3072] inb_S512x4096_S512x1024_0_3072) (ix2 s l)
    = biasAt z w mb v y 3 s l := by
  unfold biasAt gateAt upAt
  pointwise [k0_pay27, k0_pay25, cols, layer]

theorem bias_zero (ct : FVec Ideal S512x1024 .f32) (wo : FVec Ideal S1024x1024 .bf16) :
    k0_pay7 (F := Ideal) mb ct wo y (layer w ![0, 0, 0] inb_S4x256x1024_S1x256x1024_0_0_0) (cols z ![0, 0] inb_S512x4096_S512x1024_0_0) (ix2 s l)
    = biasAt z w mb (k0_pay4 (F := Ideal) ct wo) y 0 s l := by
  unfold biasAt gateAt upAt k0_pay7
  generalize k0_pay4 (F := Ideal) ct wo = v
  pointwise [k0_pay5, cols, layer]

end Projections

section Mixers

variable (d : FVec Ideal S512x1024 .bf16) (s : Fin 512) (k : Fin 256)

theorem dy_zero : k0_pay10 (F := Ideal) d (layer w ![0, 0, 0] inb_S4x256x1024_S1x256x1024_0_0_0) (ix2 s k) = ∑ l : Fin 1024, d (ix2 s l) * w (ix3 0 k l) := by
  pointwise [k0_pay10, layer]

theorem dy_one : k0_pay18 (F := Ideal) d (layer w ![1, 0, 0] inb_S4x256x1024_S1x256x1024_1_0_0) (ix2 s k) = ∑ l : Fin 1024, d (ix2 s l) * w (ix3 1 k l) := by
  pointwise [k0_pay18, layer]

theorem dy_two : k0_pay24 (F := Ideal) d (layer w ![2, 0, 0] inb_S4x256x1024_S1x256x1024_2_0_0) (ix2 s k) = ∑ l : Fin 1024, d (ix2 s l) * w (ix3 2 k l) := by
  pointwise [k0_pay24, layer]

theorem dy_three : k0_pay1 (F := Ideal) d (layer w ![3, 0, 0] inb_S4x256x1024_S1x256x1024_3_0_0) (ix2 s k) = ∑ l : Fin 1024, d (ix2 s l) * w (ix3 3 k l) := by
  pointwise [k0_pay1, layer]

end Mixers

section Biases

variable (v : FVec Ideal S512x1024 .f32) (a : FVec Ideal S8x1024 .f32) (y : FVec Ideal S512x256 .bf16) (l : Fin 1024)

theorem st_zero (g : FVec Ideal S512x1024 .f32) :
    k0_pay9 (F := Ideal) g (line a ![0, 0] inb_S8x1024_S1x1024_0_0) (ix2 0 l) = a (ix2 0 l) + ∑ s : Fin 512, g (ix2 s l) := by
  pointwise [k0_pay9, line]

theorem st_one : k0_pay17 (F := Ideal) (k0_pay15 (line a ![1, 0] inb_S8x1024_S1x1024_1_0))
      (k0_pay16 mb v y (layer w ![1, 0, 0] inb_S4x256x1024_S1x256x1024_1_0_0) (cols z ![0, 1024] inb_S512x4096_S512x1024_0_1024)) (ix2 0 l)
    = a (ix2 1 l) + ∑ s : Fin 512, biasAt z w mb v y 1 s l := by
  simp only [← bias_one]
  unfold k0_pay16
  generalize k0_pay13 (F := Ideal) mb v y (layer w ![1, 0, 0] inb_S4x256x1024_S1x256x1024_1_0_0) (cols z ![0, 1024] inb_S512x4096_S512x1024_0_1024) = g
  pointwise [k0_pay17, k0_pay15, line]

theorem st_two : k0_pay23 (F := Ideal) mb v y (layer w ![2, 0, 0] inb_S4x256x1024_S1x256x1024_2_0_0) (cols z ![0, 2048] inb_S512x4096_S512x1024_0_2048)
      (line a ![2, 0] inb_S8x1024_S1x1024_2_0) (ix2 0 l)
    = a (ix2 2 l) + ∑ s : Fin 512, biasAt z w mb v y 2 s l := by
  simp only [← bias_two]
  unfold k0_pay23
  generalize k0_pay21 (F := Ideal) mb v y (layer w ![2, 0, 0] inb_S4x256x1024_S1x256x1024_2_0_0) (cols z ![0, 2048] inb_S512x4096_S512x1024_0_2048) = g
  pointwise [line]

theorem st_three : k0_pay29 (F := Ideal) mb v y (layer w ![3, 0, 0] inb_S4x256x1024_S1x256x1024_3_0_0) (cols z ![0, 3072] inb_S512x4096_S512x1024_0_3072)
      (line a ![3, 0] inb_S8x1024_S1x1024_3_0) (ix2 0 l)
    = a (ix2 3 l) + ∑ s : Fin 512, biasAt z w mb v y 3 s l := by
  simp only [← bias_three]
  unfold k0_pay29
  generalize k0_pay27 (F := Ideal) mb v y (layer w ![3, 0, 0] inb_S4x256x1024_S1x256x1024_3_0_0) (cols z ![0, 3072] inb_S512x4096_S512x1024_0_3072) = g
  pointwise [line]

end Biases

end Cert.Merge.Backward

end
-- ==== Proof.MergeGradient.lean ====
/-
  The merge's gradient: every grid point writes 512 rows of the gradients that pass to the projections and the mixers, and adds
  the rows' share to the biases' gradient.
-/
module

public import proofs.«01_k».proof.Proof.Gen.KernelDmergeIdeal.Value
public import proofs.«01_k».proof.Proof.Gen.ReferenceDmergeIdeal.Run
public import proofs.«01_k».proof.Proof.Gen.ReferenceDmergeIdeal.Read
public import proofs.«01_k».proof.Proof.MergeGradientReference
public import proofs.«01_k».proof.Proof.MergeBranches

@[expose] public section

set_option maxRecDepth 16384

noncomputable section

namespace Cert.Merge.Backward

open Idealize.ShloMosaic Idealize.ShloMosaic.TcCoe Idealize.SL.Sem Cert.KernelDmergeIdeal Cert.KernelDmergeIdeal.Gen
open Cert.Attention.Tile (canon_hit canon_miss)

section Lines

variable {n w : ℕ} {Val : EltTy → Type} {e : EltTy} {κ : Kind} {sp : Space}

/-- The newest row, read in it, and passed over at another row. -/
theorem line_hit [∀ e, Nonempty (Val e)] {o : ℕ} (inb : ∀ a, (![o, 0] : Fin 2 → ℕ) a + (![1, w] : Fin 2 → ℕ) a ≤ (Cert.Attention.Tile.Mat n w).size a)
    (p : (Cert.Attention.Tile.Mat 1 w).Idx → Val e) (L : List (View.Piece Val (Cert.Attention.Tile.Mat n w) e)) (r : Fin n) (l : Fin w) (hr : r.val = o) :
    View.canon ((⟨Rect.unit ![o, 0] ![1, w] inb, p⟩ : View.Piece Val (Cert.Attention.Tile.Mat n w) e) :: L) (ix2 r l) = p (ix2 0 l) := by
  have hx : (Rect.unit (s := Cert.Attention.Tile.Mat n w) ![o, 0] ![1, w] inb).emb (ix2 0 l) = ix2 r l := by
    refine Rect.emb_eq_of_coords _ _ _ (Fin.forall_fin_two.2 ⟨?_, ?_⟩)
    · show r.val = o + 1 * 0
      omega
    · show l.val = 0 + 1 * l.val
      omega
  rw [← hx]
  exact View.canon_cons_emb (Rect.unit (s := Cert.Attention.Tile.Mat n w) ![o, 0] ![1, w] inb) p L _

theorem line_miss [∀ e, Nonempty (Val e)] {o : ℕ} (inb : ∀ a, (![o, 0] : Fin 2 → ℕ) a + (![1, w] : Fin 2 → ℕ) a ≤ (Cert.Attention.Tile.Mat n w).size a)
    (p : (Cert.Attention.Tile.Mat 1 w).Idx → Val e) (L : List (View.Piece Val (Cert.Attention.Tile.Mat n w) e)) (r : Fin n) (l : Fin w) (hr : r.val < o ∨ o + 1 ≤ r.val) :
    View.canon ((⟨Rect.unit ![o, 0] ![1, w] inb, p⟩ : View.Piece Val (Cert.Attention.Tile.Mat n w) e) :: L) (ix2 r l) = View.canon L (ix2 r l) := by
  refine View.canon_cons_of_not_mem _ L ?_
  exact Rect.not_mem_set_of_axis (Rect.unit (s := Cert.Attention.Tile.Mat n w) ![o, 0] ![1, w] inb) (ix2 r l) 0 o 1 rfl rfl rfl hr

variable {sig : RefSig} (v : View sig κ sp (Cert.Attention.Tile.Mat n w) e) (f : v.ty.Contents Val)

/-- The same over the contents that a block had before. -/
theorem over_hit {o : ℕ} (inb : ∀ a, (![o, 0] : Fin 2 → ℕ) a + (![1, w] : Fin 2 → ℕ) a ≤ (Cert.Attention.Tile.Mat n w).size a)
    (p : (Cert.Attention.Tile.Mat 1 w).Idx → Val e) (L : List (View.Piece Val (Cert.Attention.Tile.Mat n w) e)) (r : Fin n) (l : Fin w) (hr : r.val = o) :
    v.read Val (v.writes Val f ((⟨Rect.unit ![o, 0] ![1, w] inb, p⟩ : View.Piece Val (Cert.Attention.Tile.Mat n w) e) :: L)) (ix2 r l) = p (ix2 0 l) := by
  refine View.read_writes_cons_hit_of_coords v f (Rect.unit ![o, 0] ![1, w] inb) p L (ix2 0 l) (ix2 r l) (Fin.forall_fin_two.2 ⟨?_, ?_⟩)
  · show r.val = o + 1 * 0
    omega
  · show l.val = 0 + 1 * l.val
    omega

theorem over_miss {o : ℕ} (inb : ∀ a, (![o, 0] : Fin 2 → ℕ) a + (![1, w] : Fin 2 → ℕ) a ≤ (Cert.Attention.Tile.Mat n w).size a)
    (p : (Cert.Attention.Tile.Mat 1 w).Idx → Val e) (L : List (View.Piece Val (Cert.Attention.Tile.Mat n w) e)) (r : Fin n) (l : Fin w) (hr : r.val < o ∨ o + 1 ≤ r.val) :
    v.read Val (v.writes Val f ((⟨Rect.unit ![o, 0] ![1, w] inb, p⟩ : View.Piece Val (Cert.Attention.Tile.Mat n w) e) :: L)) (ix2 r l)
      = v.read Val (v.writes Val f L) (ix2 r l) :=
  View.read_writes_cons_miss_of_axis v f _ L (ix2 r l) 0 o 1 rfl rfl rfl hr

end Lines

variable (m : (ℓ : Loc nD τ sig) → Buf (Elt Ideal) ℓ) (c : Dev nD) (t : Fin cfg0.N)

/-- The blocks that a point reads. -/
abbrev ctBlock : FVec Ideal S512x1024 .f32 := iblk m c 0 t

abbrev zBlock : FVec Ideal S512x4096 .f32 := X0_1 m c t

abbrev aBlock : FVec Ideal S512x256 .bf16 := iblk m c 2 t

abbrev bBlock : FVec Ideal S512x256 .bf16 := iblk m c 3 t

abbrev cBlock : FVec Ideal S512x256 .bf16 := iblk m c 4 t

abbrev dBlock : FVec Ideal S512x256 .bf16 := iblk m c 5 t

abbrev upBlock : FVec Ideal S4x256x1024 .bf16 := iblk m c 6 t

abbrev biasBlock : FVec Ideal S4x1024 .f32 := iblk m c 7 t

abbrev outBlock : FVec Ideal S1024x1024 .bf16 := iblk m c 8 t

/-- The arguments. -/
abbrev cts : (⟨S8192x1024, .f32⟩ : BufTy).Contents (Elt Ideal) := m ((c : Thread nD τ).loc main_arg0)

abbrev zs : Logits := m ((c : Thread nD τ).loc main_arg1)

abbrev ya : Rows := m ((c : Thread nD τ).loc main_arg2)

abbrev yb : Rows := m ((c : Thread nD τ).loc main_arg3)

abbrev yc : Rows := m ((c : Thread nD τ).loc main_arg4)

abbrev yd : Rows := m ((c : Thread nD τ).loc main_arg5)

abbrev ups : Ups := m ((c : Thread nD τ).loc main_arg6)

abbrev biases : Biases := m ((c : Thread nD τ).loc main_arg7)

abbrev out : (⟨S1024x1024, .bf16⟩ : BufTy).Contents (Elt Ideal) := m ((c : Thread nD τ).loc main_arg8)

/-- A point's rows. -/
abbrev rowOf (s : Fin 512) : Fin 8192 := ⟨512 * t.val + s.val, by have : t.val < 16 := t.isLt; omega⟩

theorem index_rows : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_10.index t = ![t.val, 0] ∧ win0_11.index t = ![t.val, 0] ∧ win0_12.index t = ![t.val, 0] := by decide +kernel

theorem index_whole : ∀ t : Fin cfg0.N, win0_6.index t = ![0, 0, 0] ∧ win0_7.index t = ![0, 0] ∧ win0_8.index t = ![0, 0] ∧ win0_13.index t = ![0, 0] := by decide +kernel

theorem ct_block (s : Fin 512) (k : Fin 1024) : ctBlock m c t (ix2 s k) = cts m c (ix2 (rowOf t s) k) := by
  unfold cts
  rw [← V_main_arg0 m c]
  blk_ext [ctBlock, iblk, (index_rows t).1]

theorem z_block (s : Fin 512) (k : Fin 4096) : zBlock m c t (ix2 s k) = zs m c (ix2 (rowOf t s) ⟨k.val, by omega⟩) := by
  unfold zs zBlock X0_1 Pipeline.Window.fill
  rw [← V_main_arg1 m c, dif_pos (moved0_1 t _)]
  blk_ext [iblk, (index_rows t).2.1]

theorem branches (b : Fin 4) (s : Fin 512) (k : Fin 256) :
    ![aBlock m c t, bBlock m c t, cBlock m c t, dBlock m c t] b (ix2 s k) = ![ya m c, yb m c, yc m c, yd m c] b (ix2 (rowOf t s) k) := by
  obtain ⟨-, -, ea, eb, ec, ed, -⟩ := index_rows t
  fin_cases b
  · show aBlock m c t (ix2 s k) = ya m c (ix2 (rowOf t s) k)
    unfold ya
    rw [← V_main_arg2 m c]
    blk_ext [aBlock, iblk, ea]
  · show bBlock m c t (ix2 s k) = yb m c (ix2 (rowOf t s) k)
    unfold yb
    rw [← V_main_arg3 m c]
    blk_ext [bBlock, iblk, eb]
  · show cBlock m c t (ix2 s k) = yc m c (ix2 (rowOf t s) k)
    unfold yc
    rw [← V_main_arg4 m c]
    blk_ext [cBlock, iblk, ec]
  · show dBlock m c t (ix2 s k) = yd m c (ix2 (rowOf t s) k)
    unfold yd
    rw [← V_main_arg5 m c]
    blk_ext [dBlock, iblk, ed]

theorem up_block (b : Fin 4) (k : Fin 256) (l : Fin 1024) : upBlock m c t (ix3 b k l) = ups m c (ix3 b k l) := by
  unfold ups
  rw [← V_main_arg6 m c]
  blk_ext [upBlock, iblk, (index_whole t).1]

theorem bias_block (b : Fin 4) (l : Fin 1024) : biasBlock m c t (ix2 b l) = biases m c (ix2 b l) := by
  unfold biases
  rw [← V_main_arg7 m c]
  blk_ext [biasBlock, iblk, (index_whole t).2.1]

theorem out_block (k : Fin 1024) (l : Fin 1024) : outBlock m c t (ix2 k l) = out m c (ix2 k l) := by
  unfold out
  rw [← V_main_arg8 m c]
  blk_ext [outBlock, iblk, (index_whole t).2.2.1]

/-- The four mixers' blocks. -/
abbrev yBlock (b : Fin 4) : FVec Ideal S512x256 .bf16 := ![aBlock m c t, bBlock m c t, cBlock m c t, dBlock m c t] b

/-- The incoming rows times the output's transpose, in a block. -/
abbrev flow : FVec Ideal S512x1024 .f32 := k0_pay4 (F := Ideal) (ctBlock m c t) (outBlock m c t)

/-- The four column pieces of a block, read in one of them. -/
theorem wide (p0 p1 p2 p3 : FVec Ideal S512x1024 .bf16) (b : Fin 4) (s : Fin 512) (l : Fin 1024) :
    View.canon (Val := Elt Ideal) (e := .bf16)
      [⟨Rect.unit (s := S512x4096) ![0, 3072] ![512, 1024] inb_S512x4096_S512x1024_0_3072, p3⟩, ⟨Rect.unit (s := S512x4096) ![0, 2048] ![512, 1024] inb_S512x4096_S512x1024_0_2048, p2⟩,
        ⟨Rect.unit (s := S512x4096) ![0, 1024] ![512, 1024] inb_S512x4096_S512x1024_0_1024, p1⟩, ⟨Rect.unit (s := S512x4096) ![0, 0] ![512, 1024] inb_S512x4096_S512x1024_0_0, p0⟩]
      (ix2 s ⟨b.val * 1024 + l.val, by omega⟩) = ![p0, p1, p2, p3] b (ix2 s l) := by
  fin_cases b
  · refine (canon_miss _ _ _ _ _ (Or.inl (by simp <;> omega))).trans ?_
    refine (canon_miss _ _ _ _ _ (Or.inl (by simp <;> omega))).trans ?_
    refine (canon_miss _ _ _ _ _ (Or.inl (by simp <;> omega))).trans ?_
    exact canon_hit _ _ _ _ _ l (by simp)
  · refine (canon_miss _ _ _ _ _ (Or.inl (by simp <;> omega))).trans ?_
    refine (canon_miss _ _ _ _ _ (Or.inl (by simp <;> omega))).trans ?_
    exact canon_hit _ _ _ _ _ l (by simp)
  · refine (canon_miss _ _ _ _ _ (Or.inl (by simp <;> omega))).trans ?_
    exact canon_hit _ _ _ _ _ l (by simp)
  · exact canon_hit _ _ _ _ _ l (by simp)

theorem narrow (p0 p1 p2 p3 : FVec Ideal S512x256 .f32) (b : Fin 4) (s : Fin 512) (l : Fin 256) :
    View.canon (Val := Elt Ideal) (e := .f32)
      [⟨Rect.unit (s := S512x1024) ![0, 768] ![512, 256] inb_S512x1024_S512x256_0_768, p3⟩, ⟨Rect.unit (s := S512x1024) ![0, 512] ![512, 256] inb_S512x1024_S512x256_0_512, p2⟩,
        ⟨Rect.unit (s := S512x1024) ![0, 256] ![512, 256] inb_S512x1024_S512x256_0_256, p1⟩, ⟨Rect.unit (s := S512x1024) ![0, 0] ![512, 256] inb_S512x1024_S512x256_0_0, p0⟩]
      (ix2 s ⟨b.val * 256 + l.val, by omega⟩) = ![p0, p1, p2, p3] b (ix2 s l) := by
  fin_cases b
  · refine (canon_miss _ _ _ _ _ (Or.inl (by simp <;> omega))).trans ?_
    refine (canon_miss _ _ _ _ _ (Or.inl (by simp <;> omega))).trans ?_
    refine (canon_miss _ _ _ _ _ (Or.inl (by simp <;> omega))).trans ?_
    exact canon_hit _ _ _ _ _ l (by simp)
  · refine (canon_miss _ _ _ _ _ (Or.inl (by simp <;> omega))).trans ?_
    refine (canon_miss _ _ _ _ _ (Or.inl (by simp <;> omega))).trans ?_
    exact canon_hit _ _ _ _ _ l (by simp)
  · refine (canon_miss _ _ _ _ _ (Or.inl (by simp <;> omega))).trans ?_
    exact canon_hit _ _ _ _ _ l (by simp)
  · exact canon_hit _ _ _ _ _ l (by simp)

/-- A branch's rows of the gradient that passes to its projection. -/
abbrev duBlock (b : Fin 4) : FVec Ideal S512x1024 .bf16 :=
  ![k0_pay6 (F := Ideal) (biasBlock m c t) (ctBlock m c t) (outBlock m c t) (cols (zBlock m c t) ![0, 0] inb_S512x4096_S512x1024_0_0),
    k0_pay12 (F := Ideal) (biasBlock m c t) (flow m c t) (cols (zBlock m c t) ![0, 1024] inb_S512x4096_S512x1024_0_1024),
    k0_pay20 (F := Ideal) (biasBlock m c t) (flow m c t) (cols (zBlock m c t) ![0, 2048] inb_S512x4096_S512x1024_0_2048),
    k0_pay26 (F := Ideal) (biasBlock m c t) (flow m c t) (cols (zBlock m c t) ![0, 3072] inb_S512x4096_S512x1024_0_3072)] b

theorem du_block (b : Fin 4) (s : Fin 512) (l : Fin 1024) :
    duBlock m c t b (ix2 s l) = flow m c t (ix2 s l) * gateAt (zBlock m c t) (biasBlock m c t) b s l := by
  fin_cases b
  · exact du_zero (zBlock m c t) (biasBlock m c t) s l (ctBlock m c t) (outBlock m c t)
  · exact du_one (zBlock m c t) (biasBlock m c t) (flow m c t) s l
  · exact du_two (zBlock m c t) (biasBlock m c t) (flow m c t) s l
  · exact du_three (zBlock m c t) (biasBlock m c t) (flow m c t) s l

/-- What a point leaves of the first three results: the same whether or not it is the first point. -/
theorem left_du (b : Fin 4) (s : Fin 512) (l : Fin 1024) :
    (outsAt0 (F := Ideal) m c t.val t.isLt).2.1 (ix2 s ⟨b.val * 1024 + l.val, by omega⟩) = duBlock m c t b (ix2 s l) := by
  by_cases h : t.val % 16 = 0
  · rw [outsAt0_A m c t h]
    frame_out
    refine (wide _ _ _ _ b s l).trans ?_
    fin_cases b <;> rfl
  · rw [outsAt0_B m c t h]
    frame_out
    refine (wide _ _ _ _ b s l).trans ?_
    fin_cases b <;> rfl

theorem left_dxb (s : Fin 512) (l : Fin 1024) : (outsAt0 (F := Ideal) m c t.val t.isLt).2.2.1 (ix2 s l) = ctBlock m c t (ix2 s l) := by
  by_cases h : t.val % 16 = 0
  · rw [outsAt0_A m c t h]
    frame_out
    rfl
  · rw [outsAt0_B m c t h]
    frame_out
    rfl

theorem dy_block (b : Fin 4) (s : Fin 512) (k : Fin 256) :
    ![k0_pay10 (F := Ideal) (duBlock m c t 0) (layer (upBlock m c t) ![0, 0, 0] inb_S4x256x1024_S1x256x1024_0_0_0),
      k0_pay18 (F := Ideal) (duBlock m c t 1) (layer (upBlock m c t) ![1, 0, 0] inb_S4x256x1024_S1x256x1024_1_0_0),
      k0_pay24 (F := Ideal) (duBlock m c t 2) (layer (upBlock m c t) ![2, 0, 0] inb_S4x256x1024_S1x256x1024_2_0_0),
      k0_pay1 (F := Ideal) (duBlock m c t 3) (layer (upBlock m c t) ![3, 0, 0] inb_S4x256x1024_S1x256x1024_3_0_0)] b (ix2 s k)
      = ∑ l : Fin 1024, duBlock m c t b (ix2 s l) * upBlock m c t (ix3 b k l) := by
  fin_cases b
  · exact dy_zero (upBlock m c t) (duBlock m c t 0) s k
  · exact dy_one (upBlock m c t) (duBlock m c t 1) s k
  · exact dy_two (upBlock m c t) (duBlock m c t 2) s k
  · exact dy_three (upBlock m c t) (duBlock m c t 3) s k

theorem left_dy (b : Fin 4) (s : Fin 512) (k : Fin 256) :
    (outsAt0 (F := Ideal) m c t.val t.isLt).2.2.2.1 (ix2 s ⟨b.val * 256 + k.val, by omega⟩) = ∑ l : Fin 1024, duBlock m c t b (ix2 s l) * upBlock m c t (ix3 b k l) := by
  rw [← dy_block]
  by_cases h : t.val % 16 = 0
  · rw [outsAt0_A m c t h]
    frame_out
    refine (narrow _ _ _ _ b s k).trans ?_
    fin_cases b <;> rfl
  · rw [outsAt0_B m c t h]
    frame_out
    refine (narrow _ _ _ _ b s k).trans ?_
    fin_cases b <;> rfl

/-- What a point adds to a row of the biases' gradient: nothing to the last four. -/
def share (r : Fin 8) (l : Fin 1024) : EReal :=
  if h : r.val < 4 then ∑ s : Fin 512, biasAt (zBlock m c t) (upBlock m c t) (biasBlock m c t) (flow m c t) (yBlock m c t ⟨r.val, h⟩) ⟨r.val, h⟩ s l else 0

theorem share_eq (b : Fin 4) (l : Fin 1024) : share m c t ⟨b.val, Nat.lt_of_lt_of_le b.isLt (by decide)⟩ l
    = ∑ s : Fin 512, biasAt (zBlock m c t) (upBlock m c t) (biasBlock m c t) (flow m c t) (yBlock m c t b) b s l := dif_pos b.isLt

/-- The four rows that a point writes, from what stood there. -/
abbrev lines (a : FVec Ideal S8x1024 .f32) (b : Fin 4) : FVec Ideal S1x1024 .f32 :=
  ![k0_pay9 (F := Ideal) (k0_pay7 (biasBlock m c t) (ctBlock m c t) (outBlock m c t) (aBlock m c t) (layer (upBlock m c t) ![0, 0, 0] inb_S4x256x1024_S1x256x1024_0_0_0)
      (cols (zBlock m c t) ![0, 0] inb_S512x4096_S512x1024_0_0)) (line a ![0, 0] inb_S8x1024_S1x1024_0_0),
    k0_pay17 (F := Ideal) (k0_pay15 (line a ![1, 0] inb_S8x1024_S1x1024_1_0)) (k0_pay16 (biasBlock m c t) (flow m c t) (bBlock m c t)
      (layer (upBlock m c t) ![1, 0, 0] inb_S4x256x1024_S1x256x1024_1_0_0) (cols (zBlock m c t) ![0, 1024] inb_S512x4096_S512x1024_0_1024)),
    k0_pay23 (F := Ideal) (biasBlock m c t) (flow m c t) (cBlock m c t)
      (layer (upBlock m c t) ![2, 0, 0] inb_S4x256x1024_S1x256x1024_2_0_0) (cols (zBlock m c t) ![0, 2048] inb_S512x4096_S512x1024_0_2048) (line a ![2, 0] inb_S8x1024_S1x1024_2_0),
    k0_pay29 (F := Ideal) (biasBlock m c t) (flow m c t) (dBlock m c t)
      (layer (upBlock m c t) ![3, 0, 0] inb_S4x256x1024_S1x256x1024_3_0_0) (cols (zBlock m c t) ![0, 3072] inb_S512x4096_S512x1024_0_3072) (line a ![3, 0] inb_S8x1024_S1x1024_3_0)] b

theorem lines_eq (a : FVec Ideal S8x1024 .f32) (b : Fin 4) (l : Fin 1024) :
    lines m c t a b (ix2 0 l) = a (ix2 (⟨b.val, by omega⟩ : Fin 8) l) + ∑ s : Fin 512, biasAt (zBlock m c t) (upBlock m c t) (biasBlock m c t) (flow m c t) (yBlock m c t b) b s l := by
  fin_cases b
  · refine (st_zero a l _).trans (congrArg _ (Finset.sum_congr rfl fun s _ => ?_))
    exact bias_zero (zBlock m c t) (upBlock m c t) (biasBlock m c t) s l (aBlock m c t) (ctBlock m c t) (outBlock m c t)
  · exact st_one (zBlock m c t) (upBlock m c t) (biasBlock m c t) (flow m c t) a (bBlock m c t) l
  · exact st_two (zBlock m c t) (upBlock m c t) (biasBlock m c t) (flow m c t) a (cBlock m c t) l
  · exact st_three (zBlock m c t) (upBlock m c t) (biasBlock m c t) (flow m c t) a (dBlock m c t) l

section Cleared

variable {κ : Kind} {sp : Space} {sig : RefSig} (v : View sig κ sp S8x1024 .f32) (a : FVec Ideal S8x1024 .f32) (p0 p1 p2 : FVec Ideal S1x1024 .f32)

/-- A row read back after the block was filled and the rows above it were written. -/
theorem cleared_zero : v.readCov (Val := Elt Ideal) [⟨Rect.unit (s := S8x1024) ![0, 0] S8x1024.size inb_S8x1024_S8x1024_0_0, a⟩]
    (Rect.unit (s := S8x1024) ![0, 0] S1x1024.size inb_S8x1024_S1x1024_0_0).toLoadRect = line a ![0, 0] inb_S8x1024_S1x1024_0_0 := by
  exact View.readCov_fill (Val := Elt Ideal) v inb_S8x1024_S8x1024_0_0 a [] (Rect.unit (s := S8x1024) ![0, 0] S1x1024.size inb_S8x1024_S1x1024_0_0) (by decide)

theorem cleared_one : v.readCov (Val := Elt Ideal) [⟨Rect.unit (s := S8x1024) ![0, 0] S1x1024.size inb_S8x1024_S1x1024_0_0, p0⟩, ⟨Rect.unit (s := S8x1024) ![0, 0] S8x1024.size inb_S8x1024_S8x1024_0_0, a⟩]
    (Rect.unit (s := S8x1024) ![1, 0] S1x1024.size inb_S8x1024_S1x1024_1_0).toLoadRect = line a ![1, 0] inb_S8x1024_S1x1024_1_0 := by
  rw [View.readCov_skip _ _ _ _ _ rfl]
  exact View.readCov_fill (Val := Elt Ideal) v inb_S8x1024_S8x1024_0_0 a [] (Rect.unit (s := S8x1024) ![1, 0] S1x1024.size inb_S8x1024_S1x1024_1_0) (by decide)

theorem cleared_two : v.readCov (Val := Elt Ideal) [⟨Rect.unit (s := S8x1024) ![1, 0] S1x1024.size inb_S8x1024_S1x1024_1_0, p1⟩, ⟨Rect.unit (s := S8x1024) ![0, 0] S1x1024.size inb_S8x1024_S1x1024_0_0, p0⟩, ⟨Rect.unit (s := S8x1024) ![0, 0] S8x1024.size inb_S8x1024_S8x1024_0_0, a⟩]
    (Rect.unit (s := S8x1024) ![2, 0] S1x1024.size inb_S8x1024_S1x1024_2_0).toLoadRect = line a ![2, 0] inb_S8x1024_S1x1024_2_0 := by
  rw [View.readCov_skip _ _ _ _ _ rfl]
  rw [View.readCov_skip _ _ _ _ _ rfl]
  exact View.readCov_fill (Val := Elt Ideal) v inb_S8x1024_S8x1024_0_0 a [] (Rect.unit (s := S8x1024) ![2, 0] S1x1024.size inb_S8x1024_S1x1024_2_0) (by decide)

theorem cleared_three : v.readCov (Val := Elt Ideal) [⟨Rect.unit (s := S8x1024) ![2, 0] S1x1024.size inb_S8x1024_S1x1024_2_0, p2⟩, ⟨Rect.unit (s := S8x1024) ![1, 0] S1x1024.size inb_S8x1024_S1x1024_1_0, p1⟩, ⟨Rect.unit (s := S8x1024) ![0, 0] S1x1024.size inb_S8x1024_S1x1024_0_0, p0⟩, ⟨Rect.unit (s := S8x1024) ![0, 0] S8x1024.size inb_S8x1024_S8x1024_0_0, a⟩]
    (Rect.unit (s := S8x1024) ![3, 0] S1x1024.size inb_S8x1024_S1x1024_3_0).toLoadRect = line a ![3, 0] inb_S8x1024_S1x1024_3_0 := by
  rw [View.readCov_skip _ _ _ _ _ rfl]
  rw [View.readCov_skip _ _ _ _ _ rfl]
  rw [View.readCov_skip _ _ _ _ _ rfl]
  exact View.readCov_fill (Val := Elt Ideal) v inb_S8x1024_S8x1024_0_0 a [] (Rect.unit (s := S8x1024) ![3, 0] S1x1024.size inb_S8x1024_S1x1024_3_0) (by decide)

end Cleared

theorem zeros (i : S8x1024.Idx) : k0_pay2 (F := Ideal) i = 0 := by
  pointwise [k0_pay2]

/-- The four rows, read in one of them or below them. -/
theorem stacked_lines (p0 p1 p2 p3 : FVec Ideal S1x1024 .f32) (a : FVec Ideal S8x1024 .f32) (b : Fin 4) (l : Fin 1024) :
    View.canon (Val := Elt Ideal) (e := .f32) [⟨Rect.unit (s := S8x1024) ![3, 0] ![1, 1024] inb_S8x1024_S1x1024_3_0, p3⟩, ⟨Rect.unit (s := S8x1024) ![2, 0] ![1, 1024] inb_S8x1024_S1x1024_2_0, p2⟩, ⟨Rect.unit (s := S8x1024) ![1, 0] ![1, 1024] inb_S8x1024_S1x1024_1_0, p1⟩, ⟨Rect.unit (s := S8x1024) ![0, 0] ![1, 1024] inb_S8x1024_S1x1024_0_0, p0⟩,
        ⟨Rect.unit (s := S8x1024) ![0, 0] ![8, 1024] inb_S8x1024_S8x1024_0_0, a⟩]
      (ix2 (⟨b.val, Nat.lt_of_lt_of_le b.isLt (by decide)⟩ : Fin 8) l) = ![p0, p1, p2, p3] b (ix2 0 l) := by
  fin_cases b
  · refine (line_miss _ _ _ _ _ (Or.inl (by simp))).trans ?_
    refine (line_miss _ _ _ _ _ (Or.inl (by simp))).trans ?_
    refine (line_miss _ _ _ _ _ (Or.inl (by simp))).trans ?_
    exact line_hit _ _ _ _ l rfl
  · refine (line_miss _ _ _ _ _ (Or.inl (by simp))).trans ?_
    refine (line_miss _ _ _ _ _ (Or.inl (by simp))).trans ?_
    exact line_hit _ _ _ _ l rfl
  · refine (line_miss _ _ _ _ _ (Or.inl (by simp))).trans ?_
    exact line_hit _ _ _ _ l rfl
  · exact line_hit _ _ _ _ l rfl

theorem below_lines (p0 p1 p2 p3 : FVec Ideal S1x1024 .f32) (a : FVec Ideal S8x1024 .f32) (r : Fin 8) (h : ¬ r.val < 4) (l : Fin 1024) :
    View.canon (Val := Elt Ideal) (e := .f32) [⟨Rect.unit (s := S8x1024) ![3, 0] ![1, 1024] inb_S8x1024_S1x1024_3_0, p3⟩, ⟨Rect.unit (s := S8x1024) ![2, 0] ![1, 1024] inb_S8x1024_S1x1024_2_0, p2⟩, ⟨Rect.unit (s := S8x1024) ![1, 0] ![1, 1024] inb_S8x1024_S1x1024_1_0, p1⟩, ⟨Rect.unit (s := S8x1024) ![0, 0] ![1, 1024] inb_S8x1024_S1x1024_0_0, p0⟩,
        ⟨Rect.unit (s := S8x1024) ![0, 0] ![8, 1024] inb_S8x1024_S8x1024_0_0, a⟩] (ix2 r l) = a (ix2 r l) := by
  refine (line_miss _ _ _ _ _ (Or.inr (by omega))).trans ?_
  refine (line_miss _ _ _ _ _ (Or.inr (by omega))).trans ?_
  refine (line_miss _ _ _ _ _ (Or.inr (by omega))).trans ?_
  refine (line_miss _ _ _ _ _ (Or.inr (by omega))).trans ?_
  exact canon_hit _ _ _ _ _ l (by simp)

/-- The first point starts the biases' gradient at zero. -/
theorem first_st (h : t.val % 16 = 0) (r : Fin 8) (l : Fin 1024) : (outsAt0 (F := Ideal) m c t.val t.isLt).2.2.2.2 (ix2 r l) = share m c t r l := by
  rw [outsAt0_A m c t h]
  frame_out
  by_cases h4 : r.val < 4
  · obtain ⟨b, rfl⟩ : ∃ b : Fin 4, r = ⟨b.val, Nat.lt_of_lt_of_le b.isLt (by decide)⟩ := ⟨⟨r.val, h4⟩, rfl⟩
    refine Eq.trans ?_ ((lines_eq m c t (k0_pay2 (F := Ideal)) b l).trans ((congrArg₂ _ (zeros _) (share_eq m c t b l).symm).trans (zero_add _)))
    refine (stacked_lines _ _ _ _ _ b l).trans ?_
    rw [cleared_zero, cleared_one, cleared_two, cleared_three]
  · unfold share
    rw [dif_neg h4]
    exact (below_lines _ _ _ _ _ r h4 l).trans (zeros _)

/-- A later point adds to what the point before left. -/
theorem later_st (h : ¬ t.val % 16 = 0) (r : Fin 8) (l : Fin 1024) : (outsAt0 (F := Ideal) m c t.val t.isLt).2.2.2.2 (ix2 r l)
    = (outsAt0 (F := Ideal) m c (t.val - 1) (Nat.lt_of_le_of_lt (Nat.sub_le _ _) t.isLt)).2.2.2.2 (ix2 r l) + share m c t r l := by
  rw [outsAt0_B m c t h]
  frame_out
  generalize (outsAt0 (F := Ideal) m c (t.val - 1) (Nat.lt_of_le_of_lt (Nat.sub_le _ _) t.isLt)).2.2.2.2 = a
  by_cases h4 : r.val < 4
  · obtain ⟨b, rfl⟩ : ∃ b : Fin 4, r = ⟨b.val, Nat.lt_of_lt_of_le b.isLt (by decide)⟩ := ⟨⟨r.val, h4⟩, rfl⟩
    refine Eq.trans ?_ ((lines_eq m c t a b l).trans (congrArg _ (share_eq m c t b l).symm))
    fin_cases b
    · refine (over_miss _ _ _ _ _ _ _ (Or.inl (by simp))).trans ?_
      refine (over_miss _ _ _ _ _ _ _ (Or.inl (by simp))).trans ?_
      refine (over_miss _ _ _ _ _ _ _ (Or.inl (by simp))).trans ?_
      exact over_hit _ _ _ _ _ _ l rfl
    · refine (over_miss _ _ _ _ _ _ _ (Or.inl (by simp))).trans ?_
      refine (over_miss _ _ _ _ _ _ _ (Or.inl (by simp))).trans ?_
      exact over_hit _ _ _ _ _ _ l rfl
    · refine (over_miss _ _ _ _ _ _ _ (Or.inl (by simp))).trans ?_
      exact over_hit _ _ _ _ _ _ l rfl
    · exact over_hit _ _ _ _ _ _ l rfl
  · unfold share
    rw [dif_neg h4, add_zero]
    refine (over_miss _ _ _ _ _ _ _ (Or.inr (by omega))).trans ?_
    refine (over_miss _ _ _ _ _ _ _ (Or.inr (by omega))).trans ?_
    refine (over_miss _ _ _ _ _ _ _ (Or.inr (by omega))).trans ?_
    refine (over_miss _ _ _ _ _ _ _ (Or.inr (by omega))).trans ?_
    exact congrFun ((hs0_13 t).read_unread a) _

/-- The blocks' values in the reference's terms. -/
theorem gate_block (b : Fin 4) (s : Fin 512) (l : Fin 1024) :
    gateAt (zBlock m c t) (biasBlock m c t) b s l = gate (zs m c) (biases m c) (rowOf t s) b l :=
  congrArg Ideal.logistic (congrArg₂ _ (z_block m c t s _) (bias_block m c t b l))

theorem up_block_eq (b : Fin 4) (s : Fin 512) (l : Fin 1024) :
    upAt (upBlock m c t) (yBlock m c t b) b s l = up (ya m c) (yb m c) (yc m c) (yd m c) (ups m c) (rowOf t s) b l :=
  Finset.sum_congr rfl fun k _ => congrArg₂ _ (branches m c t b s k) (up_block m c t b k l)

theorem flow_block (s : Fin 512) (l : Fin 1024) : flow m c t (ix2 s l) = passed (cts m c) (out m c) (rowOf t s) l :=
  (product (ctBlock m c t) (outBlock m c t) s l).trans (Finset.sum_congr rfl fun k _ => congrArg₂ _ (ct_block m c t s k) (out_block m c t l k))

theorem du_rows (b : Fin 4) (s : Fin 512) (l : Fin 1024) :
    duBlock m c t b (ix2 s l) = passed (cts m c) (out m c) (rowOf t s) l * gate (zs m c) (biases m c) (rowOf t s) b l :=
  (du_block m c t b s l).trans (congrArg₂ _ (flow_block m c t s l) (gate_block m c t b s l))

/-- What a bias receives from one row. -/
abbrev fromRow (b : Fin 4) (l : Fin 1024) (s : Fin 8192) : EReal :=
  received (cts m c) (zs m c) (ya m c) (yb m c) (yc m c) (yd m c) (ups m c) (biases m c) (out m c) s b l

theorem share_rows (b : Fin 4) (l : Fin 1024) :
    share m c t ⟨b.val, Nat.lt_of_lt_of_le b.isLt (by decide)⟩ l = ∑ s : Fin 512, fromRow m c b l (rowOf t s) := by
  rw [share_eq]
  refine Finset.sum_congr rfl fun s _ => ?_
  unfold biasAt fromRow received
  rw [gate_block, up_block_eq, flow_block]

/-- The sum of `f` over the 512 rows of tile `n`. -/
def tileSum (f : Fin 8192 → EReal) (n : ℕ) : EReal := ∑ s : Fin 512, f ⟨512 * (n % 16) + s.val, by omega⟩

theorem tileSums (f : Fin 8192 → EReal) : ∑ n ∈ Finset.range 16, tileSum f n = ∑ r, f r := by
  rw [← Equiv.sum_comp (finProdFinEquiv (m := 16) (n := 512)) f, Fintype.sum_prod_type, Finset.sum_range]
  refine Finset.sum_congr rfl fun n _ => Finset.sum_congr rfl fun s _ => congrArg f (Fin.ext ?_)
  show 512 * (n.val % 16) + s.val = s.val + 512 * n.val
  omega

/-- After a point, a bias holds the sums of the tiles up to it. -/
theorem upto_st (b : Fin 4) (l : Fin 1024) : ∀ (n : ℕ) (hn : n < cfg0.N),
    (outsAt0 (F := Ideal) m c n hn).2.2.2.2 (ix2 (⟨b.val, Nat.lt_of_lt_of_le b.isLt (by decide)⟩ : Fin 8) l) = ∑ i ∈ Finset.range (n + 1), tileSum (fromRow m c b l) i := by
  have e (n : ℕ) (hn : n < cfg0.N) : share m c ⟨n, hn⟩ ⟨b.val, Nat.lt_of_lt_of_le b.isLt (by decide)⟩ l = tileSum (fromRow m c b l) n := by
    rw [share_rows]
    refine Finset.sum_congr rfl fun s _ => congrArg (fromRow m c b l) (Fin.ext ?_)
    have : n < 16 := hn
    show 512 * n + s.val = 512 * (n % 16) + s.val
    omega
  intro n
  induction n with
  | zero =>
    intro hn
    rw [Finset.sum_range_one, ← e 0 hn]
    exact first_st m c ⟨0, hn⟩ (Nat.zero_mod _) _ l
  | succ n ih =>
    intro hn
    have h16 : n + 1 < 16 := hn
    rw [Finset.sum_range_succ, ← ih (Nat.lt_of_succ_lt hn), ← e (n + 1) hn]
    exact later_st m c ⟨n + 1, hn⟩ (by show ¬ (n + 1) % 16 = 0; omega) _ l

/-- The last four rows stay zero. -/
theorem rest_st (r : Fin 8) (h : ¬ r.val < 4) (l : Fin 1024) : ∀ (n : ℕ) (hn : n < cfg0.N), (outsAt0 (F := Ideal) m c n hn).2.2.2.2 (ix2 r l) = 0 := by
  intro n
  induction n with
  | zero =>
    intro hn
    exact (first_st m c ⟨0, hn⟩ (Nat.zero_mod _) r l).trans (dif_neg h)
  | succ n ih =>
    intro hn
    have h16 : n + 1 < 16 := hn
    refine (later_st m c ⟨n + 1, hn⟩ (by show ¬ (n + 1) % 16 = 0; omega) r l).trans ?_
    rw [show share m c ⟨n + 1, hn⟩ r l = 0 from dif_neg h, add_zero]
    exact ih (Nat.lt_of_succ_lt hn)

/-- The arrays that the call leaves are the reference's: the gradients that pass to the projections, -/
theorem result_du : (dats m 0 c).arrAt 10 cfg0.N
    = Cert.ReferenceDmergeIdeal.Read.val_main_v38 (F := Ideal) (cts m c) (zs m c) (biases m c) (out m c) := by
  refine (dats m 0 c).arrAt_eq_of_covers 10 _ (by decide +kernel) fun t hf y => ?_
  blk_simp
  rw [after0_10]
  obtain ⟨s, j, rfl⟩ : ∃ s j, y = ix2 s j := ⟨y 0, y 1, by ext i; fin_cases i <;> rfl⟩
  obtain ⟨b, l, rfl⟩ : ∃ (b : Fin 4) (l : Fin 1024), j = ⟨b.val * 1024 + l.val, by omega⟩ :=
    ⟨⟨j.val / 1024, by have := j.isLt; omega⟩, ⟨j.val % 1024, Nat.mod_lt _ (by decide)⟩, Fin.ext (by show j.val = j.val / 1024 * 1024 + j.val % 1024; omega)⟩
  have e : (win0_10.blk t).view.emb (ix2 s (⟨b.val * 1024 + l.val, by omega⟩ : Fin 4096)) = ix2 (rowOf t s) (⟨b.val * 1024 + l.val, by omega⟩ : Fin 4096) := by
    blk_ext [(index_rows t).2.2.2.2.2.2.1]
  rw [e]
  exact (left_du m c t b s l).trans ((du_rows m c t b s l).trans (du_eq _ _ _ _ (rowOf t s) b l).symm)

/-- the rounded incoming rows, -/
theorem result_dxb : (dats m 0 c).arrAt 11 cfg0.N = Cert.ReferenceDmergeIdeal.Read.val_main_v39 (F := Ideal) (cts m c) := by
  refine (dats m 0 c).arrAt_eq_of_covers 11 _ (by decide +kernel) fun t hf y => ?_
  blk_simp
  rw [after0_11]
  obtain ⟨s, l, rfl⟩ : ∃ s l, y = ix2 s l := ⟨y 0, y 1, by ext i; fin_cases i <;> rfl⟩
  have e : (win0_11.blk t).view.emb (ix2 s l) = ix2 (rowOf t s) l := by
    blk_ext [(index_rows t).2.2.2.2.2.2.2.1]
  rw [e]
  exact (left_dxb m c t s l).trans ((ct_block m c t s l).trans (dxb_eq _ (rowOf t s) l).symm)

/-- the gradients that pass to the mixers, -/
theorem result_dy : (dats m 0 c).arrAt 12 cfg0.N
    = Cert.ReferenceDmergeIdeal.Read.val_main_v41 (F := Ideal) (cts m c) (zs m c) (ups m c) (biases m c) (out m c) := by
  refine (dats m 0 c).arrAt_eq_of_covers 12 _ (by decide +kernel) fun t hf y => ?_
  blk_simp
  rw [after0_12]
  obtain ⟨s, j, rfl⟩ : ∃ s j, y = ix2 s j := ⟨y 0, y 1, by ext i; fin_cases i <;> rfl⟩
  obtain ⟨b, k, rfl⟩ : ∃ (b : Fin 4) (k : Fin 256), j = ⟨b.val * 256 + k.val, by omega⟩ :=
    ⟨⟨j.val / 256, by have := j.isLt; omega⟩, ⟨j.val % 256, Nat.mod_lt _ (by decide)⟩, Fin.ext (by show j.val = j.val / 256 * 256 + j.val % 256; omega)⟩
  have e : (win0_12.blk t).view.emb (ix2 s (⟨b.val * 256 + k.val, by omega⟩ : Fin 1024)) = ix2 (rowOf t s) (⟨b.val * 256 + k.val, by omega⟩ : Fin 1024) := by
    blk_ext [(index_rows t).2.2.2.2.2.2.2.2]
  rw [e]
  refine (left_dy m c t b s k).trans (Eq.trans ?_ (dy_eq _ _ _ _ _ (rowOf t s) b k).symm)
  exact Finset.sum_congr rfl fun l _ => congrArg₂ _ (du_rows m c t b s l) (up_block m c t b k l)

/-- and the biases' gradient. -/
theorem result_st : (dats m 0 c).arrAt 13 cfg0.N
    = Cert.ReferenceDmergeIdeal.Read.val_main_v42 (F := Ideal) (cts m c) (zs m c) (ya m c) (yb m c) (yc m c) (yd m c) (ups m c) (biases m c) (out m c) := by
  refine (dats m 0 c).arrAt_eq_of_covers 13 _ (by decide +kernel) fun t hf y => ?_
  blk_simp
  rw [after0_13]
  obtain ⟨r, l, rfl⟩ : ∃ r l, y = ix2 r l := ⟨y 0, y 1, by ext i; fin_cases i <;> rfl⟩
  have e : (win0_13.blk t).view.emb (ix2 r l) = ix2 r l := by
    blk_ext [(index_whole t).2.2.2]
  rw [e]
  refine Eq.trans ?_ (st_eq _ _ _ _ _ _ _ _ _ r l).symm
  have h15 : t.val % 16 = 15 := (flush0_13 t).mp hf
  have ht : t.val < 16 := t.isLt
  have hv : t.val + 1 = 16 := by omega
  by_cases h4 : r.val < 4
  · rw [dif_pos h4]
    refine (upto_st m c ⟨r.val, h4⟩ l t.val t.isLt).trans ?_
    rw [hv, tileSums]
  · rw [dif_neg h4]
    exact rest_st m c r h4 l t.val t.isLt

end Cert.Merge.Backward

end
-- ==== Proof.LayerEmbedding.lean ====
/-
  The per-layer embedding: every grid point writes 512 rows of the residual with the gated embedding added.
-/
module

public import proofs.«01_k».proof.Proof.Gen.KernelPleIdeal.Value
public import proofs.«01_k».proof.Proof.Gen.ReferencePleIdeal.Run
public import proofs.«01_k».proof.Proof.Gen.ReferencePleIdeal.Read
public import Idealize.ShloMosaic.Lib.Pipeline.ValueKit

@[expose] public section

set_option maxRecDepth 16384

noncomputable section

namespace Cert.Embedding

open Idealize.ShloMosaic Idealize.ShloMosaic.TcCoe Idealize.SL.Sem Cert.KernelPleIdeal Cert.KernelPleIdeal.Gen

open Cert.ReferencePleIdeal.Read in
/-- A row of a block gives the row of the reference that it equals. -/
theorem embedded (x' : FVec Ideal S512x1024 .f32) (p' : FVec Ideal S512x256 .f32) (g : FVec Ideal S1x1024 .f32) (wg : FVec Ideal S1024x1024 .bf16) (wp : FVec Ideal S256x1024 .bf16)
    (x : (⟨S8192x1024, .f32⟩ : BufTy).Contents (Elt Ideal)) (p : (⟨S8192x256, .f32⟩ : BufTy).Contents (Elt Ideal)) (s : Fin 512) (r : Fin 8192) (l : Fin 1024)
    (hx : ∀ k, x' (ix2 s k) = x (ix2 r k)) (hp : ∀ k, p' (ix2 s k) = p (ix2 r k)) :
    k0_pay1 (F := Ideal) x' g wg p' wp (ix2 s l) = val_main_v23 (F := Ideal) x p g wg wp (ix2 r l) := by
  unfold val_main_v23 val_main_v22 val_main_v21 val_main_v20 val_main_v19 val_main_v18 val_main_v17 val_main_v16 val_main_v15 val_main_v14 val_main_v13 val_main_v12
    val_main_v11 val_main_v10 val_main_v9 val_main_v8 val_main_v7 val_main_v6 val_main_v5 val_main_v4 val_main_v3 val_main_v2 val_main_v1 val_main_v0
    val_main_cst val_main_cst_0 val_main_cst_1 val_main_cst_2 val_main_cst_3
  pointwise [k0_pay1]
  simp only [hx, hp]
  rfl

variable (m : (ℓ : Loc nD τ sig) → Buf (Elt Ideal) ℓ) (c : Dev nD) (t : Fin cfg0.N)

/-- The blocks that a point reads. -/
abbrev xBlock : FVec Ideal S512x1024 .f32 := iblk m c 0 t

abbrev pBlock : FVec Ideal S512x256 .f32 := iblk m c 1 t

abbrev scaleBlock : FVec Ideal S1x1024 .f32 := iblk m c 2 t

abbrev gateBlock : FVec Ideal S1024x1024 .bf16 := iblk m c 3 t

abbrev upBlock : FVec Ideal S256x1024 .bf16 := iblk m c 4 t

/-- The arguments. -/
abbrev xs : (⟨S8192x1024, .f32⟩ : BufTy).Contents (Elt Ideal) := m ((c : Thread nD τ).loc main_arg0)

abbrev ps : (⟨S8192x256, .f32⟩ : BufTy).Contents (Elt Ideal) := m ((c : Thread nD τ).loc main_arg1)

abbrev scale : (⟨S1x1024, .f32⟩ : BufTy).Contents (Elt Ideal) := m ((c : Thread nD τ).loc main_arg2)

abbrev gates : (⟨S1024x1024, .bf16⟩ : BufTy).Contents (Elt Ideal) := m ((c : Thread nD τ).loc main_arg3)

abbrev up : (⟨S256x1024, .bf16⟩ : BufTy).Contents (Elt Ideal) := m ((c : Thread nD τ).loc main_arg4)

/-- A point's rows. -/
abbrev rowOf (s : Fin 512) : Fin 8192 := ⟨512 * t.val + s.val, by have : t.val < 16 := t.isLt; omega⟩

theorem index_rows : ∀ t : Fin cfg0.N, win0_0.index t = ![t.val, 0] ∧ win0_1.index t = ![t.val, 0] ∧ win0_5.index t = ![t.val, 0] := by decide +kernel

theorem index_whole : ∀ t : Fin cfg0.N, win0_2.index t = ![0, 0] ∧ win0_3.index t = ![0, 0] ∧ win0_4.index t = ![0, 0] := by decide +kernel

theorem x_block (s : Fin 512) (k : Fin 1024) : xBlock m c t (ix2 s k) = xs m c (ix2 (rowOf t s) k) := by
  unfold xs
  rw [← V_main_arg0 m c]
  blk_ext [xBlock, iblk, (index_rows t).1]

theorem p_block (s : Fin 512) (k : Fin 256) : pBlock m c t (ix2 s k) = ps m c (ix2 (rowOf t s) k) := by
  unfold ps
  rw [← V_main_arg1 m c]
  blk_ext [pBlock, iblk, (index_rows t).2.1]

theorem scale_block : scaleBlock m c t = scale m c := by
  funext i
  obtain ⟨k, l, rfl⟩ : ∃ k l, i = ix2 k l := ⟨i 0, i 1, by ext a; fin_cases a <;> rfl⟩
  unfold scale
  rw [← V_main_arg2 m c]
  blk_ext [scaleBlock, iblk, (index_whole t).1]

theorem gate_block : gateBlock m c t = gates m c := by
  funext i
  obtain ⟨k, l, rfl⟩ : ∃ k l, i = ix2 k l := ⟨i 0, i 1, by ext a; fin_cases a <;> rfl⟩
  unfold gates
  rw [← V_main_arg3 m c]
  blk_ext [gateBlock, iblk, (index_whole t).2.1]

theorem up_block : upBlock m c t = up m c := by
  funext i
  obtain ⟨k, l, rfl⟩ : ∃ k l, i = ix2 k l := ⟨i 0, i 1, by ext a; fin_cases a <;> rfl⟩
  unfold up
  rw [← V_main_arg4 m c]
  blk_ext [upBlock, iblk, (index_whole t).2.2]

/-- What a point leaves. -/
theorem tile (s : Fin 512) (l : Fin 1024) :
    out0_5 (F := Ideal) (xBlock m c t) (pBlock m c t) (scaleBlock m c t) (gateBlock m c t) (upBlock m c t) (ix2 s l)
      = Cert.ReferencePleIdeal.Read.val_main_v23 (F := Ideal) (xs m c) (ps m c) (scale m c) (gates m c) (up m c) (ix2 (rowOf t s) l) := by
  rw [← scale_block m c t, ← gate_block m c t, ← up_block m c t]
  unfold out0_5
  frame_out
  exact embedded (xBlock m c t) (pBlock m c t) (scaleBlock m c t) (gateBlock m c t) (upBlock m c t) (xs m c) (ps m c) s (rowOf t s) l (x_block m c t s) (p_block m c t s)

/-- The array that the call leaves is the reference's. -/
theorem result : (dats m 0 c).arrAt 5 cfg0.N
    = Cert.ReferencePleIdeal.Read.val_main_v23 (F := Ideal) (xs m c) (ps m c) (scale m c) (gates m c) (up m c) := by
  refine (dats m 0 c).arrAt_eq_of_covers 5 _ (by decide +kernel) fun t hf y => ?_
  blk_simp
  rw [after0_5]
  obtain ⟨s, l, rfl⟩ : ∃ s l, y = ix2 s l := ⟨y 0, y 1, by ext i; fin_cases i <;> rfl⟩
  have e : (win0_5.blk t).view.emb (ix2 s l) = ix2 (rowOf t s) l := by
    blk_ext [(index_rows t).2.2]
  rw [e]
  exact tile m c t s l

end Cert.Embedding

end
-- ==== Proof.Layers.lean ====
/-
  The claims of the gated merge, of its gradient and of the per-layer embedding: the references leave their arguments as
  they were, and each call ends with its reference's arrays.
-/
module

public import proofs.«01_k».proof.Defs
public import proofs.«01_k».proof.Proof.GatedMerge
public import proofs.«01_k».proof.Proof.MergeGradient
public import proofs.«01_k».proof.Proof.LayerEmbedding
public import proofs.«01_k».proof.Proof.Gen.ReferenceMergeIdeal
public import proofs.«01_k».proof.Proof.Gen.ReferenceDmergeIdeal
public import proofs.«01_k».proof.Proof.Gen.ReferencePleIdeal
public import Idealize.ShloMosaic.Adequacy
public import Idealize.ShloMosaic.Init

@[expose] public section

noncomputable section

namespace Cert.Layers

open Idealize.ShloMosaic Idealize.SL.Sem

/-- Equal arguments, equal results. -/
theorem congr_four {α0 α1 α2 α3 ω : Type*} (f : α0 → α1 → α2 → α3 → ω) {x0 y0 : α0} {x1 y1 : α1} {x2 y2 : α2} {x3 y3 : α3}
    (e0 : x0 = y0) (e1 : x1 = y1) (e2 : x2 = y2) (e3 : x3 = y3) : f x0 x1 x2 x3 = f y0 y1 y2 y3 := by
  subst e0 e1 e2 e3
  rfl

theorem congr_five {α0 α1 α2 α3 α4 ω : Type*} (f : α0 → α1 → α2 → α3 → α4 → ω) {x0 y0 : α0} {x1 y1 : α1} {x2 y2 : α2} {x3 y3 : α3} {x4 y4 : α4}
    (e0 : x0 = y0) (e1 : x1 = y1) (e2 : x2 = y2) (e3 : x3 = y3) (e4 : x4 = y4) : f x0 x1 x2 x3 x4 = f y0 y1 y2 y3 y4 := by
  subst e0 e1 e2 e3 e4
  rfl

theorem congr_seven {α0 α1 α2 α3 α4 α5 α6 ω : Type*} (f : α0 → α1 → α2 → α3 → α4 → α5 → α6 → ω) {x0 y0 : α0} {x1 y1 : α1} {x2 y2 : α2} {x3 y3 : α3} {x4 y4 : α4} {x5 y5 : α5} {x6 y6 : α6}
    (e0 : x0 = y0) (e1 : x1 = y1) (e2 : x2 = y2) (e3 : x3 = y3) (e4 : x4 = y4) (e5 : x5 = y5) (e6 : x6 = y6) : f x0 x1 x2 x3 x4 x5 x6 = f y0 y1 y2 y3 y4 y5 y6 := by
  subst e0 e1 e2 e3 e4 e5 e6
  rfl

theorem congr_nine {α0 α1 α2 α3 α4 α5 α6 α7 α8 ω : Type*} (f : α0 → α1 → α2 → α3 → α4 → α5 → α6 → α7 → α8 → ω) {x0 y0 : α0} {x1 y1 : α1} {x2 y2 : α2} {x3 y3 : α3} {x4 y4 : α4} {x5 y5 : α5} {x6 y6 : α6} {x7 y7 : α7} {x8 y8 : α8}
    (e0 : x0 = y0) (e1 : x1 = y1) (e2 : x2 = y2) (e3 : x3 = y3) (e4 : x4 = y4) (e5 : x5 = y5) (e6 : x6 = y6) (e7 : x7 = y7) (e8 : x8 = y8) : f x0 x1 x2 x3 x4 x5 x6 x7 x8 = f y0 y1 y2 y3 y4 y5 y6 y7 y8 := by
  subst e0 e1 e2 e3 e4 e5 e6 e7 e8
  rfl

/-- The reference of the merge changes no argument. -/
theorem Forward.reference_frame : Cert.quiescent_ReferenceMergeIdeal (hReferenceMergeIdeal := Cert.ReferenceMergeIdeal.Gen.facts) := fun m ρ _ =>
  (θ_run _ _ _).mono (fun r h => ⟨fun c => (h c).2.2, sem_eq_zero_of_no_sems (by decide) r.2⟩) (Cert.ReferenceMergeIdeal.Value.run m ρ)

/-- The call and the reference of the merge end with the same arrays. -/
theorem Forward.algebraic : Cert.algebraic_KernelMergeIdeal_ReferenceMergeIdeal (hKernelMergeIdeal := Cert.KernelMergeIdeal.Gen.facts)
    (hReferenceMergeIdeal := Cert.ReferenceMergeIdeal.Gen.facts) := by
  intro m g m' g' _ hargs
  refine ⟨fun c => (Cert.KernelMergeIdeal.Gen.dats m 0 c).arrAt 9 Cert.KernelMergeIdeal.cfg0.N, fun c => (Cert.KernelMergeIdeal.Gen.dats m 0 c).arrAt 10 Cert.KernelMergeIdeal.cfg0.N,
    Cert.KernelMergeIdeal.Value.run_blocks m g, ?_⟩
  refine (θ_run _ _ _).mono (fun r hr c => ?_) (Cert.ReferenceMergeIdeal.Value.run m' g')
  obtain ⟨h24, h25, k⟩ := hr c
  obtain ⟨a0, a1, a2, a3, a4, a5, a6, a7, a8⟩ := hargs c
  refine ⟨?_, ?_, k⟩
  · exact h24.trans ((Cert.ReferenceMergeIdeal.Read.val_main_v24_eq _ _ _ _ _ _ _ _ _).trans ((congr_nine (Cert.ReferenceMergeIdeal.Read.val_main_v24 (F := Ideal)) a0 a1 a2 a3 a4 a5 a6 a7 a8).trans (Cert.Merge.Forward.result_sum m c).symm))
  · exact h25.trans ((Cert.ReferenceMergeIdeal.Read.val_main_v25_eq _ _ _ _ _ _ _).trans ((congr_seven (Cert.ReferenceMergeIdeal.Read.val_main_v25 (F := Ideal)) a1 a2 a3 a4 a5 a6 a7).trans (Cert.Merge.Forward.result_merged m c).symm))

/-- The reference of the merge's gradient changes no argument. -/
theorem Backward.reference_frame : Cert.quiescent_ReferenceDmergeIdeal (hReferenceDmergeIdeal := Cert.ReferenceDmergeIdeal.Gen.facts) := fun m ρ _ =>
  (θ_run _ _ _).mono (fun r h => ⟨fun c => (h c).2.2.2.2, sem_eq_zero_of_no_sems (by decide) r.2⟩) (Cert.ReferenceDmergeIdeal.Value.run m ρ)

/-- The call and the reference of the merge's gradient end with the same arrays. -/
theorem Backward.algebraic : Cert.algebraic_KernelDmergeIdeal_ReferenceDmergeIdeal (hKernelDmergeIdeal := Cert.KernelDmergeIdeal.Gen.facts)
    (hReferenceDmergeIdeal := Cert.ReferenceDmergeIdeal.Gen.facts) := by
  intro m g m' g' _ hargs
  refine ⟨fun c => (Cert.KernelDmergeIdeal.Gen.dats m 0 c).arrAt 10 Cert.KernelDmergeIdeal.cfg0.N, fun c => (Cert.KernelDmergeIdeal.Gen.dats m 0 c).arrAt 11 Cert.KernelDmergeIdeal.cfg0.N, fun c => (Cert.KernelDmergeIdeal.Gen.dats m 0 c).arrAt 12 Cert.KernelDmergeIdeal.cfg0.N, fun c => (Cert.KernelDmergeIdeal.Gen.dats m 0 c).arrAt 13 Cert.KernelDmergeIdeal.cfg0.N,
    (θ_run _ _ _).mono (fun r h c => (h c).2) (Cert.KernelDmergeIdeal.Value.run_blocks m g), ?_⟩
  refine (θ_run _ _ _).mono (fun r hr c => ?_) (Cert.ReferenceDmergeIdeal.Value.run m' g')
  obtain ⟨h38, h39, h41, h42, k⟩ := hr c
  obtain ⟨a0, a1, a2, a3, a4, a5, a6, a7, a8⟩ := hargs c
  refine ⟨?_, ?_, ?_, ?_, k⟩
  · exact h38.trans ((Cert.ReferenceDmergeIdeal.Read.val_main_v38_eq _ _ _ _).trans ((congr_four (Cert.ReferenceDmergeIdeal.Read.val_main_v38 (F := Ideal)) a0 a1 a7 a8).trans (Cert.Merge.Backward.result_du m c).symm))
  · exact h39.trans ((Cert.ReferenceDmergeIdeal.Read.val_main_v39_eq _).trans ((congrArg (Cert.ReferenceDmergeIdeal.Read.val_main_v39 (F := Ideal)) a0).trans (Cert.Merge.Backward.result_dxb m c).symm))
  · exact h41.trans ((Cert.ReferenceDmergeIdeal.Read.val_main_v41_eq _ _ _ _ _).trans ((congr_five (Cert.ReferenceDmergeIdeal.Read.val_main_v41 (F := Ideal)) a0 a1 a6 a7 a8).trans (Cert.Merge.Backward.result_dy m c).symm))
  · exact h42.trans ((Cert.ReferenceDmergeIdeal.Read.val_main_v42_eq _ _ _ _ _ _ _ _ _).trans ((congr_nine (Cert.ReferenceDmergeIdeal.Read.val_main_v42 (F := Ideal)) a0 a1 a2 a3 a4 a5 a6 a7 a8).trans (Cert.Merge.Backward.result_st m c).symm))

/-- The reference of the embedding changes no argument. -/
theorem Embedding.reference_frame : Cert.quiescent_ReferencePleIdeal (hReferencePleIdeal := Cert.ReferencePleIdeal.Gen.facts) := fun m ρ _ =>
  (θ_run _ _ _).mono (fun r h => ⟨fun c => (h c).2, sem_eq_zero_of_no_sems (by decide) r.2⟩) (Cert.ReferencePleIdeal.Value.run m ρ)

/-- The call and the reference of the embedding end with the same array. -/
theorem Embedding.algebraic : Cert.algebraic_KernelPleIdeal_ReferencePleIdeal (hKernelPleIdeal := Cert.KernelPleIdeal.Gen.facts)
    (hReferencePleIdeal := Cert.ReferencePleIdeal.Gen.facts) := by
  intro m g m' g' _ hargs
  refine ⟨fun c => (Cert.KernelPleIdeal.Gen.dats m 0 c).arrAt 5 Cert.KernelPleIdeal.cfg0.N,
    Cert.KernelPleIdeal.Value.run_blocks m g, ?_⟩
  refine (θ_run _ _ _).mono (fun r hr c => ?_) (Cert.ReferencePleIdeal.Value.run m' g')
  obtain ⟨h23, k⟩ := hr c
  obtain ⟨a0, a1, a2, a3, a4⟩ := hargs c
  refine ⟨?_, k⟩
  · exact h23.trans ((Cert.ReferencePleIdeal.Read.val_main_v23_eq _ _ _ _ _).trans ((congr_five (Cert.ReferencePleIdeal.Read.val_main_v23 (F := Ideal)) a0 a1 a2 a3 a4).trans (Cert.Embedding.result m c).symm))

end Cert.Layers

end
-- ==== Proof.Blocks.lean ====
/-
  The blocks a point of the grid stages, over the reals: point `t` works on the keys' block `t / 8` and the queries' block
  `t % 8`, and a tile's weights are those of `Attention.lean`.
-/
module

public import proofs.«01_k».proof.Proof.Tile

@[expose] public section

set_option maxRecDepth 16384

noncomputable section

namespace Cert.Attention.Tile

open Idealize.ShloMosaic Idealize.ShloMosaic.TcCoe Idealize.SL.Sem Cert.KernelIdeal Cert.KernelIdeal.Gen Cert.Attention.Host

/-- Row `u` of block `b`. -/
abbrev row (b : Fin 8) (u : Fin 1024) : Fin 8192 := ⟨1024 * b.val + u.val, by omega⟩

theorem points : cfg0.N = 64 := N_0

/-- The keys' block of a point. -/
abbrev keyBlock (t : Fin cfg0.N) : Fin 8 := ⟨t.val / 8, by have := lt_of_lt_of_eq t.isLt points; omega⟩

/-- The queries' block of a point. -/
abbrev queryBlock (t : Fin cfg0.N) : Fin 8 := ⟨t.val % 8, by omega⟩

theorem index_q : ∀ t : Fin cfg0.N, win0_0.index t = ![max (t.val % 8) (t.val / 8), 0] := by decide +kernel
theorem index_k : ∀ t : Fin cfg0.N, win0_1.index t = ![t.val / 8, 0] := by decide +kernel
theorem index_v : ∀ t : Fin cfg0.N, win0_2.index t = ![t.val / 8, 0] := by decide +kernel
theorem index_g : ∀ t : Fin cfg0.N, win0_3.index t = ![max (t.val % 8) (t.val / 8), 0] := by decide +kernel

variable (m : (ℓ : Loc nD τ sig) → Buf (Elt Ideal) ℓ) (c : Dev nD) (t : Fin cfg0.N)

/-- The staged queries are rows of the queries' operand. -/
theorem q_block (hc : t.val / 8 ≤ t.val % 8) (u : Fin 1024) (j : Fin 512) :
    iblk m c 0 t (ix2 u j) = queries (arg m c main_arg0) (arg m c main_arg1) (arg m c main_arg3) (ix2 (row (queryBlock t) u) j) := by
  rw [← V_queries]
  blk_ext [iblk, index_q t]

theorem k_block (s : Fin 1024) (j : Fin 512) :
    iblk m c 1 t (ix2 s j) = keys (arg m c main_arg1) (arg m c main_arg3) (ix2 (row (keyBlock t) s) j) := by
  rw [← V_keys]
  blk_ext [iblk, index_k t]

theorem v_block (s : Fin 1024) (j : Fin 512) :
    iblk m c 2 t (ix2 s j) = values (arg m c main_arg2) (ix2 (row (keyBlock t) s) j) := by
  rw [← V_values]
  blk_ext [iblk, index_v t]

theorem g_block (hc : t.val / 8 ≤ t.val % 8) (u : Fin 1024) (j : Fin 512) :
    iblk m c 3 t (ix2 u j) = grads (arg m c main_arg0) (arg m c main_arg1) (arg m c main_arg2) (arg m c main_arg3) (arg m c main_arg4)
      (ix2 (row (queryBlock t) u) j) := by
  rw [← V_grads]
  blk_ext [iblk, index_g t]

/-- The heads of a memory's arguments. -/
abbrev heads (h : Fin 4) : Head :=
  headOf (arg m c main_arg0) (arg m c main_arg1) (arg m c main_arg2) (arg m c main_arg3) (arg m c main_arg4) h

/-- Every argument is a real number. -/
structure Finite : Prop where
  f0 : AllReal (arg m c main_arg0)
  f1 : AllReal (arg m c main_arg1)
  f2 : AllReal (arg m c main_arg2)
  f3 : AllReal (arg m c main_arg3)
  f4 : AllReal (arg m c main_arg4)

variable {m c} (F : Finite m c)
include F

theorem q_real (hc : t.val / 8 ≤ t.val % 8) (u : Fin 1024) (h : Fin 4) (l : Fin 128) :
    iblk m c 0 t (ix2 u (laneCol h l)) = (((heads m c h).laneQ (row (queryBlock t) u) l : ℝ) : EReal) :=
  (q_block m c t hc u _).trans (queries_apply F.f0 F.f1 F.f3 _ h l)

theorem k_real (s : Fin 1024) (h : Fin 4) (l : Fin 128) :
    iblk m c 1 t (ix2 s (laneCol h l)) = (((heads m c h).laneK (row (keyBlock t) s) l : ℝ) : EReal) :=
  (k_block m c t s _).trans (keys_apply F.f1 F.f3 _ h l)

theorem v_real (s : Fin 1024) (h : Fin 4) (l : Fin 128) :
    iblk m c 2 t (ix2 s (laneCol h l)) = (((heads m c h).laneV (row (keyBlock t) s) l : ℝ) : EReal) :=
  (v_block m c t s _).trans (values_apply F.f2 _ h l)

theorem g_real (hc : t.val / 8 ≤ t.val % 8) (u : Fin 1024) (h : Fin 4) (l : Fin 128) :
    iblk m c 3 t (ix2 u (laneCol h l)) = (((heads m c h).laneG (row (queryBlock t) u) l : ℝ) : EReal) :=
  (g_block m c t hc u _).trans (grads_apply F.f0 F.f1 F.f2 F.f3 F.f4 _ h l)

/-- The exponents of a tile. -/
theorem dots_kq (hc : t.val / 8 ≤ t.val % 8) (h : Fin 4) (s u : Fin 1024) : dots (iblk m c 1 t) (iblk m c 0 t) h s u
    = (((heads m c h).logit (row (queryBlock t) u) (row (keyBlock t) s) - (heads m c h).lse (row (queryBlock t) u) : ℝ) : EReal) := by
  unfold dots
  rw [Finset.sum_congr rfl fun l _ => by rw [k_real t F, q_real t F hc, ← EReal.coe_mul], ← coe_sum, Head.sum_laneK_laneQ]

/-- The softmax weights' gradients of a tile. -/
theorem dots_vg (hc : t.val / 8 ≤ t.val % 8) (h : Fin 4) (s u : Fin 1024) : dots (iblk m c 2 t) (iblk m c 3 t) h s u
    = (((heads m c h).dprob (row (queryBlock t) u) (row (keyBlock t) s) - (heads m c h).delta (row (queryBlock t) u) : ℝ) : EReal) := by
  unfold dots
  rw [Finset.sum_congr rfl fun l _ => by rw [v_real t F, g_real t F hc, ← EReal.coe_mul], ← coe_sum, Head.sum_laneV_laneG]

/-- A tile below the diagonal holds the softmax. -/
theorem full_eq (hc : t.val / 8 < t.val % 8) (h : Fin 4) (s u : Fin 1024) : full (iblk m c 0 t) (iblk m c 1 t) h s u
    = (((heads m c h).prob (row (queryBlock t) u) (row (keyBlock t) s) : ℝ) : EReal) := by
  unfold full
  rw [dots_kq t F hc.le, exp_coe, Head.prob_of_le]
  show 1024 * (t.val / 8) + s.val ≤ 1024 * (t.val % 8) + u.val
  omega

/-- A tile on the diagonal holds the softmax. -/
theorem diag_eq (hc : t.val / 8 = t.val % 8) (h : Fin 4) (s u : Fin 1024) : diag (iblk m c 0 t) (iblk m c 1 t) h s u
    = (((heads m c h).prob (row (queryBlock t) u) (row (keyBlock t) s) : ℝ) : EReal) := by
  unfold diag
  by_cases hs : s ≤ u
  · rw [if_pos hs, dots_kq t F hc.le, exp_coe, Head.prob_of_le]
    show 1024 * (t.val / 8) + s.val ≤ 1024 * (t.val % 8) + u.val
    have : s.val ≤ u.val := hs
    omega
  · rw [if_neg hs, Head.prob_of_lt, EReal.coe_zero]
    show 1024 * (t.val % 8) + u.val < 1024 * (t.val / 8) + s.val
    have : ¬s.val ≤ u.val := hs
    omega

/-- The output's gradient in a tile. -/
theorem g_data (hc : t.val / 8 ≤ t.val % 8) (u : Fin 1024) (h : Fin 4) (d : Fin 64) :
    iblk m c 3 t (ix2 u (dataCol h d)) = (((heads m c h).g (row (queryBlock t) u) d : ℝ) : EReal) := by
  refine (g_real t F hc u h ⟨d.val, by omega⟩).trans ?_
  unfold Head.laneG
  rw [dif_pos d.isLt]

/-- The scaled queries in a tile. -/
theorem q_data (hc : t.val / 8 ≤ t.val % 8) (u : Fin 1024) (h : Fin 4) (d : Fin 64) :
    iblk m c 0 t (ix2 u (dataCol h d)) = (((heads m c h).q (row (queryBlock t) u) d * (1 / 8) : ℝ) : EReal) := by
  refine (q_real t F hc u h ⟨d.val, by omega⟩).trans ?_
  unfold Head.laneQ
  rw [dif_pos d.isLt]

end Cert.Attention.Tile
-- ==== Proof.Sums.lean ====
/-
  The three sums over the points of a row of the grid: after point `8 j + i` the staging blocks hold the sums over the
  queries' blocks up to `i`, and after the row's last point the gradients of `Attention.lean`.
-/
module

public import proofs.«01_k».proof.Proof.Blocks

@[expose] public section

set_option maxRecDepth 16384

noncomputable section

namespace Cert.Attention.Tile

open Idealize.ShloMosaic Idealize.ShloMosaic.TcCoe Idealize.SL.Sem Cert.KernelIdeal Cert.KernelIdeal.Gen Cert.Attention.Host

/-- The sum of `f` over the rows of block `b`. -/
def blockSum (f : Fin 8192 → ℝ) (b : ℕ) : ℝ := if h : b < 8 then ∑ u : Fin 1024, f (row ⟨b, h⟩ u) else 0

theorem blockSum_fin (f : Fin 8192 → ℝ) (b : Fin 8) : blockSum f b.val = ∑ u : Fin 1024, f (row b u) := by
  unfold blockSum
  rw [dif_pos b.isLt]

/-- The sum over all rows, block by block. -/
theorem sum_blocks (f : Fin 8192 → ℝ) : ∑ b ∈ Finset.range 8, blockSum f b = ∑ r, f r := by
  rw [← Fin.sum_univ_eq_sum_range (blockSum f) 8, Finset.sum_congr rfl fun b _ => blockSum_fin f b]
  rw [← Equiv.sum_comp (finProdFinEquiv (m := 8) (n := 1024)) f, Fintype.sum_prod_type]
  refine Finset.sum_congr rfl fun b _ => Finset.sum_congr rfl fun u _ => congrArg f (Fin.ext ?_)
  show 1024 * b.val + u.val = u.val + 1024 * b.val
  omega

/-- A value that starts as a block's sum and adds one at every point of a row of the grid. -/
theorem run (o : (n : ℕ) → n < cfg0.N → EReal) (f : Fin 8192 → ℝ) (j : ℕ)
    (first : ∀ t : Fin cfg0.N, t.val / 8 = j → t.val % 8 = 0 → o t.val t.isLt = ((blockSum f (t.val % 8) : ℝ) : EReal))
    (step : ∀ t : Fin cfg0.N, t.val / 8 = j → ¬t.val % 8 = 0 →
      o t.val t.isLt = o (t.val - 1) (Nat.lt_of_le_of_lt (Nat.sub_le _ _) t.isLt) + ((blockSum f (t.val % 8) : ℝ) : EReal)) (i : ℕ) :
    ∀ t : Fin cfg0.N, t.val / 8 = j → t.val % 8 = i → o t.val t.isLt = ((∑ b ∈ Finset.range (i + 1), blockSum f b : ℝ) : EReal) := by
  induction i with
  | zero =>
    intro t hj hi
    rw [first t hj hi, hi, Finset.sum_range_one]
  | succ i ih =>
    intro t hj hi
    rw [step t hj (by omega), ih ⟨t.val - 1, Nat.lt_of_le_of_lt (Nat.sub_le _ _) t.isLt⟩ (by simp only; omega) (by simp only; omega), hi,
      Finset.sum_range_succ _ (i + 1), EReal.coe_add]

/-- The same at the row's last point. -/
theorem run_last (o : (n : ℕ) → n < cfg0.N → EReal) (f : Fin 8192 → ℝ) (j : ℕ)
    (first : ∀ t : Fin cfg0.N, t.val / 8 = j → t.val % 8 = 0 → o t.val t.isLt = ((blockSum f (t.val % 8) : ℝ) : EReal))
    (step : ∀ t : Fin cfg0.N, t.val / 8 = j → ¬t.val % 8 = 0 →
      o t.val t.isLt = o (t.val - 1) (Nat.lt_of_le_of_lt (Nat.sub_le _ _) t.isLt) + ((blockSum f (t.val % 8) : ℝ) : EReal))
    (t : Fin cfg0.N) (hj : t.val / 8 = j) (hi : t.val % 8 = 7) : o t.val t.isLt = ((∑ r, f r : ℝ) : EReal) := by
  rw [run o f j first step 7 t hj hi, sum_blocks]

/-- A block before the keys' adds nothing to a causal sum. -/
theorem blockSum_before (f : Fin 8192 → ℝ) (t : Fin cfg0.N) (s : Fin 1024) (z : ∀ r, r < row (keyBlock t) s → f r = 0)
    (hc : t.val % 8 < t.val / 8) : blockSum f (t.val % 8) = 0 := by
  rw [blockSum_fin f (queryBlock t)]
  refine Finset.sum_eq_zero fun u _ => z _ ?_
  show 1024 * (t.val % 8) + u.val < 1024 * (t.val / 8) + s.val
  omega

variable {m : (ℓ : Loc nD τ sig) → Buf (Elt Ideal) ℓ} {c : Dev nD} (t : Fin cfg0.N) (F : Finite m c)

/-- A key's term at a query. -/
abbrev termK (h : Fin 4) (d : Fin 64) (s r : Fin 8192) : ℝ := (heads m c h).dlogit r s * ((heads m c h).q r d * (1 / 8))

/-- A value's term at a query. -/
abbrev termV (h : Fin 4) (d : Fin 64) (s r : Fin 8192) : ℝ := (heads m c h).prob r s * (heads m c h).g r d

/-- A gate's term at a query. -/
abbrev termC (h : Fin 4) (s r : Fin 8192) : ℝ := -(heads m c h).dlogit r s

include F in
theorem tile_dk_full (hc : t.val / 8 < t.val % 8) (s : Fin 1024) (h : Fin 4) (d : Fin 64) :
    ∑ u : Fin 1024, full (iblk m c 0 t) (iblk m c 1 t) h s u * dots (iblk m c 2 t) (iblk m c 3 t) h s u * iblk m c 0 t (ix2 u (dataCol h d))
      = ((blockSum (termK (m := m) (c := c) h d (row (keyBlock t) s)) (t.val % 8) : ℝ) : EReal) := by
  rw [blockSum_fin _ (queryBlock t), Finset.sum_congr rfl fun u _ => by
    rw [full_eq t F hc, dots_vg t F hc.le, q_data t F hc.le, ← EReal.coe_mul, ← EReal.coe_mul], ← coe_sum]
  rfl

include F in
theorem tile_dk_diag (hc : t.val / 8 = t.val % 8) (s : Fin 1024) (h : Fin 4) (d : Fin 64) :
    ∑ u : Fin 1024, diag (iblk m c 0 t) (iblk m c 1 t) h s u * dots (iblk m c 2 t) (iblk m c 3 t) h s u * iblk m c 0 t (ix2 u (dataCol h d))
      = ((blockSum (termK (m := m) (c := c) h d (row (keyBlock t) s)) (t.val % 8) : ℝ) : EReal) := by
  rw [blockSum_fin _ (queryBlock t), Finset.sum_congr rfl fun u _ => by
    rw [diag_eq t F hc, dots_vg t F hc.le, q_data t F hc.le, ← EReal.coe_mul, ← EReal.coe_mul], ← coe_sum]
  rfl

theorem termK_before (h : Fin 4) (d : Fin 64) (s r : Fin 8192) (hr : r < s) : termK (m := m) (c := c) h d s r = 0 := by
  rw [termK, Head.dlogit_of_lt _ hr, zero_mul]

include F in
/-- The keys' sums at a row's first point. -/
theorem dk_first (h0 : t.val % 8 = 0) (s : Fin 1024) (h : Fin 4) (d : Fin 64) :
    (outsAt0 (F := Ideal) m c t.val t.isLt).1 (ix2 s (headCol h d))
      = ((blockSum (termK (m := m) (c := c) h d (row (keyBlock t) s)) (t.val % 8) : ℝ) : EReal) := by
  by_cases hz : t.val / 8 = 0
  · rw [dk_A m c t h0 (by omega) (by omega) (by omega)]
    exact tile_dk_diag t F (hz.trans h0.symm) s h d
  · have hN := lt_of_lt_of_eq t.isLt points
    rw [dk_C m c t h0 (by omega) (by omega), blockSum_before _ t s (fun r hr => termK_before h d _ r hr) (by omega), EReal.coe_zero]

include F in
/-- The keys' sums at another point. -/
theorem dk_step (h0 : ¬t.val % 8 = 0) (s : Fin 1024) (h : Fin 4) (d : Fin 64) :
    (outsAt0 (F := Ideal) m c t.val t.isLt).1 (ix2 s (headCol h d)) = (before m c t).1 (ix2 s (headCol h d))
      + ((blockSum (termK (m := m) (c := c) h d (row (keyBlock t) s)) (t.val % 8) : ℝ) : EReal) := by
  have hN := lt_of_lt_of_eq t.isLt points
  obtain hc | hc | hc := lt_trichotomy (t.val / 8) (t.val % 8)
  · rw [dk_B m c t h0 (by omega) (by omega) (by omega)]
    exact congrArg _ (tile_dk_full t F hc s h d)
  · rw [dk_D m c t h0 (by omega) (by omega) (by omega)]
    exact congrArg _ (tile_dk_diag t F hc s h d)
  · rw [all_E m c t h0 (by omega) (by omega), blockSum_before _ t s (fun r hr => termK_before h d _ r hr) hc, EReal.coe_zero, add_zero]

include F in
/-- The keys' sums after a row's last point. -/
theorem dk_last (h7 : t.val % 8 = 7) (s : Fin 1024) (h : Fin 4) (d : Fin 64) :
    (outsAt0 (F := Ideal) m c t.val t.isLt).1 (ix2 s (headCol h d))
      = ((∑ r, termK (m := m) (c := c) h d (row (keyBlock t) s) r : ℝ) : EReal) := by
  refine run_last (fun n hn => (outsAt0 (F := Ideal) m c n hn).1 (ix2 s (headCol h d))) _ (t.val / 8) (fun t' hj h0 => ?_) (fun t' hj h0 => ?_) t rfl h7
  · rw [show keyBlock t = keyBlock t' from Fin.ext hj.symm]
    exact dk_first t' F h0 s h d
  · rw [show keyBlock t = keyBlock t' from Fin.ext hj.symm]
    exact dk_step t' F h0 s h d

include F in
theorem tile_dv_full (hc : t.val / 8 < t.val % 8) (s : Fin 1024) (h : Fin 4) (d : Fin 64) :
    ∑ u : Fin 1024, full (iblk m c 0 t) (iblk m c 1 t) h s u * iblk m c 3 t (ix2 u (dataCol h d))
      = ((blockSum (termV (m := m) (c := c) h d (row (keyBlock t) s)) (t.val % 8) : ℝ) : EReal) := by
  rw [blockSum_fin _ (queryBlock t), Finset.sum_congr rfl fun u _ => by
    rw [full_eq t F hc, g_data t F hc.le, ← EReal.coe_mul], ← coe_sum]

include F in
theorem tile_dv_diag (hc : t.val / 8 = t.val % 8) (s : Fin 1024) (h : Fin 4) (d : Fin 64) :
    ∑ u : Fin 1024, diag (iblk m c 0 t) (iblk m c 1 t) h s u * iblk m c 3 t (ix2 u (dataCol h d))
      = ((blockSum (termV (m := m) (c := c) h d (row (keyBlock t) s)) (t.val % 8) : ℝ) : EReal) := by
  rw [blockSum_fin _ (queryBlock t), Finset.sum_congr rfl fun u _ => by
    rw [diag_eq t F hc, g_data t F hc.le, ← EReal.coe_mul], ← coe_sum]

theorem termV_before (h : Fin 4) (d : Fin 64) (s r : Fin 8192) (hr : r < s) : termV (m := m) (c := c) h d s r = 0 := by
  rw [termV, Head.prob_of_lt _ hr, zero_mul]

include F in
/-- The values' sums at a row's first point. -/
theorem dv_first (h0 : t.val % 8 = 0) (s : Fin 1024) (h : Fin 4) (d : Fin 64) :
    (outsAt0 (F := Ideal) m c t.val t.isLt).2.1 (ix2 s (headCol h d))
      = ((blockSum (termV (m := m) (c := c) h d (row (keyBlock t) s)) (t.val % 8) : ℝ) : EReal) := by
  by_cases hz : t.val / 8 = 0
  · rw [dv_A m c t h0 (by omega) (by omega) (by omega)]
    exact tile_dv_diag t F (hz.trans h0.symm) s h d
  · have hN := lt_of_lt_of_eq t.isLt points
    rw [dv_C m c t h0 (by omega) (by omega), blockSum_before _ t s (fun r hr => termV_before h d _ r hr) (by omega), EReal.coe_zero]

include F in
/-- The values' sums at another point. -/
theorem dv_step (h0 : ¬t.val % 8 = 0) (s : Fin 1024) (h : Fin 4) (d : Fin 64) :
    (outsAt0 (F := Ideal) m c t.val t.isLt).2.1 (ix2 s (headCol h d)) = (before m c t).2.1 (ix2 s (headCol h d))
      + ((blockSum (termV (m := m) (c := c) h d (row (keyBlock t) s)) (t.val % 8) : ℝ) : EReal) := by
  have hN := lt_of_lt_of_eq t.isLt points
  obtain hc | hc | hc := lt_trichotomy (t.val / 8) (t.val % 8)
  · rw [dv_B m c t h0 (by omega) (by omega) (by omega)]
    exact congrArg _ (tile_dv_full t F hc s h d)
  · rw [dv_D m c t h0 (by omega) (by omega) (by omega)]
    exact congrArg _ (tile_dv_diag t F hc s h d)
  · rw [all_E m c t h0 (by omega) (by omega), blockSum_before _ t s (fun r hr => termV_before h d _ r hr) hc, EReal.coe_zero, add_zero]

include F in
/-- The values' sums after a row's last point. -/
theorem dv_last (h7 : t.val % 8 = 7) (s : Fin 1024) (h : Fin 4) (d : Fin 64) :
    (outsAt0 (F := Ideal) m c t.val t.isLt).2.1 (ix2 s (headCol h d))
      = ((∑ r, termV (m := m) (c := c) h d (row (keyBlock t) s) r : ℝ) : EReal) := by
  refine run_last (fun n hn => (outsAt0 (F := Ideal) m c n hn).2.1 (ix2 s (headCol h d))) _ (t.val / 8) (fun t' hj h0 => ?_) (fun t' hj h0 => ?_) t rfl h7
  · rw [show keyBlock t = keyBlock t' from Fin.ext hj.symm]
    exact dv_first t' F h0 s h d
  · rw [show keyBlock t = keyBlock t' from Fin.ext hj.symm]
    exact dv_step t' F h0 s h d

include F in
theorem tile_dc_full (hc : t.val / 8 < t.val % 8) (s : Fin 1024) (h : Fin 4) :
    0 - ∑ u : Fin 1024, full (iblk m c 0 t) (iblk m c 1 t) h s u * dots (iblk m c 2 t) (iblk m c 3 t) h s u
      = ((blockSum (termC (m := m) (c := c) h (row (keyBlock t) s)) (t.val % 8) : ℝ) : EReal) := by
  rw [blockSum_fin _ (queryBlock t), Finset.sum_neg_distrib, EReal.coe_neg, zero_sub, Finset.sum_congr rfl fun u _ => by
    rw [full_eq t F hc, dots_vg t F hc.le, ← EReal.coe_mul], ← coe_sum]
  rfl

include F in
theorem tile_dc_diag (hc : t.val / 8 = t.val % 8) (s : Fin 1024) (h : Fin 4) :
    0 - ∑ u : Fin 1024, diag (iblk m c 0 t) (iblk m c 1 t) h s u * dots (iblk m c 2 t) (iblk m c 3 t) h s u
      = ((blockSum (termC (m := m) (c := c) h (row (keyBlock t) s)) (t.val % 8) : ℝ) : EReal) := by
  rw [blockSum_fin _ (queryBlock t), Finset.sum_neg_distrib, EReal.coe_neg, zero_sub, Finset.sum_congr rfl fun u _ => by
    rw [diag_eq t F hc, dots_vg t F hc.le, ← EReal.coe_mul], ← coe_sum]
  rfl

theorem termC_before (h : Fin 4) (s r : Fin 8192) (hr : r < s) : termC (m := m) (c := c) h s r = 0 := by
  rw [termC, Head.dlogit_of_lt _ hr, neg_zero]

include F in
/-- The gates' sums at a row's first point. -/
theorem dc_first (h0 : t.val % 8 = 0) (s : Fin 1024) (h : Fin 4) :
    (outsAt0 (F := Ideal) m c t.val t.isLt).2.2 (ix2 s (gateCol h))
      = ((blockSum (termC (m := m) (c := c) h (row (keyBlock t) s)) (t.val % 8) : ℝ) : EReal) := by
  by_cases hz : t.val / 8 = 0
  · rw [dc_A m c t h0 (by omega) (by omega) (by omega)]
    exact tile_dc_diag t F (hz.trans h0.symm) s h
  · have hN := lt_of_lt_of_eq t.isLt points
    rw [dc_C m c t h0 (by omega) (by omega), blockSum_before _ t s (fun r hr => termC_before h _ r hr) (by omega), EReal.coe_zero]

include F in
/-- The gates' sums at another point. -/
theorem dc_step (h0 : ¬t.val % 8 = 0) (s : Fin 1024) (h : Fin 4) :
    (outsAt0 (F := Ideal) m c t.val t.isLt).2.2 (ix2 s (gateCol h)) = (before m c t).2.2 (ix2 s (gateCol h))
      + ((blockSum (termC (m := m) (c := c) h (row (keyBlock t) s)) (t.val % 8) : ℝ) : EReal) := by
  have hN := lt_of_lt_of_eq t.isLt points
  obtain hc | hc | hc := lt_trichotomy (t.val / 8) (t.val % 8)
  · rw [dc_B m c t h0 (by omega) (by omega) (by omega)]
    exact congrArg _ (tile_dc_full t F hc s h)
  · rw [dc_D m c t h0 (by omega) (by omega) (by omega)]
    exact congrArg _ (tile_dc_diag t F hc s h)
  · rw [all_E m c t h0 (by omega) (by omega), blockSum_before _ t s (fun r hr => termC_before h _ r hr) hc, EReal.coe_zero, add_zero]

include F in
/-- The gates' sums after a row's last point. -/
theorem dc_last (h7 : t.val % 8 = 7) (s : Fin 1024) (h : Fin 4) :
    (outsAt0 (F := Ideal) m c t.val t.isLt).2.2 (ix2 s (gateCol h))
      = ((∑ r, termC (m := m) (c := c) h (row (keyBlock t) s) r : ℝ) : EReal) := by
  refine run_last (fun n hn => (outsAt0 (F := Ideal) m c n hn).2.2 (ix2 s (gateCol h))) _ (t.val / 8) (fun t' hj h0 => ?_) (fun t' hj h0 => ?_) t rfl h7
  · rw [show keyBlock t = keyBlock t' from Fin.ext hj.symm]
    exact dc_first t' F h0 s h
  · rw [show keyBlock t = keyBlock t' from Fin.ext hj.symm]
    exact dc_step t' F h0 s h

/-- The columns of the third output that belong to no head stay zero. -/
theorem rest_zero (s : Fin 1024) (l : Fin 128) (hl : 4 ≤ l.val) (i : ℕ) :
    ∀ t : Fin cfg0.N, t.val % 8 = i → (outsAt0 (F := Ideal) m c t.val t.isLt).2.2 (ix2 s l) = 0 := by
  induction i with
  | zero =>
    intro t h0
    have hN := lt_of_lt_of_eq t.isLt points
    by_cases hz : t.val / 8 = 0
    · exact rest_A m c t h0 (by omega) (by omega) (by omega) s l hl
    · exact dc_C m c t h0 (by omega) (by omega) _
  | succ i ih =>
    intro t hi
    have hN := lt_of_lt_of_eq t.isLt points
    have e : (before m c t).2.2 (ix2 s l) = 0 := ih ⟨t.val - 1, Nat.lt_of_le_of_lt (Nat.sub_le _ _) t.isLt⟩ (by simp only; omega)
    obtain hc | hc | hc := lt_trichotomy (t.val / 8) (t.val % 8)
    · rw [rest_B m c t (by omega) (by omega) (by omega) (by omega) s l hl, e]
    · rw [rest_D m c t (by omega) (by omega) (by omega) (by omega) s l hl, e]
    · rw [all_E m c t (by omega) (by omega) (by omega), e]

end Cert.Attention.Tile
-- ==== Proof.Reference.lean ====
/-
  The values of the reference over the reals: its buffers, element by element, are the quantities of `Attention.lean` for
  the heads of the arguments, whenever every element of the arguments is a real number.
-/
module

public import proofs.«01_k».proof.Proof.Heads
public import proofs.«01_k».proof.Proof.Gen.ReferenceIdeal.Read
public import Idealize.ShloMosaic.Lib.WordCmp
public import Idealize.ShloMosaic.Lib.KernelVsHost

@[expose] public section

set_option maxRecDepth 16384

noncomputable section

namespace Cert.Attention.Ref

open Idealize.ShloMosaic Cert.ReferenceIdeal Cert.ReferenceIdeal.Read

/-- The causal mask chooses by the order of the two positions. -/
theorem select_causal {α : Type} (t s : Fin 8192) (a b : α) :
    Scalar.select (IntOp.cmpi .sge (BitVec.ofNat 32 t.val) (BitVec.ofNat 32 s.val)) a b = if s ≤ t then a else b := by
  rw [WordCmp.cmpi_sge_ofNat (by omega) (by omega), WordCmp.select_ofBool]
  simp only [decide_eq_true_eq, Fin.le_def]

variable {x0 x1 x2 : (⟨S8192x256, .f32⟩ : BufTy).Contents (Elt Ideal)} {x3 : (⟨S8192x4, .f32⟩ : BufTy).Contents (Elt Ideal)}
  {x4 : (⟨S8192x256, .f32⟩ : BufTy).Contents (Elt Ideal)}
  (f0 : AllReal x0) (f1 : AllReal x1) (f2 : AllReal x2) (f3 : AllReal x3) (f4 : AllReal x4)

include f0 f1 f3 in
/-- The logits. -/
theorem logit_apply (h : Fin 4) (t s : Fin 8192) : val_main_v16 x0 x1 x3 (ix3 h t s) = (((headOf x0 x1 x2 x3 x4 h).logit t s : ℝ) : EReal) := by
  pointwise [val_main_v16, val_main_v10, val_main_v9, val_main_cst, val_main_v15, val_main_v13, val_main_v14, val_main_v11,
    val_main_v12, val_main_v6, val_main_v8, val_main_v1, val_main_v0, val_main_v3, val_main_v2]
  rw [ofBits_eighth, f3 (ix2 t h), f3 (ix2 s h), Finset.sum_congr rfl fun d _ => by
    rw [f0 (ix2 t (headCol h d)), f1 (ix2 s (headCol h d)), ← EReal.coe_mul], ← coe_sum, ← EReal.coe_mul, ← EReal.coe_sub, ← EReal.coe_add]
  rfl

include f0 f1 f3 in
/-- The masked logits. -/
theorem masked_apply (h : Fin 4) (t s : Fin 8192) : val_main_v22_0 x0 x1 x3 (ix3 h t s) = (headOf x0 x1 x2 x3 x4 h).masked t s := by
  pointwise [val_main_v22_0, val_main_v22_1, val_main_v21, val_main_v20, val_main_v19, val_main_v18, val_main_v17, val_main_v7,
    val_main_call0_v2, val_main_call0_v0, val_main_cst_0]
  rw [select_causal, logit_apply (x2 := x2) (x4 := x4) f0 f1 f3]
  unfold Head.masked
  exact congrArg (fun b : EReal => if s ≤ t then (((headOf x0 x1 x2 x3 x4 h).logit t s : ℝ) : EReal) else b) ofBits_bot

/-- The largest element of a row, as a fold. -/
theorem rowMax_fold (h : Fin 4) (t : Fin 8192) : val_main_v23 x0 x1 x3 (ix2 h t)
    = Finset.fold max (Ideal.ofBits FTy.f32 4286578688#32) (fun s => val_main_v22_0 x0 x1 x3 (ix3 h t s)) Finset.univ := by
  pointwise [val_main_v23, val_main_cst_1]

/-- That fold, for a head whose masked logits the row holds. -/
theorem fold_row (A : Head) (h : Fin 4) (t : Fin 8192) (e : (fun s => val_main_v22_0 x0 x1 x3 (ix3 h t s)) = A.masked t) :
    Finset.fold max (Ideal.ofBits FTy.f32 4286578688#32) (fun s => val_main_v22_0 x0 x1 x3 (ix3 h t s)) Finset.univ
      = (A.rowMax t : EReal) := by
  rw [ofBits_bot, e]
  exact A.fold_masked t

include f0 f1 f3 in
/-- The largest logit of a row. -/
theorem rowMax_apply (h : Fin 4) (t : Fin 8192) : val_main_v23 x0 x1 x3 (ix2 h t) = (((headOf x0 x1 x2 x3 x4 h).rowMax t : ℝ) : EReal) :=
  (rowMax_fold h t).trans (fold_row (headOf x0 x1 x2 x3 x4 h) h t (funext fun s => masked_apply f0 f1 f3 h t s))

/-- The larger of minus infinity and the largest logit. -/
theorem rowMax_max (h : Fin 4) (t : Fin 8192) : val_main_v30 x0 x1 x3 (ix2 h t) = val_main_v23 x0 x1 x3 (ix2 h t) := by
  rw [val_main_v30_apply, val_main_v29_apply, val_main_cst_3_apply, max_ideal, ofBits_ideal, ofBits_bot]
  exact max_eq_right bot_le

/-- A weight, from the masked logit and the row's largest logit. -/
theorem weight_at (h : Fin 4) (t s : Fin 8192) : val_main_v43 x0 x1 x3 (ix3 h t s)
    = Ideal.exp (val_main_v22_0 x0 x1 x3 (ix3 h t s) - val_main_v23 x0 x1 x3 (ix2 h t)) := by
  rw [← rowMax_max]
  pointwise [val_main_v43, val_main_v42, val_main_v41, val_main_v40]

include f0 f1 f3 in
/-- The unnormalised weights. -/
theorem weight_apply (h : Fin 4) (t s : Fin 8192) : val_main_v43 x0 x1 x3 (ix3 h t s) = (((headOf x0 x1 x2 x3 x4 h).weight t s : ℝ) : EReal) := by
  rw [weight_at, masked_apply (x2 := x2) (x4 := x4) f0 f1 f3, rowMax_apply (x2 := x2) (x4 := x4) f0 f1 f3]
  exact Head.exp_masked _ t s

include f0 f1 f3 in
/-- The sums of the weights. -/
theorem total_apply (h : Fin 4) (t : Fin 8192) : val_main_v44 x0 x1 x3 (ix2 h t) = (((headOf x0 x1 x2 x3 x4 h).total t : ℝ) : EReal) := by
  pointwise [val_main_v44, val_main_cst_9]
  rw [Finset.sum_congr rfl fun s _ => weight_apply (x2 := x2) (x4 := x4) f0 f1 f3 h t s, ← coe_sum]
  rfl

include f0 f1 f3 in
/-- The softmax. -/
theorem prob_apply (h : Fin 4) (t s : Fin 8192) : val_main_v47 x0 x1 x3 (ix3 h t s) = (((headOf x0 x1 x2 x3 x4 h).prob t s : ℝ) : EReal) := by
  pointwise [val_main_v47, val_main_v46, val_main_v45]
  rw [weight_apply (x2 := x2) (x4 := x4) f0 f1 f3, total_apply (x2 := x2) (x4 := x4) f0 f1 f3, div_coe _ _ (Head.total_pos _ t).ne']
  rfl

include f2 f4 in
/-- The gradients in the softmax weights. -/
theorem dprob_apply (h : Fin 4) (t s : Fin 8192) : val_main_v58 x2 x4 (ix3 h t s) = (((headOf x0 x1 x2 x3 x4 h).dprob t s : ℝ) : EReal) := by
  pointwise [val_main_v58, val_main_v55, val_main_v54, val_main_v5, val_main_v4]
  rw [Finset.sum_congr rfl fun d _ => by
    rw [f4 (ix2 t (headCol h d)), f2 (ix2 s (headCol h d)), ← EReal.coe_mul], ← coe_sum]
  rfl

include f0 f1 f2 f3 f4 in
/-- The gradients in the logits. -/
theorem dlogit_apply (h : Fin 4) (t s : Fin 8192) : val_main_v71 x0 x1 x2 x3 x4 (ix3 h t s) = (((headOf x0 x1 x2 x3 x4 h).dlogit t s : ℝ) : EReal) := by
  have e : val_main_v70 x0 x1 x2 x3 x4 (ix3 h t s) = (((headOf x0 x1 x2 x3 x4 h).dlogit t s : ℝ) : EReal) := by
    pointwise [val_main_v70, val_main_v69, val_main_v68, val_main_v67, val_main_cst_12, val_main_v66, val_main_v65, val_main_v64,
      val_main_v63, val_main_v62, val_main_cst_11, val_main_v61, val_main_v60, val_main_v59, val_main_v50, val_main_v49,
      val_main_cst_10, val_main_v48, val_main_v45]
    simp only [weight_apply (x2 := x2) (x4 := x4) f0 f1 f3, total_apply (x2 := x2) (x4 := x4) f0 f1 f3,
      dprob_apply (x0 := x0) (x1 := x1) (x3 := x3) f2 f4, Ideal.ofBits_one_f32, ← EReal.coe_mul, ← EReal.coe_one,
      div_coe _ _ (Head.total_pos _ t).ne', div_coe _ _ (mul_self_pos.mpr (Head.total_pos _ t).ne').ne', ← coe_sum, ← EReal.coe_neg,
      ← EReal.coe_add, Finset.univ_unique, Finset.sum_singleton]
    rw [Head.dlogit_eq]
  pointwise [val_main_v71, val_main_v22_1, val_main_v21, val_main_v20, val_main_v19, val_main_v18, val_main_v17, val_main_v7,
    val_main_call1_v0, val_main_call1_cst]
  rw [select_causal, e]
  split
  · rfl
  · next hl => rw [Head.dlogit_of_lt _ (not_le.mp hl)]; rfl

include f0 f1 f3 f4 in
/-- The first result's column of a value: the gradient in the values. -/
theorem gradV_apply (h : Fin 4) (s : Fin 8192) (d : Fin 64) :
    val_main_v86 x0 x1 x3 x4 (ix2 s (headCol h d)) = (((headOf x0 x1 x2 x3 x4 h).gradV s d : ℝ) : EReal) := by
  have e1 : (h.val * 64 + d.val) / 64 = h.val := by omega
  have e2 : (h.val * 64 + d.val) % 64 = d.val := by omega
  pointwise [val_main_v86, val_main_v85, val_main_v57, val_main_v56, val_main_v55, val_main_v54]
  simp only [e1, e2, Fin.eta]
  rw [Finset.sum_congr rfl fun t _ => by
    rw [f4 (ix2 t (headCol h d)), prob_apply (x2 := x2) (x4 := x4) f0 f1 f3, mul_comm, ← EReal.coe_mul], ← coe_sum]
  rfl

include f0 f1 f2 f3 f4 in
/-- The gradient in the keys. -/
theorem gradK_apply (h : Fin 4) (s : Fin 8192) (d : Fin 64) :
    val_main_v88 x0 x1 x2 x3 x4 (ix2 s (headCol h d)) = (((headOf x0 x1 x2 x3 x4 h).gradK s d : ℝ) : EReal) := by
  have e1 : (h.val * 64 + d.val) / 64 = h.val := by omega
  have e2 : (h.val * 64 + d.val) % 64 = d.val := by omega
  pointwise [val_main_v88, val_main_v87, val_main_v82, val_main_v81, val_main_v80, val_main_cst_17, val_main_v1, val_main_v0]
  simp only [e1, e2, Fin.eta]
  rw [Finset.sum_congr rfl fun t _ => by
    rw [f0 (ix2 t (headCol h d)), dlogit_apply f0 f1 f2 f3 f4, ofBits_eighth, ← EReal.coe_mul, ← EReal.coe_mul, mul_assoc, mul_comm (1 / 8 : ℝ)],
    ← coe_sum]
  rfl

include f0 f1 f2 f3 f4 in
/-- The gradient in the cumulated log gates. -/
theorem gradC_apply (h : Fin 4) (s : Fin 8192) :
    val_main_v84 x0 x1 x2 x3 x4 (ix2 s h) = (((headOf x0 x1 x2 x3 x4 h).gradC s : ℝ) : EReal) := by
  pointwise [val_main_v84, val_main_v79, val_main_v78, val_main_v77, val_main_v76, val_main_v75, val_main_v74, val_main_v73,
    val_main_v72, val_main_cst_13, val_main_cst_14, val_main_cst_15, val_main_cst_16]
  simp only [dlogit_apply f0 f1 f2 f3 f4, ← EReal.coe_neg, ← coe_sum, Head.sum_dlogit, Finset.univ_unique, Finset.sum_singleton,
    EReal.coe_zero, add_zero]
  rfl

/-- The third result: the gradients in the gates in its first columns, zero in the others. -/
theorem padded_apply (s : Fin 8192) (l : Fin 128) :
    val_main_v91 x0 x1 x2 x3 x4 (ix2 s l) = if h : l.val < 4 then val_main_v84 x0 x1 x2 x3 x4 (ix2 s ⟨l.val, h⟩) else 0 := by
  have e : val_main_call2_v0 (F := Ideal) = fun _ => 0 := funext fun _ => sitofp_zero (φ := .f32)
  pointwise [val_main_v91, e]

end Cert.Attention.Ref
-- ==== Proof.Result.lean ====
/-
  The kernel's three results after the run: the reference's arrays, element by element, when the precondition holds.
-/
module

public import proofs.«01_k».proof.Proof.Sums
public import proofs.«01_k».proof.Proof.Reference

@[expose] public section

set_option maxRecDepth 16384

noncomputable section

namespace Cert.Attention.Tile

open Idealize.ShloMosaic Idealize.ShloMosaic.TcCoe Idealize.SL.Sem Cert.KernelIdeal Cert.KernelIdeal.Gen Cert.Attention.Host

/-- The outputs' blocks follow the keys' block. -/
theorem index_4 : ∀ t : Fin cfg0.N, win0_4.index t = ![t.val / 8, 0] := by decide +kernel

theorem index_5 : ∀ t : Fin cfg0.N, win0_5.index t = ![t.val / 8, 0] := by decide +kernel

theorem index_6 : ∀ t : Fin cfg0.N, win0_6.index t = ![t.val / 8, 0] := by decide +kernel

/-- A column of the four heads' data is a head's own column. -/
theorem headCol_div (l : Fin 256) : headCol ⟨l.val / 64, by omega⟩ ⟨l.val % 64, by omega⟩ = l :=
  Fin.ext (by show l.val / 64 * 64 + l.val % 64 = l.val; omega)

/-- A column of the third output that belongs to a head. -/
theorem gateCol_val (l : Fin 128) (h : l.val < 4) : gateCol ⟨l.val, h⟩ = l := Fin.ext rfl

variable {m : (ℓ : Loc nD τ sig) → Buf (Elt Ideal) ℓ} {c : Dev nD} (F : Finite m c)

include F in
/-- The keys' gradient. -/
theorem keys_result : (dats m 0 c).arrAt 4 cfg0.N
    = Cert.ReferenceIdeal.Read.val_main_v88 (F := Ideal) (arg m c main_arg0) (arg m c main_arg1) (arg m c main_arg2) (arg m c main_arg3) (arg m c main_arg4) := by
  refine (dats m 0 c).arrAt_eq_of_covers 4 _ (by decide +kernel) fun t hf y => ?_
  blk_simp
  rw [after0_4]
  have h7 : t.val % 8 = 7 := (flush0_4 t).mp hf
  obtain ⟨s, l, rfl⟩ : ∃ s l, y = ix2 s l := ⟨y 0, y 1, by ext i; fin_cases i <;> rfl⟩
  have e : (win0_4.blk t).view.emb (ix2 s l) = ix2 (row (keyBlock t) s) l := by
    blk_ext [index_4 t]
  rw [e, ← headCol_div l, dk_last t F h7]
  exact (Ref.gradK_apply F.f0 F.f1 F.f2 F.f3 F.f4 _ _ _).symm

include F in
/-- The values' gradient. -/
theorem values_result : (dats m 0 c).arrAt 5 cfg0.N
    = Cert.ReferenceIdeal.Read.val_main_v86 (F := Ideal) (arg m c main_arg0) (arg m c main_arg1) (arg m c main_arg3) (arg m c main_arg4) := by
  refine (dats m 0 c).arrAt_eq_of_covers 5 _ (by decide +kernel) fun t hf y => ?_
  blk_simp
  rw [after0_5]
  have h7 : t.val % 8 = 7 := (flush0_5 t).mp hf
  obtain ⟨s, l, rfl⟩ : ∃ s l, y = ix2 s l := ⟨y 0, y 1, by ext i; fin_cases i <;> rfl⟩
  have e : (win0_5.blk t).view.emb (ix2 s l) = ix2 (row (keyBlock t) s) l := by
    blk_ext [index_5 t]
  rw [e, ← headCol_div l, dv_last t F h7]
  exact (Ref.gradV_apply F.f0 F.f1 F.f3 F.f4 _ _ _).symm

include F in
/-- The gates' gradient. -/
theorem gates_result : (dats m 0 c).arrAt 6 cfg0.N
    = Cert.ReferenceIdeal.Read.val_main_v91 (F := Ideal) (arg m c main_arg0) (arg m c main_arg1) (arg m c main_arg2) (arg m c main_arg3) (arg m c main_arg4) := by
  refine (dats m 0 c).arrAt_eq_of_covers 6 _ (by decide +kernel) fun t hf y => ?_
  blk_simp
  rw [after0_6]
  have h7 : t.val % 8 = 7 := (flush0_6 t).mp hf
  obtain ⟨s, l, rfl⟩ : ∃ s l, y = ix2 s l := ⟨y 0, y 1, by ext i; fin_cases i <;> rfl⟩
  have e : (win0_6.blk t).view.emb (ix2 s l) = ix2 (row (keyBlock t) s) l := by
    blk_ext [index_6 t]
  rw [e, Ref.padded_apply]
  split
  · rename_i h
    rw [Ref.gradC_apply F.f0 F.f1 F.f2 F.f3 F.f4]
    exact (congrArg _ (congrArg (ix2 s) (gateCol_val l h).symm)).trans (dc_last t F h7 s ⟨l.val, h⟩)
  · exact rest_zero s l (by omega) 7 t h7

end Cert.Attention.Tile
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.KernelZ
public import proofs.«01_k».proof.Proof.Gen.KernelZ.Frame
public import proofs.«01_k».proof.Proof.Gen.KernelDh
public import proofs.«01_k».proof.Proof.Gen.KernelDh.Frame
public import proofs.«01_k».proof.Proof.Gen.KernelDwz
public import proofs.«01_k».proof.Proof.Gen.KernelDwz.Frame
public import proofs.«01_k».proof.Proof.Gen.KernelDwg
public import proofs.«01_k».proof.Proof.Gen.KernelDwg.Frame
public import proofs.«01_k».proof.Proof.Gen.KernelDwp
public import proofs.«01_k».proof.Proof.Gen.KernelDwp.Frame
public import proofs.«01_k».proof.Proof.Gen.KernelDwo
public import proofs.«01_k».proof.Proof.Gen.KernelDwo.Frame
public import proofs.«01_k».proof.Proof.Gen.KernelDwup0
public import proofs.«01_k».proof.Proof.Gen.KernelDwup0.Frame
public import proofs.«01_k».proof.Proof.Gen.KernelDwup1
public import proofs.«01_k».proof.Proof.Gen.KernelDwup1.Frame
public import proofs.«01_k».proof.Proof.Gen.KernelDwup2
public import proofs.«01_k».proof.Proof.Gen.KernelDwup2.Frame
public import proofs.«01_k».proof.Proof.Gen.KernelDwup3
public import proofs.«01_k».proof.Proof.Gen.KernelDwup3.Frame
public import proofs.«01_k».proof.Proof.Gen.KernelMerge
public import proofs.«01_k».proof.Proof.Gen.KernelMerge.Frame
public import proofs.«01_k».proof.Proof.Gen.KernelDmerge
public import proofs.«01_k».proof.Proof.Gen.KernelDmerge.Frame
public import proofs.«01_k».proof.Proof.Gen.KernelPle
public import proofs.«01_k».proof.Proof.Gen.KernelPle.Frame
public import proofs.«01_k».proof.Proof.Products
public import proofs.«01_k».proof.Proof.Layers
public import proofs.«01_k».proof.Proof.Result
public import Idealize.ShloMosaic.Lib.ReduceAll
public import Idealize.ShloMosaic.Adequacy
public import Idealize.ShloMosaic.Init

@[expose] public section

noncomputable section

namespace Cert.Proof

open Idealize.ShloMosaic Idealize.SL.Sem Cert.Kernel

/-- Two bits whose conjunction is one are one. -/
theorem and_one {x y : BitVec 1} (h : IntOp.andi x y = 1#1) : x = 1#1 ∧ y = 1#1 := by
  revert x y
  decide

/-- An element whose absolute value compares below infinity is a real number. -/
theorem lt_top_of_cmp {x : EReal} (h : FloatOps.cmpf (F := Ideal) (φ := .f32) .olt (max x (-x)) (FloatOps.ofBits (F := Ideal) (φ := .f32) 0x7F800000#32) = 1#1) :
    x = ((x.toReal : ℝ) : EReal) := by
  rw [Cert.Attention.ofBits_ideal, Cert.Attention.ofBits_top] at h
  by_contra hx
  have hn : ¬max x (-x) < ⊤ := fun hl => hx (Cert.Attention.eq_coe_of_abs_lt hl)
  have : Ideal.cmp .olt (max x (-x)) ⊤ = 0#1 := by simp only [Ideal.cmp, hn, decide_false]; rfl
  exact absurd (h.symm.trans this) (by decide)

/-- The precondition says that every element of every argument is a real number. -/
theorem finite_of_pre {m : (ℓ : Loc Cert.KernelIdeal.nD Cert.KernelIdeal.τ Cert.KernelIdeal.sig) → Buf (Elt Ideal) ℓ}
    (h : Cert.Pre_KernelIdeal_finite (hPre_finite := Cert.Pre_finite.Gen.facts) m) (c : Dev Cert.KernelIdeal.nD) :
    Cert.Attention.Tile.Finite m c := by
  have hc := congrFun (h c) ix0
  dsimp only [Cert.Pre_finite.fn, Cert.Pre_finite.fn_part1] at hc
  simp only [andi] at hc
  obtain ⟨hc, h4⟩ := and_one hc
  obtain ⟨hc, h3⟩ := and_one hc
  obtain ⟨hc, h2⟩ := and_one hc
  obtain ⟨h0, h1⟩ := and_one hc
  exact ⟨fun i => lt_top_of_cmp (Host.reduce_andi_all _ _ _ _ _ h0 i), fun i => lt_top_of_cmp (Host.reduce_andi_all _ _ _ _ _ h1 i),
    fun i => lt_top_of_cmp (Host.reduce_andi_all _ _ _ _ _ h2 i), fun i => lt_top_of_cmp (Host.reduce_andi_all _ _ _ _ _ h3 i),
    fun i => lt_top_of_cmp (Host.reduce_andi_all _ _ _ _ _ h4 i)⟩

/-- The reference leaves its arguments as they were; it has no semaphores. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0 :=
  (θ_run _ _ _).mono (fun r h => ⟨fun c => (h c).2.2.2, sem_eq_zero_of_no_sems (by decide) r.2⟩) (Cert.ReferenceIdeal.Value.run m ρ)

/-- Equal arguments, equal arrays. -/
theorem congr_88 {x0 x1 x2 x3 x4 y0 y1 y2 y3 y4} (e0 : x0 = y0) (e1 : x1 = y1) (e2 : x2 = y2) (e3 : x3 = y3) (e4 : x4 = y4) :
    Cert.ReferenceIdeal.Read.val_main_v88 (F := Ideal) x0 x1 x2 x3 x4 = Cert.ReferenceIdeal.Read.val_main_v88 y0 y1 y2 y3 y4 := by
  subst e0 e1 e2 e3 e4
  rfl

/-- Equal arguments, equal arrays. -/
theorem congr_86 {x0 x1 x3 x4 y0 y1 y3 y4} (e0 : x0 = y0) (e1 : x1 = y1) (e3 : x3 = y3) (e4 : x4 = y4) :
    Cert.ReferenceIdeal.Read.val_main_v86 (F := Ideal) x0 x1 x3 x4 = Cert.ReferenceIdeal.Read.val_main_v86 y0 y1 y3 y4 := by
  subst e0 e1 e3 e4
  rfl

/-- Equal arguments, equal arrays. -/
theorem congr_91 {x0 x1 x2 x3 x4 y0 y1 y2 y3 y4} (e0 : x0 = y0) (e1 : x1 = y1) (e2 : x2 = y2) (e3 : x3 = y3) (e4 : x4 = y4) :
    Cert.ReferenceIdeal.Read.val_main_v91 (F := Ideal) x0 x1 x2 x3 x4 = Cert.ReferenceIdeal.Read.val_main_v91 y0 y1 y2 y3 y4 := by
  subst e0 e1 e2 e3 e4
  rfl

/-- Both programs end with the same three arrays. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  refine ⟨fun c => (Cert.KernelIdeal.Gen.dats m 0 c).arrAt 4 Cert.KernelIdeal.cfg0.N, fun c => (Cert.KernelIdeal.Gen.dats m 0 c).arrAt 5 Cert.KernelIdeal.cfg0.N,
    fun c => (Cert.KernelIdeal.Gen.dats m 0 c).arrAt 6 Cert.KernelIdeal.cfg0.N, Cert.KernelIdeal.Value.run_blocks m g, ?_⟩
  refine (θ_run _ _ _).mono (fun r hr c => ?_) (Cert.ReferenceIdeal.Value.run m' g')
  obtain ⟨h88, h86, h91, k⟩ := hr c
  obtain ⟨a0, a1, a2, a3, a4⟩ := hargs c
  have F := finite_of_pre hpre c
  refine ⟨?_, ?_, ?_, k⟩
  · exact h88.trans ((Cert.ReferenceIdeal.Read.val_main_v88_eq m' c).trans ((congr_88 a0 a1 a2 a3 a4).trans (Cert.Attention.Tile.keys_result F).symm))
  · exact h86.trans ((Cert.ReferenceIdeal.Read.val_main_v86_eq m' c).trans ((congr_86 a0 a1 a3 a4).trans (Cert.Attention.Tile.values_result F).symm))
  · exact h91.trans ((Cert.ReferenceIdeal.Read.val_main_v91_eq m' c).trans ((congr_91 a0 a1 a2 a3 a4).trans (Cert.Attention.Tile.gates_result F).symm))

theorem claim : Cert.Claim := ⟨Cert.Kernel.Gen.facts, Cert.KernelIdeal.Gen.facts, Cert.ReferenceIdeal.Gen.facts, Cert.KernelZ.Gen.facts, Cert.KernelZIdeal.Gen.facts, Cert.ReferenceZIdeal.Gen.facts, Cert.KernelDh.Gen.facts, Cert.KernelDhIdeal.Gen.facts, Cert.ReferenceDhIdeal.Gen.facts, Cert.KernelDwz.Gen.facts, Cert.KernelDwzIdeal.Gen.facts, Cert.ReferenceDwzIdeal.Gen.facts, Cert.KernelDwg.Gen.facts, Cert.KernelDwgIdeal.Gen.facts, Cert.ReferenceDwgIdeal.Gen.facts, Cert.KernelDwp.Gen.facts, Cert.KernelDwpIdeal.Gen.facts, Cert.ReferenceDwpIdeal.Gen.facts, Cert.KernelDwo.Gen.facts, Cert.KernelDwoIdeal.Gen.facts, Cert.ReferenceDwoIdeal.Gen.facts, Cert.KernelDwup0.Gen.facts, Cert.KernelDwup0Ideal.Gen.facts, Cert.ReferenceDwup0Ideal.Gen.facts, Cert.KernelDwup1.Gen.facts, Cert.KernelDwup1Ideal.Gen.facts, Cert.ReferenceDwup1Ideal.Gen.facts, Cert.KernelDwup2.Gen.facts, Cert.KernelDwup2Ideal.Gen.facts, Cert.ReferenceDwup2Ideal.Gen.facts, Cert.KernelDwup3.Gen.facts, Cert.KernelDwup3Ideal.Gen.facts, Cert.ReferenceDwup3Ideal.Gen.facts, Cert.KernelMerge.Gen.facts, Cert.KernelMergeIdeal.Gen.facts, Cert.ReferenceMergeIdeal.Gen.facts, Cert.KernelDmerge.Gen.facts, Cert.KernelDmergeIdeal.Gen.facts, Cert.ReferenceDmergeIdeal.Gen.facts, Cert.KernelPle.Gen.facts, Cert.KernelPleIdeal.Gen.facts, Cert.ReferencePleIdeal.Gen.facts, Cert.Pre_finite.Gen.facts,
  fun m ρ _ => Cert.Kernel.Gen.frame m ρ, fun m ρ _ => Cert.KernelIdeal.Gen.frame m ρ, fun m ρ _ => Cert.KernelIdeal.Gen.frame m ρ,
  fun m ρ _ => reference_frame m ρ, fun m ρ _ => reference_frame m ρ,
  fun m ρ _ => Cert.KernelZ.Gen.frame m ρ, fun m ρ _ => Cert.KernelZIdeal.Gen.frame m ρ, Cert.Products.Projection.reference_frame,
  fun m ρ _ => Cert.KernelDh.Gen.frame m ρ, fun m ρ _ => Cert.KernelDhIdeal.Gen.frame m ρ, Cert.Products.Gradient.reference_frame,
  fun m ρ _ => Cert.KernelDwz.Gen.frame m ρ, fun m ρ _ => Cert.KernelDwzIdeal.Gen.frame m ρ, Cert.Products.InputWeights.reference_frame,
  fun m ρ _ => Cert.KernelDwg.Gen.frame m ρ, fun m ρ _ => Cert.KernelDwgIdeal.Gen.frame m ρ, Cert.Products.GateWeights.reference_frame,
  fun m ρ _ => Cert.KernelDwp.Gen.frame m ρ, fun m ρ _ => Cert.KernelDwpIdeal.Gen.frame m ρ, Cert.Products.EmbeddingWeights.reference_frame,
  fun m ρ _ => Cert.KernelDwo.Gen.frame m ρ, fun m ρ _ => Cert.KernelDwoIdeal.Gen.frame m ρ, Cert.Products.OutputWeights.reference_frame,
  fun m ρ _ => Cert.KernelDwup0.Gen.frame m ρ, fun m ρ _ => Cert.KernelDwup0Ideal.Gen.frame m ρ, Cert.Products.UpWeights0.reference_frame,
  fun m ρ _ => Cert.KernelDwup1.Gen.frame m ρ, fun m ρ _ => Cert.KernelDwup1Ideal.Gen.frame m ρ, Cert.Products.UpWeights1.reference_frame,
  fun m ρ _ => Cert.KernelDwup2.Gen.frame m ρ, fun m ρ _ => Cert.KernelDwup2Ideal.Gen.frame m ρ, Cert.Products.UpWeights2.reference_frame,
  fun m ρ _ => Cert.KernelDwup3.Gen.frame m ρ, fun m ρ _ => Cert.KernelDwup3Ideal.Gen.frame m ρ, Cert.Products.UpWeights3.reference_frame,
  fun m ρ _ => Cert.KernelMerge.Gen.frame m ρ, fun m ρ _ => Cert.KernelMergeIdeal.Gen.frame m ρ, Cert.Layers.Forward.reference_frame,
  fun m ρ _ => Cert.KernelDmerge.Gen.frame m ρ, fun m ρ _ => Cert.KernelDmergeIdeal.Gen.frame m ρ, Cert.Layers.Backward.reference_frame,
  fun m ρ _ => Cert.KernelPle.Gen.frame m ρ, fun m ρ _ => Cert.KernelPleIdeal.Gen.frame m ρ, Cert.Layers.Embedding.reference_frame,
  trivial, algebraic,
  trivial, Cert.Products.Projection.algebraic,
  trivial, Cert.Products.Gradient.algebraic,
  trivial, Cert.Products.InputWeights.algebraic,
  trivial, Cert.Products.GateWeights.algebraic,
  trivial, Cert.Products.EmbeddingWeights.algebraic,
  trivial, Cert.Products.OutputWeights.algebraic,
  trivial, Cert.Products.UpWeights0.algebraic,
  trivial, Cert.Products.UpWeights1.algebraic,
  trivial, Cert.Products.UpWeights2.algebraic,
  trivial, Cert.Products.UpWeights3.algebraic,
  trivial, Cert.Layers.Forward.algebraic,
  trivial, Cert.Layers.Backward.algebraic,
  trivial, Cert.Layers.Embedding.algebraic⟩

end Cert.Proof

end
